-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "dead" .f32 0xC2F00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v155) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)) (v4 : (c : Dev Cert.Kernel4Ideal.nD) → Buf (Elt Ideal) ((c.tc : Thread Cert.Kernel4Ideal.nD Cert.Kernel4Ideal.τ).loc Cert.Kernel4Ideal.main_v19_4)) (v5 : (c : Dev Cert.Kernel4Ideal.nD) → Buf (Elt Ideal) ((c.tc : Thread Cert.Kernel4Ideal.nD Cert.Kernel4Ideal.τ).loc Cert.Kernel4Ideal.main_v19_5)) (v6 : (c : Dev Cert.Kernel4Ideal.nD) → Buf (Elt Ideal) ((c.tc : Thread Cert.Kernel4Ideal.nD Cert.Kernel4Ideal.τ).loc Cert.Kernel4Ideal.main_v19_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_v19_4) = v4 c
          ∧ r.2.mem ((c.tc : Thread Cert.Kernel4Ideal.nD Cert.Kernel4Ideal.τ).loc Cert.Kernel4Ideal.main_v19_5) = v5 c
          ∧ r.2.mem ((c.tc : Thread Cert.Kernel4Ideal.nD Cert.Kernel4Ideal.τ).loc Cert.Kernel4Ideal.main_v19_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v69) = v5 c
          ∧ r.2.mem ((c.tc : Thread Cert.Reference4Ideal.nD Cert.Reference4Ideal.τ).loc Cert.Reference4Ideal.main_v70) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)) (v4 : (c : Dev Cert.Kernel6Ideal.nD) → Buf (Elt Ideal) ((c.tc : Thread Cert.Kernel6Ideal.nD Cert.Kernel6Ideal.τ).loc Cert.Kernel6Ideal.main_v19_4)) (v5 : (c : Dev Cert.Kernel6Ideal.nD) → Buf (Elt Ideal) ((c.tc : Thread Cert.Kernel6Ideal.nD Cert.Kernel6Ideal.τ).loc Cert.Kernel6Ideal.main_v19_5)) (v6 : (c : Dev Cert.Kernel6Ideal.nD) → Buf (Elt Ideal) ((c.tc : Thread Cert.Kernel6Ideal.nD Cert.Kernel6Ideal.τ).loc Cert.Kernel6Ideal.main_v19_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_v19_4) = v4 c
          ∧ r.2.mem ((c.tc : Thread Cert.Kernel6Ideal.nD Cert.Kernel6Ideal.τ).loc Cert.Kernel6Ideal.main_v19_5) = v5 c
          ∧ r.2.mem ((c.tc : Thread Cert.Kernel6Ideal.nD Cert.Kernel6Ideal.τ).loc Cert.Kernel6Ideal.main_v19_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v54) = v3 c
          ∧ r.2.mem ((c.tc : Thread Cert.Reference6Ideal.nD Cert.Reference6Ideal.τ).loc Cert.Reference6Ideal.main_v56) = v4 c
          ∧ r.2.mem ((c.tc : Thread Cert.Reference6Ideal.nD Cert.Reference6Ideal.τ).loc Cert.Reference6Ideal.main_v57) = v5 c
          ∧ r.2.mem ((c.tc : Thread Cert.Reference6Ideal.nD Cert.Reference6Ideal.τ).loc Cert.Reference6Ideal.main_v58) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v49_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v49_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v59) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite4 : Cert.Pre_finite4.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S2x8192x6x64 : Shape := ⟨4, ![2, 8192, 6, 64]⟩
abbrev S_ : Shape := ⟨0, ![]⟩

class Facts : Prop where
  bcast_S_S2x8192x6x64 : S_.BroadcastsInDim S2x8192x6x64 (![] : Fin 0 → Fin S2x8192x6x64.rank)
  reducesTo_S2x8192x6x64_S_d0_1_2_3 : S2x8192x6x64.ReducesTo [0, 1, 2, 3] S_
  h_S_ : 0 < S_.numel

variable [Facts]

def fn {F : FTy → Type} [FloatOps F] (main_arg0 : FVec F S2x8192x6x64 .f32) (main_arg1 : FVec F S2x8192x6x64 .f32) (main_arg2 : FVec F S2x8192x6x64 .f32) : IVec S_ 1 :=
  let main_v0 : FVec F S2x8192x6x64 .f32 := Host.absf main_arg0
  let main_cst : FVec F S_ .f32 := constant S_ .f32 0x7F800000#32
  let main_v1 : FVec F S2x8192x6x64 .f32 := broadcastInDim S2x8192x6x64 ![] bcast_S_S2x8192x6x64 main_cst
  let main_v2 : IVec S2x8192x6x64 1 := cmpf .olt main_v0 main_v1
  let main_c : IVec S_ 1 := constantI S_ 1 1#1
  let main_v3 : IVec S_ 1 := (fun x v => Host.reduce IntOp.andi x v reducesTo_S2x8192x6x64_S_d0_1_2_3 h_S_) main_v2 main_c
  let main_v4 : FVec F S2x8192x6x64 .f32 := Host.absf main_arg1
  let main_cst_0 : FVec F S_ .f32 := constant S_ .f32 0x7F800000#32
  let main_v5 : FVec F S2x8192x6x64 .f32 := broadcastInDim S2x8192x6x64 ![] bcast_S_S2x8192x6x64 main_cst_0
  let main_v6 : IVec S2x8192x6x64 1 := cmpf .olt main_v4 main_v5
  let main_c_1 : IVec S_ 1 := constantI S_ 1 1#1
  let main_v7 : IVec S_ 1 := (fun x v => Host.reduce IntOp.andi x v reducesTo_S2x8192x6x64_S_d0_1_2_3 h_S_) main_v6 main_c_1
  let main_v8 : IVec S_ 1 := andi main_v3 main_v7
  main_v8
-- ==== Pre_finite2.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S1024x1024 : Shape := ⟨2, ![1024, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S2x8192x1024 .f32) (main_arg1 : FVec F S2x8192x384 .f32) (main_arg2 : FVec F S2x8192x384 .f32) (main_arg3 : FVec F S2x8192x256 .f32) (main_arg4 : FVec F S1024x1024 .f32) (main_arg5 : FVec F S1024 .f32) (main_arg6 : FVec F S1024x8 .f32) (main_arg7 : FVec F S8x1024x1024 .f32) (main_arg8 : FVec F S8x1024x1024 .f32) (main_arg9 : FVec F S8x1024x1024 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg6
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_finite4.lean ====
abbrev S2x8192x1024 : Shape := ⟨3, ![2, 8192, 1024]⟩
abbrev S1024 : Shape := ⟨1, ![1024]⟩
abbrev S1024x3200 : Shape := ⟨2, ![1024, 3200]⟩
abbrev S64 : Shape := ⟨1, ![64]⟩
abbrev S2x2x384x8192 : Shape := ⟨4, ![2, 2, 384, 8192]⟩
abbrev S_ : Shape := ⟨0, ![]⟩
abbrev S1024x768 : Shape := ⟨2, ![1024, 768]⟩

class Facts : Prop where
  bcast_S_S1024 : S_.BroadcastsInDim S1024 (![] : Fin 0 → Fin S1024.rank)
  reducesTo_S1024_S_d0 : S1024.ReducesTo [0] S_
  h_S_ : 0 < S_.numel
  slices_S1024x3200_S1024x768_0_0 : S1024x3200.Slices ![0, 0] S1024x768
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S2x8192x1024 .f32) (main_arg1 : FVec F S1024 .f32) (main_arg2 : FVec F S1024x3200 .f32) (main_arg3 : FVec F S64 .f32) (main_arg4 : FVec F S64 .f32) (main_arg5 : FVec F S2x2x384x8192 .f32) (main_arg6 : FVec F S2x2x384x8192 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x768 .f32 := (extractStridedSlice S1024x768 ![0, 0] · slices_S1024x3200_S1024x768_0_0) main_arg2
  let main_v5 : FVec F S1024x768 .f32 := Host.absf main_v4
  let main_cst_0 : FVec F S_ .f32 := constant S_ .f32 0x7F800000#32
  let main_v6 : FVec F S1024x768 .f32 := broadcastInDim S1024x768 ![] bcast_S_S1024x768 main_cst_0
  let main_v7 : IVec S1024x768 1 := cmpf .olt main_v5 main_v6
  let main_c_1 : IVec S_ 1 := constantI S_ 1 1#1
  let main_v8 : IVec S_ 1 := (fun x v => Host.reduce IntOp.andi x v reducesTo_S1024x768_S_d0_1 h_S_) main_v7 main_c_1
  let main_v9 : IVec S_ 1 := andi main_v3 main_v8
  main_v9
-- ==== Pre_finite5.lean ====
abbrev S8x16x512 : Shape := ⟨3, ![8, 16, 512]⟩
abbrev S64 : Shape := ⟨1, ![64]⟩
abbrev S4x128x128 : Shape := ⟨3, ![4, 128, 128]⟩
abbrev S4x128 : Shape := ⟨2, ![4, 128]⟩
abbrev S8x16x256 : Shape := ⟨3, ![8, 16, 256]⟩
abbrev S_ : Shape := ⟨0, ![]⟩

class Facts : Prop where
  slices_S8x16x512_S8x16x256_0_0_256 : S8x16x512.Slices ![0, 0, 256] S8x16x256
  bcast_S_S8x16x256 : S_.BroadcastsInDim S8x16x256 (![] : Fin 0 → Fin S8x16x256.rank)
  reducesTo_S8x16x256_S_d0_1_2 : S8x16x256.ReducesTo [0, 1, 2] S_
  h_S_ : 0 < S_.numel

variable [Facts]

def fn {F : FTy → Type} [FloatOps F] (main_arg0 : FVec F S8x16x512 .f32) (main_arg1 : FVec F S64 .f32) (main_arg2 : FVec F S4x128x128 .f32) (main_arg3 : FVec F S4x128 .f32) : IVec S_ 1 :=
  let main_v0 : FVec F S8x16x256 .f32 := (extractStridedSlice S8x16x256 ![0, 0, 256] · slices_S8x16x512_S8x16x256_0_0_256) main_arg0
  let main_v1 : FVec F S8x16x256 .f32 := Host.absf main_v0
  let main_cst : FVec F S_ .f32 := constant S_ .f32 0x7F800000#32
  let main_v2 : FVec F S8x16x256 .f32 := broadcastInDim S8x16x256 ![] bcast_S_S8x16x256 main_cst
  let main_v3 : IVec S8x16x256 1 := cmpf .olt main_v1 main_v2
  let main_c : IVec S_ 1 := constantI S_ 1 1#1
  let main_v4 : IVec S_ 1 := (fun x v => Host.reduce IntOp.andi x v reducesTo_S8x16x256_S_d0_1_2 h_S_) main_v3 main_c
  main_v4
-- ==== Pre_finite6.lean ====
abbrev S8x16x1024 : Shape := ⟨3, ![8, 16, 1024]⟩
abbrev S1024 : Shape := ⟨1, ![1024]⟩
abbrev S1024x3200 : Shape := ⟨2, ![1024, 3200]⟩
abbrev S64 : Shape := ⟨1, ![64]⟩
abbrev S_ : Shape := ⟨0, ![]⟩
abbrev S1024x768 : Shape := ⟨2, ![1024, 768]⟩

class Facts : Prop where
  bcast_S_S1024 : S_.BroadcastsInDim S1024 (![] : Fin 0 → Fin S1024.rank)
  reducesTo_S1024_S_d0 : S1024.ReducesTo [0] S_
  h_S_ : 0 < S_.numel
  slices_S1024x3200_S1024x768_0_0 : S1024x3200.Slices ![0, 0] S1024x768
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S8x16x1024 .f32) (main_arg1 : FVec F S1024 .f32) (main_arg2 : FVec F S1024x3200 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x768 .f32 := (extractStridedSlice S1024x768 ![0, 0] · slices_S1024x3200_S1024x768_0_0) main_arg2
  let main_v5 : FVec F S1024x768 .f32 := Host.absf main_v4
  let main_cst_0 : FVec F S_ .f32 := constant S_ .f32 0x7F800000#32
  let main_v6 : FVec F S1024x768 .f32 := broadcastInDim S1024x768 ![] bcast_S_S1024x768 main_cst_0
  let main_v7 : IVec S1024x768 1 := cmpf .olt main_v5 main_v6
  let main_c_1 : IVec S_ 1 := constantI S_ 1 1#1
  let main_v8 : IVec S_ 1 := (fun x v => Host.reduce IntOp.andi x v reducesTo_S1024x768_S_d0_1 h_S_) main_v7 main_c_1
  let main_v9 : IVec S_ 1 := andi main_v3 main_v8
  main_v9
-- ==== Pre_finite7.lean ====
abbrev S8x16x1536 : Shape := ⟨3, ![8, 16, 1536]⟩
abbrev S384 : Shape := ⟨1, ![384]⟩
abbrev S64 : Shape := ⟨1, ![64]⟩
abbrev S8x6x64x64 : Shape := ⟨4, ![8, 6, 64, 64]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel

variable [Facts]

def fn {F : FTy → Type} [FloatOps F] (main_arg0 : FVec F S8x16x1536 .f32) (main_arg1 : FVec F S384 .f32) (main_arg2 : FVec F S64 .f32) (main_arg3 : FVec F S8x6x64x64 .f32) : IVec S_ 1 :=
  let main_v0 : FVec F S384 .f32 := Host.absf main_arg1
  let main_cst : FVec F S_ .f32 := constant S_ .f32 0x7F800000#32
  let main_v1 : FVec F S384 .f32 := broadcastInDim S384 ![] bcast_S_S384 main_cst
  let main_v2 : IVec S384 1 := cmpf .olt main_v0 main_v1
  let main_c : IVec S_ 1 := constantI S_ 1 1#1
  let main_v3 : IVec S_ 1 := (fun x v => Host.reduce IntOp.andi x v reducesTo_S384_S_d0 h_S_) main_v2 main_c
  main_v3
-- ==== Kernel.lean ====
abbrev S2x8192x6x64 : Shape := ⟨4, ![2, 8192, 6, 64]⟩
abbrev S16384x384 : Shape := ⟨2, ![16384, 384]⟩
abbrev S_ : Shape := ⟨0, ![]⟩
abbrev S2x8192x384 : Shape := ⟨3, ![2, 8192, 384]⟩
abbrev S2x384x8192 : Shape := ⟨3, ![2, 384, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S128x384 : Shape := ⟨2, ![128, 384]⟩
abbrev S1x384x8192 : Shape := ⟨3, ![1, 384, 8192]⟩
abbrev S768x128 : Shape := ⟨2, ![768, 128]⟩
abbrev S256x128 : Shape := ⟨2, ![256, 128]⟩
abbrev S1x384x128 : Shape := ⟨3, ![1, 384, 128]⟩
abbrev S384x128 : Shape := ⟨2, ![384, 128]⟩
abbrev S512x128 : Shape := ⟨2, ![512, 128]⟩
abbrev S512x256 : Shape := ⟨2, ![512, 256]⟩
abbrev S256x256 : Shape := ⟨2, ![256, 256]⟩
abbrev S1x768x128 : Shape := ⟨3, ![1, 768, 128]⟩
abbrev S1 : Shape := ⟨1, ![1]⟩
abbrev S1x1x1 : Shape := ⟨3, ![1, 1, 1]⟩

abbrev nBuf : Space → Nat
  | .hbm => 25
  | .vmem => 11
  | .smem => 0
  | _ => 0

abbrev bufTy : (tb : Table) → Fin (tcTables nBuf tb) → BufTy
  | .hbm, ⟨0, _⟩ => ⟨S2x8192x6x64, .f32⟩
  | .hbm, ⟨1, _⟩ => ⟨S2x8192x6x64, .f32⟩
  | .hbm, ⟨2, _⟩ => ⟨S2x8192x6x64, .f32⟩
  | .hbm, ⟨3, _⟩ => ⟨S16384x384, .f32⟩
  | .hbm, ⟨4, _⟩ => ⟨S_, .f32⟩
  | .hbm, ⟨5, _⟩ => ⟨S16384x384, .f32⟩
  | .hbm, ⟨6, _⟩ => ⟨S16384x384, .f32⟩
  | .hbm, ⟨7, _⟩ => ⟨S16384x384, .bf16⟩
  | .hbm, ⟨8, _⟩ => ⟨S2x8192x384, .f32⟩
  | .hbm, ⟨9, _⟩ => ⟨S2x384x8192, .f32⟩
  | .hbm, ⟨10, _⟩ => ⟨S2x384x8192, .bf16⟩
  | .hbm, ⟨11, _⟩ => ⟨S2x8192x384, .f32⟩
  | .hbm, ⟨12, _⟩ => ⟨S2x384x8192, .f32⟩
  | .hbm, ⟨13, _⟩ => ⟨S2x384x8192, .bf16⟩
  | .hbm, ⟨14, _⟩ => ⟨S128, .i32⟩
  | .hbm, ⟨15, _⟩ => ⟨S128x1, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .bf16⟩
  | .hbm, ⟨21, _⟩ => ⟨S_, .bf16⟩
  | .hbm, ⟨22, _⟩ => ⟨S128x128, .bf16⟩
  | .hbm, ⟨23, _⟩ => ⟨S128x256, .bf16⟩
  | .hbm, ⟨24, _⟩ => ⟨S16384x384, .bf16⟩
  | .local _ .vmem, ⟨0, _⟩ => ⟨S128x384, .bf16⟩
  | .local _ .vmem, ⟨1, _⟩ => ⟨S128x384, .bf16⟩
  | .local _ .vmem, ⟨2, _⟩ => ⟨S1x384x8192, .bf16⟩
  | .local _ .vmem, ⟨3, _⟩ => ⟨S1x384x8192, .bf16⟩
  | .local _ .vmem, ⟨4, _⟩ => ⟨S1x384x8192, .bf16⟩
  | .local _ .vmem, ⟨5, _⟩ => ⟨S1x384x8192, .bf16⟩
  | .local _ .vmem, ⟨6, _⟩ => ⟨S128x256, .bf16⟩
  | .local _ .vmem, ⟨7, _⟩ => ⟨S128x384, .bf16⟩
  | .local _ .vmem, ⟨8, _⟩ => ⟨S128x384, .bf16⟩
  | .local _ .vmem, ⟨9, _⟩ => ⟨S768x128, .f32⟩
  | .local _ .vmem, ⟨10, _⟩ => ⟨S128x384, .f32⟩
  | _, _ => ⟨S2x8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v30 : BitVec 32 := Scalar.muli arg1 c128_i32
  v30
def k0_off1 (i : grid0.Coords) : Fin 3 → Nat :=
  let c0_11 : Index := 0#32
  let c0_12 : Index := 0#32
  let arg1 : BitVec 32 := BitVec.ofNat 32 (i 1).val
  let c128_i32 : BitVec 32 := 128#32
  let v30 : BitVec 32 := Scalar.muli arg1 c128_i32
  let v31 : BitVec 32 := v30
  let v32 : Index := Scalar.indexCast v31
  ![0, 0, v32.toNat]
def k0_mult2 (arg9 : BitVec 32) : BitVec 32 :=
  let c128_i32_69 : BitVec 32 := 128#32
  let v199 : BitVec 32 := Scalar.muli arg9 c128_i32_69
  v199

def k0_off2 (arg9 : BitVec 32) : Fin 3 → Nat :=
  let c0_70 : Index := 0#32
  let c0_71 : Index := 0#32
  let c128_i32_69 : BitVec 32 := 128#32
  let v199 : BitVec 32 := Scalar.muli arg9 c128_i32_69
  let v200 : BitVec 32 := v199
  let v201 : Index := Scalar.indexCast v200
  ![0, 0, v201.toNat]
def k0_mult3 (arg9 : BitVec 32) : BitVec 32 :=
  let c1_i32_116 : BitVec 32 := 1#32
  let v336 : BitVec 32 := Scalar.subi arg9 c1_i32_116
  let c128_i32_117 : BitVec 32 := 128#32
  let v337 : BitVec 32 := Scalar.muli v336 c128_i32_117
  v337
def k0_off3 (arg9 : BitVec 32) : Fin 3 → Nat :=
  let c0_118 : Index := 0#32
  let c0_119 : Index := 0#32
  let c1_i32_116 : BitVec 32 := 1#32
  let v336 : BitVec 32 := Scalar.subi arg9 c1_i32_116
  let c128_i32_117 : BitVec 32 := 128#32
  let v337 : BitVec 32 := Scalar.muli v336 c128_i32_117
  let v338 : BitVec 32 := v337
  let v339 : Index := Scalar.indexCast v338
  ![0, 0, v339.toNat]

def k0_chk1 (arg9 : BitVec 32) : Prop :=
  (128 ∣ (k0_mult2 arg9).toNat) ∧
  (∀ a, (k0_off2 arg9) a + S1x384x128.size a ≤ S1x384x8192.size a) ∧
  (128 ∣ (k0_mult3 arg9).toNat) ∧
  (∀ a, (k0_off3 arg9) a + S1x384x128.size a ≤ S1x384x8192.size a)
theorem k0_mult2_dvd : ∀ (arg9 : BitVec 32) (k0_hw1 : k0_chk1 arg9), 128 ∣ (k0_mult2 arg9).toNat := fun arg9 k0_hw1 => k0_hw1.1
theorem k0_off2_inb : ∀ (arg9 : BitVec 32) (k0_hw1 : k0_chk1 arg9), ∀ a, (k0_off2 arg9) a + S1x384x128.size a ≤ S1x384x8192.size a := fun arg9 k0_hw1 => k0_hw1.2.1
theorem k0_mult3_dvd : ∀ (arg9 : BitVec 32) (k0_hw1 : k0_chk1 arg9), 128 ∣ (k0_mult3 arg9).toNat := fun arg9 k0_hw1 => k0_hw1.2.2.1
theorem k0_off3_inb : ∀ (arg9 : BitVec 32) (k0_hw1 : k0_chk1 arg9), ∀ a, (k0_off3 arg9) a + S1x384x128.size a ≤ S1x384x8192.size a := fun arg9 k0_hw1 => k0_hw1.2.2.2

def k0_mult4 : BitVec 32 :=
  let c0_i32_69 : BitVec 32 := 0#32
  c0_i32_69
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S2x8192x6x64 : Shape := ⟨4, ![2, 8192, 6, 64]⟩
abbrev S8192 : Shape := ⟨1, ![8192]⟩
abbrev S2x6x8192x8192 : Shape := ⟨4, ![2, 6, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x6x64x8192 : Shape := ⟨4, ![2, 6, 64, 8192]⟩
abbrev S16384x384 : Shape := ⟨2, ![16384, 384]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x6x64, .f32⟩
  | .hbm, ⟨1, _⟩ => ⟨S2x8192x6x64, .f32⟩
  | .hbm, ⟨2, _⟩ => ⟨S2x8192x6x64, .f32⟩
  | .hbm, ⟨3, _⟩ => ⟨S8192, .i32⟩
  | .hbm, ⟨4, _⟩ => ⟨S2x6x8192x8192, .f32⟩
  | .hbm, ⟨5, _⟩ => ⟨S_, .f32⟩
  | .hbm, ⟨6, _⟩ => ⟨S2x6x8192x8192, .f32⟩
  | .hbm, ⟨7, _⟩ => ⟨S2x6x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S2x6x8192x8192, .f32⟩
  | .hbm, ⟨14, _⟩ => ⟨S2x6x8192x8192, .f32⟩
  | .hbm, ⟨15, _⟩ => ⟨S_, .f32⟩
  | .hbm, ⟨16, _⟩ => ⟨S2x6x8192x8192, .f32⟩
  | .hbm, ⟨17, _⟩ => ⟨S2x6x8192x8192, .f32⟩
  | .hbm, ⟨18, _⟩ => ⟨S2x6x8192x8192, .f32⟩
  | .hbm, ⟨19, _⟩ => ⟨S2x6x8192x8192, .f32⟩
  | .hbm, ⟨20, _⟩ => ⟨S2x6x8192x8192, .i1⟩
  | .hbm, ⟨21, _⟩ => ⟨S2x6x8192x8192, .f32⟩
  | .hbm, ⟨22, _⟩ => ⟨S2x6x8192x8192, .f32⟩
  | .hbm, ⟨23, _⟩ => ⟨S2x6x8192x8192, .f32⟩
  | .hbm, ⟨24, _⟩ => ⟨S2x6x8192x8192, .f32⟩
  | .hbm, ⟨25, _⟩ => ⟨S2x6x8192x8192, .f32⟩
  | .hbm, ⟨26, _⟩ => ⟨S2x6x8192x8192, .f32⟩
  | .hbm, ⟨27, _⟩ => ⟨S2x6x8192x8192, .f32⟩
  | .hbm, ⟨28, _⟩ => ⟨S2x6x8192x8192, .f32⟩
  | .hbm, ⟨29, _⟩ => ⟨S2x6x8192x8192, .f32⟩
  | .hbm, ⟨30, _⟩ => ⟨S_, .f32⟩
  | .hbm, ⟨31, _⟩ => ⟨S_, .f32⟩
  | .hbm, ⟨32, _⟩ => ⟨S2x6x8192x8192, .i1⟩
  | .hbm, ⟨33, _⟩ => ⟨S2x6x8192x8192, .f32⟩
  | .hbm, ⟨34, _⟩ => ⟨S2x6x8192x8192, .f32⟩
  | .hbm, ⟨35, _⟩ => ⟨S_, .f32⟩
  | .hbm, ⟨36, _⟩ => ⟨S_, .f32⟩
  | .hbm, ⟨37, _⟩ => ⟨S2x6x8192x8192, .f32⟩
  | .hbm, ⟨38, _⟩ => ⟨S2x6x8192x8192, .f32⟩
  | .hbm, ⟨39, _⟩ => ⟨S2x6x8192x8192, .f32⟩
  | .hbm, ⟨40, _⟩ => ⟨S_, .f32⟩
  | .hbm, ⟨41, _⟩ => ⟨S2x6x8192x8192, .f32⟩
  | .hbm, ⟨42, _⟩ => ⟨S2x6x8192x8192, .f32⟩
  | .hbm, ⟨43, _⟩ => ⟨S2x6x8192x8192, .f32⟩
  | .hbm, ⟨44, _⟩ => ⟨S2x6x8192x8192, .f32⟩
  | .hbm, ⟨45, _⟩ => ⟨S2x6x8192x8192, .i1⟩
  | .hbm, ⟨46, _⟩ => ⟨S2x6x8192x8192, .f32⟩
  | .hbm, ⟨47, _⟩ => ⟨S2x6x8192x8192, .f32⟩
  | .hbm, ⟨48, _⟩ => ⟨S2x6x8192x8192, .f32⟩
  | .hbm, ⟨49, _⟩ => ⟨S2x6x8192x8192, .f32⟩
  | .hbm, ⟨50, _⟩ => ⟨S2x6x8192x8192, .f32⟩
  | .hbm, ⟨51, _⟩ => ⟨S2x6x8192x8192, .f32⟩
  | .hbm, ⟨52, _⟩ => ⟨S2x6x8192x8192, .f32⟩
  | .hbm, ⟨53, _⟩ => ⟨S2x6x8192x8192, .f32⟩
  | .hbm, ⟨54, _⟩ => ⟨S2x6x8192x8192, .f32⟩
  | .hbm, ⟨55, _⟩ => ⟨S2x6x8192x8192, .f32⟩
  | .hbm, ⟨56, _⟩ => ⟨S2x6x8192x8192, .f32⟩
  | .hbm, ⟨57, _⟩ => ⟨S_, .f32⟩
  | .hbm, ⟨58, _⟩ => ⟨S_, .f32⟩
  | .hbm, ⟨59, _⟩ => ⟨S2x6x8192x8192, .i1⟩
  | .hbm, ⟨60, _⟩ => ⟨S2x6x8192x8192, .f32⟩
  | .hbm, ⟨61, _⟩ => ⟨S2x6x8192x8192, .f32⟩
  | .hbm, ⟨62, _⟩ => ⟨S2x6x64x8192, .f32⟩
  | .hbm, ⟨63, _⟩ => ⟨S2x8192x6x64, .f32⟩
  | .hbm, ⟨64, _⟩ => ⟨S16384x384, .f32⟩
  | .hbm, ⟨65, _⟩ => ⟨S16384x384, .bf16⟩
  | _, _ => ⟨S2x8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S1024x1024 : Shape := ⟨2, ![1024, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩
abbrev S1024x128 : Shape := ⟨2, ![1024, 128]⟩
abbrev S1 : Shape := ⟨1, ![1]⟩
abbrev S16384x1024 : Shape := ⟨2, ![16384, 1024]⟩
abbrev S16384x384 : Shape := ⟨2, ![16384, 384]⟩
abbrev S16384x256 : Shape := ⟨2, ![16384, 256]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S8x512x128 : Shape := ⟨3, ![8, 512, 128]⟩
abbrev S384x1024 : Shape := ⟨2, ![384, 1024]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x1024x256 : Shape := ⟨3, ![1, 1024, 256]⟩
abbrev S1024x256 : Shape := ⟨2, ![1024, 256]⟩
abbrev S1x256x1024 : Shape := ⟨3, ![1, 256, 1024]⟩

abbrev nBuf : Space → Nat
  | .hbm => 28
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x384, .f32⟩
  | .hbm, ⟨2, _⟩ => ⟨S2x8192x384, .f32⟩
  | .hbm, ⟨3, _⟩ => ⟨S2x8192x256, .f32⟩
  | .hbm, ⟨4, _⟩ => ⟨S1024x1024, .f32⟩
  | .hbm, ⟨5, _⟩ => ⟨S1024, .f32⟩
  | .hbm, ⟨6, _⟩ => ⟨S1024x8, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S16384x1024, .f32⟩
  | .hbm, ⟨16, _⟩ => ⟨S16384x384, .f32⟩
  | .hbm, ⟨17, _⟩ => ⟨S16384x384, .bf16⟩
  | .hbm, ⟨18, _⟩ => ⟨S16384x384, .f32⟩
  | .hbm, ⟨19, _⟩ => ⟨S16384x384, .bf16⟩
  | .hbm, ⟨20, _⟩ => ⟨S16384x256, .f32⟩
  | .hbm, ⟨21, _⟩ => ⟨S16384x256, .bf16⟩
  | .hbm, ⟨22, _⟩ => ⟨S1024x1024, .bf16⟩
  | .hbm, ⟨23, _⟩ => ⟨S8x1024x1024, .bf16⟩
  | .hbm, ⟨24, _⟩ => ⟨S8x1024x1024, .bf16⟩
  | .hbm, ⟨25, _⟩ => ⟨S8x1024x1024, .bf16⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S8x512x128, .f32⟩
  | .local _ .vmem, ⟨22, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v59 : Index := Scalar.indexCast arg1
  let c0_46 : Index := 0#32
  let c0_47 : Index := 0#32
  ![v59.toNat, 0, 0]
def k0_cond2 (i : grid0.Coords) : BitVec 1 :=
  let arg1 : BitVec 32 := BitVec.ofNat 32 (i 1).val
  let c7_i32 : BitVec 32 := 7#32
  let v118 : BitVec 1 := Scalar.cmpi .eq arg1 c7_i32
  let v119 : BitVec 32 := Scalar.extui v118
  let c0_i32_76 : BitVec 32 := 0#32
  let v120 : BitVec 1 := Scalar.cmpi .ne v119 c0_i32_76
  v120

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S1024x1024 : Shape := ⟨2, ![1024, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x8 : Shape := ⟨3, ![2, 8192, 8]⟩
abbrev S2x8192x2 : Shape := ⟨3, ![2, 8192, 2]⟩
abbrev S2x8192x2x1 : Shape := ⟨4, ![2, 8192, 2, 1]⟩
abbrev S1x1x1x8 : Shape := ⟨4, ![1, 1, 1, 8]⟩
abbrev S2x8192x2x8 : Shape := ⟨4, ![2, 8192, 2, 8]⟩
abbrev S1x1024x1024 : Shape := ⟨3, ![1, 1024, 1024]⟩
abbrev S16384x1024 : Shape := ⟨2, ![16384, 1024]⟩

abbrev nBuf : Space → Nat
  | .hbm => 245
  | .vmem => 0
  | .smem => 0
  | _ => 0

abbrev hbmTy0_0 (i : Nat) : BufTy := match i % 128 with
  | 0 => ⟨S2x8192x1024, .f32⟩
  | 1 => ⟨S2x8192x384, .f32⟩
  | 2 => ⟨S2x8192x384, .f32⟩
  | 3 => ⟨S2x8192x256, .f32⟩
  | 4 => ⟨S1024x1024, .f32⟩
  | 5 => ⟨S1024, .f32⟩
  | 6 => ⟨S1024x8, .f32⟩
  | 7 => ⟨S8x1024x1024, .f32⟩
  | 8 => ⟨S8x1024x1024, .f32⟩
  | 9 => ⟨S8x1024x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x8, .f32⟩
  | 30 => ⟨S2x8192x2, .f32⟩
  | 31 => ⟨S2x8192x2, .i32⟩
  | 32 => ⟨S_, .f32⟩
  | 33 => ⟨S2x8192, .f32⟩
  | 34 => ⟨S_, .f32⟩
  | 35 => ⟨S2x8192, .f32⟩
  | 36 => ⟨S2x8192, .f32⟩
  | 37 => ⟨S2x8192x1, .f32⟩
  | 38 => ⟨S2x8192x2, .f32⟩
  | 39 => ⟨S2x8192x2, .f32⟩
  | 40 => ⟨S2x8192x2, .f32⟩
  | 41 => ⟨S_, .f32⟩
  | 42 => ⟨S2x8192, .f32⟩
  | 43 => ⟨S2x8192x1, .f32⟩
  | 44 => ⟨S2x8192x2, .f32⟩
  | 45 => ⟨S2x8192x2, .f32⟩
  | 46 => ⟨S2x8192x2x1, .i32⟩
  | 47 => ⟨S1x1x1x8, .i32⟩
  | 48 => ⟨S2x8192x2x8, .i32⟩
  | 49 => ⟨S2x8192x2x8, .i32⟩
  | 50 => ⟨S2x8192x2x8, .i1⟩
  | 51 => ⟨S2x8192x2x8, .f32⟩
  | 52 => ⟨S2x8192x2x1, .f32⟩
  | 53 => ⟨S2x8192x2x8, .f32⟩
  | 54 => ⟨S2x8192x2x8, .f32⟩
  | 55 => ⟨S_, .f32⟩
  | 56 => ⟨S2x8192x8, .f32⟩
  | 57 => ⟨S_, .f32⟩
  | 58 => ⟨S2x8192x1024, .f32⟩
  | 59 => ⟨S2x8192x1, .f32⟩
  | 60 => ⟨S1x1024x1024, .f32⟩
  | 61 => ⟨S1024x1024, .f32⟩
  | 62 => ⟨S1x1024x1024, .f32⟩
  | 63 => ⟨S1024x1024, .f32⟩
  | 64 => ⟨S1x1024x1024, .f32⟩
  | 65 => ⟨S1024x1024, .f32⟩
  | 66 => ⟨S2x8192x1024, .f32⟩
  | 67 => ⟨S2x8192x1024, .f32⟩
  | 68 => ⟨S2x8192x1024, .f32⟩
  | 69 => ⟨S_, .f32⟩
  | 70 => ⟨S2x8192x1024, .f32⟩
  | 71 => ⟨S2x8192x1024, .f32⟩
  | 72 => ⟨S_, .f32⟩
  | 73 => ⟨S2x8192x1024, .f32⟩
  | 74 => ⟨S2x8192x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S2x8192x1, .f32⟩
  | 83 => ⟨S1x1024x1024, .f32⟩
  | 84 => ⟨S1024x1024, .f32⟩
  | 85 => ⟨S1x1024x1024, .f32⟩
  | 86 => ⟨S1024x1024, .f32⟩
  | 87 => ⟨S1x1024x1024, .f32⟩
  | 88 => ⟨S1024x1024, .f32⟩
  | 89 => ⟨S2x8192x1024, .f32⟩
  | 90 => ⟨S2x8192x1024, .f32⟩
  | 91 => ⟨S2x8192x1024, .f32⟩
  | 92 => ⟨S_, .f32⟩
  | 93 => ⟨S2x8192x1024, .f32⟩
  | 94 => ⟨S2x8192x1024, .f32⟩
  | 95 => ⟨S_, .f32⟩
  | 96 => ⟨S2x8192x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S2x8192x1, .f32⟩
  | 106 => ⟨S1x1024x1024, .f32⟩
  | 107 => ⟨S1024x1024, .f32⟩
  | 108 => ⟨S1x1024x1024, .f32⟩
  | 109 => ⟨S1024x1024, .f32⟩
  | 110 => ⟨S1x1024x1024, .f32⟩
  | 111 => ⟨S1024x1024, .f32⟩
  | 112 => ⟨S2x8192x1024, .f32⟩
  | 113 => ⟨S2x8192x1024, .f32⟩
  | 114 => ⟨S2x8192x1024, .f32⟩
  | 115 => ⟨S_, .f32⟩
  | 116 => ⟨S2x8192x1024, .f32⟩
  | 117 => ⟨S2x8192x1024, .f32⟩
  | 118 => ⟨S_, .f32⟩
  | 119 => ⟨S2x8192x1024, .f32⟩
  | 120 => ⟨S2x8192x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1, .f32⟩
  | 1 => ⟨S1x1024x1024, .f32⟩
  | 2 => ⟨S1024x1024, .f32⟩
  | 3 => ⟨S1x1024x1024, .f32⟩
  | 4 => ⟨S1024x1024, .f32⟩
  | 5 => ⟨S1x1024x1024, .f32⟩
  | 6 => ⟨S1024x1024, .f32⟩
  | 7 => ⟨S2x8192x1024, .f32⟩
  | 8 => ⟨S2x8192x1024, .f32⟩
  | 9 => ⟨S2x8192x1024, .f32⟩
  | 10 => ⟨S_, .f32⟩
  | 11 => ⟨S2x8192x1024, .f32⟩
  | 12 => ⟨S2x8192x1024, .f32⟩
  | 13 => ⟨S_, .f32⟩
  | 14 => ⟨S2x8192x1024, .f32⟩
  | 15 => ⟨S2x8192x1024, .f32⟩
  | 16 => ⟨S2x8192x1024, .f32⟩
  | 17 => ⟨S2x8192x1024, .f32⟩
  | 18 => ⟨S2x8192x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S2x8192x1, .f32⟩
  | 24 => ⟨S1x1024x1024, .f32⟩
  | 25 => ⟨S1024x1024, .f32⟩
  | 26 => ⟨S1x1024x1024, .f32⟩
  | 27 => ⟨S1024x1024, .f32⟩
  | 28 => ⟨S1x1024x1024, .f32⟩
  | 29 => ⟨S1024x1024, .f32⟩
  | 30 => ⟨S2x8192x1024, .f32⟩
  | 31 => ⟨S2x8192x1024, .f32⟩
  | 32 => ⟨S2x8192x1024, .f32⟩
  | 33 => ⟨S_, .f32⟩
  | 34 => ⟨S2x8192x1024, .f32⟩
  | 35 => ⟨S2x8192x1024, .f32⟩
  | 36 => ⟨S_, .f32⟩
  | 37 => ⟨S2x8192x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S2x8192x1, .f32⟩
  | 47 => ⟨S1x1024x1024, .f32⟩
  | 48 => ⟨S1024x1024, .f32⟩
  | 49 => ⟨S1x1024x1024, .f32⟩
  | 50 => ⟨S1024x1024, .f32⟩
  | 51 => ⟨S1x1024x1024, .f32⟩
  | 52 => ⟨S1024x1024, .f32⟩
  | 53 => ⟨S2x8192x1024, .f32⟩
  | 54 => ⟨S2x8192x1024, .f32⟩
  | 55 => ⟨S2x8192x1024, .f32⟩
  | 56 => ⟨S_, .f32⟩
  | 57 => ⟨S2x8192x1024, .f32⟩
  | 58 => ⟨S2x8192x1024, .f32⟩
  | 59 => ⟨S_, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x8192x1, .f32⟩
  | 70 => ⟨S1x1024x1024, .f32⟩
  | 71 => ⟨S1024x1024, .f32⟩
  | 72 => ⟨S1x1024x1024, .f32⟩
  | 73 => ⟨S1024x1024, .f32⟩
  | 74 => ⟨S1x1024x1024, .f32⟩
  | 75 => ⟨S1024x1024, .f32⟩
  | 76 => ⟨S2x8192x1024, .f32⟩
  | 77 => ⟨S2x8192x1024, .f32⟩
  | 78 => ⟨S2x8192x1024, .f32⟩
  | 79 => ⟨S_, .f32⟩
  | 80 => ⟨S2x8192x1024, .f32⟩
  | 81 => ⟨S2x8192x1024, .f32⟩
  | 82 => ⟨S_, .f32⟩
  | 83 => ⟨S2x8192x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1, .f32⟩
  | 93 => ⟨S1x1024x1024, .f32⟩
  | 94 => ⟨S1024x1024, .f32⟩
  | 95 => ⟨S1x1024x1024, .f32⟩
  | 96 => ⟨S1024x1024, .f32⟩
  | 97 => ⟨S1x1024x1024, .f32⟩
  | 98 => ⟨S1024x1024, .f32⟩
  | 99 => ⟨S2x8192x1024, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S_, .f32⟩
  | 106 => ⟨S2x8192x1024, .f32⟩
  | 107 => ⟨S2x8192x1024, .f32⟩
  | 108 => ⟨S2x8192x1024, .f32⟩
  | 109 => ⟨S2x8192x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_call6_v5 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_call7_v0 : Ref sig .tc := ⟨.hbm, 205, rfl⟩
abbrev main_call7_v1 : Ref sig .tc := ⟨.hbm, 206, rfl⟩
abbrev main_call7_cst : Ref sig .tc := ⟨.hbm, 207, rfl⟩
abbrev main_call7_v2 : Ref sig .tc := ⟨.hbm, 208, rfl⟩
abbrev main_call7_v3 : Ref sig .tc := ⟨.hbm, 209, rfl⟩
abbrev main_call7_cst_0 : Ref sig .tc := ⟨.hbm, 210, rfl⟩
abbrev main_call7_v4 : Ref sig .tc := ⟨.hbm, 211, rfl⟩
abbrev main_call7_v5 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_call8_v0 : Ref sig .tc := ⟨.hbm, 228, rfl⟩
abbrev main_call8_v1 : Ref sig .tc := ⟨.hbm, 229, rfl⟩
abbrev main_call8_cst : Ref sig .tc := ⟨.hbm, 230, rfl⟩
abbrev main_call8_v2 : Ref sig .tc := ⟨.hbm, 231, rfl⟩
abbrev main_call8_v3 : Ref sig .tc := ⟨.hbm, 232, rfl⟩
abbrev main_call8_cst_0 : Ref sig .tc := ⟨.hbm, 233, rfl⟩
abbrev main_call8_v4 : Ref sig .tc := ⟨.hbm, 234, rfl⟩
abbrev main_call8_v5 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x384 : Shape := ⟨2, ![16384, 384]⟩
abbrev S16384x256 : Shape := ⟨2, ![16384, 256]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S384x1024 : Shape := ⟨2, ![384, 1024]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 22
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8192x384, .f32⟩
  | .hbm, ⟨2, _⟩ => ⟨S2x8192x384, .f32⟩
  | .hbm, ⟨3, _⟩ => ⟨S2x8192x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .hbm, ⟨10, _⟩ => ⟨S16384x384, .f32⟩
  | .hbm, ⟨11, _⟩ => ⟨S16384x384, .bf16⟩
  | .hbm, ⟨12, _⟩ => ⟨S16384x384, .f32⟩
  | .hbm, ⟨13, _⟩ => ⟨S16384x384, .bf16⟩
  | .hbm, ⟨14, _⟩ => ⟨S16384x256, .f32⟩
  | .hbm, ⟨15, _⟩ => ⟨S16384x256, .bf16⟩
  | .hbm, ⟨16, _⟩ => ⟨S1024x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x384, .f32⟩
  | .hbm, ⟨2, _⟩ => ⟨S2x8192x384, .f32⟩
  | .hbm, ⟨3, _⟩ => ⟨S2x8192x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x2816, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x3200 : Shape := ⟨2, ![1024, 3200]⟩
abbrev S64 : Shape := ⟨1, ![64]⟩
abbrev S2x2x384x8192 : Shape := ⟨4, ![2, 2, 384, 8192]⟩
abbrev S16384x1024 : Shape := ⟨2, ![16384, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S1x1024 : Shape := ⟨2, ![1, 1024]⟩
abbrev S_ : Shape := ⟨0, ![]⟩
abbrev S384x1 : Shape := ⟨2, ![384, 1]⟩
abbrev S384x384 : Shape := ⟨2, ![384, 384]⟩
abbrev S16384x384 : Shape := ⟨2, ![16384, 384]⟩
abbrev S2x384x8192 : Shape := ⟨3, ![2, 384, 8192]⟩
abbrev S16384x1536 : Shape := ⟨2, ![16384, 1536]⟩
abbrev S16384x512 : Shape := ⟨2, ![16384, 512]⟩
abbrev S512x1024 : Shape := ⟨2, ![512, 1024]⟩
abbrev S512x384 : Shape := ⟨2, ![512, 384]⟩
abbrev S1x1x384x512 : Shape := ⟨4, ![1, 1, 384, 512]⟩
abbrev S1x384x512 : Shape := ⟨3, ![1, 384, 512]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S1024x384 : Shape := ⟨2, ![1024, 384]⟩
abbrev S384x512 : Shape := ⟨2, ![384, 512]⟩
abbrev S1024x1536 : Shape := ⟨2, ![1024, 1536]⟩
abbrev S1024x512 : Shape := ⟨2, ![1024, 512]⟩

abbrev nBuf : Space → Nat
  | .hbm => 50
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3200, .f32⟩
  | .hbm, ⟨3, _⟩ => ⟨S64, .f32⟩
  | .hbm, ⟨4, _⟩ => ⟨S64, .f32⟩
  | .hbm, ⟨5, _⟩ => ⟨S2x2x384x8192, .f32⟩
  | .hbm, ⟨6, _⟩ => ⟨S2x2x384x8192, .f32⟩
  | .hbm, ⟨7, _⟩ => ⟨S16384x1024, .f32⟩
  | .hbm, ⟨8, _⟩ => ⟨S1024x3200, .bf16⟩
  | .hbm, ⟨9, _⟩ => ⟨S1x64, .f32⟩
  | .hbm, ⟨10, _⟩ => ⟨S6x64, .f32⟩
  | .hbm, ⟨11, _⟩ => ⟨S384, .f32⟩
  | .hbm, ⟨12, _⟩ => ⟨S1x384, .f32⟩
  | .hbm, ⟨13, _⟩ => ⟨S1x64, .f32⟩
  | .hbm, ⟨14, _⟩ => ⟨S6x64, .f32⟩
  | .hbm, ⟨15, _⟩ => ⟨S384, .f32⟩
  | .hbm, ⟨16, _⟩ => ⟨S1x384, .f32⟩
  | .hbm, ⟨17, _⟩ => ⟨S1x1024, .f32⟩
  | .hbm, ⟨18, _⟩ => ⟨S384, .i32⟩
  | .hbm, ⟨19, _⟩ => ⟨S_, .i32⟩
  | .hbm, ⟨20, _⟩ => ⟨S_, .i32⟩
  | .hbm, ⟨21, _⟩ => ⟨S384, .i32⟩
  | .hbm, ⟨22, _⟩ => ⟨S384, .i32⟩
  | .hbm, ⟨23, _⟩ => ⟨S384, .i32⟩
  | .hbm, ⟨24, _⟩ => ⟨S_, .i32⟩
  | .hbm, ⟨25, _⟩ => ⟨S384, .i32⟩
  | .hbm, ⟨26, _⟩ => ⟨S384, .i1⟩
  | .hbm, ⟨27, _⟩ => ⟨S384, .i32⟩
  | .hbm, ⟨28, _⟩ => ⟨S384, .i32⟩
  | .hbm, ⟨29, _⟩ => ⟨S_, .i32⟩
  | .hbm, ⟨30, _⟩ => ⟨S384, .i32⟩
  | .hbm, ⟨31, _⟩ => ⟨S384, .i1⟩
  | .hbm, ⟨32, _⟩ => ⟨S384, .i1⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S384, .i32⟩
  | .hbm, ⟨37, _⟩ => ⟨S384x1, .i32⟩
  | .hbm, ⟨38, _⟩ => ⟨S1x384, .i32⟩
  | .hbm, ⟨39, _⟩ => ⟨S384x384, .i32⟩
  | .hbm, ⟨40, _⟩ => ⟨S384x384, .i32⟩
  | .hbm, ⟨41, _⟩ => ⟨S384x384, .i1⟩
  | .hbm, ⟨42, _⟩ => ⟨S384x384, .bf16⟩
  | .hbm, ⟨43, _⟩ => ⟨S16384x384, .bf16⟩
  | .hbm, ⟨44, _⟩ => ⟨S2x2x384x8192, .f32⟩
  | .hbm, ⟨45, _⟩ => ⟨S2x2x384x8192, .f32⟩
  | .hbm, ⟨46, _⟩ => ⟨S2x384x8192, .bf16⟩
  | .hbm, ⟨47, _⟩ => ⟨S2x384x8192, .bf16⟩
  | .hbm, ⟨48, _⟩ => ⟨S16384x1536, .f32⟩
  | .hbm, ⟨49, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1x384, .f32⟩
  | .local _ .vmem, ⟨5, _⟩ => ⟨S1x384, .f32⟩
  | .local _ .vmem, ⟨6, _⟩ => ⟨S384x384, .bf16⟩
  | .local _ .vmem, ⟨7, _⟩ => ⟨S512x384, .bf16⟩
  | .local _ .vmem, ⟨8, _⟩ => ⟨S512x384, .bf16⟩
  | .local _ .vmem, ⟨9, _⟩ => ⟨S1x1x384x512, .f32⟩
  | .local _ .vmem, ⟨10, _⟩ => ⟨S1x1x384x512, .f32⟩
  | .local _ .vmem, ⟨11, _⟩ => ⟨S1x1x384x512, .f32⟩
  | .local _ .vmem, ⟨12, _⟩ => ⟨S1x1x384x512, .f32⟩
  | .local _ .vmem, ⟨13, _⟩ => ⟨S1x384x512, .bf16⟩
  | .local _ .vmem, ⟨14, _⟩ => ⟨S1x384x512, .bf16⟩
  | .local _ .vmem, ⟨15, _⟩ => ⟨S1x384x512, .bf16⟩
  | .local _ .vmem, ⟨16, _⟩ => ⟨S1x384x512, .bf16⟩
  | .local _ .vmem, ⟨17, _⟩ => ⟨S512x1536, .f32⟩
  | .local _ .vmem, ⟨18, _⟩ => ⟨S512x1536, .f32⟩
  | .local _ .vmem, ⟨19, _⟩ => ⟨S512x512, .f32⟩
  | .local _ .vmem, ⟨20, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_v19_2 : Ref sig .tc := ⟨.hbm, 45, rfl⟩
abbrev main_v19_3 : Ref sig .tc := ⟨.hbm, 46, rfl⟩
abbrev main_v19_4 : Ref sig .tc := ⟨.hbm, 47, rfl⟩
abbrev main_v19_5 : Ref sig .tc := ⟨.hbm, 48, rfl⟩
abbrev main_v19_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2x8192x1024 : Shape := ⟨3, ![2, 8192, 1024]⟩
abbrev S1024 : Shape := ⟨1, ![1024]⟩
abbrev S1024x3200 : Shape := ⟨2, ![1024, 3200]⟩
abbrev S64 : Shape := ⟨1, ![64]⟩
abbrev S2x2x384x8192 : Shape := ⟨4, ![2, 2, 384, 8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3200 : Shape := ⟨3, ![2, 8192, 3200]⟩
abbrev S2x8192x384 : Shape := ⟨3, ![2, 8192, 384]⟩
abbrev S2x8192x1536 : Shape := ⟨3, ![2, 8192, 1536]⟩
abbrev S2x8192x512 : Shape := ⟨3, ![2, 8192, 512]⟩
abbrev S2x8192x6x64 : Shape := ⟨4, ![2, 8192, 6, 64]⟩
abbrev S2x8192x6 : Shape := ⟨3, ![2, 8192, 6]⟩
abbrev S2x8192x6x1 : Shape := ⟨4, ![2, 8192, 6, 1]⟩
abbrev S1x1x1x64 : Shape := ⟨4, ![1, 1, 1, 64]⟩
abbrev S16384x384 : Shape := ⟨2, ![16384, 384]⟩
abbrev S1x2x384x8192 : Shape := ⟨4, ![1, 2, 384, 8192]⟩
abbrev S2x384x8192 : Shape := ⟨3, ![2, 384, 8192]⟩
abbrev S16384x1536 : Shape := ⟨2, ![16384, 1536]⟩
abbrev S16384x512 : Shape := ⟨2, ![16384, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3200, .f32⟩
  | .hbm, ⟨3, _⟩ => ⟨S64, .f32⟩
  | .hbm, ⟨4, _⟩ => ⟨S64, .f32⟩
  | .hbm, ⟨5, _⟩ => ⟨S2x2x384x8192, .f32⟩
  | .hbm, ⟨6, _⟩ => ⟨S2x2x384x8192, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x3200, .f32⟩
  | .hbm, ⟨24, _⟩ => ⟨S2x8192x384, .f32⟩
  | .hbm, ⟨25, _⟩ => ⟨S2x8192x384, .f32⟩
  | .hbm, ⟨26, _⟩ => ⟨S2x8192x384, .f32⟩
  | .hbm, ⟨27, _⟩ => ⟨S2x8192x1536, .f32⟩
  | .hbm, ⟨28, _⟩ => ⟨S2x8192x512, .f32⟩
  | .hbm, ⟨29, _⟩ => ⟨S2x8192x6x64, .f32⟩
  | .hbm, ⟨30, _⟩ => ⟨S2x8192x6x64, .f32⟩
  | .hbm, ⟨31, _⟩ => ⟨S_, .f32⟩
  | .hbm, ⟨32, _⟩ => ⟨S2x8192x6, .f32⟩
  | .hbm, ⟨33, _⟩ => ⟨S2x8192x6x1, .f32⟩
  | .hbm, ⟨34, _⟩ => ⟨S_, .f32⟩
  | .hbm, ⟨35, _⟩ => ⟨S2x8192x6x1, .f32⟩
  | .hbm, ⟨36, _⟩ => ⟨S2x8192x6x1, .f32⟩
  | .hbm, ⟨37, _⟩ => ⟨S_, .f32⟩
  | .hbm, ⟨38, _⟩ => ⟨S2x8192x6x1, .f32⟩
  | .hbm, ⟨39, _⟩ => ⟨S2x8192x6x1, .f32⟩
  | .hbm, ⟨40, _⟩ => ⟨S2x8192x6x1, .f32⟩
  | .hbm, ⟨41, _⟩ => ⟨S2x8192x6x64, .f32⟩
  | .hbm, ⟨42, _⟩ => ⟨S2x8192x6x64, .f32⟩
  | .hbm, ⟨43, _⟩ => ⟨S1x1x1x64, .f32⟩
  | .hbm, ⟨44, _⟩ => ⟨S2x8192x6x64, .f32⟩
  | .hbm, ⟨45, _⟩ => ⟨S2x8192x6x64, .f32⟩
  | .hbm, ⟨46, _⟩ => ⟨S2x8192x6x64, .f32⟩
  | .hbm, ⟨47, _⟩ => ⟨S2x8192x6x64, .f32⟩
  | .hbm, ⟨48, _⟩ => ⟨S_, .f32⟩
  | .hbm, ⟨49, _⟩ => ⟨S2x8192x6, .f32⟩
  | .hbm, ⟨50, _⟩ => ⟨S2x8192x6x1, .f32⟩
  | .hbm, ⟨51, _⟩ => ⟨S_, .f32⟩
  | .hbm, ⟨52, _⟩ => ⟨S2x8192x6x1, .f32⟩
  | .hbm, ⟨53, _⟩ => ⟨S2x8192x6x1, .f32⟩
  | .hbm, ⟨54, _⟩ => ⟨S_, .f32⟩
  | .hbm, ⟨55, _⟩ => ⟨S2x8192x6x1, .f32⟩
  | .hbm, ⟨56, _⟩ => ⟨S2x8192x6x1, .f32⟩
  | .hbm, ⟨57, _⟩ => ⟨S2x8192x6x1, .f32⟩
  | .hbm, ⟨58, _⟩ => ⟨S2x8192x6x64, .f32⟩
  | .hbm, ⟨59, _⟩ => ⟨S2x8192x6x64, .f32⟩
  | .hbm, ⟨60, _⟩ => ⟨S1x1x1x64, .f32⟩
  | .hbm, ⟨61, _⟩ => ⟨S2x8192x6x64, .f32⟩
  | .hbm, ⟨62, _⟩ => ⟨S2x8192x6x64, .f32⟩
  | .hbm, ⟨63, _⟩ => ⟨S_, .f32⟩
  | .hbm, ⟨64, _⟩ => ⟨S2x8192x6x64, .f32⟩
  | .hbm, ⟨65, _⟩ => ⟨S2x8192x6x64, .f32⟩
  | .hbm, ⟨66, _⟩ => ⟨S16384x384, .f32⟩
  | .hbm, ⟨67, _⟩ => ⟨S16384x384, .bf16⟩
  | .hbm, ⟨68, _⟩ => ⟨S1x2x384x8192, .f32⟩
  | .hbm, ⟨69, _⟩ => ⟨S2x384x8192, .f32⟩
  | .hbm, ⟨70, _⟩ => ⟨S2x8192x384, .f32⟩
  | .hbm, ⟨71, _⟩ => ⟨S2x384x8192, .f32⟩
  | .hbm, ⟨72, _⟩ => ⟨S1x2x384x8192, .f32⟩
  | .hbm, ⟨73, _⟩ => ⟨S1x2x384x8192, .f32⟩
  | .hbm, ⟨74, _⟩ => ⟨S2x2x384x8192, .f32⟩
  | .hbm, ⟨75, _⟩ => ⟨S1x2x384x8192, .f32⟩
  | .hbm, ⟨76, _⟩ => ⟨S2x384x8192, .f32⟩
  | .hbm, ⟨77, _⟩ => ⟨S2x384x8192, .f32⟩
  | .hbm, ⟨78, _⟩ => ⟨S1x2x384x8192, .f32⟩
  | .hbm, ⟨79, _⟩ => ⟨S1x2x384x8192, .f32⟩
  | .hbm, ⟨80, _⟩ => ⟨S2x2x384x8192, .f32⟩
  | .hbm, ⟨81, _⟩ => ⟨S2x8192x384, .f32⟩
  | .hbm, ⟨82, _⟩ => ⟨S2x384x8192, .f32⟩
  | .hbm, ⟨83, _⟩ => ⟨S2x384x8192, .bf16⟩
  | .hbm, ⟨84, _⟩ => ⟨S2x384x8192, .f32⟩
  | .hbm, ⟨85, _⟩ => ⟨S2x384x8192, .bf16⟩
  | .hbm, ⟨86, _⟩ => ⟨S16384x1536, .f32⟩
  | .hbm, ⟨87, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel5.lean ====
abbrev S8x16x512 : Shape := ⟨3, ![8, 16, 512]⟩
abbrev S64 : Shape := ⟨1, ![64]⟩
abbrev S4x128x128 : Shape := ⟨3, ![4, 128, 128]⟩
abbrev S4x128 : Shape := ⟨2, ![4, 128]⟩
abbrev S_ : Shape := ⟨0, ![]⟩
abbrev S16x16 : Shape := ⟨2, ![16, 16]⟩
abbrev S4x16x16 : Shape := ⟨3, ![4, 16, 16]⟩
abbrev S1x16x16 : Shape := ⟨3, ![1, 16, 16]⟩
abbrev S4x16 : Shape := ⟨2, ![4, 16]⟩
abbrev S16x4 : Shape := ⟨2, ![16, 4]⟩
abbrev S16x4x64 : Shape := ⟨3, ![16, 4, 64]⟩
abbrev S16x256 : Shape := ⟨2, ![16, 256]⟩
abbrev S128x512 : Shape := ⟨2, ![128, 512]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S128x256 : Shape := ⟨2, ![128, 256]⟩
abbrev S16x128 : Shape := ⟨2, ![16, 128]⟩

abbrev nBuf : Space → Nat
  | .hbm => 56
  | .vmem => 7
  | .smem => 0
  | _ => 0

abbrev bufTy : (tb : Table) → Fin (tcTables nBuf tb) → BufTy
  | .hbm, ⟨0, _⟩ => ⟨S8x16x512, .f32⟩
  | .hbm, ⟨1, _⟩ => ⟨S64, .f32⟩
  | .hbm, ⟨2, _⟩ => ⟨S4x128x128, .f32⟩
  | .hbm, ⟨3, _⟩ => ⟨S4x128, .f32⟩
  | .hbm, ⟨4, _⟩ => ⟨S_, .f32⟩
  | .hbm, ⟨5, _⟩ => ⟨S16x16, .f32⟩
  | .hbm, ⟨6, _⟩ => ⟨S16x16, .i32⟩
  | .hbm, ⟨7, _⟩ => ⟨S_, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S16x16, .i1⟩
  | .hbm, ⟨12, _⟩ => ⟨S_, .f32⟩
  | .hbm, ⟨13, _⟩ => ⟨S16x16, .f32⟩
  | .hbm, ⟨14, _⟩ => ⟨S16x16, .f32⟩
  | .hbm, ⟨15, _⟩ => ⟨S4x16x16, .f32⟩
  | .hbm, ⟨16, _⟩ => ⟨S1x16x16, .f32⟩
  | .hbm, ⟨17, _⟩ => ⟨S4x16x16, .f32⟩
  | .hbm, ⟨18, _⟩ => ⟨S4x16x16, .f32⟩
  | .hbm, ⟨19, _⟩ => ⟨S4x16x16, .bf16⟩
  | .hbm, ⟨20, _⟩ => ⟨S4x16, .f32⟩
  | .hbm, ⟨21, _⟩ => ⟨S16x4, .f32⟩
  | .hbm, ⟨22, _⟩ => ⟨S16x4x64, .f32⟩
  | .hbm, ⟨23, _⟩ => ⟨S16x256, .f32⟩
  | .hbm, ⟨24, _⟩ => ⟨S128x512, .f32⟩
  | .hbm, ⟨25, _⟩ => ⟨S1x64, .f32⟩
  | .hbm, ⟨26, _⟩ => ⟨S4x64, .f32⟩
  | .hbm, ⟨27, _⟩ => ⟨S256, .f32⟩
  | .hbm, ⟨28, _⟩ => ⟨S1x256, .f32⟩
  | .hbm, ⟨29, _⟩ => ⟨S256, .i32⟩
  | .hbm, ⟨30, _⟩ => ⟨S_, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S1x256, .i32⟩
  | .hbm, ⟨50, _⟩ => ⟨S256x256, .i32⟩
  | .hbm, ⟨51, _⟩ => ⟨S256x256, .i32⟩
  | .hbm, ⟨52, _⟩ => ⟨S256x256, .i1⟩
  | .hbm, ⟨53, _⟩ => ⟨S256x256, .bf16⟩
  | .hbm, ⟨54, _⟩ => ⟨S128x256, .bf16⟩
  | .hbm, ⟨55, _⟩ => ⟨S128x256, .f32⟩
  | .local _ .vmem, ⟨0, _⟩ => ⟨S128x512, .f32⟩
  | .local _ .vmem, ⟨1, _⟩ => ⟨S1x256, .f32⟩
  | .local _ .vmem, ⟨2, _⟩ => ⟨S4x16x16, .bf16⟩
  | .local _ .vmem, ⟨3, _⟩ => ⟨S16x256, .f32⟩
  | .local _ .vmem, ⟨4, _⟩ => ⟨S256x256, .bf16⟩
  | .local _ .vmem, ⟨5, _⟩ => ⟨S128x256, .bf16⟩
  | .local _ .vmem, ⟨6, _⟩ => ⟨S128x256, .f32⟩
  | _, _ => ⟨S8x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24_0 : Ref sig .tc := ⟨.hbm, 54, rfl⟩
abbrev main_v24_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S8x16x512 : Shape := ⟨3, ![8, 16, 512]⟩
abbrev S64 : Shape := ⟨1, ![64]⟩
abbrev S4x128x128 : Shape := ⟨3, ![4, 128, 128]⟩
abbrev S4x128 : Shape := ⟨2, ![4, 128]⟩
abbrev S8x16x256 : Shape := ⟨3, ![8, 16, 256]⟩
abbrev S_ : Shape := ⟨0, ![]⟩
abbrev S8x1x16x4x64 : Shape := ⟨5, ![8, 1, 16, 4, 64]⟩
abbrev S8x1x16x4 : Shape := ⟨4, ![8, 1, 16, 4]⟩
abbrev S8x1x16x4x1 : Shape := ⟨5, ![8, 1, 16, 4, 1]⟩
abbrev S1x1x1x1x64 : Shape := ⟨5, ![1, 1, 1, 1, 64]⟩
abbrev S4x16x16 : Shape := ⟨3, ![4, 16, 16]⟩
abbrev S16x16 : Shape := ⟨2, ![16, 16]⟩
abbrev S1x16x16 : Shape := ⟨3, ![1, 16, 16]⟩
abbrev S4x8x1x64x16 : Shape := ⟨5, ![4, 8, 1, 64, 16]⟩
abbrev S4x16 : Shape := ⟨2, ![4, 16]⟩
abbrev S16x4 : Shape := ⟨2, ![16, 4]⟩
abbrev S1x1x16x4x1 : Shape := ⟨5, ![1, 1, 16, 4, 1]⟩
abbrev S128x256 : Shape := ⟨2, ![128, 256]⟩

abbrev nBuf : Space → Nat
  | .hbm => 86
  | .vmem => 0
  | .smem => 0
  | _ => 0

abbrev bufTy : (tb : Table) → Fin (tcTables nBuf tb) → BufTy
  | .hbm, ⟨0, _⟩ => ⟨S8x16x512, .f32⟩
  | .hbm, ⟨1, _⟩ => ⟨S64, .f32⟩
  | .hbm, ⟨2, _⟩ => ⟨S4x128x128, .f32⟩
  | .hbm, ⟨3, _⟩ => ⟨S4x128, .f32⟩
  | .hbm, ⟨4, _⟩ => ⟨S8x16x256, .f32⟩
  | .hbm, ⟨5, _⟩ => ⟨S8x16x256, .f32⟩
  | .hbm, ⟨6, _⟩ => ⟨S8x16x256, .f32⟩
  | .hbm, ⟨7, _⟩ => ⟨S8x16x256, .f32⟩
  | .hbm, ⟨8, _⟩ => ⟨S_, .f32⟩
  | .hbm, ⟨9, _⟩ => ⟨S8x16x256, .f32⟩
  | .hbm, ⟨10, _⟩ => ⟨S8x16x256, .f32⟩
  | .hbm, ⟨11, _⟩ => ⟨S8x16x256, .f32⟩
  | .hbm, ⟨12, _⟩ => ⟨S_, .f32⟩
  | .hbm, ⟨13, _⟩ => ⟨S8x16x256, .f32⟩
  | .hbm, ⟨14, _⟩ => ⟨S8x16x256, .f32⟩
  | .hbm, ⟨15, _⟩ => ⟨S8x16x256, .f32⟩
  | .hbm, ⟨16, _⟩ => ⟨S_, .f32⟩
  | .hbm, ⟨17, _⟩ => ⟨S8x16x256, .f32⟩
  | .hbm, ⟨18, _⟩ => ⟨S8x16x256, .f32⟩
  | .hbm, ⟨19, _⟩ => ⟨S_, .f32⟩
  | .hbm, ⟨20, _⟩ => ⟨S8x16x256, .f32⟩
  | .hbm, ⟨21, _⟩ => ⟨S8x16x256, .f32⟩
  | .hbm, ⟨22, _⟩ => ⟨S8x16x256, .f32⟩
  | .hbm, ⟨23, _⟩ => ⟨S8x1x16x4x64, .f32⟩
  | .hbm, ⟨24, _⟩ => ⟨S8x16x256, .f32⟩
  | .hbm, ⟨25, _⟩ => ⟨S8x16x256, .f32⟩
  | .hbm, ⟨26, _⟩ => ⟨S_, .f32⟩
  | .hbm, ⟨27, _⟩ => ⟨S8x16x256, .f32⟩
  | .hbm, ⟨28, _⟩ => ⟨S8x16x256, .f32⟩
  | .hbm, ⟨29, _⟩ => ⟨S8x16x256, .f32⟩
  | .hbm, ⟨30, _⟩ => ⟨S_, .f32⟩
  | .hbm, ⟨31, _⟩ => ⟨S8x16x256, .f32⟩
  | .hbm, ⟨32, _⟩ => ⟨S8x16x256, .f32⟩
  | .hbm, ⟨33, _⟩ => ⟨S8x16x256, .f32⟩
  | .hbm, ⟨34, _⟩ => ⟨S_, .f32⟩
  | .hbm, ⟨35, _⟩ => ⟨S8x16x256, .f32⟩
  | .hbm, ⟨36, _⟩ => ⟨S8x16x256, .f32⟩
  | .hbm, ⟨37, _⟩ => ⟨S_, .f32⟩
  | .hbm, ⟨38, _⟩ => ⟨S8x16x256, .f32⟩
  | .hbm, ⟨39, _⟩ => ⟨S8x16x256, .f32⟩
  | .hbm, ⟨40, _⟩ => ⟨S8x16x256, .f32⟩
  | .hbm, ⟨41, _⟩ => ⟨S8x1x16x4x64, .f32⟩
  | .hbm, ⟨42, _⟩ => ⟨S8x1x16x4x64, .f32⟩
  | .hbm, ⟨43, _⟩ => ⟨S_, .f32⟩
  | .hbm, ⟨44, _⟩ => ⟨S8x1x16x4, .f32⟩
  | .hbm, ⟨45, _⟩ => ⟨S8x1x16x4x1, .f32⟩
  | .hbm, ⟨46, _⟩ => ⟨S_, .f32⟩
  | .hbm, ⟨47, _⟩ => ⟨S8x1x16x4x1, .f32⟩
  | .hbm, ⟨48, _⟩ => ⟨S8x1x16x4x1, .f32⟩
  | .hbm, ⟨49, _⟩ => ⟨S_, .f32⟩
  | .hbm, ⟨50, _⟩ => ⟨S8x1x16x4x1, .f32⟩
  | .hbm, ⟨51, _⟩ => ⟨S8x1x16x4x1, .f32⟩
  | .hbm, ⟨52, _⟩ => ⟨S8x1x16x4x1, .f32⟩
  | .hbm, ⟨53, _⟩ => ⟨S8x1x16x4x64, .f32⟩
  | .hbm, ⟨54, _⟩ => ⟨S8x1x16x4x64, .f32⟩
  | .hbm, ⟨55, _⟩ => ⟨S1x1x1x1x64, .f32⟩
  | .hbm, ⟨56, _⟩ => ⟨S8x1x16x4x64, .f32⟩
  | .hbm, ⟨57, _⟩ => ⟨S8x1x16x4x64, .f32⟩
  | .hbm, ⟨58, _⟩ => ⟨S4x16x16, .f32⟩
  | .hbm, ⟨59, _⟩ => ⟨S_, .f32⟩
  | .hbm, ⟨60, _⟩ => ⟨S16x16, .f32⟩
  | .hbm, ⟨61, _⟩ => ⟨S16x16, .i32⟩
  | .hbm, ⟨62, _⟩ => ⟨S_, .i32⟩
  | .hbm, ⟨63, _⟩ => ⟨S16x16, .i32⟩
  | .hbm, ⟨64, _⟩ => ⟨S16x16, .i32⟩
  | .hbm, ⟨65, _⟩ => ⟨S16x16, .i32⟩
  | .hbm, ⟨66, _⟩ => ⟨S16x16, .i1⟩
  | .hbm, ⟨67, _⟩ => ⟨S_, .f32⟩
  | .hbm, ⟨68, _⟩ => ⟨S16x16, .f32⟩
  | .hbm, ⟨69, _⟩ => ⟨S16x16, .f32⟩
  | .hbm, ⟨70, _⟩ => ⟨S1x16x16, .f32⟩
  | .hbm, ⟨71, _⟩ => ⟨S4x16x16, .f32⟩
  | .hbm, ⟨72, _⟩ => ⟨S4x16x16, .f32⟩
  | .hbm, ⟨73, _⟩ => ⟨S4x8x1x64x16, .f32⟩
  | .hbm, ⟨74, _⟩ => ⟨S8x1x16x4x64, .f32⟩
  | .hbm, ⟨75, _⟩ => ⟨S4x16, .f32⟩
  | .hbm, ⟨76, _⟩ => ⟨S16x4, .f32⟩
  | .hbm, ⟨77, _⟩ => ⟨S1x1x16x4x1, .f32⟩
  | .hbm, ⟨78, _⟩ => ⟨S8x1x16x4x64, .f32⟩
  | .hbm, ⟨79, _⟩ => ⟨S8x1x16x4x64, .f32⟩
  | .hbm, ⟨80, _⟩ => ⟨S8x1x16x4x64, .f32⟩
  | .hbm, ⟨81, _⟩ => ⟨S8x16x256, .f32⟩
  | .hbm, ⟨82, _⟩ => ⟨S8x16x256, .f32⟩
  | .hbm, ⟨83, _⟩ => ⟨S128x256, .f32⟩
  | .hbm, ⟨84, _⟩ => ⟨S128x256, .bf16⟩
  | .hbm, ⟨85, _⟩ => ⟨S128x256, .f32⟩
  | _, _ => ⟨S8x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_cst : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Kernel6.lean ====
abbrev S8x16x1024 : Shape := ⟨3, ![8, 16, 1024]⟩
abbrev S1024 : Shape := ⟨1, ![1024]⟩
abbrev S1024x3200 : Shape := ⟨2, ![1024, 3200]⟩
abbrev S64 : Shape := ⟨1, ![64]⟩
abbrev S128x1024 : Shape := ⟨2, ![128, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S1x1024 : Shape := ⟨2, ![1, 1024]⟩
abbrev S_ : Shape := ⟨0, ![]⟩
abbrev S384x1 : Shape := ⟨2, ![384, 1]⟩
abbrev S384x384 : Shape := ⟨2, ![384, 384]⟩
abbrev S128x384 : Shape := ⟨2, ![128, 384]⟩
abbrev S128x1536 : Shape := ⟨2, ![128, 1536]⟩
abbrev S128x512 : Shape := ⟨2, ![128, 512]⟩
abbrev S128 : Shape := ⟨1, ![128]⟩
abbrev S128x1 : Shape := ⟨2, ![128, 1]⟩
abbrev S1024x384 : Shape := ⟨2, ![1024, 384]⟩
abbrev S1024x1536 : Shape := ⟨2, ![1024, 1536]⟩
abbrev S1024x512 : Shape := ⟨2, ![1024, 512]⟩

abbrev nBuf : Space → Nat
  | .hbm => 48
  | .vmem => 13
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3200, .f32⟩
  | .hbm, ⟨3, _⟩ => ⟨S64, .f32⟩
  | .hbm, ⟨4, _⟩ => ⟨S64, .f32⟩
  | .hbm, ⟨5, _⟩ => ⟨S128x1024, .f32⟩
  | .hbm, ⟨6, _⟩ => ⟨S1024x3200, .bf16⟩
  | .hbm, ⟨7, _⟩ => ⟨S1x64, .f32⟩
  | .hbm, ⟨8, _⟩ => ⟨S6x64, .f32⟩
  | .hbm, ⟨9, _⟩ => ⟨S384, .f32⟩
  | .hbm, ⟨10, _⟩ => ⟨S1x384, .f32⟩
  | .hbm, ⟨11, _⟩ => ⟨S1x64, .f32⟩
  | .hbm, ⟨12, _⟩ => ⟨S6x64, .f32⟩
  | .hbm, ⟨13, _⟩ => ⟨S384, .f32⟩
  | .hbm, ⟨14, _⟩ => ⟨S1x384, .f32⟩
  | .hbm, ⟨15, _⟩ => ⟨S1x1024, .f32⟩
  | .hbm, ⟨16, _⟩ => ⟨S384, .i32⟩
  | .hbm, ⟨17, _⟩ => ⟨S_, .i32⟩
  | .hbm, ⟨18, _⟩ => ⟨S_, .i32⟩
  | .hbm, ⟨19, _⟩ => ⟨S384, .i32⟩
  | .hbm, ⟨20, _⟩ => ⟨S384, .i32⟩
  | .hbm, ⟨21, _⟩ => ⟨S384, .i32⟩
  | .hbm, ⟨22, _⟩ => ⟨S_, .i32⟩
  | .hbm, ⟨23, _⟩ => ⟨S384, .i32⟩
  | .hbm, ⟨24, _⟩ => ⟨S384, .i1⟩
  | .hbm, ⟨25, _⟩ => ⟨S384, .i32⟩
  | .hbm, ⟨26, _⟩ => ⟨S384, .i32⟩
  | .hbm, ⟨27, _⟩ => ⟨S_, .i32⟩
  | .hbm, ⟨28, _⟩ => ⟨S384, .i32⟩
  | .hbm, ⟨29, _⟩ => ⟨S384, .i1⟩
  | .hbm, ⟨30, _⟩ => ⟨S384, .i1⟩
  | .hbm, ⟨31, _⟩ => ⟨S_, .i32⟩
  | .hbm, ⟨32, _⟩ => ⟨S384, .i32⟩
  | .hbm, ⟨33, _⟩ => ⟨S384, .i32⟩
  | .hbm, ⟨34, _⟩ => ⟨S384, .i32⟩
  | .hbm, ⟨35, _⟩ => ⟨S384x1, .i32⟩
  | .hbm, ⟨36, _⟩ => ⟨S1x384, .i32⟩
  | .hbm, ⟨37, _⟩ => ⟨S384x384, .i32⟩
  | .hbm, ⟨38, _⟩ => ⟨S384x384, .i32⟩
  | .hbm, ⟨39, _⟩ => ⟨S384x384, .i1⟩
  | .hbm, ⟨40, _⟩ => ⟨S384x384, .bf16⟩
  | .hbm, ⟨41, _⟩ => ⟨S128x384, .bf16⟩
  | .hbm, ⟨42, _⟩ => ⟨S128x384, .f32⟩
  | .hbm, ⟨43, _⟩ => ⟨S128x384, .f32⟩
  | .hbm, ⟨44, _⟩ => ⟨S128x384, .bf16⟩
  | .hbm, ⟨45, _⟩ => ⟨S128x384, .bf16⟩
  | .hbm, ⟨46, _⟩ => ⟨S128x1536, .f32⟩
  | .hbm, ⟨47, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3200, .bf16⟩
  | .local _ .vmem, ⟨3, _⟩ => ⟨S1x384, .f32⟩
  | .local _ .vmem, ⟨4, _⟩ => ⟨S1x384, .f32⟩
  | .local _ .vmem, ⟨5, _⟩ => ⟨S384x384, .bf16⟩
  | .local _ .vmem, ⟨6, _⟩ => ⟨S128x384, .bf16⟩
  | .local _ .vmem, ⟨7, _⟩ => ⟨S128x384, .f32⟩
  | .local _ .vmem, ⟨8, _⟩ => ⟨S128x384, .f32⟩
  | .local _ .vmem, ⟨9, _⟩ => ⟨S128x384, .bf16⟩
  | .local _ .vmem, ⟨10, _⟩ => ⟨S128x384, .bf16⟩
  | .local _ .vmem, ⟨11, _⟩ => ⟨S128x1536, .f32⟩
  | .local _ .vmem, ⟨12, _⟩ => ⟨S128x512, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v19_2 : Ref sig .tc := ⟨.hbm, 43, rfl⟩
abbrev main_v19_3 : Ref sig .tc := ⟨.hbm, 44, rfl⟩
abbrev main_v19_4 : Ref sig .tc := ⟨.hbm, 45, rfl⟩
abbrev main_v19_5 : Ref sig .tc := ⟨.hbm, 46, rfl⟩
abbrev main_v19_6 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference6Ideal.lean ====
abbrev S8x16x1024 : Shape := ⟨3, ![8, 16, 1024]⟩
abbrev S1024 : Shape := ⟨1, ![1024]⟩
abbrev S1024x3200 : Shape := ⟨2, ![1024, 3200]⟩
abbrev S64 : Shape := ⟨1, ![64]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x3200 : Shape := ⟨3, ![8, 16, 3200]⟩
abbrev S8x16x384 : Shape := ⟨3, ![8, 16, 384]⟩
abbrev S8x16x1536 : Shape := ⟨3, ![8, 16, 1536]⟩
abbrev S8x16x512 : Shape := ⟨3, ![8, 16, 512]⟩
abbrev S8x16x6x64 : Shape := ⟨4, ![8, 16, 6, 64]⟩
abbrev S8x16x6 : Shape := ⟨3, ![8, 16, 6]⟩
abbrev S8x16x6x1 : Shape := ⟨4, ![8, 16, 6, 1]⟩
abbrev S1x1x1x64 : Shape := ⟨4, ![1, 1, 1, 64]⟩
abbrev S128x384 : Shape := ⟨2, ![128, 384]⟩
abbrev S128x1536 : Shape := ⟨2, ![128, 1536]⟩
abbrev S128x512 : Shape := ⟨2, ![128, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3200, .f32⟩
  | .hbm, ⟨3, _⟩ => ⟨S64, .f32⟩
  | .hbm, ⟨4, _⟩ => ⟨S64, .f32⟩
  | .hbm, ⟨5, _⟩ => ⟨S8x16x1024, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x1024, .f32⟩
  | .hbm, ⟨17, _⟩ => ⟨S8x16x1024, .f32⟩
  | .hbm, ⟨18, _⟩ => ⟨S1x1x1024, .f32⟩
  | .hbm, ⟨19, _⟩ => ⟨S8x16x1024, .f32⟩
  | .hbm, ⟨20, _⟩ => ⟨S8x16x1024, .f32⟩
  | .hbm, ⟨21, _⟩ => ⟨S8x16x3200, .f32⟩
  | .hbm, ⟨22, _⟩ => ⟨S8x16x384, .f32⟩
  | .hbm, ⟨23, _⟩ => ⟨S8x16x384, .f32⟩
  | .hbm, ⟨24, _⟩ => ⟨S8x16x384, .f32⟩
  | .hbm, ⟨25, _⟩ => ⟨S8x16x1536, .f32⟩
  | .hbm, ⟨26, _⟩ => ⟨S8x16x512, .f32⟩
  | .hbm, ⟨27, _⟩ => ⟨S8x16x6x64, .f32⟩
  | .hbm, ⟨28, _⟩ => ⟨S8x16x6x64, .f32⟩
  | .hbm, ⟨29, _⟩ => ⟨S_, .f32⟩
  | .hbm, ⟨30, _⟩ => ⟨S8x16x6, .f32⟩
  | .hbm, ⟨31, _⟩ => ⟨S8x16x6x1, .f32⟩
  | .hbm, ⟨32, _⟩ => ⟨S_, .f32⟩
  | .hbm, ⟨33, _⟩ => ⟨S8x16x6x1, .f32⟩
  | .hbm, ⟨34, _⟩ => ⟨S8x16x6x1, .f32⟩
  | .hbm, ⟨35, _⟩ => ⟨S_, .f32⟩
  | .hbm, ⟨36, _⟩ => ⟨S8x16x6x1, .f32⟩
  | .hbm, ⟨37, _⟩ => ⟨S8x16x6x1, .f32⟩
  | .hbm, ⟨38, _⟩ => ⟨S8x16x6x1, .f32⟩
  | .hbm, ⟨39, _⟩ => ⟨S8x16x6x64, .f32⟩
  | .hbm, ⟨40, _⟩ => ⟨S8x16x6x64, .f32⟩
  | .hbm, ⟨41, _⟩ => ⟨S1x1x1x64, .f32⟩
  | .hbm, ⟨42, _⟩ => ⟨S8x16x6x64, .f32⟩
  | .hbm, ⟨43, _⟩ => ⟨S8x16x6x64, .f32⟩
  | .hbm, ⟨44, _⟩ => ⟨S8x16x6x64, .f32⟩
  | .hbm, ⟨45, _⟩ => ⟨S8x16x6x64, .f32⟩
  | .hbm, ⟨46, _⟩ => ⟨S_, .f32⟩
  | .hbm, ⟨47, _⟩ => ⟨S8x16x6, .f32⟩
  | .hbm, ⟨48, _⟩ => ⟨S8x16x6x1, .f32⟩
  | .hbm, ⟨49, _⟩ => ⟨S_, .f32⟩
  | .hbm, ⟨50, _⟩ => ⟨S8x16x6x1, .f32⟩
  | .hbm, ⟨51, _⟩ => ⟨S8x16x6x1, .f32⟩
  | .hbm, ⟨52, _⟩ => ⟨S_, .f32⟩
  | .hbm, ⟨53, _⟩ => ⟨S8x16x6x1, .f32⟩
  | .hbm, ⟨54, _⟩ => ⟨S8x16x6x1, .f32⟩
  | .hbm, ⟨55, _⟩ => ⟨S8x16x6x1, .f32⟩
  | .hbm, ⟨56, _⟩ => ⟨S8x16x6x64, .f32⟩
  | .hbm, ⟨57, _⟩ => ⟨S8x16x6x64, .f32⟩
  | .hbm, ⟨58, _⟩ => ⟨S1x1x1x64, .f32⟩
  | .hbm, ⟨59, _⟩ => ⟨S8x16x6x64, .f32⟩
  | .hbm, ⟨60, _⟩ => ⟨S8x16x6x64, .f32⟩
  | .hbm, ⟨61, _⟩ => ⟨S_, .f32⟩
  | .hbm, ⟨62, _⟩ => ⟨S8x16x6x64, .f32⟩
  | .hbm, ⟨63, _⟩ => ⟨S8x16x6x64, .f32⟩
  | .hbm, ⟨64, _⟩ => ⟨S128x384, .f32⟩
  | .hbm, ⟨65, _⟩ => ⟨S128x384, .bf16⟩
  | .hbm, ⟨66, _⟩ => ⟨S128x384, .f32⟩
  | .hbm, ⟨67, _⟩ => ⟨S128x384, .f32⟩
  | .hbm, ⟨68, _⟩ => ⟨S128x384, .f32⟩
  | .hbm, ⟨69, _⟩ => ⟨S128x384, .bf16⟩
  | .hbm, ⟨70, _⟩ => ⟨S128x384, .f32⟩
  | .hbm, ⟨71, _⟩ => ⟨S128x384, .bf16⟩
  | .hbm, ⟨72, _⟩ => ⟨S128x1536, .f32⟩
  | .hbm, ⟨73, _⟩ => ⟨S128x512, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel7.lean ====
abbrev S8x16x1536 : Shape := ⟨3, ![8, 16, 1536]⟩
abbrev S384 : Shape := ⟨1, ![384]⟩
abbrev S64 : Shape := ⟨1, ![64]⟩
abbrev S8x6x64x64 : Shape := ⟨4, ![8, 6, 64, 64]⟩
abbrev S_ : Shape := ⟨0, ![]⟩
abbrev S1x384 : Shape := ⟨2, ![1, 384]⟩
abbrev S3x384 : Shape := ⟨2, ![3, 384]⟩
abbrev S128x1536 : Shape := ⟨2, ![128, 1536]⟩
abbrev S1x64 : Shape := ⟨2, ![1, 64]⟩
abbrev S6x64 : Shape := ⟨2, ![6, 64]⟩
abbrev S8x3x2x64x64 : Shape := ⟨5, ![8, 3, 2, 64, 64]⟩
abbrev S8x3x1x64x64 : Shape := ⟨5, ![8, 3, 1, 64, 64]⟩
abbrev S8x3x64x64 : Shape := ⟨4, ![8, 3, 64, 64]⟩
abbrev S8x3x64x128 : Shape := ⟨4, ![8, 3, 64, 128]⟩
abbrev S8x3x128x128 : Shape := ⟨4, ![8, 3, 128, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S384x1 : Shape := ⟨2, ![384, 1]⟩
abbrev S384x384 : Shape := ⟨2, ![384, 384]⟩
abbrev S128x384 : Shape := ⟨2, ![128, 384]⟩
abbrev S16x1536 : Shape := ⟨2, ![16, 1536]⟩
abbrev S1x3x128x128 : Shape := ⟨4, ![1, 3, 128, 128]⟩
abbrev S16x384 : Shape := ⟨2, ![16, 384]⟩
abbrev S3x128x128 : Shape := ⟨3, ![3, 128, 128]⟩
abbrev S128x128 : Shape := ⟨2, ![128, 128]⟩
abbrev S8x384 : Shape := ⟨2, ![8, 384]⟩
abbrev S16x128 : Shape := ⟨2, ![16, 128]⟩
abbrev S192x384 : Shape := ⟨2, ![192, 384]⟩
abbrev S1x128x128 : Shape := ⟨3, ![1, 128, 128]⟩
abbrev S1x128 : Shape := ⟨2, ![1, 128]⟩

abbrev nBuf : Space → Nat
  | .hbm => 108
  | .vmem => 13
  | .smem => 0
  | _ => 0

abbrev bufTy : (tb : Table) → Fin (tcTables nBuf tb) → BufTy
  | .hbm, ⟨0, _⟩ => ⟨S8x16x1536, .f32⟩
  | .hbm, ⟨1, _⟩ => ⟨S384, .f32⟩
  | .hbm, ⟨2, _⟩ => ⟨S64, .f32⟩
  | .hbm, ⟨3, _⟩ => ⟨S8x6x64x64, .f32⟩
  | .hbm, ⟨4, _⟩ => ⟨S384, .f32⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S384, .f32⟩
  | .hbm, ⟨9, _⟩ => ⟨S384, .f32⟩
  | .hbm, ⟨10, _⟩ => ⟨S1x384, .f32⟩
  | .hbm, ⟨11, _⟩ => ⟨S1x384, .f32⟩
  | .hbm, ⟨12, _⟩ => ⟨S1x384, .f32⟩
  | .hbm, ⟨13, _⟩ => ⟨S3x384, .f32⟩
  | .hbm, ⟨14, _⟩ => ⟨S128x1536, .f32⟩
  | .hbm, ⟨15, _⟩ => ⟨S1x64, .f32⟩
  | .hbm, ⟨16, _⟩ => ⟨S6x64, .f32⟩
  | .hbm, ⟨17, _⟩ => ⟨S384, .f32⟩
  | .hbm, ⟨18, _⟩ => ⟨S1x384, .f32⟩
  | .hbm, ⟨19, _⟩ => ⟨S8x6x64x64, .f32⟩
  | .hbm, ⟨20, _⟩ => ⟨S8x3x2x64x64, .f32⟩
  | .hbm, ⟨21, _⟩ => ⟨S8x3x1x64x64, .f32⟩
  | .hbm, ⟨22, _⟩ => ⟨S8x3x64x64, .f32⟩
  | .hbm, ⟨23, _⟩ => ⟨S_, .f32⟩
  | .hbm, ⟨24, _⟩ => ⟨S8x3x64x64, .f32⟩
  | .hbm, ⟨25, _⟩ => ⟨S8x3x1x64x64, .f32⟩
  | .hbm, ⟨26, _⟩ => ⟨S8x3x64x64, .f32⟩
  | .hbm, ⟨27, _⟩ => ⟨S8x3x64x128, .f32⟩
  | .hbm, ⟨28, _⟩ => ⟨S8x3x1x64x64, .f32⟩
  | .hbm, ⟨29, _⟩ => ⟨S8x3x64x64, .f32⟩
  | .hbm, ⟨30, _⟩ => ⟨S8x3x64x128, .f32⟩
  | .hbm, ⟨31, _⟩ => ⟨S8x3x128x128, .f32⟩
  | .hbm, ⟨32, _⟩ => ⟨S16, .i32⟩
  | .hbm, ⟨33, _⟩ => ⟨S16x1, .i32⟩
  | .hbm, ⟨34, _⟩ => ⟨S1x16, .i32⟩
  | .hbm, ⟨35, _⟩ => ⟨S16x16, .i32⟩
  | .hbm, ⟨36, _⟩ => ⟨S16x16, .i32⟩
  | .hbm, ⟨37, _⟩ => ⟨S16x16, .i1⟩
  | .hbm, ⟨38, _⟩ => ⟨S16x1, .i32⟩
  | .hbm, ⟨39, _⟩ => ⟨S_, .i32⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i1⟩
  | .hbm, ⟨47, _⟩ => ⟨S16x1, .i32⟩
  | .hbm, ⟨48, _⟩ => ⟨S16x1, .i32⟩
  | .hbm, ⟨49, _⟩ => ⟨S_, .i32⟩
  | .hbm, ⟨50, _⟩ => ⟨S16x1, .i32⟩
  | .hbm, ⟨51, _⟩ => ⟨S16x1, .i1⟩
  | .hbm, ⟨52, _⟩ => ⟨S16x1, .i1⟩
  | .hbm, ⟨53, _⟩ => ⟨S_, .i32⟩
  | .hbm, ⟨54, _⟩ => ⟨S16x1, .i32⟩
  | .hbm, ⟨55, _⟩ => ⟨S16x1, .i32⟩
  | .hbm, ⟨56, _⟩ => ⟨S16x1, .i32⟩
  | .hbm, ⟨57, _⟩ => ⟨S1x16, .i32⟩
  | .hbm, ⟨58, _⟩ => ⟨S_, .i32⟩
  | .hbm, ⟨59, _⟩ => ⟨S_, .i32⟩
  | .hbm, ⟨60, _⟩ => ⟨S1x16, .i32⟩
  | .hbm, ⟨61, _⟩ => ⟨S1x16, .i32⟩
  | .hbm, ⟨62, _⟩ => ⟨S1x16, .i32⟩
  | .hbm, ⟨63, _⟩ => ⟨S_, .i32⟩
  | .hbm, ⟨64, _⟩ => ⟨S1x16, .i32⟩
  | .hbm, ⟨65, _⟩ => ⟨S1x16, .i1⟩
  | .hbm, ⟨66, _⟩ => ⟨S1x16, .i32⟩
  | .hbm, ⟨67, _⟩ => ⟨S1x16, .i32⟩
  | .hbm, ⟨68, _⟩ => ⟨S_, .i32⟩
  | .hbm, ⟨69, _⟩ => ⟨S1x16, .i32⟩
  | .hbm, ⟨70, _⟩ => ⟨S1x16, .i1⟩
  | .hbm, ⟨71, _⟩ => ⟨S1x16, .i1⟩
  | .hbm, ⟨72, _⟩ => ⟨S_, .i32⟩
  | .hbm, ⟨73, _⟩ => ⟨S1x16, .i32⟩
  | .hbm, ⟨74, _⟩ => ⟨S1x16, .i32⟩
  | .hbm, ⟨75, _⟩ => ⟨S1x16, .i32⟩
  | .hbm, ⟨76, _⟩ => ⟨S16x16, .i32⟩
  | .hbm, ⟨77, _⟩ => ⟨S16x16, .i32⟩
  | .hbm, ⟨78, _⟩ => ⟨S16x16, .i1⟩
  | .hbm, ⟨79, _⟩ => ⟨S16x16, .i1⟩
  | .hbm, ⟨80, _⟩ => ⟨S16x16, .bf16⟩
  | .hbm, ⟨81, _⟩ => ⟨S384, .i32⟩
  | .hbm, ⟨82, _⟩ => ⟨S_, .i32⟩
  | .hbm, ⟨83, _⟩ => ⟨S_, .i32⟩
  | .hbm, ⟨84, _⟩ => ⟨S384, .i32⟩
  | .hbm, ⟨85, _⟩ => ⟨S384, .i32⟩
  | .hbm, ⟨86, _⟩ => ⟨S384, .i32⟩
  | .hbm, ⟨87, _⟩ => ⟨S_, .i32⟩
  | .hbm, ⟨88, _⟩ => ⟨S384, .i32⟩
  | .hbm, ⟨89, _⟩ => ⟨S384, .i1⟩
  | .hbm, ⟨90, _⟩ => ⟨S384, .i32⟩
  | .hbm, ⟨91, _⟩ => ⟨S384, .i32⟩
  | .hbm, ⟨92, _⟩ => ⟨S_, .i32⟩
  | .hbm, ⟨93, _⟩ => ⟨S384, .i32⟩
  | .hbm, ⟨94, _⟩ => ⟨S384, .i1⟩
  | .hbm, ⟨95, _⟩ => ⟨S384, .i1⟩
  | .hbm, ⟨96, _⟩ => ⟨S_, .i32⟩
  | .hbm, ⟨97, _⟩ => ⟨S384, .i32⟩
  | .hbm, ⟨98, _⟩ => ⟨S384, .i32⟩
  | .hbm, ⟨99, _⟩ => ⟨S384, .i32⟩
  | .hbm, ⟨100, _⟩ => ⟨S384x1, .i32⟩
  | .hbm, ⟨101, _⟩ => ⟨S1x384, .i32⟩
  | .hbm, ⟨102, _⟩ => ⟨S384x384, .i32⟩
  | .hbm, ⟨103, _⟩ => ⟨S384x384, .i32⟩
  | .hbm, ⟨104, _⟩ => ⟨S384x384, .i1⟩
  | .hbm, ⟨105, _⟩ => ⟨S384x384, .bf16⟩
  | .hbm, ⟨106, _⟩ => ⟨S128x384, .bf16⟩
  | .hbm, ⟨107, _⟩ => ⟨S8x3x128x128, .f32⟩
  | .local _ .vmem, ⟨0, _⟩ => ⟨S16x1536, .f32⟩
  | .local _ .vmem, ⟨1, _⟩ => ⟨S16x1536, .f32⟩
  | .local _ .vmem, ⟨2, _⟩ => ⟨S3x384, .f32⟩
  | .local _ .vmem, ⟨3, _⟩ => ⟨S1x384, .f32⟩
  | .local _ .vmem, ⟨4, _⟩ => ⟨S16x16, .bf16⟩
  | .local _ .vmem, ⟨5, _⟩ => ⟨S384x384, .bf16⟩
  | .local _ .vmem, ⟨6, _⟩ => ⟨S1x3x128x128, .f32⟩
  | .local _ .vmem, ⟨7, _⟩ => ⟨S1x3x128x128, .f32⟩
  | .local _ .vmem, ⟨8, _⟩ => ⟨S16x384, .bf16⟩
  | .local _ .vmem, ⟨9, _⟩ => ⟨S16x384, .bf16⟩
  | .local _ .vmem, ⟨10, _⟩ => ⟨S1x3x128x128, .f32⟩
  | .local _ .vmem, ⟨11, _⟩ => ⟨S1x3x128x128, .f32⟩
  | .local _ .vmem, ⟨12, _⟩ => ⟨S3x128x128, .f32⟩
  | _, _ => ⟨S8x16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v33 : Ref sig .tc := ⟨.hbm, 56, rfl⟩
abbrev main_v34 : Ref sig .tc := ⟨.hbm, 57, rfl⟩
abbrev main_c_1 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_2 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_c : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_0 : Ref sig .tc := ⟨.hbm, 96, rfl⟩
abbrev main_call2_v12 : Ref sig .tc := ⟨.hbm, 97, rfl⟩
abbrev main_call2_v13 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49_0 : Ref sig .tc := ⟨.hbm, 106, rfl⟩
abbrev main_v49_1 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

def k0_mult1 : BitVec 32 :=
  let c0_i32_20 : BitVec 32 := 0#32
  let c16_i32 : BitVec 32 := 16#32
  let v62 : BitVec 32 := Scalar.muli c0_i32_20 c16_i32
  v62
def k0_off1 : Fin 2 → Nat :=
  let c0_i32_20 : BitVec 32 := 0#32
  let c16_i32 : BitVec 32 := 16#32
  let v62 : BitVec 32 := Scalar.muli c0_i32_20 c16_i32
  let v63 : BitVec 32 := v62
  let v64 : Index := Scalar.indexCast v63
  let c0_21 : Index := 0#32
  ![v64.toNat, 0]
def k0_off2 : Fin 2 → Nat :=
  let c0_i32_20 : BitVec 32 := 0#32
  let c16_i32 : BitVec 32 := 16#32
  let v62 : BitVec 32 := Scalar.muli c0_i32_20 c16_i32
  let v63 : BitVec 32 := v62
  let v487 : Index := Scalar.indexCast v63
  let c0_80 : Index := 0#32
  ![v487.toNat, 0]
def k0_cond2 (i : grid0.Coords) : BitVec 1 :=
  let arg1 : BitVec 32 := BitVec.ofNat 32 (i 1).val
  let c0_i32_82 : BitVec 32 := 0#32
  let v489 : BitVec 1 := Scalar.cmpi .eq arg1 c0_i32_82
  let v490 : BitVec 32 := Scalar.extui v489
  let c0_i32_83 : BitVec 32 := 0#32
  let v491 : BitVec 1 := Scalar.cmpi .ne v490 c0_i32_83
  v491

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8x16x1536 : Shape := ⟨3, ![8, 16, 1536]⟩
abbrev S384 : Shape := ⟨1, ![384]⟩
abbrev S64 : Shape := ⟨1, ![64]⟩
abbrev S8x6x64x64 : Shape := ⟨4, ![8, 6, 64, 64]⟩
abbrev S8x16x384 : Shape := ⟨3, ![8, 16, 384]⟩
abbrev S_ : Shape := ⟨0, ![]⟩
abbrev S1x1x384 : Shape := ⟨3, ![1, 1, 384]⟩
abbrev S8x16x6x64 : Shape := ⟨4, ![8, 16, 6, 64]⟩
abbrev S8x1x6x64 : Shape := ⟨4, ![8, 1, 6, 64]⟩
abbrev S8x6x64 : Shape := ⟨3, ![8, 6, 64]⟩
abbrev S8x6x64x1 : Shape := ⟨4, ![8, 6, 64, 1]⟩
abbrev S8x3x2x64x64 : Shape := ⟨5, ![8, 3, 2, 64, 64]⟩
abbrev S8x3x64x64 : Shape := ⟨4, ![8, 3, 64, 64]⟩
abbrev S8x3x1x64x64 : Shape := ⟨5, ![8, 3, 1, 64, 64]⟩
abbrev S8x3x64x128 : Shape := ⟨4, ![8, 3, 64, 128]⟩
abbrev S8x3x128x128 : Shape := ⟨4, ![8, 3, 128, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x16x1536, .f32⟩
  | .hbm, ⟨1, _⟩ => ⟨S384, .f32⟩
  | .hbm, ⟨2, _⟩ => ⟨S64, .f32⟩
  | .hbm, ⟨3, _⟩ => ⟨S8x6x64x64, .f32⟩
  | .hbm, ⟨4, _⟩ => ⟨S8x16x384, .f32⟩
  | .hbm, ⟨5, _⟩ => ⟨S8x16x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S8x16x384, .f32⟩
  | .hbm, ⟨10, _⟩ => ⟨S_, .f32⟩
  | .hbm, ⟨11, _⟩ => ⟨S8x16x384, .f32⟩
  | .hbm, ⟨12, _⟩ => ⟨S8x16x384, .f32⟩
  | .hbm, ⟨13, _⟩ => ⟨S8x16x384, .f32⟩
  | .hbm, ⟨14, _⟩ => ⟨S8x16x384, .f32⟩
  | .hbm, ⟨15, _⟩ => ⟨S8x16x384, .i1⟩
  | .hbm, ⟨16, _⟩ => ⟨S8x16x384, .f32⟩
  | .hbm, ⟨17, _⟩ => ⟨S8x16x384, .f32⟩
  | .hbm, ⟨18, _⟩ => ⟨S8x16x384, .f32⟩
  | .hbm, ⟨19, _⟩ => ⟨S8x16x384, .f32⟩
  | .hbm, ⟨20, _⟩ => ⟨S8x16x384, .f32⟩
  | .hbm, ⟨21, _⟩ => ⟨S8x16x384, .f32⟩
  | .hbm, ⟨22, _⟩ => ⟨S8x16x384, .f32⟩
  | .hbm, ⟨23, _⟩ => ⟨S8x16x384, .f32⟩
  | .hbm, ⟨24, _⟩ => ⟨S8x16x384, .f32⟩
  | .hbm, ⟨25, _⟩ => ⟨S1x1x384, .f32⟩
  | .hbm, ⟨26, _⟩ => ⟨S8x16x384, .f32⟩
  | .hbm, ⟨27, _⟩ => ⟨S8x16x384, .f32⟩
  | .hbm, ⟨28, _⟩ => ⟨S1x1x384, .f32⟩
  | .hbm, ⟨29, _⟩ => ⟨S8x16x384, .f32⟩
  | .hbm, ⟨30, _⟩ => ⟨S8x16x384, .f32⟩
  | .hbm, ⟨31, _⟩ => ⟨S8x16x384, .f32⟩
  | .hbm, ⟨32, _⟩ => ⟨S8x16x384, .f32⟩
  | .hbm, ⟨33, _⟩ => ⟨S8x16x384, .i1⟩
  | .hbm, ⟨34, _⟩ => ⟨S8x16x384, .f32⟩
  | .hbm, ⟨35, _⟩ => ⟨S8x16x384, .f32⟩
  | .hbm, ⟨36, _⟩ => ⟨S8x16x384, .f32⟩
  | .hbm, ⟨37, _⟩ => ⟨S8x16x384, .f32⟩
  | .hbm, ⟨38, _⟩ => ⟨S8x16x384, .f32⟩
  | .hbm, ⟨39, _⟩ => ⟨S8x16x384, .f32⟩
  | .hbm, ⟨40, _⟩ => ⟨S8x16x384, .f32⟩
  | .hbm, ⟨41, _⟩ => ⟨S8x16x384, .f32⟩
  | .hbm, ⟨42, _⟩ => ⟨S_, .f32⟩
  | .hbm, ⟨43, _⟩ => ⟨S384, .f32⟩
  | .hbm, ⟨44, _⟩ => ⟨S384, .f32⟩
  | .hbm, ⟨45, _⟩ => ⟨S8x16x384, .f32⟩
  | .hbm, ⟨46, _⟩ => ⟨S8x16x384, .f32⟩
  | .hbm, ⟨47, _⟩ => ⟨S8x16x384, .f32⟩
  | .hbm, ⟨48, _⟩ => ⟨S_, .f32⟩
  | .hbm, ⟨49, _⟩ => ⟨S8x16x384, .f32⟩
  | .hbm, ⟨50, _⟩ => ⟨S8x16x384, .f32⟩
  | .hbm, ⟨51, _⟩ => ⟨S_, .f32⟩
  | .hbm, ⟨52, _⟩ => ⟨S8x16x384, .f32⟩
  | .hbm, ⟨53, _⟩ => ⟨S8x16x384, .f32⟩
  | .hbm, ⟨54, _⟩ => ⟨S1x1x384, .f32⟩
  | .hbm, ⟨55, _⟩ => ⟨S8x16x384, .f32⟩
  | .hbm, ⟨56, _⟩ => ⟨S8x16x384, .f32⟩
  | .hbm, ⟨57, _⟩ => ⟨S8x16x6x64, .f32⟩
  | .hbm, ⟨58, _⟩ => ⟨S8x16x6x64, .f32⟩
  | .hbm, ⟨59, _⟩ => ⟨S8x16x6x64, .f32⟩
  | .hbm, ⟨60, _⟩ => ⟨S_, .f32⟩
  | .hbm, ⟨61, _⟩ => ⟨S_, .f32⟩
  | .hbm, ⟨62, _⟩ => ⟨S8x16x6x64, .f32⟩
  | .hbm, ⟨63, _⟩ => ⟨S8x1x6x64, .f32⟩
  | .hbm, ⟨64, _⟩ => ⟨S8x6x64, .f32⟩
  | .hbm, ⟨65, _⟩ => ⟨S8x6x64, .f32⟩
  | .hbm, ⟨66, _⟩ => ⟨S8x6x64x1, .f32⟩
  | .hbm, ⟨67, _⟩ => ⟨S8x6x64x64, .f32⟩
  | .hbm, ⟨68, _⟩ => ⟨S8x6x64x64, .f32⟩
  | .hbm, ⟨69, _⟩ => ⟨S8x1x6x64, .f32⟩
  | .hbm, ⟨70, _⟩ => ⟨S8x16x6x64, .f32⟩
  | .hbm, ⟨71, _⟩ => ⟨S8x16x6x64, .f32⟩
  | .hbm, ⟨72, _⟩ => ⟨S8x16x6x64, .f32⟩
  | .hbm, ⟨73, _⟩ => ⟨S8x16x6x64, .f32⟩
  | .hbm, ⟨74, _⟩ => ⟨S8x6x64x64, .f32⟩
  | .hbm, ⟨75, _⟩ => ⟨S8x6x64x64, .f32⟩
  | .hbm, ⟨76, _⟩ => ⟨S8x6x64x64, .f32⟩
  | .hbm, ⟨77, _⟩ => ⟨S8x3x2x64x64, .f32⟩
  | .hbm, ⟨78, _⟩ => ⟨S_, .f32⟩
  | .hbm, ⟨79, _⟩ => ⟨S8x3x64x64, .f32⟩
  | .hbm, ⟨80, _⟩ => ⟨S8x3x1x64x64, .f32⟩
  | .hbm, ⟨81, _⟩ => ⟨S8x3x64x64, .f32⟩
  | .hbm, ⟨82, _⟩ => ⟨S8x3x1x64x64, .f32⟩
  | .hbm, ⟨83, _⟩ => ⟨S8x3x64x64, .f32⟩
  | .hbm, ⟨84, _⟩ => ⟨S8x3x64x128, .f32⟩
  | .hbm, ⟨85, _⟩ => ⟨S8x3x64x128, .f32⟩
  | .hbm, ⟨86, _⟩ => ⟨S8x3x128x128, .f32⟩
  | _, _ => ⟨S8x16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_call0_cst : Ref sig .tc := ⟨.hbm, 60, rfl⟩
abbrev main_call1_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_2 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.KI.State.lean ====
/-
  The attention kernel's two scratch buffers, seen as three tiles each: the running decay of head pair `p` is rows
  `256 p … 256 p + 255` of the first, its accumulated output columns `128 p … 128 p + 127` of the second. A load of a
  tile reads it and a store replaces it, whatever the other tiles hold.
-/
module

public import proofs.«01_k».proof.Proof.Gen.KernelIdeal
public import proofs.«01_k».proof.Proof.Gen.KernelIdeal.Skeleton
public import Idealize.ShloMosaic.Lib.Pipeline.FrameBody

@[expose] public section

noncomputable section

namespace Cert.KernelIdeal.Att

open Cert.KernelIdeal Cert.KernelIdeal.Gen
open Idealize.ShloMosaic Idealize.ShloMosaic.TcCoe

variable {F : FTy → Type} [FloatOps F] [Named F]

/-- Rows `256 p …` of the decay buffer, for the three head pairs. -/
abbrev rc0 : Rect S768x128 := Rect.unit (s := S768x128) ![0, 0] S256x128.size inb_S768x128_S256x128_0_0
abbrev rc1 : Rect S768x128 := Rect.unit (s := S768x128) ![256, 0] S256x128.size inb_S768x128_S256x128_256_0
abbrev rc2 : Rect S768x128 := Rect.unit (s := S768x128) ![512, 0] S256x128.size inb_S768x128_S256x128_512_0

/-- Columns `128 p …` of the output accumulator, for the three head pairs. -/
abbrev ra0 : Rect S128x384 := Rect.unit (s := S128x384) ![0, 0] S128x128.size inb_S128x384_S128x128_0_0
abbrev ra1 : Rect S128x384 := Rect.unit (s := S128x384) ![0, 128] S128x128.size inb_S128x384_S128x128_0_128
abbrev ra2 : Rect S128x384 := Rect.unit (s := S128x384) ![0, 256] S128x128.size inb_S128x384_S128x128_0_256

/-- The decay buffer holding the three given tiles. -/
def cAll (c0 c1 c2 : Vec F S256x128 .f32) : Vec F S768x128 .f32 :=
  rc2.overlay (rc1.overlay (rc0.overlay (k0_pay33 (F := F)) c0) c1) c2

/-- The output accumulator holding the three given tiles. -/
def aAll (a0 a1 a2 : Vec F S128x128 .f32) : Vec F S128x384 .f32 :=
  ra2.overlay (ra1.overlay (ra0.overlay (k0_pay34 (F := F)) a0) a1) a2

/-- A store through a rectangle of a whole buffer overlays the stored vector on what was there. -/
theorem write_eq_overlay {b : Ref sig .tc} (r : Rect b.ty.shape) (f : b.ty.Contents (Elt F)) (w : r.shape.Idx → Elt F b.ty.elt) :
    ((Memref.whole b).access r : View sig .tc _ _ _).write (Elt F) f w Finset.univ = r.overlay f w := by
  funext y
  by_cases hy : y ∈ r.set
  · obtain ⟨x, rfl⟩ := r.exists_idx_of_mem hy
    rw [show r.idx x = r.emb x from rfl, Rect.overlay_emb]
    have h := View.read_write_univ (v := ((Memref.whole b).access r : View sig .tc _ _ _)) (Val := Elt F) f w
    exact congrFun h x
  · rw [Rect.overlay_of_not_mem _ _ _ hy]
    refine View.write_of_not_mem (v := ((Memref.whole b).access r : View sig .tc _ _ _)) (Val := Elt F) f w Finset.univ fun hm => hy ?_
    obtain ⟨x, -, hx⟩ := Finset.mem_map.mp hm
    rw [← hx]
    exact r.idx_mem x

theorem mem_rc (i : S768x128.Idx) (o : ℕ) (inb : ∀ a, (![o, 0] : Fin 2 → ℕ) a + S256x128.size a ≤ S768x128.size a) :
    i ∈ (Rect.unit (s := S768x128) ![o, 0] S256x128.size inb).set ↔ o ≤ (i 0).val ∧ (i 0).val < o + 256 := by
  rw [Rect.mem_set_unit]
  constructor
  · intro h; exact h 0
  · intro h a
    have h1 := (i 1).isLt
    fin_cases a
    · exact h
    · exact ⟨Nat.zero_le _, by simpa using h1⟩

theorem mem_ra (i : S128x384.Idx) (o : ℕ) (inb : ∀ a, (![0, o] : Fin 2 → ℕ) a + S128x128.size a ≤ S128x384.size a) :
    i ∈ (Rect.unit (s := S128x384) ![0, o] S128x128.size inb).set ↔ o ≤ (i 1).val ∧ (i 1).val < o + 128 := by
  rw [Rect.mem_set_unit]
  constructor
  · intro h; exact h 1
  · intro h a
    have h1 := (i 0).isLt
    fin_cases a
    · exact ⟨Nat.zero_le _, by simpa using h1⟩
    · exact h

/-- Every row of the decay buffer lies in one of its three tiles. -/
theorem cover_c (i : S768x128.Idx) : i ∈ rc0.set ∨ i ∈ rc1.set ∨ i ∈ rc2.set := by
  rw [mem_rc, mem_rc, mem_rc]
  have := (i 0).isLt
  have h : (i 0).val < 768 := this
  omega

theorem cover_a (i : S128x384.Idx) : i ∈ ra0.set ∨ i ∈ ra1.set ∨ i ∈ ra2.set := by
  rw [mem_ra, mem_ra, mem_ra]
  have := (i 1).isLt
  have h : (i 1).val < 384 := this
  omega

section Tiles

variable (c0 c1 c2 w : Vec F S256x128 .f32) (a0 a1 a2 u : Vec F S128x128 .f32)

/-- Off its rectangle an overlay is what was below it; on it, the overlaid vector. -/
theorem overlay_on {s : Shape} {α : Type} (r : Rect s) (X : s.Idx → α) (G : r.shape.Idx → α) (x : r.shape.Idx) :
    r.overlay X G (r.idx x) = G x := Rect.overlay_emb r X G x

theorem cAll_0 (x : rc0.shape.Idx) : cAll c0 c1 c2 (rc0.idx x) = c0 x := by
  have h := (mem_rc (rc0.idx x) 0 inb_S768x128_S256x128_0_0).mp (rc0.idx_mem x)
  unfold cAll
  rw [Rect.overlay_of_not_mem, Rect.overlay_of_not_mem, overlay_on]
  · rw [mem_rc]; omega
  · rw [mem_rc]; omega
theorem cAll_1 (x : rc1.shape.Idx) : cAll c0 c1 c2 (rc1.idx x) = c1 x := by
  have h := (mem_rc (rc1.idx x) 256 inb_S768x128_S256x128_256_0).mp (rc1.idx_mem x)
  unfold cAll
  rw [Rect.overlay_of_not_mem, overlay_on]
  rw [mem_rc]; omega
theorem cAll_2 (x : rc2.shape.Idx) : cAll c0 c1 c2 (rc2.idx x) = c2 x := by
  unfold cAll
  rw [overlay_on]

theorem aAll_0 (x : ra0.shape.Idx) : aAll a0 a1 a2 (ra0.idx x) = a0 x := by
  have h := (mem_ra (ra0.idx x) 0 inb_S128x384_S128x128_0_0).mp (ra0.idx_mem x)
  unfold aAll
  rw [Rect.overlay_of_not_mem, Rect.overlay_of_not_mem, overlay_on]
  · rw [mem_ra]; omega
  · rw [mem_ra]; omega
theorem aAll_1 (x : ra1.shape.Idx) : aAll a0 a1 a2 (ra1.idx x) = a1 x := by
  have h := (mem_ra (ra1.idx x) 128 inb_S128x384_S128x128_0_128).mp (ra1.idx_mem x)
  unfold aAll
  rw [Rect.overlay_of_not_mem, overlay_on]
  rw [mem_ra]; omega
theorem aAll_2 (x : ra2.shape.Idx) : aAll a0 a1 a2 (ra2.idx x) = a2 x := by
  unfold aAll
  rw [overlay_on]

/-- Contents of the decay buffer with the three given tiles are `cAll` of them. -/
theorem eq_cAll (f : Vec F S768x128 .f32) (h0 : ∀ x, f (rc0.idx x) = c0 x) (h1 : ∀ x, f (rc1.idx x) = c1 x)
    (h2 : ∀ x, f (rc2.idx x) = c2 x) : f = cAll c0 c1 c2 := by
  funext i
  rcases cover_c i with h | h | h
  · obtain ⟨x, rfl⟩ := LoadRect.exists_idx_of_mem _ h; exact (h0 x).trans (cAll_0 c0 c1 c2 x).symm
  · obtain ⟨x, rfl⟩ := LoadRect.exists_idx_of_mem _ h; exact (h1 x).trans (cAll_1 c0 c1 c2 x).symm
  · obtain ⟨x, rfl⟩ := LoadRect.exists_idx_of_mem _ h; exact (h2 x).trans (cAll_2 c0 c1 c2 x).symm

theorem eq_aAll (f : Vec F S128x384 .f32) (h0 : ∀ x, f (ra0.idx x) = a0 x) (h1 : ∀ x, f (ra1.idx x) = a1 x)
    (h2 : ∀ x, f (ra2.idx x) = a2 x) : f = aAll a0 a1 a2 := by
  funext i
  rcases cover_a i with h | h | h
  · obtain ⟨x, rfl⟩ := LoadRect.exists_idx_of_mem _ h; exact (h0 x).trans (aAll_0 a0 a1 a2 x).symm
  · obtain ⟨x, rfl⟩ := LoadRect.exists_idx_of_mem _ h; exact (h1 x).trans (aAll_1 a0 a1 a2 x).symm
  · obtain ⟨x, rfl⟩ := LoadRect.exists_idx_of_mem _ h; exact (h2 x).trans (aAll_2 a0 a1 a2 x).symm

/-- Storing a tile replaces it and keeps the other two. -/
theorem store_c0 : ((Memref.whole cc0_scratch0).access rc0 : View sig .tc _ _ _).write (Elt F) (cAll c0 c1 c2) w Finset.univ
    = cAll w c1 c2 := by
  rw [write_eq_overlay]
  refine eq_cAll w c1 c2 _ (fun x => overlay_on _ _ _ _) (fun x => ?_) (fun x => ?_)
  · have h := (mem_rc (rc1.idx x) 256 inb_S768x128_S256x128_256_0).mp (rc1.idx_mem x)
    rw [Rect.overlay_of_not_mem, cAll_1]
    rw [mem_rc]; omega
  · have h := (mem_rc (rc2.idx x) 512 inb_S768x128_S256x128_512_0).mp (rc2.idx_mem x)
    rw [Rect.overlay_of_not_mem, cAll_2]
    rw [mem_rc]; omega
theorem store_c1 : ((Memref.whole cc0_scratch0).access rc1 : View sig .tc _ _ _).write (Elt F) (cAll c0 c1 c2) w Finset.univ
    = cAll c0 w c2 := by
  rw [write_eq_overlay]
  refine eq_cAll c0 w c2 _ (fun x => ?_) (fun x => overlay_on _ _ _ _) (fun x => ?_)
  · have h := (mem_rc (rc0.idx x) 0 inb_S768x128_S256x128_0_0).mp (rc0.idx_mem x)
    rw [Rect.overlay_of_not_mem, cAll_0]
    rw [mem_rc]; omega
  · have h := (mem_rc (rc2.idx x) 512 inb_S768x128_S256x128_512_0).mp (rc2.idx_mem x)
    rw [Rect.overlay_of_not_mem, cAll_2]
    rw [mem_rc]; omega
theorem store_c2 : ((Memref.whole cc0_scratch0).access rc2 : View sig .tc _ _ _).write (Elt F) (cAll c0 c1 c2) w Finset.univ
    = cAll c0 c1 w := by
  rw [write_eq_overlay]
  refine eq_cAll c0 c1 w _ (fun x => ?_) (fun x => ?_) (fun x => overlay_on _ _ _ _)
  · have h := (mem_rc (rc0.idx x) 0 inb_S768x128_S256x128_0_0).mp (rc0.idx_mem x)
    rw [Rect.overlay_of_not_mem, cAll_0]
    rw [mem_rc]; omega
  · have h := (mem_rc (rc1.idx x) 256 inb_S768x128_S256x128_256_0).mp (rc1.idx_mem x)
    rw [Rect.overlay_of_not_mem, cAll_1]
    rw [mem_rc]; omega

theorem store_a0 : ((Memref.whole cc0_scratch1).access ra0 : View sig .tc _ _ _).write (Elt F) (aAll a0 a1 a2) u Finset.univ
    = aAll u a1 a2 := by
  rw [write_eq_overlay]
  refine eq_aAll u a1 a2 _ (fun x => overlay_on _ _ _ _) (fun x => ?_) (fun x => ?_)
  · have h := (mem_ra (ra1.idx x) 128 inb_S128x384_S128x128_0_128).mp (ra1.idx_mem x)
    rw [Rect.overlay_of_not_mem, aAll_1]
    rw [mem_ra]; omega
  · have h := (mem_ra (ra2.idx x) 256 inb_S128x384_S128x128_0_256).mp (ra2.idx_mem x)
    rw [Rect.overlay_of_not_mem, aAll_2]
    rw [mem_ra]; omega
theorem store_a1 : ((Memref.whole cc0_scratch1).access ra1 : View sig .tc _ _ _).write (Elt F) (aAll a0 a1 a2) u Finset.univ
    = aAll a0 u a2 := by
  rw [write_eq_overlay]
  refine eq_aAll a0 u a2 _ (fun x => ?_) (fun x => overlay_on _ _ _ _) (fun x => ?_)
  · have h := (mem_ra (ra0.idx x) 0 inb_S128x384_S128x128_0_0).mp (ra0.idx_mem x)
    rw [Rect.overlay_of_not_mem, aAll_0]
    rw [mem_ra]; omega
  · have h := (mem_ra (ra2.idx x) 256 inb_S128x384_S128x128_0_256).mp (ra2.idx_mem x)
    rw [Rect.overlay_of_not_mem, aAll_2]
    rw [mem_ra]; omega
theorem store_a2 : ((Memref.whole cc0_scratch1).access ra2 : View sig .tc _ _ _).write (Elt F) (aAll a0 a1 a2) u Finset.univ
    = aAll a0 a1 u := by
  rw [write_eq_overlay]
  refine eq_aAll a0 a1 u _ (fun x => ?_) (fun x => ?_) (fun x => overlay_on _ _ _ _)
  · have h := (mem_ra (ra0.idx x) 0 inb_S128x384_S128x128_0_0).mp (ra0.idx_mem x)
    rw [Rect.overlay_of_not_mem, aAll_0]
    rw [mem_ra]; omega
  · have h := (mem_ra (ra1.idx x) 128 inb_S128x384_S128x128_0_128).mp (ra1.idx_mem x)
    rw [Rect.overlay_of_not_mem, aAll_1]
    rw [mem_ra]; omega

/-- Loading a tile reads it. -/
theorem load_c0 : (Memref.whole cc0_scratch0 : Memref sig .tc _ _ _).view.readAt (Elt F) rc0.toLoadRect (cAll c0 c1 c2) = c0 :=
  funext fun x => cAll_0 c0 c1 c2 x
theorem load_c1 : (Memref.whole cc0_scratch0 : Memref sig .tc _ _ _).view.readAt (Elt F) rc1.toLoadRect (cAll c0 c1 c2) = c1 :=
  funext fun x => cAll_1 c0 c1 c2 x
theorem load_c2 : (Memref.whole cc0_scratch0 : Memref sig .tc _ _ _).view.readAt (Elt F) rc2.toLoadRect (cAll c0 c1 c2) = c2 :=
  funext fun x => cAll_2 c0 c1 c2 x
theorem load_a0 : (Memref.whole cc0_scratch1 : Memref sig .tc _ _ _).view.readAt (Elt F) ra0.toLoadRect (aAll a0 a1 a2) = a0 :=
  funext fun x => aAll_0 a0 a1 a2 x
theorem load_a1 : (Memref.whole cc0_scratch1 : Memref sig .tc _ _ _).view.readAt (Elt F) ra1.toLoadRect (aAll a0 a1 a2) = a1 :=
  funext fun x => aAll_1 a0 a1 a2 x
theorem load_a2 : (Memref.whole cc0_scratch1 : Memref sig .tc _ _ _).view.readAt (Elt F) ra2.toLoadRect (aAll a0 a1 a2) = a2 :=
  funext fun x => aAll_2 a0 a1 a2 x

end Tiles

/-- The whole decay buffer and the whole accumulator, as the kernel clears and reads them. -/
abbrev rcW : Rect S768x128 := Rect.unit (s := S768x128) ![0, 0] S768x128.size inb_S768x128_S768x128_0_0
abbrev raW : Rect S128x384 := Rect.unit (s := S128x384) ![0, 0] S128x384.size inb_S128x384_S128x384_0_0

/-- The zero tiles the kernel starts from. -/
def zc : Vec F S256x128 .f32 := fun _ => Scalar.ofBits .f32 0x00000000#32
def za : Vec F S128x128 .f32 := fun _ => Scalar.ofBits .f32 0x00000000#32

theorem store_cW (f : (cc0_scratch0 : Ref sig .tc).ty.Contents (Elt F)) :
    ((Memref.whole cc0_scratch0).access rcW : View sig .tc _ _ _).write (Elt F) f (k0_pay33 (F := F)) Finset.univ = cAll zc zc zc := by
  rw [show ((Memref.whole cc0_scratch0).access rcW : View sig .tc _ _ _).write (Elt F) f (k0_pay33 (F := F)) Finset.univ = k0_pay33 (F := F) from
    Memref.write_access_unit_zero_univ (Elt F) cc0_scratch0 (funext fun a => by fin_cases a <;> rfl) _ f _]
  exact eq_cAll _ _ _ _ (fun _ => rfl) (fun _ => rfl) (fun _ => rfl)

theorem store_aW (f : (cc0_scratch1 : Ref sig .tc).ty.Contents (Elt F)) :
    ((Memref.whole cc0_scratch1).access raW : View sig .tc _ _ _).write (Elt F) f (k0_pay34 (F := F)) Finset.univ = aAll za za za := by
  rw [show ((Memref.whole cc0_scratch1).access raW : View sig .tc _ _ _).write (Elt F) f (k0_pay34 (F := F)) Finset.univ = k0_pay34 (F := F) from
    Memref.write_access_unit_zero_univ (Elt F) cc0_scratch1 (funext fun a => by fin_cases a <;> rfl) _ f _]
  exact eq_aAll _ _ _ _ (fun _ => rfl) (fun _ => rfl) (fun _ => rfl)

theorem load_cW (f : (cc0_scratch0 : Ref sig .tc).ty.Contents (Elt F)) :
    (Memref.whole cc0_scratch0 : Memref sig .tc _ _ _).view.readAt (Elt F) rcW.toLoadRect f = f :=
  Memref.read_access_unit_zero (Elt F) cc0_scratch0 (funext fun a => by fin_cases a <;> rfl) _ f
theorem load_aW (f : (cc0_scratch1 : Ref sig .tc).ty.Contents (Elt F)) :
    (Memref.whole cc0_scratch1 : Memref sig .tc _ _ _).view.readAt (Elt F) raW.toLoadRect f = f :=
  Memref.read_access_unit_zero (Elt F) cc0_scratch1 (funext fun a => by fin_cases a <;> rfl) _ f

end Cert.KernelIdeal.Att

end
-- ==== Proof.KI.Step.lean ====
/-
  The block step as functions of values: what one key block of 128 positions does to the six tiles the kernel keeps (three
  of log decays, three of weighted values), the masked step at the query block's own position, and the loop over the
  blocks left of it. The body's payloads are these functions by unfolding.
-/
module

public import proofs.«01_k».proof.Proof.KI.State

@[expose] public section

noncomputable section

namespace Cert.KernelIdeal.Att

open Cert.KernelIdeal Cert.KernelIdeal.Gen
open Idealize.ShloMosaic Idealize.ShloMosaic.TcCoe

variable {F : FTy → Type} [FloatOps F] [Named F]

/-- The scores of a stacked query tile against a key tile. -/
def zOf (q : FVec F S256x128 .bf16) (k : FVec F S128x128 .bf16) : FVec F S256x128 .f32 :=
  matmul dot_S256x128_S128x128_S256x128_1_0_0_1_n_n none q k (constant S256x128 .f32 0x00000000#32)

/-- The log of the logistic function, by the kernel's own expression. -/
def lbOf (z : FVec F S256x128 .f32) : FVec F S256x128 .f32 :=
  subf (minimumf z (broadcast S256x128 (Scalar.ofBits .f32 0x00000000#32)))
    (log (addf (broadcast S256x128 (Scalar.ofBits .f32 0x3F800000#32))
      (exp (subf (broadcast S256x128 (Scalar.ofBits .f32 0x00000000#32)) (absf z)))))

/-- The two products of a tile of log decays with `cum`: the rows' totals and the sums right of each column. The tile
    is given as a rounded part and a remainder. -/
def totOf (cum : FVec F S128x256 .bf16) (lk : FVec F S256x128 .f32) : FVec F S256x256 .f32 :=
  let hi := truncf .bf16 lk bitsLt_bf16_f32
  let lo := truncf .bf16 (subf lk (extf .f32 hi bitsLt_bf16_f32)) bitsLt_bf16_f32
  let r := matmul dot_S512x128_S128x256_S512x256_1_0_0_1_n_n none
    (concatenate S512x128 0 [⟨S256x128, hi⟩, ⟨S256x128, lo⟩] concatenates_S256x128_S256x128_S512x128_d0) cum
    (constant S512x256 .f32 0x00000000#32)
  addf (extractStridedSlice S256x256 ![0, 0] r slices_S512x256_o0_0_S256x256)
    (extractStridedSlice S256x256 ![256, 0] r slices_S512x256_o256_0_S256x256)

/-- The decays carried to the next block: what was carried and the block's totals. -/
def upC (r : FVec F S256x256 .f32) (c : Vec F S256x128 .f32) : Vec F S256x128 .f32 :=
  shapeCast S256x128 (addf c (extractStridedSlice S256x128 ![0, 0] r slices_S256x256_o0_0_S256x128)) shapeCasts_S256x128_S256x128

/-- The block's weights before any mask. -/
def wOf (lb : FVec F S256x128 .f32) (r : FVec F S256x256 .f32) (c : Vec F S256x128 .f32) : FVec F S256x128 .f32 :=
  exp (addf lb (addf (extractStridedSlice S256x128 ![0, 128] r slices_S256x256_o0_128_S256x128) c))

/-- The accumulator after the block: each head takes its own half of the stacked product. -/
def upA (w : FVec F S256x128 .f32) (v : FVec F S128x128 .bf16) (a : Vec F S128x128 .f32) : Vec F S128x128 .f32 :=
  let pv := matmul dot_S256x128_S128x128_S256x128_1_1_0_0_n_n none (truncf .bf16 w bitsLt_bf16_f32) v (constant S256x128 .f32 0x00000000#32)
  shapeCast S128x128 (addf a (select k0_pay28 (extractStridedSlice S128x128 ![0, 0] pv slices_S256x128_o0_0_S128x128)
    (extractStridedSlice S128x128 ![128, 0] pv slices_S256x128_o128_0_S128x128))) shapeCasts_S128x128_S128x128

/-- A block left of the query block. -/
def nC (cum : FVec F S128x256 .bf16) (z : FVec F S256x128 .f32) (c : Vec F S256x128 .f32) : Vec F S256x128 .f32 :=
  upC (totOf cum (subf (lbOf z) z)) c
def nA (cum : FVec F S128x256 .bf16) (z : FVec F S256x128 .f32) (v : FVec F S128x128 .bf16) (c : Vec F S256x128 .f32) (a : Vec F S128x128 .f32) :
    Vec F S128x128 .f32 :=
  upA (wOf (lbOf z) (totOf cum (subf (lbOf z) z)) c) v a

/-- The query block's own block, masked. -/
def mLk (z : FVec F S256x128 .f32) : FVec F S256x128 .f32 :=
  select k0_pay38 (subf (lbOf z) z) (broadcast S256x128 (Scalar.ofBits .f32 0x00000000#32))
def mC (cum : FVec F S128x256 .bf16) (z : FVec F S256x128 .f32) (c : Vec F S256x128 .f32) : Vec F S256x128 .f32 :=
  upC (totOf cum (mLk z)) c
def mA (cum : FVec F S128x256 .bf16) (z : FVec F S256x128 .f32) (v : FVec F S128x128 .bf16) (c : Vec F S256x128 .f32) (a : Vec F S128x128 .f32) :
    Vec F S128x128 .f32 :=
  upA (select k0_pay38 (wOf (lbOf z) (totOf cum (mLk z)) c) (broadcast S256x128 (Scalar.ofBits .f32 0x00000000#32))) v a

/-- The three head pairs' rows of a block of keys or values. -/
def ks0 (K : Vec F S1x384x128 .bf16) : FVec F S128x128 .bf16 :=
  extractStridedSlice S128x128 ![0, 0] (shapeCast S384x128 K shapeCasts_S1x384x128_S384x128) slices_S384x128_o0_0_S128x128
def ks1 (K : Vec F S1x384x128 .bf16) : FVec F S128x128 .bf16 :=
  extractStridedSlice S128x128 ![128, 0] (shapeCast S384x128 K shapeCasts_S1x384x128_S384x128) slices_S384x128_o128_0_S128x128
def ks2 (K : Vec F S1x384x128 .bf16) : FVec F S128x128 .bf16 :=
  extractStridedSlice S128x128 ![256, 0] (shapeCast S384x128 K shapeCasts_S1x384x128_S384x128) slices_S384x128_o256_0_S128x128

/-- The six tiles. -/
structure St (F : FTy → Type) where
  c0 : Vec F S256x128 .f32
  c1 : Vec F S256x128 .f32
  c2 : Vec F S256x128 .f32
  a0 : Vec F S128x128 .f32
  a1 : Vec F S128x128 .f32
  a2 : Vec F S128x128 .f32

/-- What the loop works with: the three stacked query tiles and the constant that sums decays. -/
structure Qs (F : FTy → Type) where
  q0 : FVec F S256x128 .bf16
  q1 : FVec F S256x128 .bf16
  q2 : FVec F S256x128 .bf16
  cum : FVec F S128x256 .bf16

def step (x : Qs F) (K V : Vec F S1x384x128 .bf16) (s : St F) : St F where
  c0 := nC x.cum (zOf x.q0 (ks0 K)) s.c0
  c1 := nC x.cum (zOf x.q1 (ks1 K)) s.c1
  c2 := nC x.cum (zOf x.q2 (ks2 K)) s.c2
  a0 := nA x.cum (zOf x.q0 (ks0 K)) (ks0 V) s.c0 s.a0
  a1 := nA x.cum (zOf x.q1 (ks1 K)) (ks1 V) s.c1 s.a1
  a2 := nA x.cum (zOf x.q2 (ks2 K)) (ks2 V) s.c2 s.a2

def mstep (x : Qs F) (K V : Vec F S1x384x128 .bf16) (s : St F) : St F where
  c0 := mC x.cum (zOf x.q0 (ks0 K)) s.c0
  c1 := mC x.cum (zOf x.q1 (ks1 K)) s.c1
  c2 := mC x.cum (zOf x.q2 (ks2 K)) s.c2
  a0 := mA x.cum (zOf x.q0 (ks0 K)) (ks0 V) s.c0 s.a0
  a1 := mA x.cum (zOf x.q1 (ks1 K)) (ks1 V) s.c1 s.a1
  a2 := mA x.cum (zOf x.q2 (ks2 K)) (ks2 V) s.c2 s.a2

/-- The largest carried log decay: what the early exit tests. -/
def live (s : St F) : F .f32 := k0_pay8 (cAll s.c0 s.c1 s.c2)

/-- Block `n` of 128 columns of an array of 8192. -/
def blk (X : Vec F S1x384x8192 .bf16) (n : ℕ) : Vec F S1x384x128 .bf16 := fun x =>
  X fun a => ⟨((![0, 0, 128 * n] : Fin 3 → ℕ) a + 1 * (x a).val) % S1x384x8192.size a,
    Nat.mod_lt _ (by fin_cases a <;> decide)⟩

/-- The early exit's test. -/
abbrev alive (l : F .f32) : BitVec 1 := Scalar.cmpf .ogt l (Named.named κ "dead" 0xC2F00000#32)

/-- The loop's counter, one ahead: `cnt n` is the word of `n - 1`. -/
def cnt (n : ℕ) : BitVec 32 := Scalar.subi (BitVec.ofNat 32 n) 1#32

/-- The loop entered at counter `n - 1`: two blocks a turn while the counter is positive and the carried decays are
    above the exit's level. It returns the counter, the level and the tiles. -/
def loop (x : Qs F) (KX VX : Vec F S1x384x8192 .bf16) : ℕ → F .f32 → St F → (BitVec 32 × F .f32) × St F
  | 0, l, s => ((cnt 0, l), s)
  | 1, l, s => ((cnt 1, l), s)
  | n + 2, l, s => if alive l = 1#1 then
      loop x KX VX n (live (step x (blk KX n) (blk VX n) (step x (blk KX (n + 1)) (blk VX (n + 1)) s)))
        (step x (blk KX n) (blk VX n) (step x (blk KX (n + 1)) (blk VX (n + 1)) s))
    else ((cnt (n + 2), l), s)

/-- After the loop, block 0 if it was left over. -/
def fin (x : Qs F) (KX VX : Vec F S1x384x8192 .bf16) (r : (BitVec 32 × F .f32) × St F) : St F :=
  if Scalar.cmpi .ne ((Scalar.extui (Scalar.andi (Scalar.cmpi .eq r.1.1 0#32) (alive r.1.2)) : BitVec 32)) 0#32 = 1#1 then
    step x (blk KX 0) (blk VX 0) r.2 else r.2

/-- The stacked query tiles of a query window and the constant window. -/
def qs (Q : Vec F S128x384 .bf16) (C : Vec F S128x256 .bf16) : Qs F := ⟨k0_pay30 Q, k0_pay31 Q, k0_pay32 Q, k0_pay35 C⟩

/-- The tiles after the own block. -/
def own (x : Qs F) (KX VX : Vec F S1x384x8192 .bf16) (i : ℕ) : St F := mstep x (blk KX i) (blk VX i) ⟨zc, zc, zc, za, za, za⟩

/-- The tiles at the end of query block `i`. -/
def fins (x : Qs F) (KX VX : Vec F S1x384x8192 .bf16) (i : ℕ) : St F :=
  fin x KX VX (loop x KX VX i (live (own x KX VX i)) (own x KX VX i))

/-- What a query block's point stores in its output window. -/
def bout (Q : Vec F S128x384 .bf16) (KX VX : Vec F S1x384x8192 .bf16) (C : Vec F S128x256 .bf16) (i : ℕ) : Vec F S128x384 .bf16 :=
  let s := fins (qs Q C) KX VX i
  k0_pay5 (aAll s.a0 s.a1 s.a2)

/-! ### The loop's words -/

theorem cnt_add_two (n : ℕ) : Scalar.subi (cnt (n + 2)) 2#32 = cnt n := by
  show (BitVec.ofNat 32 (n + 2) - 1#32) - 2#32 = BitVec.ofNat 32 n - 1#32
  rw [BitVec.ofNat_add]
  generalize BitVec.ofNat 32 n = b
  bv_omega

theorem cnt_eq (n : ℕ) : cnt (n + 1) = BitVec.ofNat 32 n := by
  show BitVec.ofNat 32 (n + 1) - 1#32 = BitVec.ofNat 32 n
  rw [BitVec.ofNat_add]
  generalize BitVec.ofNat 32 n = b
  bv_omega

theorem andi_one : ∀ x : BitVec 1, Scalar.andi 1#1 x = x := by decide
theorem andi_zero : ∀ x : BitVec 1, Scalar.andi 0#1 x = 0#1 := by decide

theorem sge_cnt : ∀ n : Fin 64, Scalar.cmpi .sge (BitVec.ofNat 32 (n.val + 1)) 1#32 = 1#1 := by decide
theorem mult2_fin : ∀ n : Fin 64, (k0_mult2 (BitVec.ofNat 32 n.val)).toNat = 128 * n.val := by decide
theorem mult3_fin : ∀ n : Fin 63, (k0_mult3 (BitVec.ofNat 32 (n.val + 1))).toNat = 128 * n.val := by decide
theorem off2_eq (n : ℕ) (h : n < 64) : k0_off2 (BitVec.ofNat 32 n) = ![0, 0, 128 * n] := by
  have := mult2_fin ⟨n, h⟩
  unfold k0_off2; exact congrArg (fun y => (![0, 0, y] : Fin 3 → ℕ)) this
theorem off3_eq (n : ℕ) (h : n < 63) : k0_off3 (BitVec.ofNat 32 (n + 1)) = ![0, 0, 128 * n] := by
  have := mult3_fin ⟨n, h⟩
  unfold k0_off3; exact congrArg (fun y => (![0, 0, y] : Fin 3 → ℕ)) this
theorem off1_eq (i : grid0.Coords) : k0_off1 i = ![0, 0, 128 * (i 1).val] := by
  have := mult2_fin (i 1)
  unfold k0_off1; exact congrArg (fun y => (![0, 0, y] : Fin 3 → ℕ)) this

/-- The loop's side condition holds of every counter it tests. -/
theorem chk_of (n : ℕ) (h : n + 1 < 64) : k0_chk1 (BitVec.ofNat 32 (n + 1)) := by
  refine ⟨?_, ?_, ?_, ?_⟩
  · rw [mult2_fin ⟨n + 1, h⟩]; exact Dvd.intro _ rfl
  · rw [off2_eq _ h]; intro a; fin_cases a
    · exact Nat.le_refl 1
    · exact Nat.le_refl 384
    · show 128 * (n + 1) + 128 ≤ 8192; omega
  · rw [mult3_fin ⟨n, by omega⟩]; exact Dvd.intro _ rfl
  · rw [off3_eq _ (by omega)]; intro a; fin_cases a
    · exact Nat.le_refl 1
    · exact Nat.le_refl 384
    · show 128 * n + 128 ≤ 8192; omega

/-- A read of 128 columns from `128 n` is block `n`. -/
theorem ld_blk (X : Vec F S1x384x8192 .bf16) (off : Fin 3 → ℕ) (n : ℕ)
    (inb : ∀ a, off a + S1x384x128.size a ≤ S1x384x8192.size a) (h : off = ![0, 0, 128 * n]) :
    (fun x => X ((Rect.unit (s := S1x384x8192) off S1x384x128.size inb).idx x)) = blk X n := by
  subst h
  funext x
  refine congrArg X (funext fun a => Fin.ext ?_)
  refine (Nat.mod_eq_of_lt ?_).symm
  exact ((Rect.unit (s := S1x384x8192) _ S1x384x128.size inb).idx x a).isLt

end Cert.KernelIdeal.Att

end
-- ==== Proof.KI.While.lean ====
/-
  The loop over key blocks: its label meets the specification "from the six tiles, the tiles of the value function `loop`",
  by induction on the counter. The key and value windows are only read.
-/
module

public import proofs.«01_k».proof.Proof.KI.Step
public import Idealize.ShloMosaic.Lib.Tactic
public import Idealize.ShloMosaic.Lib.Pipeline.Frame

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Variants are natural numbers: a call of the loop is answered below the caller's. -/
abbrev 𝒱₀ : Variants := Variants.nat

local notation "𝕄" => MT nD τ sig Unit (Elt F) ℕ (UR sig nD τ) ℕ

section Tiles

/-! ### Loads and stores of one tile, at the head of a program -/

variable (c : Dev nD)

/-- The two scratch buffers at given tiles. -/
abbrev hC (c0 c1 c2 : Vec F S256x128 .f32) : sProp 𝕄 := iprop((Memref.whole cc0_scratch0 : Memref sig .tc _ _ _).view.loc (c : Thread nD τ) ↦{fullShare} cAll c0 c1 c2)
abbrev hA (a0 a1 a2 : Vec F S128x128 .f32) : sProp 𝕄 := iprop((Memref.whole cc0_scratch1 : Memref sig .tc _ _ _).view.loc (c : Thread nD τ) ↦{fullShare} aAll a0 a1 a2)

end Tiles

theorem store_c0' (c0 c1 c2 w w' : Vec F S256x128 .f32) (h : w = w') :
    ((Memref.whole cc0_scratch0).access rc0 : View sig .tc _ _ _).write (Elt F) (cAll c0 c1 c2) w Finset.univ = cAll w' c1 c2 := by
  subst h; exact store_c0 c0 c1 c2 w
theorem store_a0' (a0 a1 a2 w w' : Vec F S128x128 .f32) (h : w = w') :
    ((Memref.whole cc0_scratch1).access ra0 : View sig .tc _ _ _).write (Elt F) (aAll a0 a1 a2) w Finset.univ = aAll w' a1 a2 := by
  subst h; exact store_a0 a0 a1 a2 w
theorem store_c1' (c0 c1 c2 w w' : Vec F S256x128 .f32) (h : w = w') :
    ((Memref.whole cc0_scratch0).access rc1 : View sig .tc _ _ _).write (Elt F) (cAll c0 c1 c2) w Finset.univ = cAll c0 w' c2 := by
  subst h; exact store_c1 c0 c1 c2 w
theorem store_a1' (a0 a1 a2 w w' : Vec F S128x128 .f32) (h : w = w') :
    ((Memref.whole cc0_scratch1).access ra1 : View sig .tc _ _ _).write (Elt F) (aAll a0 a1 a2) w Finset.univ = aAll a0 w' a2 := by
  subst h; exact store_a1 a0 a1 a2 w
theorem store_c2' (c0 c1 c2 w w' : Vec F S256x128 .f32) (h : w = w') :
    ((Memref.whole cc0_scratch0).access rc2 : View sig .tc _ _ _).write (Elt F) (cAll c0 c1 c2) w Finset.univ = cAll c0 c1 w' := by
  subst h; exact store_c2 c0 c1 c2 w
theorem store_a2' (a0 a1 a2 w w' : Vec F S128x128 .f32) (h : w = w') :
    ((Memref.whole cc0_scratch1).access ra2 : View sig .tc _ _ _).write (Elt F) (aAll a0 a1 a2) w Finset.univ = aAll a0 a1 w' := by
  subst h; exact store_a2 a0 a1 a2 w

section Label

variable (c : Dev nD) (i : grid0.Coords)
  (m3 : Memref sig .tc .vmem S1x384x8192 .bf16) (h3 : m3.IsWhole) (m4 : Memref sig .tc .vmem S1x384x8192 .bf16) (h4 : m4.IsWhole)
  (x : Qs F) (f3 : Buf (Elt F) (m3.view.loc (c : Thread nD τ))) (f4 : Buf (Elt F) (m4.view.loc (c : Thread nD τ)))
  (KX VX : Vec F S1x384x8192 .bf16)

/-- What the loop holds: the key and value windows' buffers, and the two scratch buffers at the six tiles. -/
def held (s : St F) : sProp 𝕄 :=
  iprop((m3.view.loc (c : Thread nD τ) ↦{fullShare} f3) ∗ (m4.view.loc (c : Thread nD τ) ↦{fullShare} f4) ∗ hC c s.c0 s.c1 s.c2 ∗ hA c s.a0 s.a1 s.a2)

/-- The label's specification: it returns `loop`'s counter and level, and leaves `loop`'s tiles. -/
def spec (n : ℕ) (l : F .f32) (s : St F) : sWPT 𝕄 (BitVec 32 × F .f32) := do
  sWPT.consume (held c m3 m4 f3 f4 s)
  sWPT.produce (held c m3 m4 f3 f4 (loop x KX VX n l s).2)
  pure (loop x KX VX n l s).1

theorem spec_apply (n : ℕ) (l : F .f32) (s : St F) (K : BitVec 32 × F .f32 → sProp 𝕄) :
    spec c m3 m4 x f3 f4 KX VX n l s K
      = iprop(held c m3 m4 f3 f4 s ∗ (held c m3 m4 f3 f4 (loop x KX VX n l s).2 -∗ K (loop x KX VX n l s).1)) := rfl

/-- A load of block `n` from a window's buffer that holds `X`. -/
theorem read_blk (m : Memref sig .tc .vmem S1x384x8192 .bf16) (f : Buf (Elt F) (m.view.loc (c : Thread nD τ))) (X : Vec F S1x384x8192 .bf16)
    (hX : m.view.read (Elt F) f = X) (off : Fin 3 → ℕ) (n : ℕ)
    (inb : ∀ a, off a + S1x384x128.size a ≤ S1x384x8192.size a) (h : off = ![0, 0, 128 * n]) :
    m.view.readAt (Elt F) (Rect.unit (s := S1x384x8192) off S1x384x128.size inb).toLoadRect f = blk X n := by
  subst hX
  exact ld_blk (m.view.read (Elt F) f) off n inb h

set_option maxHeartbeats 4000000 in
theorem spec_le (E : Set ℕ) (h3X : m3.view.read (Elt F) f3 = KX) (h4X : m4.view.read (Elt F) f4 = VX) :
    ∀ n, n ≤ 63 → ∀ l s K, spec c m3 m4 x f3 f4 KX VX n l s K
      ⊢ wp frame (wpE (defs₀ (F := F)) 𝒱₀ (c : Thread nD τ) (some n)) E
          (defs₀ (F := F) .tc 1 ⟨i, m3, h3, m4, h4, x.q0, x.q1, x.q2, x.cum, Memref.whole cc0_scratch0, Memref.isWhole_whole _,
            Memref.whole cc0_scratch1, Memref.isWhole_whole _, k0_pay28, cnt n, l⟩) K := by
  have base : ∀ n, Scalar.cmpi .sge (cnt n) 1#32 = 0#1 → ∀ l s K, (loop x KX VX n l s) = ((cnt n, l), s) → spec c m3 m4 x f3 f4 KX VX n l s K
      ⊢ wp frame (wpE (defs₀ (F := F)) 𝒱₀ (c : Thread nD τ) (some n)) E
          (defs₀ (F := F) .tc 1 ⟨i, m3, h3, m4, h4, x.q0, x.q1, x.q2, x.cum, Memref.whole cc0_scratch0, Memref.isWhole_whole _,
            Memref.whole cc0_scratch1, Memref.isWhole_whole _, k0_pay28, cnt n, l⟩) K := by
    intro n hn l s K hl
    rw [spec_apply, hl]
    show _ ⊢ wp frame (wpE (defs₀ (F := F)) 𝒱₀ (c : Thread nD τ) (some n)) E
      (cc0_while1 i m3 h3 m4 h4 x.q0 x.q1 x.q2 x.cum (Memref.whole cc0_scratch0) (Memref.isWhole_whole _)
            (Memref.whole cc0_scratch1) (Memref.isWhole_whole _) k0_pay28 (cnt n) l) K
    simp only [cc0_while1_eq_skeleton]; unfold cc0_while1_skel
    have ht : ∀ y, ¬ (Scalar.andi (Scalar.cmpi .sge (cnt n) 1#32) y = 1#1) := by
      intro y; rw [hn, andi_zero]; decide
    simp only [ht, ↓reduceIte, Prog.pure_eq_ret]
    iintro ⟨H, Hk⟩
    rw [wp_ret]; imodintro
    iapply Hk
    iexact H
  intro n
  induction n using Nat.strong_induction_on with
  | _ n ih =>
  match n, ih with
  | 0, _ => intro _ l s K; exact base 0 (by decide) l s K (by rw [loop])
  | 1, _ => intro _ l s K; exact base 1 (by decide) l s K (by rw [loop])
  | n + 2, ih =>
    intro hn l s K
    obtain ⟨c0, c1, c2, a0, a1, a2⟩ := s
    rw [spec_apply]
    show _ ⊢ wp frame (wpE (defs₀ (F := F)) 𝒱₀ (c : Thread nD τ) (some (n + 2))) E
      (cc0_while1 i m3 h3 m4 h4 x.q0 x.q1 x.q2 x.cum (Memref.whole cc0_scratch0) (Memref.isWhole_whole _)
            (Memref.whole cc0_scratch1) (Memref.isWhole_whole _) k0_pay28 (cnt (n + 2)) l) K
    simp only [cc0_while1_eq_skeleton]; unfold cc0_while1_skel
    have hs : Scalar.cmpi .sge (cnt (n + 2)) 1#32 = 1#1 := by rw [cnt_eq]; exact sge_cnt ⟨n, by omega⟩
    have hchk : k0_chk1 (cnt (n + 2)) := by rw [cnt_eq]; exact chk_of n (by omega)
    have ho2 : k0_off2 (cnt (n + 2)) = ![0, 0, 128 * (n + 1)] := by rw [cnt_eq]; exact off2_eq _ (by omega)
    have ho3 : k0_off3 (cnt (n + 2)) = ![0, 0, 128 * n] := by rw [cnt_eq]; exact off3_eq _ (by omega)
    simp only [hs, andi_one]
    by_cases hl : alive l = 1#1
    · rw [loop, if_pos hl]
      simp only [hl, ↓reduceIte]
      simp only [k0_part8_eq_skeleton, k0_part9_eq_skeleton, k0_part10_eq_skeleton, k0_part11_eq_skeleton, k0_part12_eq_skeleton, k0_part13_eq_skeleton]
      unfold k0_part8_skel k0_part9_skel k0_part10_skel k0_part11_skel k0_part12_skel k0_part13_skel
      simp only [Prog.lift, Prog.bind_op, Prog.bind_ret, Prog.pure_eq_ret]
      unfold held
      iintro ⟨⟨H3, H4, HC, HA⟩, Hk⟩
      iapply (wp_assume 𝒱₀ (c : Thread nD τ) (some (n + 2)) E hchk)
      iapply (wp_load 𝒱₀ (c : Thread nD τ) (some (n + 2)) E (m := m3) (Finset.subset_univ _)) $$ H3; iintro H3
      iapply (wp_load 𝒱₀ (c : Thread nD τ) (some (n + 2)) E (m := m4) (Finset.subset_univ _)) $$ H4; iintro H4
      erw [read_blk c m3 f3 KX h3X _ (n + 1) _ ho2, read_blk c m4 f4 VX h4X _ (n + 1) _ ho2]
      iapply (wp_load 𝒱₀ (c : Thread nD τ) (some (n + 2)) E (m := Memref.whole cc0_scratch0) (Finset.subset_univ _)) $$ HC; iintro HC
      erw [load_c0]
      iapply (wp_load 𝒱₀ (c : Thread nD τ) (some (n + 2)) E (m := Memref.whole cc0_scratch1) (Finset.subset_univ _)) $$ HA; iintro HA
      erw [load_a0]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra0) (Mk := Finset.univ) (Finset.subset_univ _)) $$ HA; iintro HA
      erw [store_a0' _ _ _ _ ((step x (blk KX (n + 1)) (blk VX (n + 1)) ⟨c0, c1, c2, a0, a1, a2⟩).a0) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc0) (Mk := Finset.univ) (Finset.subset_univ _)) $$ HC; iintro HC
      erw [store_c0' _ _ _ _ ((step x (blk KX (n + 1)) (blk VX (n + 1)) ⟨c0, c1, c2, a0, a1, a2⟩).c0) rfl]
      iapply (wp_load 𝒱₀ (c : Thread nD τ) (some (n + 2)) E (m := Memref.whole cc0_scratch0) (Finset.subset_univ _)) $$ HC; iintro HC
      erw [load_c1]
      iapply (wp_load 𝒱₀ (c : Thread nD τ) (some (n + 2)) E (m := Memref.whole cc0_scratch1) (Finset.subset_univ _)) $$ HA; iintro HA
      erw [load_a1]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra1) (Mk := Finset.univ) (Finset.subset_univ _)) $$ HA; iintro HA
      erw [store_a1' _ _ _ _ ((step x (blk KX (n + 1)) (blk VX (n + 1)) ⟨c0, c1, c2, a0, a1, a2⟩).a1) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc1) (Mk := Finset.univ) (Finset.subset_univ _)) $$ HC; iintro HC
      erw [store_c1' _ _ _ _ ((step x (blk KX (n + 1)) (blk VX (n + 1)) ⟨c0, c1, c2, a0, a1, a2⟩).c1) rfl]
      iapply (wp_load 𝒱₀ (c : Thread nD τ) (some (n + 2)) E (m := Memref.whole cc0_scratch0) (Finset.subset_univ _)) $$ HC; iintro HC
      erw [load_c2]
      iapply (wp_load 𝒱₀ (c : Thread nD τ) (some (n + 2)) E (m := Memref.whole cc0_scratch1) (Finset.subset_univ _)) $$ HA; iintro HA
      erw [load_a2]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra2) (Mk := Finset.univ) (Finset.subset_univ _)) $$ HA; iintro HA
      erw [store_a2' _ _ _ _ ((step x (blk KX (n + 1)) (blk VX (n + 1)) ⟨c0, c1, c2, a0, a1, a2⟩).a2) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc2) (Mk := Finset.univ) (Finset.subset_univ _)) $$ HC; iintro HC
      erw [store_c2' _ _ _ _ ((step x (blk KX (n + 1)) (blk VX (n + 1)) ⟨c0, c1, c2, a0, a1, a2⟩).c2) rfl]
      set s1 : St F := step x (blk KX (n + 1)) (blk VX (n + 1)) ⟨c0, c1, c2, a0, a1, a2⟩ with hs1
      iapply (wp_load 𝒱₀ (c : Thread nD τ) (some (n + 2)) E (m := m3) (Finset.subset_univ _)) $$ H3; iintro H3
      iapply (wp_load 𝒱₀ (c : Thread nD τ) (some (n + 2)) E (m := m4) (Finset.subset_univ _)) $$ H4; iintro H4
      erw [read_blk c m3 f3 KX h3X _ n _ ho3, read_blk c m4 f4 VX h4X _ n _ ho3]
      iapply (wp_load 𝒱₀ (c : Thread nD τ) (some (n + 2)) E (m := Memref.whole cc0_scratch0) (Finset.subset_univ _)) $$ HC; iintro HC
      erw [load_c0]
      iapply (wp_load 𝒱₀ (c : Thread nD τ) (some (n + 2)) E (m := Memref.whole cc0_scratch1) (Finset.subset_univ _)) $$ HA; iintro HA
      erw [load_a0]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra0) (Mk := Finset.univ) (Finset.subset_univ _)) $$ HA; iintro HA
      erw [store_a0' _ _ _ _ ((step x (blk KX n) (blk VX n) s1).a0) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc0) (Mk := Finset.univ) (Finset.subset_univ _)) $$ HC; iintro HC
      erw [store_c0' _ _ _ _ ((step x (blk KX n) (blk VX n) s1).c0) rfl]
      iapply (wp_load 𝒱₀ (c : Thread nD τ) (some (n + 2)) E (m := Memref.whole cc0_scratch0) (Finset.subset_univ _)) $$ HC; iintro HC
      erw [load_c1]
      iapply (wp_load 𝒱₀ (c : Thread nD τ) (some (n + 2)) E (m := Memref.whole cc0_scratch1) (Finset.subset_univ _)) $$ HA; iintro HA
      erw [load_a1]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra1) (Mk := Finset.univ) (Finset.subset_univ _)) $$ HA; iintro HA
      erw [store_a1' _ _ _ _ ((step x (blk KX n) (blk VX n) s1).a1) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc1) (Mk := Finset.univ) (Finset.subset_univ _)) $$ HC; iintro HC
      erw [store_c1' _ _ _ _ ((step x (blk KX n) (blk VX n) s1).c1) rfl]
      iapply (wp_load 𝒱₀ (c : Thread nD τ) (some (n + 2)) E (m := Memref.whole cc0_scratch0) (Finset.subset_univ _)) $$ HC; iintro HC
      erw [load_c2]
      iapply (wp_load 𝒱₀ (c : Thread nD τ) (some (n + 2)) E (m := Memref.whole cc0_scratch1) (Finset.subset_univ _)) $$ HA; iintro HA
      erw [load_a2]
      iapply (wp_load 𝒱₀ (c : Thread nD τ) (some (n + 2)) E (m := Memref.whole cc0_scratch1) (Finset.subset_univ _)) $$ HA; iintro HA
      iapply (wp_store 𝒱₀ (c : Thread nD τ) (some (n + 2)) E (m := Memref.whole cc0_scratch1) (r := ra2) (Mk := Finset.univ) (Finset.subset_univ _)) $$ HA; iintro HA
      erw [store_a2' _ _ _ _ ((step x (blk KX n) (blk VX n) s1).a2) rfl]
      iapply (wp_load 𝒱₀ (c : Thread nD τ) (some (n + 2)) E (m := Memref.whole cc0_scratch0) (Finset.subset_univ _)) $$ HC; iintro HC
      iapply (wp_store 𝒱₀ (c : Thread nD τ) (some (n + 2)) E (m := Memref.whole cc0_scratch0) (r := rc2) (Mk := Finset.univ) (Finset.subset_univ _)) $$ HC; iintro HC
      erw [store_c2' _ _ _ _ ((step x (blk KX n) (blk VX n) s1).c2) rfl]
      set s2 : St F := step x (blk KX n) (blk VX n) s1 with hs2
      rw [cnt_add_two]
      iapply (wp_load 𝒱₀ (c : Thread nD τ) (some (n + 2)) E (m := Memref.whole cc0_scratch0) (Finset.subset_univ _)) $$ HC; iintro HC
      erw [load_cW]
      iapply (wp_call_spec 𝒱₀ (c : Thread nD τ) (some (n + 2)) E (spec c m3 m4 x f3 f4 KX VX n (live s2) s2) n (fun u hu => by cases hu; omega)
        (ih n (by omega) (by omega) (live s2) s2))
      rw [spec_apply]; unfold held
      isplitl [H3 H4 HC HA]
      · isplitl [H3]; · iexact H3
        isplitl [H4]; · iexact H4
        isplitl [HC]; · iexact HC
        iexact HA
      iintro H
      rw [wp_ret]; imodintro
      iapply Hk
      iexact H
    · rw [loop, if_neg hl]
      simp only [hl, ↓reduceIte, Prog.pure_eq_ret]
      iintro ⟨H, Hk⟩
      rw [wp_ret]; imodintro
      iapply Hk
      iexact H

end Label

end Cert.KernelIdeal.Att

end
-- ==== Proof.KI.Body.lean ====
/-
  One grid point: from the windows' blocks the body leaves `bout` in the output's staging buffer, whatever the two scratch
  buffers held before.
-/
module

public import proofs.«01_k».proof.Proof.KI.While
public import proofs.«01_k».proof.Proof.Gen.KernelIdeal.Points
public import Idealize.ShloMosaic.Lib.Tactic
public import Idealize.ShloMosaic.Lib.Pipeline.Frame

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of a whole rank-2 buffer from offset zero is the buffer's reading. -/
theorem read_all {s : Shape} {e : EltTy} (c : Dev nD) (m : Memref sig .tc .vmem s e) (f : Buf (Elt F) (m.view.loc (c : Thread nD τ)))
    (off : Fin s.rank → ℕ) (h0 : off = fun _ => 0) (inb : ∀ a, off a + s.size a ≤ s.size a) :
    m.view.readAt (Elt F) (Rect.unit (s := s) off s.size inb).toLoadRect f = m.view.read (Elt F) f := by
  subst h0
  funext x
  show m.view.read (Elt F) f ((Rect.unit (s := s) (fun _ => 0) s.size inb).idx x) = m.view.read (Elt F) f x
  refine congrArg _ (funext fun a => Fin.ext ?_)
  show 0 + 1 * (x a).val = (x a).val
  omega

/-- What is read of a whole buffer just written whole. -/
theorem read_written {s : Shape} {e : EltTy} (c : Dev nD) (m : Memref sig .tc .vmem s e) (f : Buf (Elt F) (m.view.loc (c : Thread nD τ)))
    (off : Fin s.rank → ℕ) (h0 : off = fun _ => 0) (inb : ∀ a, off a + s.size a ≤ s.size a) (w : Vec F s e) :
    m.view.read (Elt F) ((m.access (Rect.unit (s := s) off s.size inb) : View sig .tc _ _ _).write (Elt F) f w Finset.univ) = w := by
  rw [← read_all c m _ off h0 inb]
  exact View.read_write_univ (v := (m.access (Rect.unit (s := s) off s.size inb) : View sig .tc _ _ _)) f w

section Body

variable (c : Dev nD) (i : grid0.Coords)
  (m2 : Memref sig .tc .vmem S128x384 .bf16) (h2 : m2.IsWhole)
  (m3 : Memref sig .tc .vmem S1x384x8192 .bf16) (h3 : m3.IsWhole) (m4 : Memref sig .tc .vmem S1x384x8192 .bf16) (h4 : m4.IsWhole)
  (m5 : Memref sig .tc .vmem S128x256 .bf16) (h5 : m5.IsWhole) (m6 : Memref sig .tc .vmem S128x384 .bf16) (h6 : m6.IsWhole)

set_option maxHeartbeats 8000000 in
/-- The body's triple. -/
theorem body_triple (Q : Vec F S128x384 .bf16) (KX VX : Vec F S1x384x8192 .bf16) (C : Vec F S128x256 .bf16) (K : PUnit → sProp 𝕄) :
    iprop(owns (c : Thread nD τ) m2 fullShare Q ∗ owns (c : Thread nD τ) m3 fullShare KX ∗ owns (c : Thread nD τ) m4 fullShare VX
        ∗ owns (c : Thread nD τ) m5 fullShare C ∗ (∃ d, owns (c : Thread nD τ) m6 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (iprop(owns (c : Thread nD τ) m2 fullShare Q ∗ owns (c : Thread nD τ) m3 fullShare KX ∗ owns (c : Thread nD τ) m4 fullShare VX
            ∗ owns (c : Thread nD τ) m5 fullShare C ∗ owns (c : Thread nD τ) m6 fullShare (bout Q KX VX C (i 1).val)
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)) -∗ K ⟨⟩))
      ⊢ wp frame (wpE (defs₀ (F := F)) 𝒱₀ (c : Thread nD τ) none) Set.univ
          (cc0_attn_prompt i m2 h2 m3 h3 m4 h4 m5 h5 m6 h6 (Memref.whole cc0_scratch0) (Memref.isWhole_whole _)
            (Memref.whole cc0_scratch1) (Memref.isWhole_whole _)) K := by
  simp only [cc0_attn_prompt_eq_skeleton]; unfold cc0_attn_prompt_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  unfold owns; rw [h2.set_eq_univ, h3.set_eq_univ, h4.set_eq_univ, h5.set_eq_univ, h6.set_eq_univ]
  iintro ⟨⟨%f2, %e2, H2⟩, ⟨%f3, %e3, H3⟩, ⟨%f4, %e4, H4⟩, ⟨%f5, %e5, H5⟩, ⟨%d6, %f6, -, H6⟩, ⟨%fc, HC⟩, ⟨%fa, HA⟩, Hk⟩
  -- the queries, the two scratch buffers cleared, the constant window, the own block
  iapply (wp_load 𝒱₀ (c : Thread nD τ) none Set.univ (m := m2) (Finset.subset_univ _)) $$ H2; iintro H2
  erw [read_all c m2 f2 _ (funext fun a => by fin_cases a <;> rfl) _]; rw [e2]
  iapply (wp_load 𝒱₀ (c : Thread nD τ) none Set.univ (m := Memref.whole cc0_scratch0) (Finset.subset_univ _)) $$ HC; iintro HC
  iapply (wp_store 𝒱₀ (c : Thread nD τ) none Set.univ (m := Memref.whole cc0_scratch0) (r := rcW) (Mk := Finset.univ) (Finset.subset_univ _)) $$ HC; iintro HC
  erw [store_cW]
  iapply (wp_load 𝒱₀ (c : Thread nD τ) none Set.univ (m := Memref.whole cc0_scratch1) (Finset.subset_univ _)) $$ HA; iintro HA
  iapply (wp_store 𝒱₀ (c : Thread nD τ) none Set.univ (m := Memref.whole cc0_scratch1) (r := raW) (Mk := Finset.univ) (Finset.subset_univ _)) $$ HA; iintro HA
  erw [store_aW]
  iapply (wp_load 𝒱₀ (c : Thread nD τ) none Set.univ (m := m5) (Finset.subset_univ _)) $$ H5; iintro H5
  erw [read_all c m5 f5 _ (funext fun a => by fin_cases a <;> rfl) _]; rw [e5]
  iapply (wp_load 𝒱₀ (c : Thread nD τ) none Set.univ (m := m3) (Finset.subset_univ _)) $$ H3; iintro H3
  erw [read_blk c m3 f3 KX e3 _ (i 1).val _ (off1_eq i)]
  iapply (wp_load 𝒱₀ (c : Thread nD τ) none Set.univ (m := m4) (Finset.subset_univ _)) $$ H4; iintro H4
  erw [read_blk c m4 f4 VX e4 _ (i 1).val _ (off1_eq i)]
  iapply (wp_load 𝒱₀ (c : Thread nD τ) none Set.univ (m := Memref.whole cc0_scratch0) (Finset.subset_univ _)) $$ HC; iintro HC
  erw [load_c0]
  iapply (wp_load 𝒱₀ (c : Thread nD τ) none Set.univ (m := Memref.whole cc0_scratch1) (Finset.subset_univ _)) $$ HA; iintro HA
  erw [load_a0]
  iapply (wp_load 𝒱₀ (c : Thread nD τ) none Set.univ (m := Memref.whole cc0_scratch1) (Finset.subset_univ _)) $$ HA; iintro HA
  iapply (wp_store 𝒱₀ (c : Thread nD τ) none Set.univ (m := Memref.whole cc0_scratch1) (r := ra0) (Mk := Finset.univ) (Finset.subset_univ _)) $$ HA; iintro HA
  erw [store_a0' _ _ _ _ ((own (qs Q C) KX VX (i 1).val).a0) rfl]
  iapply (wp_load 𝒱₀ (c : Thread nD τ) none Set.univ (m := Memref.whole cc0_scratch0) (Finset.subset_univ _)) $$ HC; iintro HC
  iapply (wp_store 𝒱₀ (c : Thread nD τ) none Set.univ (m := Memref.whole cc0_scratch0) (r := rc0) (Mk := Finset.univ) (Finset.subset_univ _)) $$ HC; iintro HC
  erw [store_c0' _ _ _ _ ((own (qs Q C) KX VX (i 1).val).c0) rfl]
  iapply (wp_load 𝒱₀ (c : Thread nD τ) none Set.univ (m := Memref.whole cc0_scratch0) (Finset.subset_univ _)) $$ HC; iintro HC
  erw [load_c1]
  iapply (wp_load 𝒱₀ (c : Thread nD τ) none Set.univ (m := Memref.whole cc0_scratch1) (Finset.subset_univ _)) $$ HA; iintro HA
  erw [load_a1]
  iapply (wp_load 𝒱₀ (c : Thread nD τ) none Set.univ (m := Memref.whole cc0_scratch1) (Finset.subset_univ _)) $$ HA; iintro HA
  iapply (wp_store 𝒱₀ (c : Thread nD τ) none Set.univ (m := Memref.whole cc0_scratch1) (r := ra1) (Mk := Finset.univ) (Finset.subset_univ _)) $$ HA; iintro HA
  erw [store_a1' _ _ _ _ ((own (qs Q C) KX VX (i 1).val).a1) rfl]
  iapply (wp_load 𝒱₀ (c : Thread nD τ) none Set.univ (m := Memref.whole cc0_scratch0) (Finset.subset_univ _)) $$ HC; iintro HC
  iapply (wp_store 𝒱₀ (c : Thread nD τ) none Set.univ (m := Memref.whole cc0_scratch0) (r := rc1) (Mk := Finset.univ) (Finset.subset_univ _)) $$ HC; iintro HC
  erw [store_c1' _ _ _ _ ((own (qs Q C) KX VX (i 1).val).c1) rfl]
  iapply (wp_load 𝒱₀ (c : Thread nD τ) none Set.univ (m := Memref.whole cc0_scratch0) (Finset.subset_univ _)) $$ HC; iintro HC
  erw [load_c2]
  iapply (wp_load 𝒱₀ (c : Thread nD τ) none Set.univ (m := Memref.whole cc0_scratch1) (Finset.subset_univ _)) $$ HA; iintro HA
  erw [load_a2]
  iapply (wp_load 𝒱₀ (c : Thread nD τ) none Set.univ (m := Memref.whole cc0_scratch1) (Finset.subset_univ _)) $$ HA; iintro HA
  iapply (wp_store 𝒱₀ (c : Thread nD τ) none Set.univ (m := Memref.whole cc0_scratch1) (r := ra2) (Mk := Finset.univ) (Finset.subset_univ _)) $$ HA; iintro HA
  erw [store_a2' _ _ _ _ ((own (qs Q C) KX VX (i 1).val).a2) rfl]
  iapply (wp_load 𝒱₀ (c : Thread nD τ) none Set.univ (m := Memref.whole cc0_scratch0) (Finset.subset_univ _)) $$ HC; iintro HC
  iapply (wp_store 𝒱₀ (c : Thread nD τ) none Set.univ (m := Memref.whole cc0_scratch0) (r := rc2) (Mk := Finset.univ) (Finset.subset_univ _)) $$ HC; iintro HC
  erw [store_c2' _ _ _ _ ((own (qs Q C) KX VX (i 1).val).c2) rfl]
  set s1 : St F := own (qs Q C) KX VX (i 1).val with hs1
  iapply (wp_load 𝒱₀ (c : Thread nD τ) none Set.univ (m := Memref.whole cc0_scratch0) (Finset.subset_univ _)) $$ HC; iintro HC
  erw [load_cW]
  iapply (wp_call_spec 𝒱₀ (c : Thread nD τ) none Set.univ (spec c m3 m4 (qs Q C) f3 f4 KX VX (i 1).val (live s1) s1) (i 1).val (fun u hu => nomatch hu)
    (spec_le c i m3 h3 m4 h4 (qs Q C) f3 f4 KX VX Set.univ e3 e4 (i 1).val (Nat.le_of_lt_succ (i 1).isLt) (live s1) s1))
  rw [spec_apply]; unfold held
  isplitl [H3 H4 HC HA]
  · isplitl [H3]; · iexact H3
    isplitl [H4]; · iexact H4
    isplitl [HC]; · iexact HC
    iexact HA
  iintro ⟨H3, H4, HC, HA⟩
  have hfin : fins (qs Q C) KX VX (i 1).val = fin (qs Q C) KX VX (loop (qs Q C) KX VX (i 1).val (live s1) s1) := rfl
  generalize loop (qs Q C) KX VX (i 1).val (live s1) s1 = r at hfin
  obtain ⟨⟨r0, r1⟩, s2⟩ := r
  by_cases hl : Scalar.cmpi .ne ((Scalar.extui (Scalar.andi (Scalar.cmpi .eq r0 0#32) (alive r1)) : BitVec 32)) 0#32 = 1#1
  · rw [fin, if_pos hl] at hfin
    simp only [hl, ↓reduceIte]
    iapply (wp_load 𝒱₀ (c : Thread nD τ) none Set.univ (m := m3) (Finset.subset_univ _)) $$ H3; iintro H3
    erw [read_blk c m3 f3 KX e3 _ 0 _ rfl]
    iapply (wp_load 𝒱₀ (c : Thread nD τ) none Set.univ (m := m4) (Finset.subset_univ _)) $$ H4; iintro H4
    erw [read_blk c m4 f4 VX e4 _ 0 _ rfl]
    obtain ⟨c0, c1, c2, a0, a1, a2⟩ := s2
    iapply (wp_load 𝒱₀ (c : Thread nD τ) none Set.univ (m := Memref.whole cc0_scratch0) (Finset.subset_univ _)) $$ HC; iintro HC
    erw [load_c0]
    iapply (wp_load 𝒱₀ (c : Thread nD τ) none Set.univ (m := Memref.whole cc0_scratch1) (Finset.subset_univ _)) $$ HA; iintro HA
    erw [load_a0]
    iapply (wp_load 𝒱₀ (c : Thread nD τ) none Set.univ (m := Memref.whole cc0_scratch1) (Finset.subset_univ _)) $$ HA; iintro HA
    iapply (wp_store 𝒱₀ (c : Thread nD τ) none Set.univ (m := Memref.whole cc0_scratch1) (r := ra0) (Mk := Finset.univ) (Finset.subset_univ _)) $$ HA; iintro HA
    erw [store_a0' _ _ _ _ ((step (qs Q C) (blk KX 0) (blk VX 0) ⟨c0, c1, c2, a0, a1, a2⟩).a0) rfl]
    iapply (wp_load 𝒱₀ (c : Thread nD τ) none Set.univ (m := Memref.whole cc0_scratch0) (Finset.subset_univ _)) $$ HC; iintro HC
    iapply (wp_store 𝒱₀ (c : Thread nD τ) none Set.univ (m := Memref.whole cc0_scratch0) (r := rc0) (Mk := Finset.univ) (Finset.subset_univ _)) $$ HC; iintro HC
    erw [store_c0' _ _ _ _ ((step (qs Q C) (blk KX 0) (blk VX 0) ⟨c0, c1, c2, a0, a1, a2⟩).c0) rfl]
    iapply (wp_load 𝒱₀ (c : Thread nD τ) none Set.univ (m := Memref.whole cc0_scratch0) (Finset.subset_univ _)) $$ HC; iintro HC
    erw [load_c1]
    iapply (wp_load 𝒱₀ (c : Thread nD τ) none Set.univ (m := Memref.whole cc0_scratch1) (Finset.subset_univ _)) $$ HA; iintro HA
    erw [load_a1]
    iapply (wp_load 𝒱₀ (c : Thread nD τ) none Set.univ (m := Memref.whole cc0_scratch1) (Finset.subset_univ _)) $$ HA; iintro HA
    iapply (wp_store 𝒱₀ (c : Thread nD τ) none Set.univ (m := Memref.whole cc0_scratch1) (r := ra1) (Mk := Finset.univ) (Finset.subset_univ _)) $$ HA; iintro HA
    erw [store_a1' _ _ _ _ ((step (qs Q C) (blk KX 0) (blk VX 0) ⟨c0, c1, c2, a0, a1, a2⟩).a1) rfl]
    iapply (wp_load 𝒱₀ (c : Thread nD τ) none Set.univ (m := Memref.whole cc0_scratch0) (Finset.subset_univ _)) $$ HC; iintro HC
    iapply (wp_store 𝒱₀ (c : Thread nD τ) none Set.univ (m := Memref.whole cc0_scratch0) (r := rc1) (Mk := Finset.univ) (Finset.subset_univ _)) $$ HC; iintro HC
    erw [store_c1' _ _ _ _ ((step (qs Q C) (blk KX 0) (blk VX 0) ⟨c0, c1, c2, a0, a1, a2⟩).c1) rfl]
    iapply (wp_load 𝒱₀ (c : Thread nD τ) none Set.univ (m := Memref.whole cc0_scratch0) (Finset.subset_univ _)) $$ HC; iintro HC
    erw [load_c2]
    iapply (wp_load 𝒱₀ (c : Thread nD τ) none Set.univ (m := Memref.whole cc0_scratch1) (Finset.subset_univ _)) $$ HA; iintro HA
    erw [load_a2]
    iapply (wp_load 𝒱₀ (c : Thread nD τ) none Set.univ (m := Memref.whole cc0_scratch1) (Finset.subset_univ _)) $$ HA; iintro HA
    iapply (wp_store 𝒱₀ (c : Thread nD τ) none Set.univ (m := Memref.whole cc0_scratch1) (r := ra2) (Mk := Finset.univ) (Finset.subset_univ _)) $$ HA; iintro HA
    erw [store_a2' _ _ _ _ ((step (qs Q C) (blk KX 0) (blk VX 0) ⟨c0, c1, c2, a0, a1, a2⟩).a2) rfl]
    iapply (wp_load 𝒱₀ (c : Thread nD τ) none Set.univ (m := Memref.whole cc0_scratch0) (Finset.subset_univ _)) $$ HC; iintro HC
    iapply (wp_store 𝒱₀ (c : Thread nD τ) none Set.univ (m := Memref.whole cc0_scratch0) (r := rc2) (Mk := Finset.univ) (Finset.subset_univ _)) $$ HC; iintro HC
    erw [store_c2' _ _ _ _ ((step (qs Q C) (blk KX 0) (blk VX 0) ⟨c0, c1, c2, a0, a1, a2⟩).c2) rfl]
    iapply (wp_load 𝒱₀ (c : Thread nD τ) none Set.univ (m := Memref.whole cc0_scratch1) (Finset.subset_univ _)) $$ HA; iintro HA
    erw [load_aW]
    iapply (wp_load 𝒱₀ (c : Thread nD τ) none Set.univ (m := m6) (Finset.subset_univ _)) $$ H6; iintro H6
    iapply (wp_store 𝒱₀ (c : Thread nD τ) none Set.univ (m := m6) (r := raW) (Mk := Finset.univ) (Finset.subset_univ _)) $$ H6; iintro H6
    rw [wp_ret]; imodintro
    iapply Hk
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists _; isplitr; swap; · iexact H6
      ipureintro
      refine (read_written c m6 _ _ (funext fun a => by fin_cases a <;> rfl) _ _).trans ?_
      unfold bout; rw [hfin]
    isplitl [HC]
    · iexists _; iexact HC
    iexists _; iexact HA
  · rw [fin, if_neg hl] at hfin
    simp only [hl, ↓reduceIte, Prog.pure_eq_ret]
    iapply (wp_load 𝒱₀ (c : Thread nD τ) none Set.univ (m := Memref.whole cc0_scratch1) (Finset.subset_univ _)) $$ HA; iintro HA
    erw [load_aW]
    iapply (wp_load 𝒱₀ (c : Thread nD τ) none Set.univ (m := m6) (Finset.subset_univ _)) $$ H6; iintro H6
    iapply (wp_store 𝒱₀ (c : Thread nD τ) none Set.univ (m := m6) (r := raW) (Mk := Finset.univ) (Finset.subset_univ _)) $$ H6; iintro H6
    rw [wp_ret]; imodintro
    iapply Hk
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists _; isplitr; swap; · iexact H6
      ipureintro
      refine (read_written c m6 _ _ (funext fun a => by fin_cases a <;> rfl) _ _).trans ?_
      unfold bout; rw [hfin]
    isplitl [HC]
    · iexists _; iexact HC
    iexists _; iexact HA

end Body

end Cert.KernelIdeal.Att

end
-- ==== Proof.KI.Run.lean ====
/-
  The run: the pipeline's proof data with `bout` as the output block of every point, the body obligation, the launch, and
  the frame.
-/
module

public import proofs.«01_k».proof.Proof.KI.Body
public import proofs.«01_k».proof.Proof.Gen.KernelIdeal.Launch
public import Idealize.ShloMosaic.Lib.Claim

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the region finds them: the launch memory after the host operations before it. -/
def V (c : Dev nD) (b : Ref sig .tc) : Buf (Elt F) ((c.tc : Thread nD τ).loc b) :=
  StableHlo.after hostOps0 (fun b => m (c, b)) b

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block of point `t`. -/
def outAt (c : Dev nD) (t : Fin (cfg0 (F := F)).N) : Vec F S128x384 .bf16 :=
  bout (iblk m c 0 t) (iblk m c 1 t) (iblk m c 2 t) (iblk m c 3 t) (grid0.coords t 1).val

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = outAt m c t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; rfl) t d).trans
    (by unfold Dat.fetched Dat.blockOf iblk; rw [A_eq]; rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; rfl) t d).trans
    (by unfold Dat.fetched Dat.blockOf iblk; rw [A_eq]; rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; rfl) t d).trans
    (by unfold Dat.fetched Dat.blockOf iblk; rw [A_eq]; rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; rfl) t d).trans
    (by unfold Dat.fetched Dat.blockOf iblk; rw [A_eq]; rfl)

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  unfold outAt
  iintro ⟨⟨⟨HC, HA⟩, Hr⟩, Ho, ⟨%d0, H0⟩, ⟨%d1, H1⟩, ⟨%d2, H2⟩, ⟨%d3, H3⟩, ⟨%d4, H4⟩⟩
  iapply (body_triple c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HC]; · iexact HC
  isplitl [HA]; · iexact HA
  iintro ⟨H0, H1, H2, H3, H4, HC, HA⟩
  isplitl [HC HA Hr]
  · isplitl [HC HA]
    · isplitl [HC]; · iexact HC
      iexact HA
    iexact Hr
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) (cfgs (F := F)) 0 defs₀ 𝒱₀ m main (V m) :=
  Pipeline.hmain_prefix cfgs 0 defs₀ 𝒱₀ m main hostOps0 hostOps0_sub
    ⟨rfl, rfl, rfl, rfl, rfl, rfl, rfl, rfl, rfl, rfl, rfl, rfl, rfl, rfl, rfl, rfl, rfl, rfl, rfl, rfl, rfl⟩ main_chain

set_option backward.isDefEq.respectTransparency.types false in
/-- The run from any memory with zero counters: it ends, every array of the pipeline at what the proof data computes, every
    other unscoped buffer as the region found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- No host operation writes an argument. -/
theorem V_arg (c : Dev nD) (b : Ref sig .tc) (h : b = main_arg0 ∨ b = main_arg1 ∨ b = main_arg2) : V m c b = m (c, b) := by
  refine StableHlo.after_of_forall_not_mem _ _ ?_
  intro op hop
  rcases h with rfl | rfl | rfl <;>
    (fin_cases hop <;> (simp only [StableHlo.reshape_writes, StableHlo.unary_writes, StableHlo.binary_writes, StableHlo.nullary_writes]; decide))

theorem rest_mem (b : Ref sig .tc) (h : b = main_arg0 ∨ b = main_arg1 ∨ b = main_arg2) : b ∈ Pipeline.restRefs sig spec0 := by
  rcases h with rfl | rfl | rfl <;> decide

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨?_, ?_, ?_⟩, h.2⟩) (run_main m ρ)
  · exact ((h.1 c).2 main_arg0 (rest_mem _ (.inl rfl))).trans (V_arg m c _ (.inl rfl))
  · exact ((h.1 c).2 main_arg1 (rest_mem _ (.inr (.inl rfl)))).trans (V_arg m c _ (.inr (.inl rfl)))
  · exact ((h.1 c).2 main_arg2 (rest_mem _ (.inr (.inr rfl)))).trans (V_arg m c _ (.inr (.inr rfl)))

end Cert.KernelIdeal.Att

end
-- ==== Proof.Claims.lean ====
/-
  The frames and the constant's rewrite.
-/
module

public import proofs.«01_k».proof.Proof.K.Run
public import proofs.«01_k».proof.Proof.KI.Run
public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof.Frames

open Idealize.ShloMosaic Idealize.ShloMosaic.TcCoe Idealize.SL.Sem

attribute [local instance] Cert.Kernel.Gen.facts Cert.KernelIdeal.Gen.facts Cert.ReferenceIdeal.Gen.facts

/-- The precondition's side conditions. -/
theorem pre_facts : Cert.Pre_finite.Facts where
  bcast_S_S2x8192x6x64 := by decide
  reducesTo_S2x8192x6x64_S_d0_1_2_3 := by decide
  h_S_ := by decide

attribute [local instance] pre_facts

/-- The kernel changes no argument and leaves no counter. -/
theorem frame_p : Cert.quiescent_Kernel := fun m ρ _ => Cert.Kernel.Att.frame m ρ
/-- The kernel over the extended reals changes no argument and leaves no counter. -/
theorem frame_pi : Cert.quiescent_KernelIdeal := fun m ρ _ => Cert.KernelIdeal.Att.frame m ρ
theorem frame_pi_pre : Cert.quiescent_KernelIdeal_pre_finite := fun m ρ _ => Cert.KernelIdeal.Att.frame m ρ
/-- The reference changes no argument and leaves no counter. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The lower bound of a live carry is −∞ over the extended reals. -/
theorem preserves : Cert.preserves_Kernel_KernelIdeal :=
  IdealRules.named_const.statement Cert.KernelIdeal.κ "dead" .f32 0xC2F00000#32 ⊥ rfl

end Cert.Proof.Frames

end
-- ==== Proof.Val.Words.lean ====
/-
  Words compared as numbers, and a choice by a comparison's bit.
-/
module

public import Idealize.ShloMosaic.Lib.Pointwise
public import Idealize.ShloMosaic.Lib.WordCmp

@[expose] public section

noncomputable section

namespace Cert.Val

open Idealize.ShloMosaic

theorem select_ite {α : Type} (p : Prop) [Decidable p] (a b : α) : Scalar.select (if p then 1#1 else 0#1) a b = if p then a else b := by
  split <;> rfl

theorem slt_word (a b : ℕ) (ha : a < 2 ^ 31) (hb : b < 2 ^ 31) : IntOp.cmpi .slt (BitVec.ofNat 32 a) (BitVec.ofNat 32 b) = if a < b then 1#1 else 0#1 := by
  have h1 : (BitVec.ofNat 32 a).toInt = a := by rw [BitVec.toInt_ofNat']; exact Int.bmod_eq_of_le (by omega) (by omega)
  have h2 : (BitVec.ofNat 32 b).toInt = b := by rw [BitVec.toInt_ofNat']; exact Int.bmod_eq_of_le (by omega) (by omega)
  show BitVec.ofBool (decide (_ < _)) = _
  rw [h1, h2]
  by_cases h : a < b <;> simp [h]

end Cert.Val

end
-- ==== Proof.Val.Ops.lean ====
/-
  The kernel's tile functions at an index, over the extended reals.
-/
module

public import proofs.«01_k».proof.Proof.KI.Step
public import proofs.«01_k».proof.Proof.Val.Words
public import Idealize.ShloMosaic.Lib.Pointwise

@[expose] public section

noncomputable section

namespace Cert.Val

open Cert.KernelIdeal Cert.KernelIdeal.Gen Cert.KernelIdeal.Att
open Idealize.ShloMosaic Idealize.ShloMosaic.TcCoe

theorem zOf_at (q : FVec Ideal S256x128 .bf16) (k : FVec Ideal S128x128 .bf16) (r : Fin 256) (x : Fin 128) :
    zOf q k (ix2 r x) = ∑ l : Fin 128, q (ix2 r l) * k (ix2 l x) := by
  pointwise [zOf]

theorem lbOf_at (z : FVec Ideal S256x128 .f32) (r : Fin 256) (x : Fin 128) :
    lbOf z (ix2 r x) = min (z (ix2 r x)) 0 - Ideal.log (1 + Ideal.exp (0 - max (z (ix2 r x)) (-z (ix2 r x)))) := by
  pointwise [lbOf]
  rfl

theorem totOf_at (cum : FVec Ideal S128x256 .bf16) (lk : FVec Ideal S256x128 .f32) (r : Fin 256) (x : Fin 256) :
    totOf cum lk (ix2 r x) = (∑ y : Fin 128, lk (ix2 r y) * cum (ix2 y x)) + ∑ y : Fin 128, (lk (ix2 r y) - lk (ix2 r y)) * cum (ix2 y x) := by
  pointwise [totOf]

theorem upC_at (r : FVec Ideal S256x256 .f32) (c : Vec Ideal S256x128 .f32) (a : Fin 256) (x : Fin 128) :
    upC r c (ix2 a x) = c (ix2 a x) + r (ix2 a ⟨x.val, by omega⟩) := by
  pointwise [upC]

theorem wOf_at (lb : FVec Ideal S256x128 .f32) (r : FVec Ideal S256x256 .f32) (c : Vec Ideal S256x128 .f32) (a : Fin 256) (x : Fin 128) :
    wOf lb r c (ix2 a x) = Ideal.exp (lb (ix2 a x) + (r (ix2 a ⟨128 + x.val, by omega⟩) + c (ix2 a x))) := by
  pointwise [wOf]

theorem lanes_at (r l : Fin 128) : k0_pay28 (ix2 r l) = if l.val < 64 then 1#1 else 0#1 := by
  pointwise [k0_pay28]
  exact slt_word _ 64 (by omega) (by omega)

theorem upA_at (w : FVec Ideal S256x128 .f32) (v : FVec Ideal S128x128 .bf16) (a : Vec Ideal S128x128 .f32) (r l : Fin 128) :
    upA w v a (ix2 r l) = a (ix2 r l) + if l.val < 64 then ∑ x : Fin 128, w (ix2 ⟨r.val, by omega⟩ x) * v (ix2 l x)
      else ∑ x : Fin 128, w (ix2 ⟨128 + r.val, by omega⟩ x) * v (ix2 l x) := by
  pointwise [upA, lanes_at]
  rw [select_ite]

theorem mask_at (r : Fin 256) (x : Fin 128) : k0_pay38 (ix2 r x) = if x.val < r.val % 128 then 1#1 else 0#1 := by
  pointwise [k0_pay38]
  have e : IntOp.andi (BitVec.ofNat 32 r.val) 127#32 = BitVec.ofNat 32 (r.val % 128) := by
    apply BitVec.eq_of_toNat_eq
    show (BitVec.ofNat 32 r.val &&& 127#32).toNat = _
    rw [BitVec.toNat_and]
    have h := Nat.and_two_pow_sub_one_eq_mod r.val 7
    simp only [BitVec.toNat_ofNat]
    rw [Nat.mod_eq_of_lt (by omega : r.val < 2 ^ 32), Nat.mod_eq_of_lt (by omega : r.val % 128 < 2 ^ 32)]
    exact h
  rw [e]
  exact slt_word _ _ (by omega) (by omega)

theorem ks0_at (K : Vec Ideal S1x384x128 .bf16) (l x : Fin 128) : ks0 K (ix2 l x) = K (ix3 0 ⟨l.val, by omega⟩ x) := by
  pointwise [ks0]
theorem ks1_at (K : Vec Ideal S1x384x128 .bf16) (l x : Fin 128) : ks1 K (ix2 l x) = K (ix3 0 ⟨128 + l.val, by omega⟩ x) := by
  pointwise [ks1]
theorem ks2_at (K : Vec Ideal S1x384x128 .bf16) (l x : Fin 128) : ks2 K (ix2 l x) = K (ix3 0 ⟨256 + l.val, by omega⟩ x) := by
  pointwise [ks2]

theorem q0_at (Q : Vec Ideal S128x384 .bf16) (r : Fin 256) (l : Fin 128) : k0_pay30 Q (ix2 r l)
    = if h : r.val < 128 then (if l.val < 64 then Q (ix2 ⟨r.val, h⟩ ⟨l.val, by omega⟩) else 0)
      else (if l.val < 64 then 0 else Q (ix2 ⟨r.val - 128, by omega⟩ ⟨l.val, by omega⟩)) := by
  pointwise [k0_pay30, lanes_at, k0_pay29]
  simp only [select_ite]

theorem q1_at (Q : Vec Ideal S128x384 .bf16) (r : Fin 256) (l : Fin 128) : k0_pay31 Q (ix2 r l)
    = if h : r.val < 128 then (if l.val < 64 then Q (ix2 ⟨r.val, h⟩ ⟨128 + l.val, by omega⟩) else 0)
      else (if l.val < 64 then 0 else Q (ix2 ⟨r.val - 128, by omega⟩ ⟨128 + l.val, by omega⟩)) := by
  pointwise [k0_pay31, lanes_at, k0_pay29]
  simp only [select_ite]

theorem q2_at (Q : Vec Ideal S128x384 .bf16) (r : Fin 256) (l : Fin 128) : k0_pay32 Q (ix2 r l)
    = if h : r.val < 128 then (if l.val < 64 then Q (ix2 ⟨r.val, h⟩ ⟨256 + l.val, by omega⟩) else 0)
      else (if l.val < 64 then 0 else Q (ix2 ⟨r.val - 128, by omega⟩ ⟨256 + l.val, by omega⟩)) := by
  pointwise [k0_pay32, lanes_at, k0_pay29]
  simp only [select_ite]

theorem cum_at (C : Vec Ideal S128x256 .bf16) : k0_pay35 C = C := by
  funext j
  pointwise [k0_pay35]

end Cert.Val

end
-- ==== Proof.Val.Math.lean ====
/-
  The attention in the reals: the log of the sigmoid, the log decays, their sums over later keys and the weights, and
  how the extended reals' operations meet them.
-/
module

public import Mathlib.Analysis.SpecialFunctions.Log.Basic
public import Idealize.ShloMosaic.PureOps.Ideal

@[expose] public section

noncomputable section

namespace Cert.Val

open Idealize.ShloMosaic Finset

/-- The log of the sigmoid. -/
def L (z : ℝ) : ℝ := -Real.log (1 + Real.exp (-z))

theorem L_sub (z : ℝ) : L z - z = L (-z) := by
  have h : 1 + Real.exp (-(-z)) = (1 + Real.exp (-z)) * Real.exp z := by
    rw [add_mul, ← Real.exp_add]; simp [add_comm]
  have h1 : (1 + Real.exp (-z)) ≠ 0 := by positivity
  unfold L
  rw [h, Real.log_mul h1 (Real.exp_ne_zero z), Real.log_exp]
  ring

theorem L_min (z : ℝ) : min z 0 - Real.log (1 + Real.exp (-|z|)) = L z := by
  rcases le_total 0 z with h | h
  · rw [min_eq_right h, abs_of_nonneg h]; simp [L]
  · rw [min_eq_left h, abs_of_nonpos h]
    have := L_sub (-z)
    unfold L at this ⊢
    simp only [neg_neg] at this ⊢
    linarith

theorem log_one_add (r : ℝ) : Ideal.log (1 + Ideal.exp (r : EReal)) = ((Real.log (1 + Real.exp r) : ℝ) : EReal) := by
  have h : ¬ (1 + Real.exp r ≤ 0) := not_le.2 (by positivity)
  rw [Ideal.exp_coe, ← EReal.coe_one, ← EReal.coe_add, Ideal.log_coe, if_neg h]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- The kernel's log of the sigmoid. -/
theorem lb_real (z : ℝ) : min (z : EReal) 0 - Ideal.log (1 + Ideal.exp (0 - max (z : EReal) (-(z : EReal)))) = ((L z : ℝ) : EReal) := by
  rw [← EReal.coe_neg, coe_max, ← EReal.coe_zero, coe_min, ← EReal.coe_sub, log_one_add, ← EReal.coe_sub, ← L_min z]
  rw [show max z (-z) = |z| from rfl, zero_sub]

/-- The reference's log of the sigmoid of `-y`, written as minus a softplus. -/
theorem softplus_real (y : ℝ) : -(max (y : EReal) 0 + Ideal.log1p (Ideal.exp (-(max (y : EReal) (-(y : EReal)))))) = ((L (-y) : ℝ) : EReal) := by
  unfold Ideal.log1p
  rw [← EReal.coe_neg, coe_max, ← EReal.coe_zero, coe_max, ← EReal.coe_neg, log_one_add, ← EReal.coe_add, ← EReal.coe_neg, ← L_min (-y)]
  congr 1
  rw [abs_neg, show max y (-y) = |y| from rfl]
  rcases le_total 0 y with h | h
  · rw [max_eq_left h, min_eq_left (by linarith)]; ring
  · rw [max_eq_right h, min_eq_right (by linarith)]; ring

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [sum_insert h, sum_insert h, ih, EReal.coe_add]

/-- The log decay that key `s` puts on earlier keys, for the query at `t`. -/
def LK (Z : ℕ → ℝ) (t s : ℕ) : ℝ := if s < t then L (-Z s) else 0
/-- The sum of the log decays of the keys after `s`. -/
def Af (Z : ℕ → ℝ) (t s : ℕ) : ℝ := ∑ s' ∈ Ico (s + 1) 8192, LK Z t s'
/-- The weight of key `s`. -/
def W (Z : ℕ → ℝ) (t s : ℕ) : ℝ := if s < t then Real.exp (L (Z s) + Af Z t s) else 0
/-- The attention's value: the weighted sum of the keys' values. -/
def out (Z : ℕ → ℝ) (t : ℕ) (v : ℕ → EReal) : EReal := ∑ s ∈ Ico 0 8192, ((W Z t s : ℝ) : EReal) * v s

/-- A sum from block `n` on is block `n`'s part and the rest. -/
theorem sum_block {M : Type} [AddCommMonoid M] (f : ℕ → M) (n : ℕ) (hn : n < 64) :
    ∑ s ∈ Ico (128 * n) 8192, f s = (∑ x : Fin 128, f (128 * n + x.val)) + ∑ s ∈ Ico (128 * (n + 1)) 8192, f s := by
  rw [← sum_Ico_consecutive f (show 128 * n ≤ 128 * (n + 1) by omega) (by omega), sum_Ico_eq_sum_range,
    show 128 * (n + 1) - 128 * n = 128 by omega, Finset.sum_range]

/-- The decays after a key of block `n` are those after it in the block and those of later blocks. -/
theorem Af_block (Z : ℕ → ℝ) (t n : ℕ) (hn : n < 64) (x : Fin 128) :
    Af Z t (128 * n + x.val) = (∑ y : Fin 128, if x.val < y.val then LK Z t (128 * n + y.val) else 0) + ∑ s ∈ Ico (128 * (n + 1)) 8192, LK Z t s := by
  unfold Af
  rw [← sum_Ico_consecutive _ (show 128 * n + x.val + 1 ≤ 128 * (n + 1) by omega) (by omega)]
  congr 1
  rw [← Finset.sum_range (fun y => if x.val < y then LK Z t (128 * n + y) else 0), ← Finset.sum_filter]
  refine Finset.sum_nbij' (fun s => s - 128 * n) (fun y => 128 * n + y) ?_ ?_ ?_ ?_ ?_ <;>
    simp only [mem_Ico, mem_filter, mem_range] <;> intro a ha
  · omega
  · omega
  · omega
  · omega
  · rw [show 128 * n + (a - 128 * n) = a by omega]

/-- A head's score: the product of the query's channels with the key's. -/
def score (qr kr : ℕ → ℕ → ℝ) (h t s : ℕ) : ℝ := ∑ d ∈ range 64, qr t (64 * h + d) * kr s (64 * h + d)

end Cert.Val

end
-- ==== Proof.Val.Tile.lean ====
/-
  One block's step on one tile: the carried decays and the accumulated values after the block, from those before it.
-/
module

public import proofs.«01_k».proof.Proof.Val.Ops
public import proofs.«01_k».proof.Proof.Val.Math

@[expose] public section

noncomputable section

namespace Cert.Val

open Cert.KernelIdeal Cert.KernelIdeal.Gen Cert.KernelIdeal.Att
open Idealize.ShloMosaic Idealize.ShloMosaic.TcCoe
open _root_.Finset

/-- The constant that sums decays: columns of ones, then the strict lower triangle. -/
def IsCum (cum : FVec Ideal S128x256 .bf16) : Prop :=
  (∀ y x : Fin 128, cum (ix2 y ⟨x.val, by omega⟩) = 1) ∧ ∀ y x : Fin 128, cum (ix2 y ⟨128 + x.val, by omega⟩) = if x.val < y.val then 1 else 0

theorem tot_lo {cum : FVec Ideal S128x256 .bf16} (hcum : IsCum cum) {lk : FVec Ideal S256x128 .f32} {r : Fin 256} {g : ℕ → ℝ}
    (hg : ∀ x : Fin 128, lk (ix2 r x) = ((g x.val : ℝ) : EReal)) (x : Fin 128) :
    totOf cum lk (ix2 r ⟨x.val, by omega⟩) = ((∑ y : Fin 128, g y.val : ℝ) : EReal) := by
  rw [totOf_at]
  simp only [hg, hcum.1, mul_one, ← EReal.coe_sub, sub_self, EReal.coe_zero, sum_const_zero, add_zero, coe_sum]

theorem tot_hi {cum : FVec Ideal S128x256 .bf16} (hcum : IsCum cum) {lk : FVec Ideal S256x128 .f32} {r : Fin 256} {g : ℕ → ℝ}
    (hg : ∀ x : Fin 128, lk (ix2 r x) = ((g x.val : ℝ) : EReal)) (x : Fin 128) :
    totOf cum lk (ix2 r ⟨128 + x.val, by omega⟩) = ((∑ y : Fin 128, (if x.val < y.val then g y.val else 0) : ℝ) : EReal) := by
  rw [totOf_at]
  simp only [hg, hcum.2, ← EReal.coe_sub, sub_self, EReal.coe_zero, zero_mul, sum_const_zero, add_zero, mul_ite, mul_one, mul_zero]
  rw [← coe_sum]
  simp only [ite_self, sum_const_zero, add_zero]
  refine sum_congr rfl fun y _ => ?_
  split <;> simp

/-- A tile of scores: row `r` is head `2 p + r / 128` at position `128 i + r % 128`, column `x` the key `128 n + x`. -/
def TZ (Z : ℕ → ℕ → ℕ → ℝ) (i p n : ℕ) (z : FVec Ideal S256x128 .f32) : Prop :=
  ∀ (r : Fin 256) (x : Fin 128), z (ix2 r x) = ((Z (2 * p + r.val / 128) (128 * i + r.val % 128) (128 * n + x.val) : ℝ) : EReal)

/-- A tile of carried decays: those of the keys from block `n` on. -/
def TC (Z : ℕ → ℕ → ℕ → ℝ) (i p n : ℕ) (c : Vec Ideal S256x128 .f32) : Prop :=
  ∀ (r : Fin 256) (x : Fin 128), c (ix2 r x)
    = ((∑ s ∈ Ico (128 * n) 8192, LK (Z (2 * p + r.val / 128) (128 * i + r.val % 128)) (128 * i + r.val % 128) s : ℝ) : EReal)

/-- A tile of accumulated values: those of the keys from block `n` on. -/
def TA (Z : ℕ → ℕ → ℕ → ℝ) (v : ℕ → ℕ → EReal) (i p n : ℕ) (a : Vec Ideal S128x128 .f32) : Prop :=
  ∀ r l : Fin 128, a (ix2 r l)
    = ∑ s ∈ Ico (128 * n) 8192, ((W (Z (2 * p + l.val / 64) (128 * i + r.val)) (128 * i + r.val) s : ℝ) : EReal) * v (128 * p + l.val) s

/-- A tile of values: row `l` is channel `128 p + l`, column `x` the key `128 n + x`. -/
def TV (v : ℕ → ℕ → EReal) (p n : ℕ) (V : FVec Ideal S128x128 .bf16) : Prop := ∀ l x : Fin 128, V (ix2 l x) = v (128 * p + l.val) (128 * n + x.val)

variable {Z : ℕ → ℕ → ℕ → ℝ} {v : ℕ → ℕ → EReal} {i p n : ℕ} {cum : FVec Ideal S128x256 .bf16}

theorem lb_tile {z : FVec Ideal S256x128 .f32} (hz : TZ Z i p n z) (r : Fin 256) (x : Fin 128) :
    lbOf z (ix2 r x) = ((L (Z (2 * p + r.val / 128) (128 * i + r.val % 128) (128 * n + x.val)) : ℝ) : EReal) := by
  rw [lbOf_at, hz r x, lb_real]

/-- A tile of the block's own log decays. -/
def TL (Z : ℕ → ℕ → ℕ → ℝ) (i p n : ℕ) (lk : FVec Ideal S256x128 .f32) : Prop :=
  ∀ (r : Fin 256) (x : Fin 128), lk (ix2 r x)
    = ((LK (Z (2 * p + r.val / 128) (128 * i + r.val % 128)) (128 * i + r.val % 128) (128 * n + x.val) : ℝ) : EReal)

theorem sub_at (a b : FVec Ideal S256x128 .f32) (r : Fin 256) (x : Fin 128) : subf a b (ix2 r x) = a (ix2 r x) - b (ix2 r x) := by
  pointwise

theorem lk_tile {z : FVec Ideal S256x128 .f32} (hz : TZ Z i p n z) (hn : n < i) : TL Z i p n (subf (lbOf z) z) := by
  intro r x
  rw [sub_at, lb_tile hz, hz r x, ← EReal.coe_sub, L_sub]
  unfold LK
  rw [if_pos (by omega)]

theorem mlk_tile {z : FVec Ideal S256x128 .f32} (hz : TZ Z i p i z) : TL Z i p i (mLk z) := by
  intro r x
  have e : mLk z (ix2 r x) = if x.val < r.val % 128 then lbOf z (ix2 r x) - z (ix2 r x) else 0 := by
    pointwise [mLk, mask_at]
    rw [select_ite]
  rw [e, lb_tile hz, hz r x, ← EReal.coe_sub, L_sub]
  unfold LK
  by_cases h : x.val < r.val % 128
  · rw [if_pos h, if_pos (by omega)]
  · rw [if_neg h, if_neg (by omega)]; simp

/-- The carried decays after the block. -/
theorem upC_tile (hcum : IsCum cum) (hn : n < 64) {lk : FVec Ideal S256x128 .f32} (hl : TL Z i p n lk) {c : Vec Ideal S256x128 .f32}
    (hc : TC Z i p (n + 1) c) : TC Z i p n (upC (totOf cum lk) c) := by
  intro r x
  rw [upC_at, hc r x]
  erw [tot_lo hcum (g := fun y => LK (Z (2 * p + r.val / 128) (128 * i + r.val % 128)) (128 * i + r.val % 128) (128 * n + y)) (hl r) x]
  rw [← EReal.coe_add, sum_block _ n hn, add_comm]

/-- The weights of the block's keys, before the mask. -/
theorem w_tile (hcum : IsCum cum) (hn : n < 64) {z : FVec Ideal S256x128 .f32} (hz : TZ Z i p n z) {lk : FVec Ideal S256x128 .f32}
    (hl : TL Z i p n lk) {c : Vec Ideal S256x128 .f32} (hc : TC Z i p (n + 1) c) (r : Fin 256) (x : Fin 128) :
    wOf (lbOf z) (totOf cum lk) c (ix2 r x) = ((Real.exp (L (Z (2 * p + r.val / 128) (128 * i + r.val % 128) (128 * n + x.val))
      + Af (Z (2 * p + r.val / 128) (128 * i + r.val % 128)) (128 * i + r.val % 128) (128 * n + x.val)) : ℝ) : EReal) := by
  rw [wOf_at, lb_tile hz, hc r x]
  erw [tot_hi hcum (g := fun y => LK (Z (2 * p + r.val / 128) (128 * i + r.val % 128)) (128 * i + r.val % 128) (128 * n + y)) (hl r) x]
  rw [← EReal.coe_add, ← EReal.coe_add, Ideal.exp_coe, Af_block _ _ n hn]

/-- A tile of weights. -/
def TW (Z : ℕ → ℕ → ℕ → ℝ) (i p n : ℕ) (w : FVec Ideal S256x128 .f32) : Prop :=
  ∀ (r : Fin 256) (x : Fin 128), w (ix2 r x)
    = ((W (Z (2 * p + r.val / 128) (128 * i + r.val % 128)) (128 * i + r.val % 128) (128 * n + x.val) : ℝ) : EReal)

theorem nw_tile (hcum : IsCum cum) (hn : n < 64) (hi : n < i) {z : FVec Ideal S256x128 .f32} (hz : TZ Z i p n z)
    {c : Vec Ideal S256x128 .f32} (hc : TC Z i p (n + 1) c) : TW Z i p n (wOf (lbOf z) (totOf cum (subf (lbOf z) z)) c) := by
  intro r x
  rw [w_tile hcum hn hz (lk_tile hz hi) hc]
  unfold W
  rw [if_pos (by omega)]

theorem mw_tile (hcum : IsCum cum) (hi : i < 64) {z : FVec Ideal S256x128 .f32} (hz : TZ Z i p i z)
    {c : Vec Ideal S256x128 .f32} (hc : TC Z i p (i + 1) c) :
    TW Z i p i (select k0_pay38 (wOf (lbOf z) (totOf cum (mLk z)) c) (broadcast S256x128 (Scalar.ofBits .f32 0x00000000#32))) := by
  intro r x
  have e (w : FVec Ideal S256x128 .f32) : select k0_pay38 w (broadcast S256x128 (Scalar.ofBits .f32 0x00000000#32)) (ix2 r x)
      = if x.val < r.val % 128 then w (ix2 r x) else 0 := by
    pointwise [mask_at]
    rw [select_ite]
  rw [e, w_tile hcum hi hz (mlk_tile hz) hc]
  unfold W
  by_cases h : x.val < r.val % 128
  · rw [if_pos h, if_pos (by omega)]
  · rw [if_neg h, if_neg (by omega)]; simp

/-- The accumulated values after the block. -/
theorem upA_tile (hn : n < 64) {w : FVec Ideal S256x128 .f32} (hw : TW Z i p n w) {V : FVec Ideal S128x128 .bf16} (hv : TV v p n V)
    {a : Vec Ideal S128x128 .f32} (ha : TA Z v i p (n + 1) a) : TA Z v i p n (upA w V a) := by
  intro r l
  rw [upA_at, ha r l, sum_block _ n hn, add_comm]
  congr 1
  by_cases h : l.val < 64
  · rw [if_pos h]
    refine sum_congr rfl fun x _ => ?_
    rw [hw, hv]
    dsimp only
    rw [show l.val / 64 = r.val / 128 by omega, show r.val % 128 = r.val by omega]
  · rw [if_neg h]
    refine sum_congr rfl fun x _ => ?_
    rw [hw, hv]
    dsimp only
    rw [show l.val / 64 = (128 + r.val) / 128 by omega, show (128 + r.val) % 128 = r.val by omega]

theorem nC_tile (hcum : IsCum cum) (hn : n < 64) (hi : n < i) {z : FVec Ideal S256x128 .f32} (hz : TZ Z i p n z)
    {c : Vec Ideal S256x128 .f32} (hc : TC Z i p (n + 1) c) : TC Z i p n (nC cum z c) := upC_tile hcum hn (lk_tile hz hi) hc

theorem mC_tile (hcum : IsCum cum) (hi : i < 64) {z : FVec Ideal S256x128 .f32} (hz : TZ Z i p i z)
    {c : Vec Ideal S256x128 .f32} (hc : TC Z i p (i + 1) c) : TC Z i p i (mC cum z c) := upC_tile hcum hi (mlk_tile hz) hc

theorem nA_tile (hcum : IsCum cum) (hn : n < 64) (hi : n < i) {z : FVec Ideal S256x128 .f32} (hz : TZ Z i p n z)
    {V : FVec Ideal S128x128 .bf16} (hv : TV v p n V) {c : Vec Ideal S256x128 .f32} (hc : TC Z i p (n + 1) c)
    {a : Vec Ideal S128x128 .f32} (ha : TA Z v i p (n + 1) a) : TA Z v i p n (nA cum z V c a) :=
  upA_tile hn (nw_tile hcum hn hi hz hc) hv ha

theorem mA_tile (hcum : IsCum cum) (hi : i < 64) {z : FVec Ideal S256x128 .f32} (hz : TZ Z i p i z)
    {V : FVec Ideal S128x128 .bf16} (hv : TV v p i V) {c : Vec Ideal S256x128 .f32} (hc : TC Z i p (i + 1) c)
    {a : Vec Ideal S128x128 .f32} (ha : TA Z v i p (i + 1) a) : TA Z v i p i (mA cum z V c a) :=
  upA_tile hi (mw_tile hcum hi hz hc) hv ha

end Cert.Val

end
-- ==== Proof.Val.Block.lean ====
/-
  The whole walk over the key blocks of one query block: the tiles at the end hold the sums over all keys.
-/
module

public import proofs.«01_k».proof.Proof.Val.Tile

@[expose] public section

noncomputable section

namespace Cert.Val

open Cert.KernelIdeal Cert.KernelIdeal.Gen Cert.KernelIdeal.Att
open Idealize.ShloMosaic Idealize.ShloMosaic.TcCoe
open _root_.Finset

/-- A sum over 128 lanes whose first half is zero, or whose second half is. -/
theorem sum_lanes (f : ℕ → ℝ) (b : ℕ) (hb : b < 2) : ∑ l : Fin 128, (if l.val / 64 = b then f l.val else 0) = ∑ d ∈ range 64, f (64 * b + d) := by
  rw [← Finset.sum_range (fun l => if l / 64 = b then f l else 0), ← Finset.sum_filter]
  refine Finset.sum_nbij' (fun s => s - 64 * b) (fun y => 64 * b + y) ?_ ?_ ?_ ?_ ?_ <;>
    simp only [mem_filter, mem_range] <;> intro a ha
  · omega
  · omega
  · omega
  · omega
  · rw [show 64 * b + (a - 64 * b) = a by omega]

/-- The query window holds real numbers. -/
def IsQ (qr : ℕ → ℕ → ℝ) (i : ℕ) (Q : Vec Ideal S128x384 .bf16) : Prop :=
  ∀ (r : Fin 128) (c : Fin 384), Q (ix2 r c) = ((qr (128 * i + r.val) c.val : ℝ) : EReal)

/-- A stacked query tile. -/
def TQ (qr : ℕ → ℕ → ℝ) (i p : ℕ) (q : FVec Ideal S256x128 .bf16) : Prop :=
  ∀ (r : Fin 256) (l : Fin 128), q (ix2 r l)
    = ((if l.val / 64 = r.val / 128 then qr (128 * i + r.val % 128) (128 * p + l.val) else 0 : ℝ) : EReal)

/-- A tile of keys. -/
def TK (kr : ℕ → ℕ → ℝ) (p n : ℕ) (K : FVec Ideal S128x128 .bf16) : Prop :=
  ∀ l x : Fin 128, K (ix2 l x) = ((kr (128 * n + x.val) (128 * p + l.val) : ℝ) : EReal)

theorem z_tile {qr kr : ℕ → ℕ → ℝ} {i p n : ℕ} {q : FVec Ideal S256x128 .bf16} {K : FVec Ideal S128x128 .bf16}
    (hq : TQ qr i p q) (hk : TK kr p n K) : TZ (score qr kr) i p n (zOf q K) := by
  intro r x
  rw [zOf_at]
  simp only [hq r, hk _ x, ← EReal.coe_mul]
  rw [coe_sum]
  congr 1
  simp only [ite_mul, zero_mul]
  rw [sum_lanes (fun l => qr (128 * i + r.val % 128) (128 * p + l) * kr (128 * n + x.val) (128 * p + l)) (r.val / 128) (by omega)]
  unfold score
  refine sum_congr rfl fun d _ => ?_
  rw [show 128 * p + (64 * (r.val / 128) + d) = 64 * (2 * p + r.val / 128) + d by omega]

theorem q_tile {qr : ℕ → ℕ → ℝ} {i : ℕ} (p : ℕ) {Q : Vec Ideal S128x384 .bf16} (hQ : IsQ qr i Q) (hp : p < 3) {q : FVec Ideal S256x128 .bf16}
    (h : ∀ (r : Fin 256) (l : Fin 128), q (ix2 r l)
      = if h : r.val < 128 then (if l.val < 64 then Q (ix2 ⟨r.val, h⟩ ⟨128 * p + l.val, by omega⟩) else 0)
        else (if l.val < 64 then 0 else Q (ix2 ⟨r.val - 128, by omega⟩ ⟨128 * p + l.val, by omega⟩))) : TQ qr i p q := by
  intro r l
  unfold IsQ at hQ
  rw [h r l]
  simp only [hQ]
  by_cases hr : r.val < 128
  · rw [dif_pos hr]
    by_cases hl : l.val < 64
    · rw [if_pos hl, if_pos (by omega), show r.val % 128 = r.val by omega]
    · rw [if_neg hl, if_neg (by omega)]; simp
  · rw [dif_neg hr]
    by_cases hl : l.val < 64
    · rw [if_pos hl, if_neg (by omega)]; simp
    · rw [if_neg hl, if_pos (by omega), show r.val % 128 = r.val - 128 by omega]

/-- The three tiles of the query window and the constant. -/
structure IsQs (qr : ℕ → ℕ → ℝ) (i : ℕ) (x : Qs Ideal) : Prop where
  q0 : TQ qr i 0 x.q0
  q1 : TQ qr i 1 x.q1
  q2 : TQ qr i 2 x.q2
  cum : IsCum x.cum

theorem is_qs {qr : ℕ → ℕ → ℝ} {i : ℕ} {Q : Vec Ideal S128x384 .bf16} {C : Vec Ideal S128x256 .bf16} (hQ : IsQ qr i Q) (hC : IsCum C) :
    IsQs qr i (qs Q C) where
  q0 := q_tile 0 hQ (by omega) fun r l => (q0_at Q r l).trans (by simp only [Nat.mul_zero, Nat.zero_add])
  q1 := q_tile 1 hQ (by omega) fun r l => (q1_at Q r l).trans (by simp only [Nat.mul_one])
  q2 := q_tile 2 hQ (by omega) fun r l => (q2_at Q r l).trans (by rfl)
  cum := by show IsCum (k0_pay35 C); rw [cum_at]; exact hC

/-- The key array's rows are channels, its columns keys. -/
def IsK (kr : ℕ → ℕ → ℝ) (KX : Vec Ideal S1x384x8192 .bf16) : Prop :=
  ∀ (c : Fin 384) (s : Fin 8192), KX (ix3 0 c s) = ((kr s.val c.val : ℝ) : EReal)
/-- So are the value array's. -/
def IsV (v : ℕ → ℕ → EReal) (VX : Vec Ideal S1x384x8192 .bf16) : Prop :=
  ∀ (c : Fin 384) (s : Fin 8192), VX (ix3 0 c s) = v c.val s.val

theorem blk_at (X : Vec Ideal S1x384x8192 .bf16) (n : ℕ) (hn : n < 64) (c : Fin 384) (x : Fin 128) :
    blk X n (ix3 0 c x) = X (ix3 0 c ⟨128 * n + x.val, by omega⟩) := by
  unfold blk
  congr 1
  funext a
  apply Fin.ext
  fin_cases a
  · rfl
  · show (0 + 1 * c.val) % 384 = c.val
    omega
  · show (128 * n + 1 * x.val) % 8192 = 128 * n + x.val
    omega

section
variable {qr kr : ℕ → ℕ → ℝ} {v : ℕ → ℕ → EReal} {i n : ℕ} {x : Qs Ideal} {KX VX : Vec Ideal S1x384x8192 .bf16}

theorem k0_tile (hK : IsK kr KX) (hn : n < 64) : TK kr 0 n (ks0 (blk KX n)) := fun l x => by
  rw [ks0_at, blk_at KX n hn, hK]; simp only [Nat.mul_zero, Nat.zero_add]
theorem k1_tile (hK : IsK kr KX) (hn : n < 64) : TK kr 1 n (ks1 (blk KX n)) := fun l x => by
  rw [ks1_at, blk_at KX n hn, hK]
theorem k2_tile (hK : IsK kr KX) (hn : n < 64) : TK kr 2 n (ks2 (blk KX n)) := fun l x => by
  rw [ks2_at, blk_at KX n hn, hK]
theorem v0_tile (hV : IsV v VX) (hn : n < 64) : TV v 0 n (ks0 (blk VX n)) := fun l x => by
  rw [ks0_at, blk_at VX n hn, hV]; simp only [Nat.mul_zero, Nat.zero_add]
theorem v1_tile (hV : IsV v VX) (hn : n < 64) : TV v 1 n (ks1 (blk VX n)) := fun l x => by
  rw [ks1_at, blk_at VX n hn, hV]
theorem v2_tile (hV : IsV v VX) (hn : n < 64) : TV v 2 n (ks2 (blk VX n)) := fun l x => by
  rw [ks2_at, blk_at VX n hn, hV]

/-- The tiles when the key blocks from `n` on are done. -/
structure Inv (Z : ℕ → ℕ → ℕ → ℝ) (v : ℕ → ℕ → EReal) (i n : ℕ) (s : St Ideal) : Prop where
  c0 : TC Z i 0 n s.c0
  c1 : TC Z i 1 n s.c1
  c2 : TC Z i 2 n s.c2
  a0 : TA Z v i 0 n s.a0
  a1 : TA Z v i 1 n s.a1
  a2 : TA Z v i 2 n s.a2

theorem step_inv (hx : IsQs qr i x) (hK : IsK kr KX) (hV : IsV v VX) (hn : n < 64) (hi : n < i) {s : St Ideal}
    (h : Inv (score qr kr) v i (n + 1) s) : Inv (score qr kr) v i n (step x (blk KX n) (blk VX n) s) where
  c0 := nC_tile hx.cum hn hi (z_tile hx.q0 (k0_tile hK hn)) h.c0
  c1 := nC_tile hx.cum hn hi (z_tile hx.q1 (k1_tile hK hn)) h.c1
  c2 := nC_tile hx.cum hn hi (z_tile hx.q2 (k2_tile hK hn)) h.c2
  a0 := nA_tile hx.cum hn hi (z_tile hx.q0 (k0_tile hK hn)) (v0_tile hV hn) h.c0 h.a0
  a1 := nA_tile hx.cum hn hi (z_tile hx.q1 (k1_tile hK hn)) (v1_tile hV hn) h.c1 h.a1
  a2 := nA_tile hx.cum hn hi (z_tile hx.q2 (k2_tile hK hn)) (v2_tile hV hn) h.c2 h.a2

theorem mstep_inv (hx : IsQs qr i x) (hK : IsK kr KX) (hV : IsV v VX) (hi : i < 64) {s : St Ideal}
    (h : Inv (score qr kr) v i (i + 1) s) : Inv (score qr kr) v i i (mstep x (blk KX i) (blk VX i) s) where
  c0 := mC_tile hx.cum hi (z_tile hx.q0 (k0_tile hK hi)) h.c0
  c1 := mC_tile hx.cum hi (z_tile hx.q1 (k1_tile hK hi)) h.c1
  c2 := mC_tile hx.cum hi (z_tile hx.q2 (k2_tile hK hi)) h.c2
  a0 := mA_tile hx.cum hi (z_tile hx.q0 (k0_tile hK hi)) (v0_tile hV hi) h.c0 h.a0
  a1 := mA_tile hx.cum hi (z_tile hx.q1 (k1_tile hK hi)) (v1_tile hV hi) h.c1 h.a1
  a2 := mA_tile hx.cum hi (z_tile hx.q2 (k2_tile hK hi)) (v2_tile hV hi) h.c2 h.a2

/-- Keys after the query block count for nothing: the zero tiles are right for the blocks after it. -/
theorem zc_tile (Z : ℕ → ℕ → ℕ → ℝ) (i p : ℕ) : TC Z i p (i + 1) (zc (F := Ideal)) := by
  intro r x
  have e : (zc (F := Ideal)) (ix2 r x) = 0 := by pointwise [zc]
  rw [e, sum_eq_zero fun s hs => ?_]; · rfl
  rw [mem_Ico] at hs
  unfold LK
  rw [if_neg (by omega)]

theorem za_tile (Z : ℕ → ℕ → ℕ → ℝ) (v : ℕ → ℕ → EReal) (i p : ℕ) : TA Z v i p (i + 1) (za (F := Ideal)) := by
  intro r x
  have e : (za (F := Ideal)) (ix2 r x) = 0 := by pointwise [za]
  rw [e, sum_eq_zero fun s hs => ?_]
  rw [mem_Ico] at hs
  unfold W
  rw [if_neg (by omega), EReal.coe_zero, zero_mul]

theorem own_inv (hx : IsQs qr i x) (hK : IsK kr KX) (hV : IsV v VX) (hi : i < 64) : Inv (score qr kr) v i i (own x KX VX i) :=
  mstep_inv hx hK hV hi ⟨zc_tile _ _ _, zc_tile _ _ _, zc_tile _ _ _, za_tile _ _ _ _, za_tile _ _ _ _, za_tile _ _ _ _⟩

/-- A maximum over the tiles is at least any entry. -/
theorem red_le (Y : FVec Ideal S1x768x128 .f32) (acc : BitVec FTy.f32.bits) (h : S1x768x128.Reduces [1, 2] S1) (hφ : FKind.Formats .f32)
    (hacc : acc = FKind.maximumf.neutral .f32 hφ) (j : S1.Idx) (r : Fin 768) (x : Fin 128) :
    (Y (ix3 0 r x) : EReal) ≤ multiReduction .maximumf [1, 2] S1 Y acc h hφ hacc j := by
  rw [multiReduction_maximumf_eq_fold]
  refine (Finset.le_fold_max _).2 (.inr ⟨ix3 0 r x, ?_, le_rfl⟩)
  rw [Finset.mem_filter]
  refine ⟨Finset.mem_univ _, ?_⟩
  funext a
  apply Fin.ext
  have h1 := (h.drop (ix3 0 r x) a).isLt
  have h2 := (j a).isLt
  have h3 : S1.size a = 1 := by fin_cases a; rfl
  omega

theorem extract_cast {α : Type} (v : S1.Idx → α) (h : S1.ShapeCasts S1x1x1) (hp) :
    ∃ j, extractAt ![0, 0, 0] (shapeCast S1x1x1 v h) hp = v j := ⟨_, rfl⟩

theorem top_le (X : Vec Ideal S768x128 .f32) (r : Fin 768) (x : Fin 128) : (X (ix2 r x) : EReal) ≤ k0_pay8 X := by
  have e : shapeCast S1x768x128 X shapeCasts_S768x128_S1x768x128 (ix3 0 r x) = X (ix2 r x) := by pointwise
  unfold k0_pay8
  dsimp only
  obtain ⟨j, hj⟩ := extract_cast (multiReduction (F := Ideal) .maximumf [1, 2] S1 (shapeCast S1x768x128 X shapeCasts_S768x128_S1x768x128)
      0xFF800000#32 reduces_S1x768x128_S1 (.inl rfl) rfl) shapeCasts_S1_S1x1x1 inpos_S1x1x1_p0_0_0
  rw [hj, ← e]
  exact red_le _ _ _ _ _ j r x

theorem cAll_at (c0 c1 c2 : Vec Ideal S256x128 .f32) (r : Fin 256) (x : Fin 128) :
    cAll c0 c1 c2 (ix2 ⟨r.val, by omega⟩ x) = c0 (ix2 r x) := by
  have e : (ix2 ⟨r.val, by omega⟩ x : S768x128.Idx) = rc0.idx (ix2 r x) := by
    funext a; apply Fin.ext; fin_cases a
    · show r.val = 0 + 1 * r.val; omega
    · show x.val = 0 + 1 * x.val; omega
  rw [e, cAll_0]

/-- The level of the early exit is −∞. -/
theorem dead_bot : (Named.named (F := Ideal) κ "dead" (φ := .f32) 0xC2F00000#32) = (⊥ : EReal) :=
  IdealRules.named_const.ideal_named_scalar _ _ _ _ rfl

theorem alive_of_lt (l : EReal) (h : ⊥ < l) : alive (F := Ideal) l = 1#1 := by
  unfold alive
  rw [dead_bot]
  have e : Scalar.cmpf (F := Ideal) (φ := .f32) .ogt l (⊥ : EReal) = Ideal.cmp .ogt l ⊥ := rfl
  exact e.trans (by simp [Ideal.cmp, h])

/-- The largest carried decay is above −∞: a real number is among them. -/
theorem alive_inv {Z : ℕ → ℕ → ℕ → ℝ} {s : St Ideal} (h : Inv Z v i n s) : alive (live s) = 1#1 := by
  refine alive_of_lt _ ?_
  have hle : _ ≤ live s := top_le (cAll s.c0 s.c1 s.c2) ⟨0, by omega⟩ ⟨0, by omega⟩
  have hc := h.c0 ⟨0, by omega⟩ ⟨0, by omega⟩
  have e := cAll_at s.c0 s.c1 s.c2 ⟨0, by omega⟩ ⟨0, by omega⟩
  rw [e, hc] at hle
  exact lt_of_lt_of_le (EReal.bot_lt_coe _) hle

/-- The loop goes down to block 0, or leaves it over. -/
theorem loop_inv (hx : IsQs qr i x) (hK : IsK kr KX) (hV : IsV v VX) (hi : i < 64) :
    ∀ (n : ℕ) (s : St Ideal), n ≤ i → Inv (score qr kr) v i n s → Inv (score qr kr) v i 0 (fin x KX VX (loop x KX VX n (live s) s))
  | 0, s, _, h => by
    rw [loop]
    unfold fin
    rw [if_neg (by
      have e : Scalar.cmpi .eq (cnt 0) 0#32 = 0#1 := by decide
      dsimp only
      rw [e]
      have : ∀ b : BitVec 1, ¬ (Scalar.cmpi .ne ((Scalar.extui (Scalar.andi 0#1 b) : BitVec 32)) 0#32 = 1#1) := by decide
      exact this _)]
    exact h
  | 1, s, hn, h => by
    rw [loop]
    unfold fin
    rw [if_pos (by
      dsimp only
      rw [alive_inv h]
      decide)]
    exact step_inv hx hK hV (by omega) (by omega) h
  | n + 2, s, hn, h => by
    rw [loop, if_pos (alive_inv h)]
    exact loop_inv hx hK hV hi n _ (by omega) (step_inv hx hK hV (by omega) (by omega) (step_inv hx hK hV (by omega) (by omega) h))

theorem fins_inv (hx : IsQs qr i x) (hK : IsK kr KX) (hV : IsV v VX) (hi : i < 64) : Inv (score qr kr) v i 0 (fins x KX VX i) :=
  loop_inv hx hK hV hi i _ le_rfl (own_inv hx hK hV hi)

end

/-- The output window of query block `i`: the attention of each head, at each position and channel. -/
theorem bout_at {qr kr : ℕ → ℕ → ℝ} {v : ℕ → ℕ → EReal} {i : ℕ} {Q : Vec Ideal S128x384 .bf16} {C : Vec Ideal S128x256 .bf16}
    {KX VX : Vec Ideal S1x384x8192 .bf16} (hQ : IsQ qr i Q) (hC : IsCum C) (hK : IsK kr KX) (hV : IsV v VX) (hi : i < 64)
    (r : Fin 128) (c : Fin 384) :
    bout Q KX VX C i (ix2 r c) = out (score qr kr (c.val / 64) (128 * i + r.val)) (128 * i + r.val) (v c.val) := by
  have h := fins_inv (is_qs hQ hC) hK hV hi
  unfold bout
  generalize fins (qs Q C) KX VX i = s at h
  have e : ∀ X : Vec Ideal S128x384 .f32, k0_pay5 X (ix2 r c) = X (ix2 r c) := fun X => by pointwise [k0_pay5]
  rw [e]
  rcases (by omega : c.val < 128 ∨ (128 ≤ c.val ∧ c.val < 256) ∨ 256 ≤ c.val) with hc | hc | hc
  · have e : (ix2 r c : S128x384.Idx) = ra0.idx (ix2 r (⟨c.val, hc⟩ : Fin 128)) := by
      funext a; apply Fin.ext; fin_cases a
      · show r.val = 0 + 1 * r.val; omega
      · show c.val = 0 + 1 * c.val; omega
    rw [e, aAll_0]
    refine (h.a0 r ⟨c.val, hc⟩).trans ?_
    unfold out
    simp only [Nat.mul_zero, Nat.zero_add]
  · have e : (ix2 r c : S128x384.Idx) = ra1.idx (ix2 r (⟨c.val - 128, by omega⟩ : Fin 128)) := by
      funext a; apply Fin.ext; fin_cases a
      · show r.val = 0 + 1 * r.val; omega
      · show c.val = 128 + 1 * (c.val - 128); omega
    rw [e, aAll_1]
    refine (h.a1 r ⟨c.val - 128, by omega⟩).trans ?_
    unfold out
    simp only [Nat.mul_zero, show 2 * 1 + (c.val - 128) / 64 = c.val / 64 by omega, show 128 * 1 + (c.val - 128) = c.val by omega]
  · have e : (ix2 r c : S128x384.Idx) = ra2.idx (ix2 r (⟨c.val - 256, by omega⟩ : Fin 128)) := by
      funext a; apply Fin.ext; fin_cases a
      · show r.val = 0 + 1 * r.val; omega
      · show c.val = 256 + 1 * (c.val - 256); omega
    rw [e, aAll_2]
    refine (h.a2 r ⟨c.val - 256, by omega⟩).trans ?_
    unfold out
    simp only [Nat.mul_zero, show 2 * 2 + (c.val - 256) / 64 = c.val / 64 by omega, show 128 * 2 + (c.val - 256) = c.val by omega]

end Cert.Val

end
-- ==== Proof.Val.Ref.lean ====
/-
  The reference's result at an index.
-/
module

public import proofs.«01_k».proof.Proof.Gen.ReferenceIdeal.Run
public import proofs.«01_k».proof.Proof.Val.Math
public import proofs.«01_k».proof.Proof.Val.Words

@[expose] public section

noncomputable section

namespace Cert.Val.Ref

open Cert.ReferenceIdeal Cert.ReferenceIdeal.Gen Cert.ReferenceIdeal.Value
open Idealize.ShloMosaic Idealize.ShloMosaic.TcCoe

abbrev Arg := FVec Ideal S2x8192x6x64 .f32
abbrev Sq := FVec Ideal S2x6x8192x8192 .f32

/-- The array of zeros. -/
def zeros : Sq := broadcastInDim S2x6x8192x8192 ![] bcast_S_S2x6x8192x8192 (constant S_ .f32 0x00000000#32)
/-- Keys before the query's position. -/
def mask : IVec S2x6x8192x8192 1 := broadcastInDim S2x6x8192x8192 ![2, 3] bcast_S8192x8192_S2x6x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- The scores. -/
def sc (q k : Arg) : Sq := mulf (Host.dotGeneral dot_S2x8192x6x64_S2x8192x6x64_S2x6x8192x8192_3_3_1_1_02_02 none q k) (broadcastInDim S2x6x8192x8192 ![] bcast_S_S2x6x8192x8192 (constant S_ .f32 0x3E000000#32))
/-- Minus the softplus. -/
def msp (x : Sq) : Sq := Host.negf (select (cmpf .une (subf x zeros) (subf x zeros)) (addf x zeros) (addf (maximumf x zeros) (Host.log1p (Host.exp (Host.negf (Host.absf (subf x zeros)))))))
/-- The log decays, masked. -/
def lkeep (q k : Arg) : Sq := select mask (msp (Host.negf (Host.negf (sc q k)))) (broadcastInDim S2x6x8192x8192 ![] bcast_S_S2x6x8192x8192 (id (constant S_ .f32 0x00000000#32)))
/-- The sums of the decays from each key on. -/
def rsum (x : Sq) : Sq := Host.reduceWindowAdd ![1, 1, 1, 8192] ![1, 1, 1, 1] ![0, 0, 0, 0] ![0, 0, 0, 8191] x (broadcastInDim S_ ![] bcast_S_S_ (constant S_ .f32 0x00000000#32)) reduceWindows_S2x6x8192x8192_S2x6x8192x8192_w1s1p0_0_w1s1p0_0_w1s1p0_0_w8192s1p0_8191 h_S_
/-- The weights. -/
def wts (q k : Arg) : Sq := select mask (Host.exp (addf (msp (Host.negf (sc q k))) (subf (rsum (lkeep q k)) (lkeep q k)))) (broadcastInDim S2x6x8192x8192 ![] bcast_S_S2x6x8192x8192 (id (constant S_ .f32 0x00000000#32)))
/-- The result. -/
def res (q k v : Arg) : FVec Ideal S16384x384 .bf16 :=
  truncf .bf16 (shapeCast S16384x384 (transpose S2x8192x6x64 [0, 3, 1, 2] (Host.dotGeneral dot_S2x8192x6x64_S2x6x8192x8192_S2x6x64x8192_1_3_3_2_02_01 none v (wts q k)) transposes_S2x6x64x8192_S2x8192x6x64_0_3_1_2) shapeCasts_S2x8192x6x64_S16384x384) bitsLt_bf16_f32

theorem res_eq (m : (ℓ : Loc nD τ sig) → Buf (Elt Ideal) ℓ) (c : Dev nD) : res_main_v21 (F := Ideal) m c
    = res (m ((c.tc : Thread nD τ).loc main_arg0)) (m ((c.tc : Thread nD τ).loc main_arg1)) (m ((c.tc : Thread nD τ).loc main_arg2)) := rfl

theorem zeros_at (b : Fin 2) (h : Fin 6) (t s : Fin 8192) : zeros (ix4 b h t s) = 0 := by
  pointwise [zeros]

theorem mask_at (b : Fin 2) (h : Fin 6) (t s : Fin 8192) : mask (ix4 b h t s) = if s.val < t.val then 1#1 else 0#1 := by
  pointwise [mask]
  exact slt_word _ _ (by omega) (by omega)

theorem sc_at (q k : Arg) (b : Fin 2) (h : Fin 6) (t s : Fin 8192) : sc q k (ix4 b h t s)
    = (∑ d : Fin 64, q (ix4 b t h d) * k (ix4 b s h d)) * Ideal.ofBits .f32 0x3E000000#32 := by
  pointwise [sc]

theorem msp_at (x : Sq) (b : Fin 2) (h : Fin 6) (t s : Fin 8192) : msp x (ix4 b h t s)
    = -(max (x (ix4 b h t s)) 0 + Ideal.log1p (Ideal.exp (-(max (x (ix4 b h t s)) (-(x (ix4 b h t s))))))) := by
  pointwise [msp, zeros_at]
  rw [if_neg (fun h => h rfl)]
  rfl

theorem lkeep_at (q k : Arg) (b : Fin 2) (h : Fin 6) (t s : Fin 8192) : lkeep q k (ix4 b h t s)
    = if s.val < t.val then msp (Host.negf (Host.negf (sc q k))) (ix4 b h t s) else 0 := by
  pointwise [lkeep, mask_at, id_eq]
  rw [select_ite]

/-- Adding up a list from a start. -/
theorem foldl_add {ι : Type} (g : ι → EReal) : ∀ (l : List ι) (a : EReal), l.foldl (fun r n => r + g n) a = a + (l.map g).sum
  | [], a => by simp
  | n :: l, a => by rw [List.foldl_cons, foldl_add g l, List.map_cons, List.sum_cons, add_assoc]

/-- The running sum from the end, at an index: the sum of the entries from it on. -/
theorem rsum_at (x : Sq) (b : Fin 2) (h : Fin 6) (t s : Fin 8192) (g : ℕ → EReal) (hg : ∀ s : Fin 8192, x (ix4 b h t s) = g s.val) :
    rsum x (ix4 b h t s) = ∑ s' ∈ Finset.Ico s.val 8192, g s' := by
  have hz : broadcastInDim S_ ![] bcast_S_S_ (constant (F := Ideal) S_ .f32 0x00000000#32) (Shape.Idx.first h_S_) = 0 := by
    show Ideal.ofBits .f32 0x00000000#32 = 0
    exact Ideal.ofBits_zero_f32
  unfold rsum Host.reduceWindowAdd
  rw [hz, Ideal.hostReduceWindowAdd_def]
  unfold Ideal.hostReduceWindowAdd Host.reduceWindow
  dsimp only
  rw [foldl_add, zero_add, ← Fin.sum_univ_def]
  have hN : (⟨4, ![1, 1, 1, 8192]⟩ : Shape).numel = 8192 := by
    exact Fin.prod_univ_four _
  have hN2 : ∀ f : ℕ → EReal, ∑ n : Fin (⟨4, ![1, 1, 1, 8192]⟩ : Shape).numel, f n.val = ∑ n ∈ Finset.range 8192, f n := by
    intro f
    have e : ∀ N, N = 8192 → ∑ n : Fin N, f n.val = ∑ n ∈ Finset.range 8192, f n := by
      rintro _ rfl; exact (Finset.sum_range f).symm
    exact e _ hN
  have key : ∀ n : Fin (⟨4, ![1, 1, 1, 8192]⟩ : Shape).numel,
      ((⟨4, ![1, 1, 1, 8192]⟩ : Shape).rowMajor.symm n 0).val = 0 ∧ ((⟨4, ![1, 1, 1, 8192]⟩ : Shape).rowMajor.symm n 1).val = 0
      ∧ ((⟨4, ![1, 1, 1, 8192]⟩ : Shape).rowMajor.symm n 2).val = 0 ∧ ((⟨4, ![1, 1, 1, 8192]⟩ : Shape).rowMajor.symm n 3).val = n.val := by
    intro n
    have e := Shape.rowMajor_val_four ((⟨4, ![1, 1, 1, 8192]⟩ : Shape).rowMajor.symm n)
    rw [Equiv.apply_symm_apply] at e
    have h0 := ((⟨4, ![1, 1, 1, 8192]⟩ : Shape).rowMajor.symm n 0).isLt
    have h1 := ((⟨4, ![1, 1, 1, 8192]⟩ : Shape).rowMajor.symm n 1).isLt
    have h2 := ((⟨4, ![1, 1, 1, 8192]⟩ : Shape).rowMajor.symm n 2).isLt
    have h0 : ((⟨4, ![1, 1, 1, 8192]⟩ : Shape).rowMajor.symm n 0).val < 1 := h0
    have h1 : ((⟨4, ![1, 1, 1, 8192]⟩ : Shape).rowMajor.symm n 1).val < 1 := h1
    have h2 : ((⟨4, ![1, 1, 1, 8192]⟩ : Shape).rowMajor.symm n 2).val < 1 := h2
    refine ⟨by omega, by omega, by omega, ?_⟩
    have e : n.val = (((((⟨4, ![1, 1, 1, 8192]⟩ : Shape).rowMajor.symm n 0).val * 1 + ((⟨4, ![1, 1, 1, 8192]⟩ : Shape).rowMajor.symm n 1).val) * 1
      + ((⟨4, ![1, 1, 1, 8192]⟩ : Shape).rowMajor.symm n 2).val) * 8192 + ((⟨4, ![1, 1, 1, 8192]⟩ : Shape).rowMajor.symm n 3).val) := e
    omega
  refine (Finset.sum_congr (g := fun n : Fin (⟨4, ![1, 1, 1, 8192]⟩ : Shape).numel => if s.val + n.val < 8192 then g (s.val + n.val) else 0) rfl fun n _ => ?_).trans ?_
  · obtain ⟨k0, k1, k2, k3⟩ := key n
    have hb := b.isLt
    have hh := h.isLt
    have ht := t.isLt
    split
    · next hin =>
      have h3 : 0 ≤ s.val * 1 + ((⟨4, ![1, 1, 1, 8192]⟩ : Shape).rowMajor.symm n 3).val ∧ s.val * 1 + ((⟨4, ![1, 1, 1, 8192]⟩ : Shape).rowMajor.symm n 3).val - 0 < 8192 := hin 3
      rw [k3] at h3
      rw [if_pos (by omega)]
      refine (congrArg x (funext fun a => Fin.ext ?_)).trans (hg ⟨s.val + n.val, by omega⟩)
      match a with
      | ⟨0, _⟩ => show b.val * 1 + ((⟨4, ![1, 1, 1, 8192]⟩ : Shape).rowMajor.symm n 0).val - 0 = b.val; omega
      | ⟨1, _⟩ => show h.val * 1 + ((⟨4, ![1, 1, 1, 8192]⟩ : Shape).rowMajor.symm n 1).val - 0 = h.val; omega
      | ⟨2, _⟩ => show t.val * 1 + ((⟨4, ![1, 1, 1, 8192]⟩ : Shape).rowMajor.symm n 2).val - 0 = t.val; omega
      | ⟨3, _⟩ => show s.val * 1 + ((⟨4, ![1, 1, 1, 8192]⟩ : Shape).rowMajor.symm n 3).val - 0 = s.val + n.val; omega
    · next hin =>
      rw [if_neg fun hle => hin fun a => by
        match a with
        | ⟨0, _⟩ => show 0 ≤ b.val * 1 + ((⟨4, ![1, 1, 1, 8192]⟩ : Shape).rowMajor.symm n 0).val ∧ b.val * 1 + ((⟨4, ![1, 1, 1, 8192]⟩ : Shape).rowMajor.symm n 0).val - 0 < 2; omega
        | ⟨1, _⟩ => show 0 ≤ h.val * 1 + ((⟨4, ![1, 1, 1, 8192]⟩ : Shape).rowMajor.symm n 1).val ∧ h.val * 1 + ((⟨4, ![1, 1, 1, 8192]⟩ : Shape).rowMajor.symm n 1).val - 0 < 6; omega
        | ⟨2, _⟩ => show 0 ≤ t.val * 1 + ((⟨4, ![1, 1, 1, 8192]⟩ : Shape).rowMajor.symm n 2).val ∧ t.val * 1 + ((⟨4, ![1, 1, 1, 8192]⟩ : Shape).rowMajor.symm n 2).val - 0 < 8192; omega
        | ⟨3, _⟩ => show 0 ≤ s.val * 1 + ((⟨4, ![1, 1, 1, 8192]⟩ : Shape).rowMajor.symm n 3).val ∧ s.val * 1 + ((⟨4, ![1, 1, 1, 8192]⟩ : Shape).rowMajor.symm n 3).val - 0 < 8192; omega]
  · rw [hN2 (fun n => if s.val + n < 8192 then g (s.val + n) else 0), ← Finset.sum_filter]
    have hs := s.isLt
    refine Finset.sum_nbij' (fun n => s.val + n) (fun a => a - s.val) ?_ ?_ ?_ ?_ ?_ <;>
      simp only [Finset.mem_filter, Finset.mem_range, Finset.mem_Ico] <;> intro a ha
    · omega
    · omega
    · omega
    · omega
    · trivial

theorem wts_at (q k : Arg) (b : Fin 2) (h : Fin 6) (t s : Fin 8192) : wts q k (ix4 b h t s)
    = if s.val < t.val then Ideal.exp (msp (Host.negf (sc q k)) (ix4 b h t s) + (rsum (lkeep q k) (ix4 b h t s) - lkeep q k (ix4 b h t s))) else 0 := by
  pointwise [wts, mask_at, id_eq]
  rw [select_ite]

theorem res_at (q k v : Arg) (r : Fin 16384) (c : Fin 384) : res q k v (ix2 r c)
    = ∑ s : Fin 8192, v (ix4 ⟨r.val / 8192, by omega⟩ s ⟨c.val / 64, by omega⟩ ⟨c.val % 64, by omega⟩)
      * wts q k (ix4 ⟨r.val / 8192, by omega⟩ ⟨c.val / 64, by omega⟩ ⟨r.val % 8192, by omega⟩ s) := by
  pointwise [res]

/-- An argument's entry as a real number, by batch, position and channel. -/
def ent (q : Arg) (b : Fin 2) (t c : ℕ) : ℝ := if h : t < 8192 ∧ c < 384 then (q (ix4 b ⟨t, h.1⟩ ⟨c / 64, by omega⟩ ⟨c % 64, by omega⟩)).toReal else 0
/-- The same as an extended real. -/
def entE (v : Arg) (b : Fin 2) (c t : ℕ) : EReal := if h : t < 8192 ∧ c < 384 then v (ix4 b ⟨t, h.1⟩ ⟨c / 64, by omega⟩ ⟨c % 64, by omega⟩) else 0

/-- Every entry is a real number. -/
def Fin4 (q : Arg) : Prop := ∀ i, q i ≠ ⊤ ∧ q i ≠ ⊥

theorem ent_at {q : Arg} (hq : Fin4 q) (b : Fin 2) (t : Fin 8192) (h : Fin 6) (d : Fin 64) (c : ℕ) (hc : c = 64 * h.val + d.val) :
    q (ix4 b t h d) = ((ent q b t.val c : ℝ) : EReal) := by
  subst hc
  unfold ent
  rw [dif_pos ⟨t.isLt, by omega⟩]
  have e : (ix4 b ⟨t.val, t.isLt⟩ ⟨(64 * h.val + d.val) / 64, by omega⟩ ⟨(64 * h.val + d.val) % 64, by omega⟩ : S2x8192x6x64.Idx) = ix4 b t h d := by
    congr 1 <;> apply Fin.ext <;> dsimp only <;> omega
  rw [e, EReal.coe_toReal (hq _).1 (hq _).2]

theorem eighth : Ideal.ofBits .f32 0x3E000000#32 = ((1 / 8 : ℝ) : EReal) := by
  simp [Ideal.ofBits, Ideal.ieee, -EReal.coe_mul]; norm_num

/-- The scores of the arguments, the scale with the queries. -/
def Zof (q k : Arg) (b : Fin 2) (h t s : ℕ) : ℝ := score (fun t c => ent q b t c * (1 / 8)) (ent k b) h t s

section
variable {q k : Arg} (hq : Fin4 q) (hk : Fin4 k) (b : Fin 2) (h : Fin 6) (t s : Fin 8192)
include hq hk

theorem sc_val : sc q k (ix4 b h t s) = ((Zof q k b h.val t.val s.val : ℝ) : EReal) := by
  rw [sc_at, eighth]
  have e : ∀ d : Fin 64, q (ix4 b t h d) * k (ix4 b s h d)
      = ((ent q b t.val (64 * h.val + d.val) * ent k b s.val (64 * h.val + d.val) : ℝ) : EReal) := fun d => by
    rw [ent_at hq b t h d _ rfl, ent_at hk b s h d _ rfl, ← EReal.coe_mul]
  simp only [e]
  rw [coe_sum, ← EReal.coe_mul]
  congr 1
  unfold Zof score
  rw [Finset.sum_range, Finset.sum_mul]
  exact Finset.sum_congr rfl fun d _ => by ring

theorem lb_val : msp (Host.negf (sc q k)) (ix4 b h t s) = ((L (Zof q k b h.val t.val s.val) : ℝ) : EReal) := by
  have e : Host.negf (sc q k) (ix4 b h t s) = ((-(Zof q k b h.val t.val s.val) : ℝ) : EReal) := by
    show -(sc q k (ix4 b h t s)) = _
    rw [sc_val hq hk, EReal.coe_neg]
  rw [msp_at, e, softplus_real, neg_neg]

theorem lk_val : lkeep q k (ix4 b h t s) = ((LK (Zof q k b h.val t.val) t.val s.val : ℝ) : EReal) := by
  have e : Host.negf (Host.negf (sc q k)) (ix4 b h t s) = ((Zof q k b h.val t.val s.val : ℝ) : EReal) := by
    show -(-(sc q k (ix4 b h t s))) = _
    rw [sc_val hq hk, neg_neg]
  rw [lkeep_at, msp_at, e, softplus_real]
  unfold LK
  split <;> simp

theorem wts_val : wts q k (ix4 b h t s) = ((W (Zof q k b h.val t.val) t.val s.val : ℝ) : EReal) := by
  rw [wts_at, lb_val hq hk, lk_val hq hk, rsum_at _ b h t s (fun s => ((LK (Zof q k b h.val t.val) t.val s : ℝ) : EReal)) (fun s => lk_val hq hk b h t s),
    coe_sum, ← EReal.coe_sub, ← EReal.coe_add, Ideal.exp_coe, Finset.sum_eq_sum_Ico_succ_bot s.isLt, add_sub_cancel_left]
  unfold W Af
  split <;> simp

end

/-- The reference's result: the attention of each head, at each position and channel. -/
theorem res_val {q k v : Arg} (hq : Fin4 q) (hk : Fin4 k) (r : Fin 16384) (c : Fin 384) : res q k v (ix2 r c)
    = out (Zof q k ⟨r.val / 8192, by omega⟩ (c.val / 64) (r.val % 8192)) (r.val % 8192) (entE v ⟨r.val / 8192, by omega⟩ c.val) := by
  rw [res_at]
  unfold out
  rw [← Finset.range_eq_Ico, Finset.sum_range]
  refine Finset.sum_congr rfl fun s _ => ?_
  rw [wts_val hq hk, mul_comm]
  unfold entE
  rw [dif_pos ⟨s.isLt, c.isLt⟩]

end Cert.Val.Ref

end
-- ==== Proof.Val.Arr.lean ====
/-
  The kernel's windows and its result array, from the arguments.
-/
module

public import proofs.«01_k».proof.Proof.KI.Run
public import proofs.«01_k».proof.Proof.Val.Block
public import proofs.«01_k».proof.Proof.Val.Ref
public import Idealize.ShloMosaic.Lib.Pipeline.Value
public import Idealize.ShloMosaic.Lib.StableHlo.Run

@[expose] public section

noncomputable section

namespace Cert.Val

open Cert.KernelIdeal Cert.KernelIdeal.Gen Cert.KernelIdeal.Att
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The queries as launched. -/
def aq : Ref.Arg := m ((c.tc : Thread nD τ).loc main_arg0)
/-- The keys as launched. -/
def ak : Ref.Arg := m ((c.tc : Thread nD τ).loc main_arg1)
/-- The values as launched. -/
def av : Ref.Arg := m ((c.tc : Thread nD τ).loc main_arg2)

/-- The scaled queries. -/
def hQ (q : Ref.Arg) : FVec Ideal S16384x384 .bf16 :=
  truncf .bf16 (mulf (shapeCast S16384x384 q shapeCasts_S2x8192x6x64_S16384x384) (broadcastInDim S16384x384 ![] bcast_S_S16384x384 (constant S_ .f32 0x3E000000#32))) bitsLt_bf16_f32
/-- The keys, or the values, channels first. -/
def hK (k : Ref.Arg) : FVec Ideal S2x384x8192 .bf16 :=
  truncf .bf16 (transpose S2x384x8192 [0, 2, 1] (shapeCast S2x8192x384 k shapeCasts_S2x8192x6x64_S2x8192x384) transposes_S2x8192x384_S2x384x8192_0_2_1) bitsLt_bf16_f32
/-- The constant that sums decays. -/
def hC : FVec Ideal S128x256 .bf16 :=
  concatenate S128x256 1 [⟨S128x128, broadcastInDim S128x128 ![] bcast_S_S128x128 (constant S_ .bf16 0x3F80#16)⟩,
    ⟨S128x128, uitofp .bf16 (cmpi .sgt (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))⟩]
    concatenates_S128x128_S128x128_S128x256_d1

theorem V_q : V m c main_v3 = hQ (aq m c) := by
  unfold V
  after_results_simp
  rfl
theorem V_k : V m c main_v6 = hK (ak m c) := by
  unfold V
  after_results_simp
  rfl
theorem V_v : V m c main_v9 = hK (av m c) := by
  unfold V
  after_results_simp
  rfl
theorem V_c : V m c main_v18 = hC := by
  unfold V
  after_results_simp
  rfl

theorem hQ_at (q : Ref.Arg) (r : Fin 16384) (ch : Fin 384) : hQ q (ix2 r ch)
    = q (ix4 ⟨r.val / 8192, by omega⟩ ⟨r.val % 8192, by omega⟩ ⟨ch.val / 64, by omega⟩ ⟨ch.val % 64, by omega⟩) * Ideal.ofBits .f32 0x3E000000#32 := by
  pointwise [hQ]
theorem hK_at (q : Ref.Arg) (b : Fin 2) (ch : Fin 384) (s : Fin 8192) : hK q (ix3 b ch s)
    = q (ix4 b s ⟨ch.val / 64, by omega⟩ ⟨ch.val % 64, by omega⟩) := by
  pointwise [hK]
theorem hC_at (y : Fin 128) (x : Fin 256) : hC (ix2 y x) = if x.val < 128 then 1 else if x.val - 128 < y.val then 1 else 0 := by
  pointwise [hC]
  by_cases h : x.val < 128
  · rw [dif_pos h, if_pos h]
  · rw [dif_neg h, if_neg h]
    have e : IntOp.cmpi .sgt (BitVec.ofNat 32 y.val) (BitVec.ofNat 32 (x.val - 128)) = if x.val - 128 < y.val then 1#1 else 0#1 :=
      slt_word _ _ (by omega) (by omega)
    rw [e]
    split
    · show (((1#1 : BitVec 1).toNat : ℝ) : EReal) = 1
      simp
    · show (((0#1 : BitVec 1).toNat : ℝ) : EReal) = 0
      simp

theorem hC_cum : IsCum hC := by
  constructor
  · intro y x
    rw [hC_at, if_pos x.isLt]
  · intro y x
    rw [hC_at, if_neg (by dsimp only; omega)]
    simp only [Nat.add_sub_cancel_left]

theorem idx0 : ∀ t : Fin grid0.N, win0_0.index t (0 : Fin 2) = t.val ∧ win0_0.index t (1 : Fin 2) = 0 := by decide +kernel
theorem idx1 : ∀ t : Fin grid0.N, win0_1.index t (0 : Fin 3) = t.val / 64 ∧ win0_1.index t (1 : Fin 3) = 0 ∧ win0_1.index t (2 : Fin 3) = 0 := by decide +kernel
theorem idx2 : ∀ t : Fin grid0.N, win0_2.index t (0 : Fin 3) = t.val / 64 ∧ win0_2.index t (1 : Fin 3) = 0 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val ∧ win0_4.index t (1 : Fin 2) = 0 := by decide +kernel
theorem coord1 : ∀ t : Fin grid0.N, (grid0.coords t 1).val = t.val % 64 := by decide +kernel
theorem grid_N : grid0.N = 128 := by decide +kernel

/-- The batch of a point. -/
def bt (t : Fin (cfg0 (F := Ideal)).N) : Fin 2 := ⟨t.val / 64, by have h : t.val < grid0.N := t.isLt; rw [grid_N] at h; omega⟩

theorem lt_N (t : Fin (cfg0 (F := Ideal)).N) : t.val < 128 := by have h : t.val < grid0.N := t.isLt; rwa [grid_N] at h

theorem emb0 (t : Fin (cfg0 (F := Ideal)).N) (r : Fin 128) (ch : Fin 384) :
    (((cfg0 (F := Ideal)).win 0).blk t).view.emb (ix2 r ch) = (ix2 ⟨128 * t.val + r.val, by have := lt_N t; omega⟩ ch : S16384x384.Idx) := by
  obtain ⟨e0, e1⟩ := idx0 t
  funext a; apply Fin.ext
  match a with
  | ⟨0, _⟩ => show win0_0.index t (0 : Fin 2) * 128 + 1 * r.val = 128 * t.val + r.val; omega
  | ⟨1, _⟩ => show win0_0.index t (1 : Fin 2) * 384 + 1 * ch.val = ch.val; omega

theorem emb1 (t : Fin (cfg0 (F := Ideal)).N) (ch : Fin 384) (s : Fin 8192) :
    (((cfg0 (F := Ideal)).win 1).blk t).view.emb (ix3 0 ch s) = (ix3 (bt t) ch s : S2x384x8192.Idx) := by
  obtain ⟨e0, e1, e2⟩ := idx1 t
  funext a; apply Fin.ext
  match a with
  | ⟨0, _⟩ => show win0_1.index t (0 : Fin 3) * 1 + 1 * 0 = t.val / 64; omega
  | ⟨1, _⟩ => show win0_1.index t (1 : Fin 3) * 384 + 1 * ch.val = ch.val; omega
  | ⟨2, _⟩ => show win0_1.index t (2 : Fin 3) * 8192 + 1 * s.val = s.val; omega

theorem emb2 (t : Fin (cfg0 (F := Ideal)).N) (ch : Fin 384) (s : Fin 8192) :
    (((cfg0 (F := Ideal)).win 2).blk t).view.emb (ix3 0 ch s) = (ix3 (bt t) ch s : S2x384x8192.Idx) := by
  obtain ⟨e0, e1, e2⟩ := idx2 t
  funext a; apply Fin.ext
  match a with
  | ⟨0, _⟩ => show win0_2.index t (0 : Fin 3) * 1 + 1 * 0 = t.val / 64; omega
  | ⟨1, _⟩ => show win0_2.index t (1 : Fin 3) * 384 + 1 * ch.val = ch.val; omega
  | ⟨2, _⟩ => show win0_2.index t (2 : Fin 3) * 8192 + 1 * s.val = s.val; omega

theorem emb3 (t : Fin (cfg0 (F := Ideal)).N) (j : S128x256.Idx) : (((cfg0 (F := Ideal)).win 3).blk t).view.emb j = j := by
  obtain ⟨e0, e1⟩ := idx3 t
  funext a; apply Fin.ext
  match a with
  | ⟨0, _⟩ => show win0_3.index t (0 : Fin 2) * 128 + 1 * (j 0).val = (j 0).val; omega
  | ⟨1, _⟩ => show win0_3.index t (1 : Fin 2) * 256 + 1 * (j 1).val = (j 1).val; omega

theorem emb4 (t : Fin (cfg0 (F := Ideal)).N) (r : Fin 128) (ch : Fin 384) :
    (((cfg0 (F := Ideal)).win 4).blk t).view.emb (ix2 r ch) = (ix2 ⟨128 * t.val + r.val, by have := lt_N t; omega⟩ ch : S16384x384.Idx) := by
  obtain ⟨e0, e1⟩ := idx4 t
  funext a; apply Fin.ext
  match a with
  | ⟨0, _⟩ => show win0_4.index t (0 : Fin 2) * 128 + 1 * r.val = 128 * t.val + r.val; omega
  | ⟨1, _⟩ => show win0_4.index t (1 : Fin 2) * 384 + 1 * ch.val = ch.val; omega

section
variable {m c} (hq : Ref.Fin4 (aq m c)) (hk : Ref.Fin4 (ak m c)) (t : Fin (cfg0 (F := Ideal)).N)

include hq in
theorem is_q : IsQ (fun p ch => Ref.ent (aq m c) (bt t) p ch * (1 / 8)) (t.val % 64) (iblk m c 0 t) := by
  intro r ch
  show V m c main_v3 ((((cfg0 (F := Ideal)).win 0).blk t).view.emb (ix2 r ch)) = _
  have := lt_N t
  rw [emb0, V_q, hQ_at, Ref.eighth, Ref.ent_at hq _ _ _ _ ch.val (by dsimp only; omega), ← EReal.coe_mul]
  congr 3
  · apply Fin.ext; show (128 * t.val + r.val) / 8192 = t.val / 64; omega
  · dsimp only; omega

include hk in
theorem is_k : IsK (Ref.ent (ak m c) (bt t)) (iblk m c 1 t) := by
  intro ch s
  show V m c main_v6 ((((cfg0 (F := Ideal)).win 1).blk t).view.emb (ix3 0 ch s)) = _
  rw [emb1, V_k, hK_at, Ref.ent_at hk _ _ _ _ ch.val (by dsimp only; omega)]

theorem is_v : IsV (Ref.entE (av m c) (bt t)) (iblk m c 2 t) := by
  intro ch s
  show V m c main_v9 ((((cfg0 (F := Ideal)).win 2).blk t).view.emb (ix3 0 ch s)) = _
  rw [emb2, V_v, hK_at]
  unfold Ref.entE
  rw [dif_pos ⟨s.isLt, ch.isLt⟩]

theorem is_c : IsCum (iblk m c 3 t) := by
  have e : iblk m c 3 t = hC := by
    funext j
    show V m c main_v18 ((((cfg0 (F := Ideal)).win 3).blk t).view.emb j) = _
    rw [emb3, V_c]
  rw [e]
  exact hC_cum

include hq hk in
/-- A point's output block is its block of the reference's result. -/
theorem out_block (r : Fin 128) (ch : Fin 384) : outAt m c t (ix2 r ch)
    = Ref.res (aq m c) (ak m c) (av m c) (ix2 ⟨128 * t.val + r.val, by have := lt_N t; omega⟩ ch) := by
  have := lt_N t
  unfold outAt
  rw [coord1 t, bout_at (is_q hq t) (is_c t) (is_k hk t) (is_v t) (by omega), Ref.res_val hq hk]
  have e1 : (⟨(128 * t.val + r.val) / 8192, by omega⟩ : Fin 2) = bt t := by
    apply Fin.ext; show (128 * t.val + r.val) / 8192 = t.val / 64; omega
  have e2 : (128 * t.val + r.val) % 8192 = 128 * (t.val % 64) + r.val := by omega
  dsimp only
  rw [e1, e2]
  rfl

include hq hk in
theorem flushed4 : (dats m 0 c).flushed 4 t = (((cfg0 (F := Ideal)).win 4).blk t).view.read (Elt Ideal) (Ref.res (aq m c) (ak m c) (av m c)) := by
  show ((cfg0 (F := Ideal)).win 4).cut (grid0.coords t) ((dats m 0 c).after 4 t) = _
  rw [after0_4]
  funext j
  show outAt m c t j = Ref.res (aq m c) (ak m c) (av m c) ((((cfg0 (F := Ideal)).win 4).blk t).view.emb j)
  have e : j = (ix2 (j 0) (j 1) : S128x384.Idx) := by
    funext a; fin_cases a <;> rfl
  rw [e]
  exact (out_block hq hk t (j 0) (j 1)).trans (congrArg _ (emb4 t (j 0) (j 1)).symm)

theorem covered4 (i : S16384x384.Idx) :
    ∃ t : Fin (cfg0 (F := Ideal)).N, ((cfg0 (F := Ideal)).win 4).flush t = true ∧ i ∈ (((cfg0 (F := Ideal)).win 4).blk t).view.set := by
  have h0 : (i 0).val < 16384 := (i 0).isLt
  have hN : (i 0).val / 128 < grid0.N := by rw [grid_N]; omega
  refine ⟨⟨(i 0).val / 128, hN⟩, flush0_4 _, ?_⟩
  have h := (((cfg0 (F := Ideal)).win 4).blk ⟨(i 0).val / 128, hN⟩).view.emb_mem_set (ix2 (⟨(i 0).val % 128, by omega⟩ : Fin 128) (i 1) : S128x384.Idx)
  have e : (((cfg0 (F := Ideal)).win 4).blk ⟨(i 0).val / 128, hN⟩).view.emb (ix2 (⟨(i 0).val % 128, by omega⟩ : Fin 128) (i 1) : S128x384.Idx) = i := by
    refine (emb4 _ _ _).trans ?_
    funext a; apply Fin.ext
    match a with
    | ⟨0, _⟩ => show 128 * ((i 0).val / 128) + (i 0).val % 128 = (i 0).val; omega
    | ⟨1, _⟩ => rfl
  rw [e] at h
  exact h

include hq hk in
/-- The result array after the run. -/
theorem final4 : (dats m 0 c).arrAt 4 (cfg0 (F := Ideal)).N = Ref.res (aq m c) (ak m c) (av m c) :=
  (dats m 0 c).arrAt_eq_of_cover 4 (Ref.res (aq m c) (ak m c) (av m c)) (fun t _ => flushed4 hq hk t) covered4

end

/-- The run: the result is the reference's function of the arguments. -/
theorem run (h : ∀ c, Ref.Fin4 (aq m c) ∧ Ref.Fin4 (ak m c)) : θ_run (defs (F := Ideal)) (onTc (τ := τ) (main (F := Ideal))) ⟨m, fun _ => 0, ρ⟩ (fun r => ∀ c : Dev nD,
      r.2.mem ((c.tc : Thread nD τ).loc main_v19) = Ref.res (aq m c) (ak m c) (av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ⟨?_, ?_, ?_, ?_⟩) (run_main m ρ)
  · exact ((hr.1 c).1 4).trans (final4 (h c).1 (h c).2)
  · exact ((hr.1 c).2 main_arg0 (rest_mem _ (.inl rfl))).trans (V_arg m c _ (.inl rfl))
  · exact ((hr.1 c).2 main_arg1 (rest_mem _ (.inr (.inl rfl)))).trans (V_arg m c _ (.inr (.inl rfl)))
  · exact ((hr.1 c).2 main_arg2 (rest_mem _ (.inr (.inr rfl)))).trans (V_arg m c _ (.inr (.inr rfl)))

end Cert.Val

end
-- ==== Proof.Algebraic.lean ====
/-
  Finite queries and keys from the precondition, and the value claim.
-/
module

public import proofs.«01_k».proof.Proof.Claims
public import proofs.«01_k».proof.Proof.Val.Arr
public import Idealize.ShloMosaic.Lib.ReduceAll

@[expose] public section

noncomputable section

namespace Cert.Proof.Value

open Idealize.ShloMosaic Idealize.ShloMosaic.TcCoe Idealize.SL.Sem
open Cert.Proof.Frames Cert.Val

attribute [local instance] Cert.Kernel.Gen.facts Cert.KernelIdeal.Gen.facts Cert.ReferenceIdeal.Gen.facts pre_facts

instance : Subsingleton Cert.Pre_finite.S_.Idx := ⟨fun a b => funext fun i => i.elim0⟩

/-- An absolute value below the infinite pattern is a real number's. -/
theorem finite_of_lt (x : EReal) (h : Ideal.cmp .olt (max x (-x)) (Ideal.ofBits .f32 0x7F800000#32) = 1#1) : x ≠ ⊤ ∧ x ≠ ⊥ := by
  have e : Ideal.ofBits .f32 0x7F800000#32 = ⊤ := by
    simp [Ideal.ofBits, Ideal.ieee]
  rw [e] at h
  constructor
  · rintro rfl
    simp [Ideal.cmp] at h
  · rintro rfl
    simp [Ideal.cmp] at h

/-- The precondition makes every query and every key a real number. -/
theorem finite_args (q k v : FVec Ideal Cert.Pre_finite.S2x8192x6x64 .f32) (h : Cert.Pre_finite.fn q k v = fun _ => 1#1) : Ref.Fin4 q ∧ Ref.Fin4 k := by
  have h1 := congrFun h (fun a => a.elim0)
  unfold Cert.Pre_finite.fn at h1
  obtain ⟨ha, hb⟩ := IntOp.andi_eq_one.1 h1
  exact ⟨fun i => finite_of_lt _ (Host.reduce_andi_all _ _ _ _ _ ha i), fun i => finite_of_lt _ (Host.reduce_andi_all _ _ _ _ _ hb i)⟩

/-- With real queries and keys the kernel's result and the reference's are equal. -/
theorem algebraic : Cert.algebraic_KernelIdeal_ReferenceIdeal_pre_finite := by
  intro m ρ m' ρ' hpre hagree
  have hf : ∀ c, Ref.Fin4 (aq m c) ∧ Ref.Fin4 (ak m c) := fun c => finite_args _ _ _ (hpre c)
  refine ⟨_, Cert.Val.run m ρ hf, ?_⟩
  refine (θ_run Cert.ReferenceIdeal.defs _ _).mono (fun _ h c => ⟨(h c).1.trans ?_, (h c).2⟩) (Cert.ReferenceIdeal.Value.run (F := Ideal) m' ρ')
  obtain ⟨e0, e1, e2⟩ := hagree c
  rw [Ref.res_eq, e0, e1, e2]
  rfl

end Cert.Proof.Value

end
-- ==== Proof.Moe.TopTwo.lean ====
/-
  The two greatest of eight scores: the masked maxima with their first positions, and the first two positions of a stable
  sort, are the same two.
-/
module

public import proofs.«01_k».proof.Defs
public import Idealize.ShloMosaic.Lib.SortPrefix
public import Idealize.ShloMosaic.Lib.SortFacts
public import Idealize.ShloMosaic.Lib.Pointwise

@[expose] public section

noncomputable section

open Idealize.ShloMosaic

namespace Cert.Moe

/-- `a` is the first greatest position, and `b` the first greatest of the others. -/
structure IsTop (l : Fin 8 → EReal) (a b : Fin 8) : Prop where
  ne : b ≠ a
  first : ∀ j, l j ≤ l a ∧ (l j = l a → a ≤ j)
  second : ∀ j, j ≠ a → l j ≤ l b ∧ (l j = l b → b ≤ j)

/-- A nonempty set of positions has a first greatest one. -/
theorem exists_first (l : Fin 8 → EReal) (s : Finset (Fin 8)) (hs : s.Nonempty) :
    ∃ a ∈ s, ∀ j ∈ s, l j ≤ l a ∧ (l j = l a → a ≤ j) := by
  obtain ⟨m, hm, hmax⟩ := s.exists_max_image l hs
  have ht : (s.filter fun j => l j = l m).Nonempty := ⟨m, Finset.mem_filter.2 ⟨hm, rfl⟩⟩
  obtain ⟨a, ha, hmin⟩ := (s.filter fun j => l j = l m).exists_min_image id ht
  obtain ⟨has, hal⟩ := Finset.mem_filter.1 ha
  exact ⟨a, has, fun j hj => ⟨hal ▸ hmax j hj, fun e => hmin j (Finset.mem_filter.2 ⟨hj, e.trans hal⟩)⟩⟩

/-- The two greatest exist. -/
theorem exists_isTop (l : Fin 8 → EReal) : ∃ a b, IsTop l a b := by
  obtain ⟨a, -, ha⟩ := exists_first l Finset.univ Finset.univ_nonempty
  obtain ⟨b, hb, hb'⟩ := exists_first l (Finset.univ.erase a) ⟨a + 1, Finset.mem_erase.2 ⟨(by decide : ∀ a : Fin 8, a + 1 ≠ a) a, Finset.mem_univ _⟩⟩
  exact ⟨a, b, (Finset.mem_erase.1 hb).1, fun j => ha j (Finset.mem_univ _), fun j hj => hb' j (Finset.mem_erase.2 ⟨hj, Finset.mem_univ _⟩)⟩

/-- An insertion asks the comparator only about the listed positions. -/
theorem insertBefore_congr {ι : Type} (B B' : ι → ι → Bool) (a : ι) : ∀ l : List ι, (∀ b ∈ l, B b a = B' b a) →
    insertBefore B a l = insertBefore B' a l
  | [], _ => rfl
  | b :: l, h => by
    unfold insertBefore
    rw [h b List.mem_cons_self, insertBefore_congr B B' a l fun c hc => h c (List.mem_cons_of_mem _ hc)]

/-- A stable sort of an increasing list asks the comparator only whether a later position is before an earlier one. -/
theorem stableSort_congr {n : Nat} (B B' : Fin n → Fin n → Bool) (h : ∀ a b : Fin n, a < b → B b a = B' b a) :
    ∀ l : List (Fin n), l.Pairwise (· < ·) → stableSort B l = stableSort B' l
  | [], _ => rfl
  | a :: l, hl => by
    obtain ⟨h1, h2⟩ := List.pairwise_cons.1 hl
    unfold stableSort
    rw [stableSort_congr B B' h l h2]
    exact insertBefore_congr B B' a _ fun b hb => h a b (h1 b ((perm_stableSort B' l).mem_iff.1 hb))

theorem sortedFrom_congr {n : Nat} (B B' : Fin n → Fin n → Bool) (h : ∀ a b : Fin n, a < b → B b a = B' b a) :
    sortedFrom B = sortedFrom B' := by
  have e : sortPositions n B = sortPositions n B' := stableSort_congr B B' h _ (List.pairwise_lt_finRange n)
  funext k
  unfold sortedFrom
  simp only [List.get_eq_getElem, e]
  rfl

/-- The first two positions of the sort by greater score are the two greatest. -/
theorem sortedFrom_top {l : Fin 8 → EReal} {a b : Fin 8} (h : IsTop l a b) :
    sortedFrom (fun k k' : Fin 8 => decide (l k' < l k)) 0 = a ∧ sortedFrom (fun k k' : Fin 8 => decide (l k' < l k)) 1 = b := by
  have hc : sortedFrom (fun k k' : Fin 8 => decide (l k' < l k))
      = sortedFrom fun k k' : Fin 8 => (fun x y : EReal => decide (y < x)) (l k) (l k') || (decide (l k = l k') && decide (k < k')) := by
    refine sortedFrom_congr _ _ fun p q hpq => ?_
    have : decide (q < p) = false := decide_eq_false (not_lt.2 hpq.le)
    simp only [this, Bool.and_false, Bool.or_false]
  have hB := StrictTotalBefore.of_key_then_position (fun x y : EReal => decide (y < x)) l
    (fun x => by simp) (fun x y z hxy hyz => by simp only [decide_eq_true_eq] at *; exact hyz.trans hxy)
    (fun x y => by simp only [decide_eq_true_eq]; rcases lt_trichotomy x y with h | h | h
                   · exact .inr (.inr h)
                   · exact .inr (.inl h)
                   · exact .inl h)
  have off : ∀ p q : Fin 8, l p ≤ l q → (l p = l q → q ≤ p) →
      ((fun x y : EReal => decide (y < x)) (l p) (l q) || (decide (l p = l q) && decide (p < q))) = false := by
    intro p q h1 h2
    simp only [Bool.or_eq_false_iff, Bool.and_eq_false_iff, decide_eq_false_iff_not, not_lt]
    refine ⟨h1, ?_⟩
    by_cases e : l p = l q
    · exact .inr (h2 e)
    · exact .inl e
  have key := hB.sortedFrom_eq_of_prefix (k := 2) (by decide) ![a, b]
    (by
      intro i j hij
      fin_cases i <;> fin_cases j
      · rfl
      · exact absurd hij.symm h.ne
      · exact absurd hij h.ne
      · rfl)
    (by
      intro i j hij
      fin_cases i <;> fin_cases j
      · exact absurd hij (lt_irrefl _)
      · exact off b a (h.first b).1 (h.first b).2
      · exact absurd hij (by decide)
      · exact absurd hij (lt_irrefl _))
    (by
      intro i p hp
      have hpa : p ≠ a := fun e => hp 0 e.symm
      fin_cases i
      · exact off p a (h.first p).1 (h.first p).2
      · exact off p b (h.second p hpa).1 (h.second p hpa).2)
  rw [hc]
  exact ⟨key 0, key 1⟩

/-- A maximum over a range, from an entry that bounds them all. -/
theorem fold_max_eq {n : Nat} {s : EReal} {f : Fin n → EReal} {k : Fin n} (hs : s ≤ f k) (h : ∀ j, f j ≤ f k) :
    Finset.fold max s f Finset.univ = f k :=
  le_antisymm ((Finset.fold_max_le _).2 ⟨hs, fun j _ => h j⟩) ((Finset.le_fold_max _).2 (.inr ⟨k, Finset.mem_univ _, le_rfl⟩))

/-- A minimum over a range, from an entry that bounds them all. -/
theorem fold_min_eq {n : Nat} {s : EReal} {f : Fin n → EReal} {k : Fin n} (hs : f k ≤ s) (h : ∀ j, f k ≤ f j) :
    Finset.fold min s f Finset.univ = f k :=
  le_antisymm ((Finset.fold_min_le _).2 (.inr ⟨k, Finset.mem_univ _, le_rfl⟩)) ((Finset.le_fold_min _).2 ⟨hs, fun j _ => h j⟩)

/-- The scores, in 128 columns: `-∞` past the eighth. -/
def pad (l : Fin 8 → EReal) (n : Fin 128) : EReal := if h : n.val < 8 then l ⟨n.val, h⟩ else ⊥

/-- The column of one expert. -/
def ecol (e : Fin 8) : Fin 128 := ⟨e.val, lt_trans e.isLt (by decide)⟩

theorem pad_ecol (l : Fin 8 → EReal) (e : Fin 8) : pad l (ecol e) = l e := dif_pos e.isLt

theorem ecol_inj {e e' : Fin 8} (h : ecol e = ecol e') : e = e' := Fin.ext (congrArg (fun x : Fin 128 => x.val) h)

/-- A column's number. -/
def num (n : Fin 128) : EReal := ((n.val : ℝ) : EReal)

theorem num_inj {a b : Fin 128} : num a = num b ↔ a = b := by
  unfold num
  rw [EReal.coe_eq_coe_iff, Nat.cast_inj, Fin.ext_iff]

theorem num_le {a b : Fin 128} : num a ≤ num b ↔ a.val ≤ b.val := by
  unfold num
  rw [EReal.coe_le_coe_iff, Nat.cast_le]

theorem num_le_128 (a : Fin 128) : num a ≤ ((128 : ℝ) : EReal) := by
  unfold num
  rw [EReal.coe_le_coe_iff]
  exact_mod_cast a.isLt.le

section
variable {l : Fin 8 → EReal} {a b : Fin 8} (h : IsTop l a b) (hl : ∀ j, ⊥ < l j)

include h in
/-- The maximum of the columns. -/
theorem max_one : Finset.fold max ⊥ (pad l) Finset.univ = l a := by
  rw [← pad_ecol l a]
  refine fold_max_eq bot_le fun j => ?_
  rw [pad_ecol]
  unfold pad
  split
  · exact (h.first _).1
  · exact bot_le

include h hl in
/-- Its first position. -/
theorem pos_one : Finset.fold min ⊤ (fun x => if pad l x = l a then num x else ((128 : ℝ) : EReal)) Finset.univ = num (ecol a) := by
  have e : (if pad l (ecol a) = l a then num (ecol a) else ((128 : ℝ) : EReal)) = num (ecol a) := if_pos (pad_ecol l a)
  conv_rhs => rw [← e]
  refine fold_min_eq le_top fun j => ?_
  rw [e]
  split
  · next hj =>
    unfold pad at hj
    split at hj
    · exact num_le.2 ((h.first _).2 hj)
    · exact absurd hj (hl a).ne
  · exact num_le_128 _

/-- The columns without the greatest. -/
def rest (l : Fin 8 → EReal) (a : Fin 8) (x : Fin 128) : EReal := if num x = num (ecol a) then ⊥ else pad l x

include h in
/-- The maximum of the rest. -/
theorem max_two : Finset.fold max ⊥ (rest l a) Finset.univ = l b := by
  have e : rest l a (ecol b) = l b := by
    unfold rest
    rw [if_neg fun e => h.ne (ecol_inj (num_inj.1 e)), pad_ecol]
  rw [← e]
  refine fold_max_eq bot_le fun j => ?_
  rw [e]
  unfold rest
  split
  · exact bot_le
  · next hj =>
    unfold pad
    split
    · next hj8 => exact (h.second _ fun e => hj (num_inj.2 (Fin.ext (congrArg (fun x : Fin 8 => x.val) e)))).1
    · exact bot_le

include h hl in
/-- Its first position. -/
theorem pos_two : Finset.fold min ⊤ (fun x => if rest l a x = l b then num x else ((128 : ℝ) : EReal)) Finset.univ = num (ecol b) := by
  have e0 : rest l a (ecol b) = l b := by
    unfold rest
    rw [if_neg fun e => h.ne (ecol_inj (num_inj.1 e)), pad_ecol]
  have e : (if rest l a (ecol b) = l b then num (ecol b) else ((128 : ℝ) : EReal)) = num (ecol b) := if_pos e0
  conv_rhs => rw [← e]
  refine fold_min_eq le_top fun j => ?_
  rw [e]
  split
  · next hj =>
    unfold rest at hj
    split at hj
    · exact absurd hj (hl b).ne
    · next hja =>
      unfold pad at hj
      split at hj
      · next hj8 => exact num_le.2 ((h.second _ fun e => hja (num_inj.2 (Fin.ext (congrArg (fun x : Fin 8 => x.val) e)))).2 hj)
      · exact absurd hj (hl b).ne
  · exact num_le_128 _

end

end Cert.Moe

end
-- ==== Proof.Moe.Spec.lean ====
/-
  One row of the experts' layer, over the extended reals: both programs' rows are brought to this form.
-/
module

public import proofs.«01_k».proof.Proof.Moe.TopTwo
public import proofs.«01_k».proof.Proof.Val.Math

@[expose] public section

noncomputable section

open Idealize.ShloMosaic

namespace Cert.Moe

/-- Three slabs side by side. -/
def cat (oa ob : Fin 384 → EReal) (oc : Fin 256 → EReal) (k : Fin 1024) : EReal :=
  if h : k.val < 384 then oa ⟨k.val, h⟩
  else if h' : k.val - 384 < 384 then ob ⟨k.val - 384, h'⟩ else oc ⟨k.val - 384 - 384, by omega⟩

/-- The residual row. -/
def hRow (x : Fin 1024 → EReal) (o : Fin 1024 → EReal) (w : Fin 1024 → Fin 1024 → EReal) (n : Fin 1024) : EReal :=
  x n + ∑ k : Fin 1024, o k * w k n

/-- The normed row. -/
def nRow (h g : Fin 1024 → EReal) (n : Fin 1024) : EReal :=
  h n * Ideal.rsqrt (Ideal.div (∑ k, h k * h k) (Ideal.ofBits .f32 0x44800000#32) + Ideal.ofBits .f32 0x358637BD#32) * g n

/-- The scores. -/
def lRow (nn : Fin 1024 → EReal) (wr : Fin 1024 → Fin 8 → EReal) (e : Fin 8) : EReal := ∑ k, nn k * wr k e

/-- One expert's product. -/
def fRow (nn : Fin 1024 → EReal) (wg wu wd : Fin 1024 → Fin 1024 → EReal) (n : Fin 1024) : EReal :=
  ∑ j : Fin 1024, (∑ k, nn k * wg k j) * Ideal.logistic (∑ k, nn k * wg k j) * (∑ k, nn k * wu k j) * wd j n

/-- The gate of one expert, when `a` and `b` are the two greatest. -/
def gateOf (l : Fin 8 → EReal) (a b e : Fin 8) : EReal :=
  (if e = a then Ideal.div 1 (1 + Ideal.exp (l b - l a)) else 0)
    + if e = b then Ideal.div (Ideal.exp (l b - l a)) (1 + Ideal.exp (l b - l a)) else 0

/-- The result's row: the residual plus the gated products. -/
def outRow (h : Fin 1024 → EReal) (gt : Fin 8 → EReal) (f : Fin 8 → Fin 1024 → EReal) (n : Fin 1024) : EReal :=
  h n + ∑ e : Fin 8, gt e * f e n

/-- A sum over 1024 columns is the sum over the first `a` and the other `b`. -/
theorem sum_split {N a b : ℕ} (hN : a + b = N) (f : Fin N → EReal) :
    ∑ k, f k = (∑ k : Fin a, f ⟨k.val, by omega⟩) + ∑ k : Fin b, f ⟨a + k.val, by omega⟩ := by
  subst hN
  exact Fin.sum_univ_add f

/-- The residual row from the three slabs' own products. -/
theorem hRow_slabs (x : Fin 1024 → EReal) (oa ob : Fin 384 → EReal) (oc : Fin 256 → EReal) (w : Fin 1024 → Fin 1024 → EReal) (n : Fin 1024) :
    x n + (∑ k : Fin 384, oa k * w ⟨k.val, by omega⟩ n) + (∑ k : Fin 384, ob k * w ⟨384 + k.val, by omega⟩ n)
      + (∑ k : Fin 256, oc k * w ⟨768 + k.val, by omega⟩ n) = hRow x (cat oa ob oc) w n := by
  unfold hRow
  rw [sum_split (a := 384) (b := 640) rfl, sum_split (N := 640) (a := 384) (b := 256) rfl, ← add_assoc, ← add_assoc]
  congr 1

/-- A sum over 1024 columns in four parts, paired. -/
theorem sum_four (f : Fin 1024 → EReal) :
    ∑ k, f k = (∑ k : Fin 256, f ⟨k.val, by omega⟩) + (∑ k : Fin 256, f ⟨256 + k.val, by omega⟩)
      + (∑ k : Fin 256, f ⟨512 + k.val, by omega⟩) + ∑ k : Fin 256, f ⟨768 + k.val, by omega⟩ := by
  rw [sum_split (a := 256) (b := 768) rfl, sum_split (N := 768) (a := 256) (b := 512) rfl, sum_split (N := 512) (a := 256) (b := 256) rfl,
    ← add_assoc, ← add_assoc]
  congr 1

/-! ## Real numbers -/

/-- A real number's value. -/
def IsReal (x : EReal) : Prop := ∃ r : ℝ, x = (r : EReal)

theorem IsReal.of_ne {x : EReal} (h : x ≠ ⊤ ∧ x ≠ ⊥) : IsReal x := ⟨x.toReal, (EReal.coe_toReal h.1 h.2).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, rfl⟩

theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

theorem IsReal.bot_lt {x : EReal} (h : IsReal x) : ⊥ < x := by
  obtain ⟨r, rfl⟩ := h; exact EReal.bot_lt_coe r

theorem IsReal.sub_self {x : EReal} (h : IsReal x) : x - x = 0 := by
  obtain ⟨r, rfl⟩ := h
  rw [← EReal.coe_sub, _root_.sub_self]; rfl

/-- The width of a row. -/
theorem width : Ideal.ofBits .f32 0x44800000#32 = ((1024 : ℝ) : EReal) := by
  simp [Ideal.ofBits, Ideal.ieee]
  rw [← EReal.coe_mul]
  norm_num

/-- The stabiliser is a positive real. -/
theorem eps : ∃ r : ℝ, 0 < r ∧ Ideal.ofBits .f32 0x358637BD#32 = (r : EReal) := by
  refine ⟨_, ?_, by simp [Ideal.ofBits, Ideal.ieee]; rfl⟩
  positivity

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- A normed row of a real gain is real, whatever the residual. -/
theorem nRow_real (h g : Fin 1024 → EReal) (hg : ∀ k, IsReal (g k)) (n : Fin 1024) : IsReal (nRow h g n) := by
  obtain ⟨ε, hε, he⟩ := eps
  unfold nRow
  refine IsReal.mul ?_ (hg n)
  rw [width, he]
  by_cases hr : ∀ k, IsReal (h k)
  · choose r hr using hr
    have hs : ∑ k, h k * h k = ((∑ k, r k * r k : ℝ) : EReal) := by
      rw [← Val.coe_sum]
      exact Finset.sum_congr rfl fun k _ => by rw [hr k, EReal.coe_mul]
    have hpos : 0 ≤ ∑ k, r k * r k := Finset.sum_nonneg fun k _ => mul_self_nonneg _
    have hp : 0 < (∑ k, r k * r k) * (1024 : ℝ)⁻¹ + ε := by positivity
    rw [hs]
    refine IsReal.mul ⟨r n, hr n⟩ ?_
    unfold Ideal.div
    rw [if_neg (by exact_mod_cast (by norm_num : (1024 : ℝ) ≠ 0)), ← EReal.coe_inv, ← EReal.coe_mul, ← EReal.coe_add]
    unfold Ideal.rsqrt
    exact ⟨_, by
      show (if _ < (0 : ℝ) then (⊥ : EReal) else if _ = (0 : ℝ) then ⊤ else _) = _
      rw [if_neg (not_lt.2 hp.le), if_neg hp.ne']⟩
  · obtain ⟨k, hk⟩ := not_forall.1 hr
    have htop : h k * h k = ⊤ := by
      revert hk
      induction h k with
      | bot => intro _; exact EReal.bot_mul_bot
      | top => intro _; exact EReal.top_mul_top
      | coe r => intro hk; exact absurd ⟨r, rfl⟩ hk
    have hs : ∑ k, h k * h k = ⊤ := by
      refine top_le_iff.1 ?_
      rw [← htop]
      exact Finset.single_le_sum (f := fun k => h k * h k) (fun i _ => sq_nonneg' (h i)) (Finset.mem_univ k)
    rw [hs]
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [hd, EReal.top_add_coe]
    show IsReal (h n * 0)
    rw [mul_zero]
    exact IsReal.zero

/-- The scores of a real router are real. -/
theorem lRow_real (h g : Fin 1024 → EReal) (wr : Fin 1024 → Fin 8 → EReal) (hg : ∀ k, IsReal (g k)) (hw : ∀ k e, IsReal (wr k e)) (e : Fin 8) :
    IsReal (lRow (nRow h g) wr e) :=
  IsReal.sum _ _ fun k => (nRow_real h g hg k).mul (hw k e)

end Cert.Moe

end
-- ==== Proof.Moe.Ref.lean ====
/-
  The experts' reference at an index.
-/
module

public import proofs.«01_k».proof.Proof.Gen.Reference2Ideal.Run
public import proofs.«01_k».proof.Proof.Moe.Spec
public import Idealize.ShloMosaic.Lib.Pointwise
public import proofs.«01_k».proof.Proof.Val.Words

@[expose] public section

noncomputable section

namespace Cert.Moe.Ref

open Cert.Reference2Ideal Cert.Reference2Ideal.Gen Cert.Reference2Ideal.Value
open Idealize.ShloMosaic Idealize.ShloMosaic.TcCoe

abbrev Rows := FVec Ideal S2x8192x1024 .f32
abbrev Slab := FVec Ideal S8x1024x1024 .f32

/-- The residual rows. -/
def yv (x : Rows) (oa ob : FVec Ideal S2x8192x384 .f32) (oc : FVec Ideal S2x8192x256 .f32) (w : FVec Ideal S1024x1024 .f32) : Rows :=
  addf x (Host.dotGeneral dot_S2x8192x1024_S1024x1024_S2x8192x1024_2_0_01_1_n_n none (concatenate S2x8192x1024 2 [⟨S2x8192x384, oa⟩, ⟨S2x8192x384, ob⟩, ⟨S2x8192x256, oc⟩] concatenates_S2x8192x384_S2x8192x384_S2x8192x256_S2x8192x1024_d2) w)

/-- The normed rows. -/
def nv (h : Rows) (g : FVec Ideal S1024 .f32) : Rows :=
  mulf (mulf h (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf h h) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The scores. -/
def lg (n : Rows) (wr : FVec Ideal S1024x8 .f32) : FVec Ideal S2x8192x8 .f32 := Host.dotGeneral dot_S2x8192x1024_S1024x8_S2x8192x8_2_0_01_1_n_n none n wr

/-- The two greatest scores. -/
def tv (l : FVec Ideal S2x8192x8 .f32) : FVec Ideal S2x8192x2 .f32 := (Host.topK S2x8192x2 2 (FloatOps.cmpfTotal .gt) l sliceFits_S2x8192x8_S2x8192x2).1
/-- Their positions. -/
def ti (l : FVec Ideal S2x8192x8 .f32) : IVec S2x8192x2 32 := (Host.topK S2x8192x2 2 (FloatOps.cmpfTotal .gt) l sliceFits_S2x8192x8_S2x8192x2).2

/-- The exponentials. -/
def ev (v : FVec Ideal S2x8192x2 .f32) : FVec Ideal S2x8192x2 .f32 :=
  Host.exp (subf v (broadcastInDim S2x8192x2 ![0, 1, 2] bcast_S2x8192x1_S2x8192x2_0_1_2 (broadcastInDim S2x8192x1 ![0, 1] bcast_S2x8192_S2x8192x1_0_1 (maximumf (broadcastInDim S2x8192 ![] bcast_S_S2x8192 (constant S_ .f32 0xFF800000#32)) (Host.reduce FloatOps.maximumf v (constant S_ .f32 0xFF800000#32) reducesTo_S2x8192x2_S2x8192_d2 h_S_)))))

/-- The softmax. -/
def pv (e : FVec Ideal S2x8192x2 .f32) : FVec Ideal S2x8192x2 .f32 :=
  Host.divf e (broadcastInDim S2x8192x2 ![0, 1, 2] bcast_S2x8192x1_S2x8192x2_0_1_2 (broadcastInDim S2x8192x1 ![0, 1] bcast_S2x8192_S2x8192x1_0_1 (Host.reduceAdd e (constant S_ .f32 0x00000000#32) reducesTo_S2x8192x2_S2x8192_d2 h_S_)))

/-- The gates from positions and weights. -/
def gv (i : IVec S2x8192x2 32) (p : FVec Ideal S2x8192x2 .f32) : FVec Ideal S2x8192x8 .f32 :=
  Host.reduceAdd (mulf (uitofp .f32 (cmpi .eq (broadcastInDim S2x8192x2x8 ![0, 1, 2, 3] bcast_S2x8192x2x1_S2x8192x2x8_0_1_2_3 (broadcastInDim S2x8192x2x1 ![0, 1, 2] bcast_S2x8192x2_S2x8192x2x1_0_1_2 i)) (broadcastInDim S2x8192x2x8 ![0, 1, 2, 3] bcast_S1x1x1x8_S2x8192x2x8_0_1_2_3 (iotaInDim S1x1x1x8 32 3)))) (broadcastInDim S2x8192x2x8 ![0, 1, 2, 3] bcast_S2x8192x2x1_S2x8192x2x8_0_1_2_3 (broadcastInDim S2x8192x2x1 ![0, 1, 2] bcast_S2x8192x2_S2x8192x2x1_0_1_2 p))) (constant S_ .f32 0x00000000#32) reducesTo_S2x8192x2x8_S2x8192x8_d2 h_S_

/-- The gates. -/
def cv (l : FVec Ideal S2x8192x8 .f32) : FVec Ideal S2x8192x8 .f32 := gv (ti l) (pv (ev (tv l)))

/-- One expert's matrix. -/
def wv (e : ℕ) (h : S8x1024x1024.Slices ![e, 0, 0] S1x1024x1024) (w : Slab) : FVec Ideal S1024x1024 .f32 :=
  shapeCast _ (extractStridedSlice S1x1024x1024 ![e, 0, 0] w h) shapeCasts_S1x1024x1024_S1024x1024

/-- A product with one expert's matrix. -/
def dv (n : Rows) (w : FVec Ideal S1024x1024 .f32) : Rows := Host.dotGeneral dot_S2x8192x1024_S1024x1024_S2x8192x1024_2_0_01_1_n_n none n w

/-- `silu a * b`. -/
def av (a b : Rows) : Rows :=
  mulf (mulf a (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf a))))) b

/-- A column of the gates against a product. -/
def tvv (e : ℕ) (h : S2x8192x8.Slices ![0, 0, e] S2x8192x1) (c : FVec Ideal S2x8192x8 .f32) (d : Rows) : Rows :=
  mulf (broadcastInDim S2x8192x1024 ![0, 1, 2] bcast_S2x8192x1_S2x8192x1024_0_1_2 (extractStridedSlice S2x8192x1 ![0, 0, e] c h)) d

/-- One expert's gated product. -/
def xv (e : ℕ) (h : S8x1024x1024.Slices ![e, 0, 0] S1x1024x1024) (h' : S2x8192x8.Slices ![0, 0, e] S2x8192x1) (n : Rows) (c : FVec Ideal S2x8192x8 .f32) (wg wu wd : Slab) : Rows :=
  tvv e h' c (dv (av (dv n (wv e h wg)) (dv n (wv e h wu))) (wv e h wd))

/-- The experts' sum. -/
def sv (n : Rows) (c : FVec Ideal S2x8192x8 .f32) (wg wu wd : Slab) : Rows :=
  addf (addf (addf (addf (addf (addf (addf (addf (broadcastInDim S2x8192x1024 ![] bcast_S_S2x8192x1024 (constant S_ .f32 0x00000000#32))
    (xv 0 slices_S8x1024x1024_S1x1024x1024_0_0_0 slices_S2x8192x8_S2x8192x1_0_0_0 n c wg wu wd))
    (xv 1 slices_S8x1024x1024_S1x1024x1024_1_0_0 slices_S2x8192x8_S2x8192x1_0_0_1 n c wg wu wd))
    (xv 2 slices_S8x1024x1024_S1x1024x1024_2_0_0 slices_S2x8192x8_S2x8192x1_0_0_2 n c wg wu wd))
    (xv 3 slices_S8x1024x1024_S1x1024x1024_3_0_0 slices_S2x8192x8_S2x8192x1_0_0_3 n c wg wu wd))
    (xv 4 slices_S8x1024x1024_S1x1024x1024_4_0_0 slices_S2x8192x8_S2x8192x1_0_0_4 n c wg wu wd))
    (xv 5 slices_S8x1024x1024_S1x1024x1024_5_0_0 slices_S2x8192x8_S2x8192x1_0_0_5 n c wg wu wd))
    (xv 6 slices_S8x1024x1024_S1x1024x1024_6_0_0 slices_S2x8192x8_S2x8192x1_0_0_6 n c wg wu wd))
    (xv 7 slices_S8x1024x1024_S1x1024x1024_7_0_0 slices_S2x8192x8_S2x8192x1_0_0_7 n c wg wu wd)

/-- The result from the residual rows. -/
def rv (y : Rows) (g : FVec Ideal S1024 .f32) (wr : FVec Ideal S1024x8 .f32) (wg wu wd : Slab) : FVec Ideal S16384x1024 .f32 :=
  shapeCast _ (addf y (sv (nv y g) (cv (lg (nv y g) wr)) wg wu wd)) shapeCasts_S2x8192x1024_S16384x1024

/-- A row of an array of rows. -/
def row {k : ℕ} (x : FVec Ideal ⟨3, ![2, 8192, k]⟩ .f32) (b : Fin 2) (s : Fin 8192) (n : Fin k) : EReal := x (ix3 b s n)
/-- A matrix by its coordinates. -/
def mat {p q : ℕ} (w : FVec Ideal ⟨2, ![p, q]⟩ .f32) (k : Fin p) (n : Fin q) : EReal := w (ix2 k n)
/-- One expert's matrix by its coordinates. -/
def slab (w : Slab) (e : Fin 8) (k n : Fin 1024) : EReal := w (ix3 e k n)
/-- A vector by its coordinate. -/
def vec (g : FVec Ideal S1024 .f32) (n : Fin 1024) : EReal := g (ix1 n)

theorem yv_at (x : Rows) (oa ob : FVec Ideal S2x8192x384 .f32) (oc : FVec Ideal S2x8192x256 .f32) (w : FVec Ideal S1024x1024 .f32)
    (b : Fin 2) (s : Fin 8192) : row (yv x oa ob oc w) b s = hRow (row x b s) (cat (row oa b s) (row ob b s) (row oc b s)) (mat w) := by
  funext n
  unfold row hRow mat
  pointwise [yv]
  rfl

theorem nv_at (h : Rows) (g : FVec Ideal S1024 .f32) (b : Fin 2) (s : Fin 8192) : row (nv h g) b s = nRow (row h b s) (vec g) := by
  funext n
  unfold row nRow vec
  pointwise [nv]

theorem lg_at (n : Rows) (wr : FVec Ideal S1024x8 .f32) (b : Fin 2) (s : Fin 8192) : row (lg n wr) b s = lRow (row n b s) (mat wr) := by
  funext e
  unfold row lRow mat
  pointwise [lg]

/-- The sort that the two greatest come from asks for the greater score. -/
theorem order_eq (l : FVec Ideal S2x8192x8 .f32) (b : Fin 2) (s : Fin 8192) (j : S2x8192x8.Idx) (h0 : j 0 = b) (h1 : j 1 = s) :
    (fun k k' : Fin 8 => FloatOps.cmpfTotal (F := Ideal) (φ := .f32) .gt (l (j.along 2 k)) (l (j.along 2 k')) == 1#1)
      = fun k k' : Fin 8 => decide (row l b s k' < row l b s k) := by
  have e : ∀ k : Fin 8, (j.along 2 k : S2x8192x8.Idx) = ix3 b s k := by
    intro k
    subst h0 h1
    funext a
    fin_cases a <;> rfl
  funext k k'
  rw [e, e]
  show (BitVec.ofBool (decide (l (ix3 b s k') < l (ix3 b s k))) == 1#1) = decide (l (ix3 b s k') < l (ix3 b s k))
  cases decide (l (ix3 b s k') < l (ix3 b s k)) <;> rfl

/-- A sort's index along its last axis. -/
theorem along_eq (b : Fin 2) (s : Fin 8192) (m k : Fin 8) : ((ix3 b s m : S2x8192x8.Idx).along 2 k : S2x8192x8.Idx) = ix3 b s k := by
  funext a
  fin_cases a <;> rfl

/-- An entry of the two greatest, by the sort's position. -/
theorem tv_sorted (l : FVec Ideal S2x8192x8 .f32) (b : Fin 2) (s : Fin 8192) (m : Fin 2) (m' : Fin 8) (hm : m'.val = m.val) :
    tv l (ix3 b s m) = row l b s (sortedFrom (fun k k' : Fin 8 => decide (row l b s k' < row l b s k)) m') := by
  have key : ∀ J : S2x8192x8.Idx, J = ix3 b s m' →
      l (J.along 2 (sortedFrom (fun k k' : Fin 8 => FloatOps.cmpfTotal (F := Ideal) (φ := .f32) .gt (l (J.along 2 k)) (l (J.along 2 k')) == 1#1) (J 2)))
        = row l b s (sortedFrom (fun k k' : Fin 8 => decide (row l b s k' < row l b s k)) m') := by
    rintro _ rfl
    rw [order_eq l b s _ rfl rfl]
    exact congrArg l (along_eq b s m' _)
  refine key (fun a => ⟨0 + (ix3 b s m a).val, _⟩) ?_
  funext a
  apply Fin.ext
  match a with
  | ⟨0, _⟩ => exact Nat.zero_add _
  | ⟨1, _⟩ => exact Nat.zero_add _
  | ⟨2, _⟩ => exact (Nat.zero_add _).trans hm.symm

/-- A position of the two greatest, by the sort's position. -/
theorem ti_sorted (l : FVec Ideal S2x8192x8 .f32) (b : Fin 2) (s : Fin 8192) (m : Fin 2) (m' : Fin 8) (hm : m'.val = m.val) :
    ti l (ix3 b s m) = BitVec.ofNat 32 (sortedFrom (fun k k' : Fin 8 => decide (row l b s k' < row l b s k)) m').val := by
  have key : ∀ J : S2x8192x8.Idx, J = ix3 b s m' →
      BitVec.ofNat 32 ((J.along 2 (sortedFrom (fun k k' : Fin 8 => FloatOps.cmpfTotal (F := Ideal) (φ := .f32) .gt (l (J.along 2 k)) (l (J.along 2 k')) == 1#1) (J 2)) : S2x8192x8.Idx) 2).val
        = BitVec.ofNat 32 (sortedFrom (fun k k' : Fin 8 => decide (row l b s k' < row l b s k)) m').val := by
    rintro _ rfl
    rw [order_eq l b s _ rfl rfl]
    exact congrArg (fun J : S2x8192x8.Idx => BitVec.ofNat 32 (J 2).val) (along_eq b s m' _)
  refine key (fun a => ⟨0 + (ix3 b s m a).val, _⟩) ?_
  funext a
  apply Fin.ext
  match a with
  | ⟨0, _⟩ => exact Nat.zero_add _
  | ⟨1, _⟩ => exact Nat.zero_add _
  | ⟨2, _⟩ => exact (Nat.zero_add _).trans hm.symm

theorem tv_at {l : FVec Ideal S2x8192x8 .f32} {b : Fin 2} {s : Fin 8192} {p q : Fin 8} (h : IsTop (row l b s) p q) :
    tv l (ix3 b s 0) = row l b s p ∧ tv l (ix3 b s 1) = row l b s q := by
  obtain ⟨h0, h1⟩ := sortedFrom_top h
  rw [tv_sorted l b s 0 0 rfl, tv_sorted l b s 1 1 rfl, h0, h1]
  exact ⟨rfl, rfl⟩

theorem ti_at {l : FVec Ideal S2x8192x8 .f32} {b : Fin 2} {s : Fin 8192} {p q : Fin 8} (h : IsTop (row l b s) p q) :
    ti l (ix3 b s 0) = BitVec.ofNat 32 p.val ∧ ti l (ix3 b s 1) = BitVec.ofNat 32 q.val := by
  obtain ⟨h0, h1⟩ := sortedFrom_top h
  rw [ti_sorted l b s 0 0 rfl, ti_sorted l b s 1 1 rfl, h0, h1]
  exact ⟨rfl, rfl⟩

theorem neg_inf : Ideal.ofBits .f32 0xFF800000#32 = ⊥ := by
  simp [Ideal.ofBits, Ideal.ieee]

theorem ev_at (v : FVec Ideal S2x8192x2 .f32) (b : Fin 2) (s : Fin 8192) (n : Fin 2) (h : v (ix3 b s 1) ≤ v (ix3 b s 0)) :
    ev v (ix3 b s n) = Ideal.exp (v (ix3 b s n) - v (ix3 b s 0)) := by
  pointwise [ev]
  rw [neg_inf, fold_max_eq (k := (0 : Fin 2)) bot_le (fun j => by fin_cases j <;> [exact le_rfl; exact h]), max_eq_right bot_le]

theorem pv_at (v : FVec Ideal S2x8192x2 .f32) (b : Fin 2) (s : Fin 8192) (n : Fin 2) :
    pv v (ix3 b s n) = Ideal.div (v (ix3 b s n)) (v (ix3 b s 0) + v (ix3 b s 1)) := by
  pointwise [pv]
  rw [Fin.sum_univ_two]

/-- A position met, as a number, against a weight. -/
theorem hit (a e : Fin 8) (p : EReal) : FloatOps.uitofp (F := Ideal) FTy.f32 (IntOp.cmpi CmpIPredicate.eq (BitVec.ofNat 32 a.val) (BitVec.ofNat 32 e.val)) * p
    = if e = a then p else 0 := by
  have h : IntOp.cmpi CmpIPredicate.eq (BitVec.ofNat 32 a.val) (BitVec.ofNat 32 e.val) = if e = a then 1#1 else 0#1 := by
    revert a e; decide
  rw [h]
  split
  · show (((1#1 : BitVec 1).toNat : ℝ) : EReal) * p = p
    simp
  · show (((0#1 : BitVec 1).toNat : ℝ) : EReal) * p = 0
    simp

theorem gv_at (i : IVec S2x8192x2 32) (v : FVec Ideal S2x8192x2 .f32) (b : Fin 2) (s : Fin 8192) (e p q : Fin 8)
    (h0 : i (ix3 b s 0) = BitVec.ofNat 32 p.val) (h1 : i (ix3 b s 1) = BitVec.ofNat 32 q.val) :
    gv i v (ix3 b s e) = (if e = p then v (ix3 b s 0) else 0) + if e = q then v (ix3 b s 1) else 0 := by
  pointwise [gv]
  rw [Fin.sum_univ_two, h0, h1, hit, hit]

theorem exp_zero : Ideal.exp 0 = 1 := by
  show ((Real.exp 0 : ℝ) : EReal) = 1
  rw [Real.exp_zero]; rfl

/-- The gates are the two greatest scores' softmax. -/
theorem cv_at {l : FVec Ideal S2x8192x8 .f32} {b : Fin 2} {s : Fin 8192} {p q : Fin 8} (h : IsTop (row l b s) p q) (hp : IsReal (row l b s p)) :
    row (cv l) b s = gateOf (row l b s) p q := by
  obtain ⟨v0, v1⟩ := tv_at h
  obtain ⟨i0, i1⟩ := ti_at h
  have hle : tv l (ix3 b s 1) ≤ tv l (ix3 b s 0) := by rw [v0, v1]; exact (h.first q).1
  funext e
  show gv (ti l) (pv (ev (tv l))) (ix3 b s e) = _
  rw [gv_at _ _ _ _ _ _ _ i0 i1, pv_at, pv_at, ev_at _ _ _ _ hle, ev_at _ _ _ _ hle, v0, v1, hp.sub_self, exp_zero]
  rfl

theorem av_at (a b : Rows) (p : Fin 2) (s : Fin 8192) (n : Fin 1024) :
    av a b (ix3 p s n) = a (ix3 p s n) * Ideal.logistic (a (ix3 p s n)) * b (ix3 p s n) := by
  pointwise [av]
  rfl

theorem dv_at (a : Rows) (e : Fin 8) (h : S8x1024x1024.Slices ![e.val, 0, 0] S1x1024x1024) (w : Slab)
    (p : Fin 2) (s : Fin 8192) (n : Fin 1024) : dv a (wv e.val h w) (ix3 p s n) = ∑ k, row a p s k * slab w e k n := by
  pointwise [dv, wv]
  rfl

/-- One expert's gated product, at an index. -/
theorem xv_at (e : Fin 8) (h : S8x1024x1024.Slices ![e.val, 0, 0] S1x1024x1024) (h' : S2x8192x8.Slices ![0, 0, e.val] S2x8192x1) (nn : Rows) (c : FVec Ideal S2x8192x8 .f32) (wg wu wd : Slab)
    (p : Fin 2) (s : Fin 8192) (n : Fin 1024) :
    xv e.val h h' nn c wg wu wd (ix3 p s n) = row c p s e * fRow (row nn p s) (slab wg e) (slab wu e) (slab wd e) n := by
  have e1 : ∀ d : Rows, tvv e.val h' c d (ix3 p s n) = row c p s e * d (ix3 p s n) := by
    intro d
    pointwise [tvv]
    rfl
  unfold xv
  rw [e1, dv_at]
  congr 1
  unfold fRow
  refine Finset.sum_congr rfl fun j _ => ?_
  show av _ _ (ix3 p s j) * _ = _
  rw [av_at, dv_at, dv_at]

/-- The result, at an index. -/
theorem rv_at (y : Rows) (g : FVec Ideal S1024 .f32) (wr : FVec Ideal S1024x8 .f32) (wg wu wd : Slab) (r : Fin 16384) (n : Fin 1024) :
    rv y g wr wg wu wd (ix2 r n) = outRow (row y ⟨r.val / 8192, by omega⟩ ⟨r.val % 8192, by omega⟩)
      (row (cv (lg (nv y g) wr)) ⟨r.val / 8192, by omega⟩ ⟨r.val % 8192, by omega⟩)
      (fun e => fRow (nRow (row y ⟨r.val / 8192, by omega⟩ ⟨r.val % 8192, by omega⟩) (vec g)) (slab wg e) (slab wu e) (slab wd e)) n := by
  unfold rv sv outRow
  rw [← nv_at]
  generalize nv y g = nn
  generalize cv (lg nn wr) = c
  pointwise []
  rw [Fin.sum_univ_eight, ← xv_at 0 slices_S8x1024x1024_S1x1024x1024_0_0_0 slices_S2x8192x8_S2x8192x1_0_0_0,
    ← xv_at 1 slices_S8x1024x1024_S1x1024x1024_1_0_0 slices_S2x8192x8_S2x8192x1_0_0_1,
    ← xv_at 2 slices_S8x1024x1024_S1x1024x1024_2_0_0 slices_S2x8192x8_S2x8192x1_0_0_2,
    ← xv_at 3 slices_S8x1024x1024_S1x1024x1024_3_0_0 slices_S2x8192x8_S2x8192x1_0_0_3,
    ← xv_at 4 slices_S8x1024x1024_S1x1024x1024_4_0_0 slices_S2x8192x8_S2x8192x1_0_0_4,
    ← xv_at 5 slices_S8x1024x1024_S1x1024x1024_5_0_0 slices_S2x8192x8_S2x8192x1_0_0_5,
    ← xv_at 6 slices_S8x1024x1024_S1x1024x1024_6_0_0 slices_S2x8192x8_S2x8192x1_0_0_6,
    ← xv_at 7 slices_S8x1024x1024_S1x1024x1024_7_0_0 slices_S2x8192x8_S2x8192x1_0_0_7]
  rfl

end Cert.Moe.Ref

end
-- ==== Proof.Moe.Step.lean ====
/-
  What one grid point of the experts' call leaves in its carried arrays: the first point of a block of rows stores the
  residual, the normed rows, the eight gates and zeros; each point adds its expert's product, gated, to the running sum;
  the last one stores residual plus sum.
-/
module

public import proofs.«01_k».proof.Defs
public import proofs.«01_k».proof.Proof.Moe.TopTwo
public import proofs.«01_k».proof.Proof.Gen.Kernel2Ideal.Value
public import Idealize.ShloMosaic.Lib.Pipeline.Value
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Moe

open Cert.Kernel2Ideal Cert.Kernel2Ideal.Gen

local notation "F" => Ideal

theorem hz2 : (![0, 0] : Fin 2 → Nat) = fun _ => 0 := funext fun a => by fin_cases a <;> rfl
theorem hz3 : (![0, 0, 0] : Fin 3 → Nat) = fun _ => 0 := funext fun a => by fin_cases a <;> rfl

/-- One expert's product for a block of rows: four slices of 256 inner columns, summed in pairs. -/
def ffn (hn : Vec F S512x1024 .bf16) (x7 x8 x9 : Vec F S1x1024x1024 .bf16) : FVec F S512x1024 .f32 :=
  k0_pay33 hn
    (k0_pay30 hn
      (View.ld x7 (Rect.unit ![0, 0, 0] ![1, 1024, 256] inb_S1x1024x1024_S1x1024x256_0_0_0))
      (View.ld x8 (Rect.unit ![0, 0, 0] ![1, 1024, 256] inb_S1x1024x1024_S1x1024x256_0_0_0))
      (View.ld x9 (Rect.unit ![0, 0, 0] ![1, 256, 1024] inb_S1x1024x1024_S1x256x1024_0_0_0)))
    (k0_pay31 hn
      (View.ld x7 (Rect.unit ![0, 0, 256] ![1, 1024, 256] inb_S1x1024x1024_S1x1024x256_0_0_256))
      (View.ld x8 (Rect.unit ![0, 0, 256] ![1, 1024, 256] inb_S1x1024x1024_S1x1024x256_0_0_256)))
    (k0_pay32 (View.ld x9 (Rect.unit ![0, 256, 0] ![1, 256, 1024] inb_S1x1024x1024_S1x256x1024_0_256_0)))
    (constant S512x1024 FTy.f32 0#32)
    (View.ld x7 (Rect.unit ![0, 0, 512] ![1, 1024, 256] inb_S1x1024x1024_S1x1024x256_0_0_512))
    (View.ld x8 (Rect.unit ![0, 0, 512] ![1, 1024, 256] inb_S1x1024x1024_S1x1024x256_0_0_512))
    (View.ld x9 (Rect.unit ![0, 512, 0] ![1, 256, 1024] inb_S1x1024x1024_S1x256x1024_0_512_0))
    (View.ld x7 (Rect.unit ![0, 0, 768] ![1, 1024, 256] inb_S1x1024x1024_S1x1024x256_0_0_768))
    (View.ld x8 (Rect.unit ![0, 0, 768] ![1, 1024, 256] inb_S1x1024x1024_S1x1024x256_0_0_768))
    (View.ld x9 (Rect.unit ![0, 768, 0] ![1, 256, 1024] inb_S1x1024x1024_S1x256x1024_0_768_0))

/-- The lane group of a column: its gate is stored in every lane of the group. -/
def lane (j : S512x1024.Idx) : Fin 128 := ⟨(j 1).val % 128, Nat.mod_lt _ (by decide)⟩

/-- The running sum after one expert. -/
def acc (e : Fin 8) (hn : Vec F S512x1024 .bf16) (cb : Vec F S8x512x128 .f32) (a : Vec F S512x1024 .f32)
    (x7 x8 x9 : Vec F S1x1024x1024 .bf16) : Vec F S512x1024 .f32 :=
  fun y => a y + cb (ix3 e (y 0) (lane y)) * ffn hn x7 x8 x9 y

/-- The expert's number, read back from the word of its grid coordinate. -/
theorem expert_word (e : Fin 8) : BitVec.toNat (Scalar.indexCast (BitVec.ofNat 32 e.val)) = e.val := by
  revert e; decide

/-- A column of a group of 128 lanes. -/
def col (o : Nat) (ho : o + 128 ≤ 1024) (j : S512x128.Idx) : S512x1024.Idx :=
  ix2 (j 0) ⟨o + (j 1).val, Nat.lt_of_lt_of_le (Nat.add_lt_add_left (j 1).isLt o) ho⟩

theorem emb_col (o : Nat) (ho : o + 128 ≤ 1024) (inb) (j : S512x128.Idx) :
    (Rect.unit (s := S512x1024) ![0, o] ![512, 128] inb).emb j = col o ho j := by
  funext a; apply Fin.ext
  match a with
  | ⟨0, _⟩ => exact (Nat.zero_add _).trans (Nat.one_mul _)
  | ⟨1, _⟩ => exact congrArg (o + ·) (Nat.one_mul _)

theorem ld_col (o : Nat) (ho : o + 128 ≤ 1024) (inb) (a : Vec F S512x1024 .f32) (j : S512x128.Idx) :
    View.ld a (Rect.unit (s := S512x1024) ![0, o] ![512, 128] inb) j = a (col o ho j) :=
  congrArg a (emb_col o ho inb j)

theorem pay34_at (v : Vec F S1x512x128 .f32) (j : S512x128.Idx) : k0_pay34 v j = v (ix3 ⟨0, by decide⟩ (j 0) (j 1)) := by
  pointwise [k0_pay34]

/-- The gate that is loaded for one expert. -/
theorem gate_at (e : Fin 8) (inb) (cb : Vec F S8x512x128 .f32) (j : S512x128.Idx) :
    k0_pay34 (View.ld cb (Rect.unit (s := S8x512x128) ![BitVec.toNat (Scalar.indexCast (BitVec.ofNat 32 e.val)), 0, 0] ![1, 512, 128] inb)) j
      = cb (ix3 e (j 0) (j 1)) := by
  rw [pay34_at]
  refine congrArg cb ?_
  funext a; apply Fin.ext
  match a with
  | ⟨0, _⟩ => exact (Nat.add_zero _).trans (expert_word e)
  | ⟨1, _⟩ => exact (Nat.zero_add _).trans (Nat.one_mul _)
  | ⟨2, _⟩ => exact (Nat.zero_add _).trans (Nat.one_mul _)

theorem lane_col (o : Nat) (ho : o + 128 ≤ 1024) (hd : o % 128 = 0) (j : S512x128.Idx) : lane (col o ho j) = j 1 :=
  Fin.ext (by
    have h : (j 1).val < 128 := (j 1).isLt
    show (o + (j 1).val) % 128 = (j 1).val
    omega)

theorem pay35_at (f : FVec F S512x1024 .f32) (g v : FVec F S512x128 .f32) (j : S512x128.Idx) :
    k0_pay35 f g v j = v j + g j * f (col 0 (by omega) j) := by
  pointwise [k0_pay35, col]

theorem pay36_at (f : FVec F S512x1024 .f32) (g v : FVec F S512x128 .f32) (j : S512x128.Idx) :
    k0_pay36 f g v j = v j + g j * f (col 128 (by omega) j) := by
  pointwise [k0_pay36, col]

theorem pay37_at (f : FVec F S512x1024 .f32) (g v : FVec F S512x128 .f32) (j : S512x128.Idx) :
    k0_pay37 f g v j = v j + g j * f (col 256 (by omega) j) := by
  pointwise [k0_pay37, col]

theorem pay38_at (f : FVec F S512x1024 .f32) (g v : FVec F S512x128 .f32) (j : S512x128.Idx) :
    k0_pay38 f g v j = v j + g j * f (col 384 (by omega) j) := by
  pointwise [k0_pay38, col]

theorem pay39_at (f : FVec F S512x1024 .f32) (g v : FVec F S512x128 .f32) (j : S512x128.Idx) :
    k0_pay39 f g v j = v j + g j * f (col 512 (by omega) j) := by
  pointwise [k0_pay39, col]

theorem pay1_at (f : FVec F S512x1024 .f32) (g v : FVec F S512x128 .f32) (j : S512x128.Idx) :
    k0_pay1 f g v j = v j + g j * f (col 640 (by omega) j) := by
  pointwise [k0_pay1, col]

theorem pay2_at (f : FVec F S512x1024 .f32) (g v : FVec F S512x128 .f32) (j : S512x128.Idx) :
    k0_pay2 f g v j = v j + g j * f (col 768 (by omega) j) := by
  pointwise [k0_pay2, col]

theorem pay3_at (f : FVec F S512x1024 .f32) (g v : FVec F S512x128 .f32) (j : S512x128.Idx) :
    k0_pay3 f g v j = v j + g j * f (col 896 (by omega) j) := by
  pointwise [k0_pay3, col]

/-- One of the eight pieces that a point stores is the running sum of its lanes. -/
theorem piece (e : Fin 8) (hn : Vec F S512x1024 .bf16) (cb : Vec F S8x512x128 .f32) (a : Vec F S512x1024 .f32)
    (x7 x8 x9 : Vec F S1x1024x1024 .bf16) (o : Nat) (ho : o + 128 ≤ 1024) (hd : o % 128 = 0) (inb)
    (g v : FVec F S512x128 .f32) (hg : ∀ j, g j = cb (ix3 e (j 0) (j 1))) (hv : ∀ j, v j = a (col o ho j)) (j : S512x128.Idx) :
    v j + g j * ffn hn x7 x8 x9 (col o ho j)
      = acc e hn cb a x7 x8 x9 ((Rect.unit (s := S512x1024) ![0, o] ![512, 128] inb).emb j) := by
  rw [emb_col o ho, hg, hv]
  unfold acc
  rw [lane_col o ho hd]
  rfl

/-- A middle point adds its gated product to the running sum. -/
theorem accB (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : ¬cond0_0 i) (hc1 : ¬cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) (xs0 : Vec F S512x1024 .f32) (xs1 : Vec F S512x1024 .bf16) (xs2 : Vec F S8x512x128 .f32) (xs3 : Vec F S512x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = acc (i 1) xs1 xs2 xs3 x7 x8 x9 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  funext y
  have hcov := scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 y
  revert hcov
  unfold kernelRun0_B
  dsimp only
  sl_unfold_words
  simp only [View.readAt_eq_ld, harg9.read_unread, harg10.read_unread, harg11.read_unread, harg14.read_unread, harg15.read_unread, harg16.read_unread]
  rw [View.ld_unit_zero (S := S512x1024) hz2]
  intro hcov
  refine View.canon_apply_of_pieces (acc (i 1) xs1 xs2 xs3 x7 x8 x9) _ (fun p hp j => ?_) y hcov
  simp only [List.mem_cons, List.mem_nil_iff, or_false] at hp
  rcases hp with rfl | rfl | rfl | rfl | rfl | rfl | rfl | rfl
  · exact (pay3_at _ _ _ j).trans (piece (i 1) xs1 xs2 xs3 x7 x8 x9 896 (by omega) (by omega) inb_S512x1024_S512x128_0_896 _ _ (gate_at (i 1) _ xs2) (ld_col 896 (by omega) inb_S512x1024_S512x128_0_896 xs3) j)
  · exact (pay2_at _ _ _ j).trans (piece (i 1) xs1 xs2 xs3 x7 x8 x9 768 (by omega) (by omega) inb_S512x1024_S512x128_0_768 _ _ (gate_at (i 1) _ xs2) (ld_col 768 (by omega) inb_S512x1024_S512x128_0_768 xs3) j)
  · exact (pay1_at _ _ _ j).trans (piece (i 1) xs1 xs2 xs3 x7 x8 x9 640 (by omega) (by omega) inb_S512x1024_S512x128_0_640 _ _ (gate_at (i 1) _ xs2) (ld_col 640 (by omega) inb_S512x1024_S512x128_0_640 xs3) j)
  · exact (pay39_at _ _ _ j).trans (piece (i 1) xs1 xs2 xs3 x7 x8 x9 512 (by omega) (by omega) inb_S512x1024_S512x128_0_512 _ _ (gate_at (i 1) _ xs2) (ld_col 512 (by omega) inb_S512x1024_S512x128_0_512 xs3) j)
  · exact (pay38_at _ _ _ j).trans (piece (i 1) xs1 xs2 xs3 x7 x8 x9 384 (by omega) (by omega) inb_S512x1024_S512x128_0_384 _ _ (gate_at (i 1) _ xs2) (ld_col 384 (by omega) inb_S512x1024_S512x128_0_384 xs3) j)
  · exact (pay37_at _ _ _ j).trans (piece (i 1) xs1 xs2 xs3 x7 x8 x9 256 (by omega) (by omega) inb_S512x1024_S512x128_0_256 _ _ (gate_at (i 1) _ xs2) (ld_col 256 (by omega) inb_S512x1024_S512x128_0_256 xs3) j)
  · exact (pay36_at _ _ _ j).trans (piece (i 1) xs1 xs2 xs3 x7 x8 x9 128 (by omega) (by omega) inb_S512x1024_S512x128_0_128 _ _ (gate_at (i 1) _ xs2) (ld_col 128 (by omega) inb_S512x1024_S512x128_0_128 xs3) j)
  · exact (pay35_at _ _ _ j).trans (piece (i 1) xs1 xs2 xs3 x7 x8 x9 0 (by omega) (by omega) inb_S512x1024_S512x128_0_0 _ _ (gate_at (i 1) _ xs2) (ld_col 0 (by omega) inb_S512x1024_S512x128_0_0 xs3) j)

/-- The last point adds its gated product to the running sum. -/
theorem accC (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : ¬cond0_0 i) (hc1 : cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) (xs0 : Vec F S512x1024 .f32) (xs1 : Vec F S512x1024 .bf16) (xs2 : Vec F S8x512x128 .f32) (xs3 : Vec F S512x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = acc (i 1) xs1 xs2 xs3 x7 x8 x9 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  funext y
  have hcov := scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 y
  revert hcov
  unfold kernelRun0_C
  dsimp only
  sl_unfold_words
  simp only [View.readAt_eq_ld, harg9.read_unread, harg10.read_unread, harg11.read_unread, harg14.read_unread, harg15.read_unread, harg16.read_unread]
  rw [View.ld_unit_zero (S := S512x1024) hz2]
  intro hcov
  refine View.canon_apply_of_pieces (acc (i 1) xs1 xs2 xs3 x7 x8 x9) _ (fun p hp j => ?_) y hcov
  simp only [List.mem_cons, List.mem_nil_iff, or_false] at hp
  rcases hp with rfl | rfl | rfl | rfl | rfl | rfl | rfl | rfl
  · exact (pay3_at _ _ _ j).trans (piece (i 1) xs1 xs2 xs3 x7 x8 x9 896 (by omega) (by omega) inb_S512x1024_S512x128_0_896 _ _ (gate_at (i 1) _ xs2) (ld_col 896 (by omega) inb_S512x1024_S512x128_0_896 xs3) j)
  · exact (pay2_at _ _ _ j).trans (piece (i 1) xs1 xs2 xs3 x7 x8 x9 768 (by omega) (by omega) inb_S512x1024_S512x128_0_768 _ _ (gate_at (i 1) _ xs2) (ld_col 768 (by omega) inb_S512x1024_S512x128_0_768 xs3) j)
  · exact (pay1_at _ _ _ j).trans (piece (i 1) xs1 xs2 xs3 x7 x8 x9 640 (by omega) (by omega) inb_S512x1024_S512x128_0_640 _ _ (gate_at (i 1) _ xs2) (ld_col 640 (by omega) inb_S512x1024_S512x128_0_640 xs3) j)
  · exact (pay39_at _ _ _ j).trans (piece (i 1) xs1 xs2 xs3 x7 x8 x9 512 (by omega) (by omega) inb_S512x1024_S512x128_0_512 _ _ (gate_at (i 1) _ xs2) (ld_col 512 (by omega) inb_S512x1024_S512x128_0_512 xs3) j)
  · exact (pay38_at _ _ _ j).trans (piece (i 1) xs1 xs2 xs3 x7 x8 x9 384 (by omega) (by omega) inb_S512x1024_S512x128_0_384 _ _ (gate_at (i 1) _ xs2) (ld_col 384 (by omega) inb_S512x1024_S512x128_0_384 xs3) j)
  · exact (pay37_at _ _ _ j).trans (piece (i 1) xs1 xs2 xs3 x7 x8 x9 256 (by omega) (by omega) inb_S512x1024_S512x128_0_256 _ _ (gate_at (i 1) _ xs2) (ld_col 256 (by omega) inb_S512x1024_S512x128_0_256 xs3) j)
  · exact (pay36_at _ _ _ j).trans (piece (i 1) xs1 xs2 xs3 x7 x8 x9 128 (by omega) (by omega) inb_S512x1024_S512x128_0_128 _ _ (gate_at (i 1) _ xs2) (ld_col 128 (by omega) inb_S512x1024_S512x128_0_128 xs3) j)
  · exact (pay35_at _ _ _ j).trans (piece (i 1) xs1 xs2 xs3 x7 x8 x9 0 (by omega) (by omega) inb_S512x1024_S512x128_0_0 _ _ (gate_at (i 1) _ xs2) (ld_col 0 (by omega) inb_S512x1024_S512x128_0_0 xs3) j)

/-- The last point stores the residual plus the running sum. -/
theorem outC (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : ¬cond0_0 i) (hc1 : cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) (xs0 : Vec F S512x1024 .f32) (xs1 : Vec F S512x1024 .bf16) (xs2 : Vec F S8x512x128 .f32) (xs3 : Vec F S512x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = k0_pay4 xs0 (acc (i 1) xs1 xs2 xs3 x7 x8 x9) := by
  have hacc := accC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
  unfold sout0_C_3 at hacc
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)] at hacc
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  revert hacc
  unfold kernelRun0_C
  dsimp only
  sl_unfold_words
  intro hacc
  rw [View.canon_unit_zero hz2, View.readCov_eq_canon', hacc, View.readAt_eq_ld, harg13.read_unread, View.ld_unit_zero (S := S512x1024) hz2]
  exact congrArg (k0_pay4 xs0) (View.ld_unit_zero (S := S512x1024) hz2 _ _)

/-- The residual rows: the inputs plus the three slabs' products. -/
def resid (x0 : Vec F S512x1024 .f32) (x1 x2 : Vec F S512x384 .bf16) (x3 : Vec F S512x256 .bf16) (x4 : Vec F S1024x1024 .bf16) :
    FVec F S512x1024 .f32 :=
  k0_pay5 x0 x1 (View.ld x4 (Rect.unit ![0, 0] ![384, 1024] inb_S1024x1024_S384x1024_0_0)) x2
    (View.ld x4 (Rect.unit ![384, 0] ![384, 1024] inb_S1024x1024_S384x1024_384_0)) x3
    (View.ld x4 (Rect.unit ![768, 0] ![256, 1024] inb_S1024x1024_S256x1024_768_0))

/-- The normed rows. -/
def normed (x0 : Vec F S512x1024 .f32) (x1 x2 : Vec F S512x384 .bf16) (x3 : Vec F S512x256 .bf16) (x4 : Vec F S1024x1024 .bf16)
    (x5 : Vec F S1x1024 .f32) : FVec F S512x1024 .f32 :=
  k0_pay6 x0 x1 (View.ld x4 (Rect.unit ![0, 0] ![384, 1024] inb_S1024x1024_S384x1024_0_0)) x2
    (View.ld x4 (Rect.unit ![384, 0] ![384, 1024] inb_S1024x1024_S384x1024_384_0)) x3
    (View.ld x4 (Rect.unit ![768, 0] ![256, 1024] inb_S1024x1024_S256x1024_768_0)) x5

/-- The gates of every row, one column for each expert. -/
def gates (Y : FVec F S512x1024 .f32) (x6 : Vec F S1024x128 .f32) : FVec F S512x128 .f32 :=
  k0_pay19 k0_pay9 (k0_pay12 Y x6) (k0_pay15 Y x6) (k0_pay16 Y x6) (k0_pay17 Y x6) k0_pay18

/-- The gates as they are stored: one slab for each expert, its gate in every lane. -/
def slabs (G : FVec F S512x128 .f32) : Vec F S8x512x128 .f32 := fun y => G (ix2 (y 1) (ecol (y 0)))

/-- Where a slab's lane lies in the stored gates. -/
theorem emb_slab (e : Fin 8) (inb) (j : S1x512x128.Idx) :
    (Rect.unit (s := S8x512x128) ![e.val, 0, 0] ![1, 512, 128] inb).emb j = ix3 e (j 1) (j 2) := by
  funext a; apply Fin.ext
  match a with
  | ⟨0, _⟩ => exact congrArg (e.val + ·) ((Nat.one_mul _).trans (Nat.lt_one_iff.1 (j 0).isLt))
  | ⟨1, _⟩ => exact (Nat.zero_add _).trans (Nat.one_mul _)
  | ⟨2, _⟩ => exact (Nat.zero_add _).trans (Nat.one_mul _)

theorem pay7_eq (v : FVec F S512x1024 .f32) : k0_pay7 v = v := by
  funext y; pointwise [k0_pay7]

/-- The zeros that the running sum starts from. -/
def zrows : FVec F S512x1024 .f32 := @k0_pay29 F _

/-- Where the later stores cover, the first stores are not seen. -/
theorem canon_append {S : Shape} (L L' : List (View.Piece (Elt F) S .f32)) (y : S.Idx) (h : ∃ p ∈ L, y ∈ p.1.set) :
    View.canon (L ++ L') y = View.canon L y := by
  induction L with
  | nil => obtain ⟨p, hp, -⟩ := h; exact absurd hp List.not_mem_nil
  | cons q L ih =>
    by_cases hq : y ∈ q.1.set
    · obtain ⟨k, rfl⟩ := LoadRect.exists_idx_of_mem _ hq
      exact (View.canon_cons_emb _ _ _ k).trans (View.canon_cons_emb _ _ _ k).symm
    · rw [List.cons_append, View.canon_cons_of_not_mem _ _ hq, View.canon_cons_of_not_mem _ _ hq]
      obtain ⟨p, hp, hy⟩ := h
      rcases List.mem_cons.1 hp with rfl | hp
      · exact absurd hy hq
      · exact ih ⟨p, hp, hy⟩

/-- A store into earlier columns is not seen by later columns. -/
theorem skip {o o' : Nat} {ho : o + 128 ≤ 1024} {inb} (h : o' + 128 ≤ o) (w) (L : List (View.Piece (Elt F) S512x1024 .f32)) (j : S512x128.Idx) :
    View.canon (⟨Rect.unit (s := S512x1024) ![0, o'] ![512, 128] inb, w⟩ :: L) (col o ho j) = View.canon L (col o ho j) := by
  refine View.canon_cons_of_not_mem _ _ fun hm => ?_
  obtain ⟨k, hk, he⟩ := (LoadRect.mem_set _).1 hm 1
  have : o + (j 1).val = o' + 1 * k := he
  have hk' : k < 128 := hk
  omega

theorem slab0 (p9 : FVec F S512x128 .f32) (p12 p15 p16 p17 p18 : FVec F S512x1 .f32) (j : S1x512x128.Idx) :
    k0_pay20 p9 p12 p15 p16 p17 p18 j = k0_pay19 p9 p12 p15 p16 p17 p18 (ix2 (j 1) (ecol 0)) := by
  generalize hG : k0_pay19 p9 p12 p15 p16 p17 p18 = G
  unfold k0_pay20
  rw [hG]
  clear hG
  pointwise [ecol]

theorem slab1 (p9 : FVec F S512x128 .f32) (p12 p15 p16 p17 p18 : FVec F S512x1 .f32) (j : S1x512x128.Idx) :
    k0_pay21 p9 p12 p15 p16 p17 p18 j = k0_pay19 p9 p12 p15 p16 p17 p18 (ix2 (j 1) (ecol 1)) := by
  generalize hG : k0_pay19 p9 p12 p15 p16 p17 p18 = G
  unfold k0_pay21
  rw [hG]
  clear hG
  pointwise [ecol]

theorem slab2 (p9 : FVec F S512x128 .f32) (p12 p15 p16 p17 p18 : FVec F S512x1 .f32) (j : S1x512x128.Idx) :
    k0_pay22 p9 p12 p15 p16 p17 p18 j = k0_pay19 p9 p12 p15 p16 p17 p18 (ix2 (j 1) (ecol 2)) := by
  generalize hG : k0_pay19 p9 p12 p15 p16 p17 p18 = G
  unfold k0_pay22
  rw [hG]
  clear hG
  pointwise [ecol]

theorem slab3 (p9 : FVec F S512x128 .f32) (p12 p15 p16 p17 p18 : FVec F S512x1 .f32) (j : S1x512x128.Idx) :
    k0_pay23 p9 p12 p15 p16 p17 p18 j = k0_pay19 p9 p12 p15 p16 p17 p18 (ix2 (j 1) (ecol 3)) := by
  generalize hG : k0_pay19 p9 p12 p15 p16 p17 p18 = G
  unfold k0_pay23
  rw [hG]
  clear hG
  pointwise [ecol]

theorem slab4 (p9 : FVec F S512x128 .f32) (p12 p15 p16 p17 p18 : FVec F S512x1 .f32) (j : S1x512x128.Idx) :
    k0_pay25 (k0_pay24 p9 p12 p15 p16 p17 p18) j = k0_pay19 p9 p12 p15 p16 p17 p18 (ix2 (j 1) (ecol 4)) := by
  generalize hG : k0_pay19 p9 p12 p15 p16 p17 p18 = G
  unfold k0_pay25 k0_pay24
  rw [hG]
  clear hG
  pointwise [ecol]

theorem slab5 (G : FVec F S512x128 .f32) (j : S1x512x128.Idx) :
    k0_pay26 G j = G (ix2 (j 1) (ecol 5)) := by
  pointwise [k0_pay26, ecol]

theorem slab6 (G : FVec F S512x128 .f32) (j : S1x512x128.Idx) :
    k0_pay27 G j = G (ix2 (j 1) (ecol 6)) := by
  pointwise [k0_pay27, ecol]

theorem slab7 (G : FVec F S512x128 .f32) (j : S1x512x128.Idx) :
    k0_pay28 G j = G (ix2 (j 1) (ecol 7)) := by
  pointwise [k0_pay28, ecol]

/-- The first point stores the residual rows. -/
theorem hA (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : cond0_0 i) (hc1 : ¬cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = resid x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_unit_zero hz2]
  simp only [View.readAt_eq_ld, View.readCov_unit_zero (S := S512x1024) _ hz2, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x384) hz2, View.ld_unit_zero (S := S512x256) hz2, View.ld_unit_zero (S := S1x1024) hz2, View.ld_unit_zero (S := S1024x128) hz2]
  exact pay7_eq _

/-- The first point stores the normed rows. -/
theorem nA (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : cond0_0 i) (hc1 : ¬cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = k0_pay8 (normed x0 x1 x2 x3 x4 x5) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_unit_zero hz2]
  simp only [View.readAt_eq_ld, View.readCov_unit_zero (S := S512x1024) _ hz2, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x384) hz2, View.ld_unit_zero (S := S512x256) hz2, View.ld_unit_zero (S := S1x1024) hz2, View.ld_unit_zero (S := S1024x128) hz2]
  rfl

/-- The first point stores the gates. -/
theorem gA (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : cond0_0 i) (hc1 : ¬cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = slabs (gates (normed x0 x1 x2 x3 x4 x5) x6) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  funext y
  have hcov := scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 y
  revert hcov
  unfold kernelRun0_A
  dsimp only
  sl_unfold_words
  simp only [View.readAt_eq_ld, View.readCov_unit_zero (S := S512x1024) _ hz2, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x384) hz2, View.ld_unit_zero (S := S512x256) hz2, View.ld_unit_zero (S := S1x1024) hz2, View.ld_unit_zero (S := S1024x128) hz2]
  intro hcov
  refine View.canon_apply_of_pieces (slabs (gates (normed x0 x1 x2 x3 x4 x5) x6)) _ (fun p hp j => ?_) y hcov
  simp only [List.mem_cons, List.mem_nil_iff, or_false] at hp
  rcases hp with rfl | rfl | rfl | rfl | rfl | rfl | rfl | rfl
  · exact (slab7 (gates (normed x0 x1 x2 x3 x4 x5) x6) j).trans (congrArg (slabs (gates (normed x0 x1 x2 x3 x4 x5) x6)) (emb_slab 7 inb_S8x512x128_S1x512x128_7_0_0 j)).symm
  · exact (slab6 (gates (normed x0 x1 x2 x3 x4 x5) x6) j).trans (congrArg (slabs (gates (normed x0 x1 x2 x3 x4 x5) x6)) (emb_slab 6 inb_S8x512x128_S1x512x128_6_0_0 j)).symm
  · exact (slab5 (gates (normed x0 x1 x2 x3 x4 x5) x6) j).trans (congrArg (slabs (gates (normed x0 x1 x2 x3 x4 x5) x6)) (emb_slab 5 inb_S8x512x128_S1x512x128_5_0_0 j)).symm
  · exact (slab4 _ _ _ _ _ _ j).trans (congrArg (slabs (gates (normed x0 x1 x2 x3 x4 x5) x6)) (emb_slab 4 inb_S8x512x128_S1x512x128_4_0_0 j)).symm
  · exact (slab3 _ _ _ _ _ _ j).trans (congrArg (slabs (gates (normed x0 x1 x2 x3 x4 x5) x6)) (emb_slab 3 inb_S8x512x128_S1x512x128_3_0_0 j)).symm
  · exact (slab2 _ _ _ _ _ _ j).trans (congrArg (slabs (gates (normed x0 x1 x2 x3 x4 x5) x6)) (emb_slab 2 inb_S8x512x128_S1x512x128_2_0_0 j)).symm
  · exact (slab1 _ _ _ _ _ _ j).trans (congrArg (slabs (gates (normed x0 x1 x2 x3 x4 x5) x6)) (emb_slab 1 inb_S8x512x128_S1x512x128_1_0_0 j)).symm
  · exact (slab0 _ _ _ _ _ _ j).trans (congrArg (slabs (gates (normed x0 x1 x2 x3 x4 x5) x6)) (emb_slab 0 inb_S8x512x128_S1x512x128_0_0_0 j)).symm

/-- The first point adds its gated product to zeros. -/
theorem accA (c : Dev nD) (i : grid0.Coords) (arg2 : Memref sig .tc .vmem S512x1024 .f32) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S8x512x128 .f32) (harg15 : arg15.IsWhole) (arg16 : Memref sig .tc .vmem S512x1024 .f32) (harg16 : arg16.IsWhole) (hc0 : cond0_0 i) (hc1 : ¬cond0_1 i)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x128 .f32) (x7 : Vec F S1x1024x1024 .bf16) (x8 : Vec F S1x1024x1024 .bf16) (x9 : Vec F S1x1024x1024 .bf16) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = acc (i 1) (k0_pay8 (normed x0 x1 x2 x3 x4 x5)) (slabs (gates (normed x0 x1 x2 x3 x4 x5) x6)) zrows x7 x8 x9 := by
  have hg := gA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
  unfold sout0_A_2 at hg
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)] at hg
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  funext y
  have hcov := scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 y
  revert hcov hg
  unfold kernelRun0_A
  dsimp only
  sl_unfold_words
  simp only [View.readAt_eq_ld, View.readCov_unit_zero (S := S512x1024) _ hz2, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x384) hz2, View.ld_unit_zero (S := S512x256) hz2, View.ld_unit_zero (S := S1x1024) hz2, View.ld_unit_zero (S := S1024x128) hz2]
  intro hg hcov
  refine (canon_append [_, _, _, _, _, _, _, _] [_] y (View.cover_of_tiledL _ ![512, 128] (by sl_kernel_rfl) y)).trans ?_
  refine View.canon_apply_of_pieces (acc (i 1) (k0_pay8 (normed x0 x1 x2 x3 x4 x5)) (slabs (gates (normed x0 x1 x2 x3 x4 x5) x6)) zrows x7 x8 x9) _ (fun p hp j => ?_) y (View.cover_of_tiledL _ ![512, 128] (by sl_kernel_rfl) y)
  simp only [List.mem_cons, List.mem_nil_iff, or_false] at hp
  rcases hp with rfl | rfl | rfl | rfl | rfl | rfl | rfl | rfl
  · refine (pay3_at _ _ _ j).trans (piece (i 1) (k0_pay8 (normed x0 x1 x2 x3 x4 x5)) (slabs (gates (normed x0 x1 x2 x3 x4 x5) x6)) zrows x7 x8 x9 896 (by omega) (by omega) inb_S512x1024_S512x128_0_896 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 896 (by omega) inb_S512x1024_S512x128_0_896 j)).trans ?_
      rw [skip (by omega), skip (by omega), skip (by omega), skip (by omega), skip (by omega), skip (by omega), skip (by omega)]
      exact congrFun (View.canon_unit_zero (S := S512x1024) hz2 _ _) _
  · refine (pay2_at _ _ _ j).trans (piece (i 1) (k0_pay8 (normed x0 x1 x2 x3 x4 x5)) (slabs (gates (normed x0 x1 x2 x3 x4 x5) x6)) zrows x7 x8 x9 768 (by omega) (by omega) inb_S512x1024_S512x128_0_768 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 768 (by omega) inb_S512x1024_S512x128_0_768 j)).trans ?_
      rw [skip (by omega), skip (by omega), skip (by omega), skip (by omega), skip (by omega), skip (by omega)]
      exact congrFun (View.canon_unit_zero (S := S512x1024) hz2 _ _) _
  · refine (pay1_at _ _ _ j).trans (piece (i 1) (k0_pay8 (normed x0 x1 x2 x3 x4 x5)) (slabs (gates (normed x0 x1 x2 x3 x4 x5) x6)) zrows x7 x8 x9 640 (by omega) (by omega) inb_S512x1024_S512x128_0_640 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 640 (by omega) inb_S512x1024_S512x128_0_640 j)).trans ?_
      rw [skip (by omega), skip (by omega), skip (by omega), skip (by omega), skip (by omega)]
      exact congrFun (View.canon_unit_zero (S := S512x1024) hz2 _ _) _
  · refine (pay39_at _ _ _ j).trans (piece (i 1) (k0_pay8 (normed x0 x1 x2 x3 x4 x5)) (slabs (gates (normed x0 x1 x2 x3 x4 x5) x6)) zrows x7 x8 x9 512 (by omega) (by omega) inb_S512x1024_S512x128_0_512 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 512 (by omega) inb_S512x1024_S512x128_0_512 j)).trans ?_
      rw [skip (by omega), skip (by omega), skip (by omega), skip (by omega)]
      exact congrFun (View.canon_unit_zero (S := S512x1024) hz2 _ _) _
  · refine (pay38_at _ _ _ j).trans (piece (i 1) (k0_pay8 (normed x0 x1 x2 x3 x4 x5)) (slabs (gates (normed x0 x1 x2 x3 x4 x5) x6)) zrows x7 x8 x9 384 (by omega) (by omega) inb_S512x1024_S512x128_0_384 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 384 (by omega) inb_S512x1024_S512x128_0_384 j)).trans ?_
      rw [skip (by omega), skip (by omega), skip (by omega)]
      exact congrFun (View.canon_unit_zero (S := S512x1024) hz2 _ _) _
  · refine (pay37_at _ _ _ j).trans (piece (i 1) (k0_pay8 (normed x0 x1 x2 x3 x4 x5)) (slabs (gates (normed x0 x1 x2 x3 x4 x5) x6)) zrows x7 x8 x9 256 (by omega) (by omega) inb_S512x1024_S512x128_0_256 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 256 (by omega) inb_S512x1024_S512x128_0_256 j)).trans ?_
      rw [skip (by omega), skip (by omega)]
      exact congrFun (View.canon_unit_zero (S := S512x1024) hz2 _ _) _
  · refine (pay36_at _ _ _ j).trans (piece (i 1) (k0_pay8 (normed x0 x1 x2 x3 x4 x5)) (slabs (gates (normed x0 x1 x2 x3 x4 x5) x6)) zrows x7 x8 x9 128 (by omega) (by omega) inb_S512x1024_S512x128_0_128 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 128 (by omega) inb_S512x1024_S512x128_0_128 j)).trans ?_
      rw [skip (by omega)]
      exact congrFun (View.canon_unit_zero (S := S512x1024) hz2 _ _) _
  · refine (pay35_at _ _ _ j).trans (piece (i 1) (k0_pay8 (normed x0 x1 x2 x3 x4 x5)) (slabs (gates (normed x0 x1 x2 x3 x4 x5) x6)) zrows x7 x8 x9 0 (by omega) (by omega) inb_S512x1024_S512x128_0_0 _ _ (fun j => ?_) (fun j => ?_) j)
    · exact (congrFun (congrArg k0_pay34 ((View.readCov_eq_canon' _ _ _).trans (funext fun q => congrFun hg _))) j).trans (gate_at (i 1) _ _ j)
    · rw [View.readCov_eq_canon']
      refine (congrArg _ (emb_col 0 (by omega) inb_S512x1024_S512x128_0_0 j)).trans ?_
      skip
      exact congrFun (View.canon_unit_zero (S := S512x1024) hz2 _ _) _

end Cert.Moe

end
-- ==== Proof.Moe.Ops.lean ====
/-
  What the experts' kernel computes for one row of a block, at an index: the residual, the normed row, the gates, one
  expert's product.
-/
module

public import proofs.«01_k».proof.Proof.Moe.Spec
public import proofs.«01_k».proof.Proof.Moe.Step

@[expose] public section

noncomputable section

open Idealize.ShloMosaic Idealize.ShloMosaic.TcCoe Idealize.SL.Sem

namespace Cert.Moe

open Cert.Kernel2Ideal Cert.Kernel2Ideal.Gen

local notation "F" => Ideal

/-- A row of a block. -/
def brow {p q : ℕ} (x : (⟨2, ![p, q]⟩ : Shape).Idx → EReal) (r : Fin p) (n : Fin q) : EReal := x (ix2 r n)
/-- The matrix of a block that holds one. -/
def bslab {p q : ℕ} (x : (⟨3, ![1, p, q]⟩ : Shape).Idx → EReal) (k : Fin p) (n : Fin q) : EReal := x (ix3 0 k n)

/-- A row slice of the out-projection's block. -/
theorem ld_rows (o K : ℕ) (hK : o + K ≤ 1024) (inb) (x : Vec F S1024x1024 .bf16) (k : Fin K) (n : Fin 1024) :
    View.ld x (Rect.unit (s := S1024x1024) ![o, 0] ![K, 1024] inb) (ix2 k n : (⟨2, ![K, 1024]⟩ : Shape).Idx) = x (ix2 ⟨o + k.val, by omega⟩ n) := by
  refine congrArg x ?_
  funext a; apply Fin.ext
  match a with
  | ⟨0, _⟩ => exact congrArg (o + ·) (Nat.one_mul _)
  | ⟨1, _⟩ => exact (Nat.zero_add _).trans (Nat.one_mul _)

/-- A slice of a block that holds one matrix. -/
theorem ld_slab (a b p q : ℕ) (ha : a + p ≤ 1024) (hb : b + q ≤ 1024) (inb) (x : Vec F S1x1024x1024 .bf16) (k : Fin p) (n : Fin q) :
    View.ld x (Rect.unit (s := S1x1024x1024) ![0, a, b] ![1, p, q] inb) (ix3 0 k n : (⟨3, ![1, p, q]⟩ : Shape).Idx)
      = x (ix3 0 ⟨a + k.val, by omega⟩ ⟨b + n.val, by omega⟩) := by
  refine congrArg x ?_
  funext i; apply Fin.ext
  match i with
  | ⟨0, _⟩ => rfl
  | ⟨1, _⟩ => exact congrArg (a + ·) (Nat.one_mul _)
  | ⟨2, _⟩ => exact congrArg (b + ·) (Nat.one_mul _)

theorem pay5_at (x0 : Vec F S512x1024 .f32) (x1 : Vec F S512x384 .bf16) (w1 : Vec F S384x1024 .bf16) (x2 : Vec F S512x384 .bf16)
    (w2 : Vec F S384x1024 .bf16) (x3 : Vec F S512x256 .bf16) (w3 : Vec F S256x1024 .bf16) (r : Fin 512) (n : Fin 1024) :
    k0_pay5 x0 x1 w1 x2 w2 x3 w3 (ix2 r n) = x0 (ix2 r n) + (∑ k, x1 (ix2 r k) * w1 (ix2 k n)) + (∑ k, x2 (ix2 r k) * w2 (ix2 k n))
      + ∑ k, x3 (ix2 r k) * w3 (ix2 k n) := by
  pointwise [k0_pay5]

/-- The residual's row. -/
theorem resid_at (x0 : Vec F S512x1024 .f32) (x1 x2 : Vec F S512x384 .bf16) (x3 : Vec F S512x256 .bf16) (x4 : Vec F S1024x1024 .bf16)
    (r : Fin 512) : brow (resid x0 x1 x2 x3 x4) r = hRow (brow x0 r) (cat (brow x1 r) (brow x2 r) (brow x3 r)) (brow x4) := by
  funext n
  rw [← hRow_slabs]
  unfold brow resid
  rw [pay5_at]
  congr 1
  · congr 1
    · congr 1
      refine Finset.sum_congr rfl fun k _ => congrArg (x1 (ix2 r k) * ·) ?_
      refine (ld_rows 0 384 (by omega) _ x4 k n).trans (congrArg x4 ?_)
      congr 1; apply Fin.ext; exact Nat.zero_add _
    · exact Finset.sum_congr rfl fun k _ => congrArg (x2 (ix2 r k) * ·) (ld_rows 384 384 (by omega) _ x4 k n)
  · exact Finset.sum_congr rfl fun k _ => congrArg (x3 (ix2 r k) * ·) (ld_rows 768 256 (by omega) _ x4 k n)

/-- The normed row. -/
theorem normed_at (x0 : Vec F S512x1024 .f32) (x1 x2 : Vec F S512x384 .bf16) (x3 : Vec F S512x256 .bf16) (x4 : Vec F S1024x1024 .bf16)
    (x5 : Vec F S1x1024 .f32) (r : Fin 512) :
    brow (normed x0 x1 x2 x3 x4 x5) r = nRow (brow (resid x0 x1 x2 x3 x4) r) (fun n => x5 (ix2 0 n)) := by
  funext n
  unfold brow normed k0_pay6
  show _ = nRow (fun n => @k0_pay5 F _ _ _ _ _ _ _ _ (ix2 r n)) _ n
  generalize @k0_pay5 F _ _ _ _ _ _ _ _ = H
  unfold nRow
  pointwise []

/-- The rows the experts read are the normed ones. -/
theorem pay8_eq (Y : FVec F S512x1024 .f32) (r : Fin 512) : brow (k0_pay8 Y) r = brow Y r := by
  funext n
  unfold brow
  pointwise [k0_pay8]

theorem pay4_at (a b : Vec F S512x1024 .f32) (r : Fin 512) (n : Fin 1024) : k0_pay4 a b (ix2 r n) = a (ix2 r n) + b (ix2 r n) := by
  pointwise [k0_pay4]

theorem zrows_at (r : Fin 512) (n : Fin 1024) : zrows (ix2 r n) = 0 := by
  pointwise [zrows, k0_pay29]

/-! ## One expert -/

theorem pay30_at (hn : Vec F S512x1024 .bf16) (a b : Vec F S1x1024x256 .bf16) (d : Vec F S1x256x1024 .bf16) (r : Fin 512) (n : Fin 1024) :
    k0_pay30 hn a b d (ix2 r n) = ∑ j, (∑ k, hn (ix2 r k) * a (ix3 0 k j)) * Ideal.logistic (∑ k, hn (ix2 r k) * a (ix3 0 k j))
      * (∑ k, hn (ix2 r k) * b (ix3 0 k j)) * d (ix3 0 j n) := by
  pointwise [k0_pay30]

theorem pay33_at (hn : Vec F S512x1024 .bf16) (v16 : FVec F S512x1024 .f32) (a b a2 b2 a3 b3 : Vec F S1x1024x256 .bf16) (d d2 d3 : Vec F S1x256x1024 .bf16)
    (r : Fin 512) (n : Fin 1024) :
    k0_pay33 hn v16 (k0_pay31 hn a b) (k0_pay32 d) (constant S512x1024 FTy.f32 0#32) a2 b2 d2 a3 b3 d3 (ix2 r n)
      = v16 (ix2 r n) + k0_pay30 hn a b d (ix2 r n) + k0_pay30 hn a2 b2 d2 (ix2 r n) + k0_pay30 hn a3 b3 d3 (ix2 r n) := by
  rw [pay30_at, pay30_at, pay30_at]
  rw [add_assoc (v16 (ix2 r n) + _)]
  pointwise [k0_pay33, k0_pay31, k0_pay32]

/-- A quarter of an expert's product. -/
theorem quarter (o : ℕ) (ho : o + 256 ≤ 1024) (hn : Vec F S512x1024 .bf16) (x7 x8 x9 : Vec F S1x1024x1024 .bf16) (i7 i8 i9) (r : Fin 512) (n : Fin 1024) :
    k0_pay30 hn (View.ld x7 (Rect.unit (s := S1x1024x1024) ![0, 0, o] ![1, 1024, 256] i7))
      (View.ld x8 (Rect.unit (s := S1x1024x1024) ![0, 0, o] ![1, 1024, 256] i8))
      (View.ld x9 (Rect.unit (s := S1x1024x1024) ![0, o, 0] ![1, 256, 1024] i9)) (ix2 r n)
    = ∑ j : Fin 256, (fun J : Fin 1024 => (∑ k, brow hn r k * bslab x7 k J) * Ideal.logistic (∑ k, brow hn r k * bslab x7 k J)
      * (∑ k, brow hn r k * bslab x8 k J) * bslab x9 J n) ⟨o + j.val, by omega⟩ := by
  rw [pay30_at]
  have e : ∀ (x : Vec F S1x1024x1024 .bf16) (i) (k : Fin 1024) (j : Fin 256),
      View.ld x (Rect.unit (s := S1x1024x1024) ![0, 0, o] ![1, 1024, 256] i) (ix3 0 k j : (⟨3, ![1, 1024, 256]⟩ : Shape).Idx) = bslab x k ⟨o + j.val, by omega⟩ := by
    intro x i k j
    refine (ld_slab 0 o 1024 256 (by omega) ho i x k j).trans (congrArg x ?_)
    congr 1; apply Fin.ext; exact Nat.zero_add _
  have e' : ∀ (x : Vec F S1x1024x1024 .bf16) (i) (j : Fin 256),
      View.ld x (Rect.unit (s := S1x1024x1024) ![0, o, 0] ![1, 256, 1024] i) (ix3 0 j n : (⟨3, ![1, 256, 1024]⟩ : Shape).Idx) = bslab x ⟨o + j.val, by omega⟩ n := by
    intro x i j
    refine (ld_slab o 0 256 1024 ho (by omega) i x j n).trans (congrArg x ?_)
    congr 1; apply Fin.ext; exact Nat.zero_add _
  refine Finset.sum_congr rfl fun j _ => ?_
  have s7 : (∑ k, hn (ix2 r k) * View.ld x7 (Rect.unit (s := S1x1024x1024) ![0, 0, o] ![1, 1024, 256] i7) (ix3 0 k j : (⟨3, ![1, 1024, 256]⟩ : Shape).Idx))
      = ∑ k, brow hn r k * bslab x7 k ⟨o + j.val, by omega⟩ := Finset.sum_congr rfl fun k _ => congrArg (hn (ix2 r k) * ·) (e x7 i7 k j)
  have s8 : (∑ k, hn (ix2 r k) * View.ld x8 (Rect.unit (s := S1x1024x1024) ![0, 0, o] ![1, 1024, 256] i8) (ix3 0 k j : (⟨3, ![1, 1024, 256]⟩ : Shape).Idx))
      = ∑ k, brow hn r k * bslab x8 k ⟨o + j.val, by omega⟩ := Finset.sum_congr rfl fun k _ => congrArg (hn (ix2 r k) * ·) (e x8 i8 k j)
  exact congr (congrArg HMul.hMul (congr (congrArg HMul.hMul (congr (congrArg HMul.hMul s7) (congrArg Ideal.logistic s7))) s8)) (e' x9 i9 j)

/-- One expert's product for a row. -/
theorem ffn_at (hn : Vec F S512x1024 .bf16) (x7 x8 x9 : Vec F S1x1024x1024 .bf16) (r : Fin 512) (n : Fin 1024) :
    ffn hn x7 x8 x9 (ix2 r n) = fRow (brow hn r) (bslab x7) (bslab x8) (bslab x9) n := by
  unfold ffn
  rw [pay33_at]
  unfold fRow
  rw [sum_four]
  refine congr (congrArg HAdd.hAdd (congr (congrArg HAdd.hAdd (congr (congrArg HAdd.hAdd ?_) ?_)) ?_)) ?_
  · refine (quarter 0 (by omega) hn x7 x8 x9 _ _ _ r n).trans (Finset.sum_congr rfl fun j _ => ?_)
    have ej : (⟨0 + j.val, by omega⟩ : Fin 1024) = ⟨j.val, by omega⟩ := Fin.ext (Nat.zero_add _)
    rw [ej]
  · exact quarter 256 (by omega) hn x7 x8 x9 _ _ _ r n
  · exact quarter 512 (by omega) hn x7 x8 x9 _ _ _ r n
  · exact quarter 768 (by omega) hn x7 x8 x9 _ _ _ r n

/-! ## The gates -/

/-- A column's number, from its word. -/
theorem word_num (n : Fin 128) : (FloatOps.sitofp FTy.f32 (BitVec.ofNat 32 n.val) : Idealize.ShloMosaic.Ideal FTy.f32) = num n := by
  have h : (BitVec.ofNat 32 n.val).toInt = n.val := by revert n; decide
  show (((BitVec.ofNat 32 n.val).toInt : ℝ) : EReal) = _
  rw [h]; rfl

theorem w_pinf : Ideal.ofBits .f32 0x7F800000#32 = ⊤ := by simp [Ideal.ofBits, Ideal.ieee]
theorem w_ninf : Ideal.ofBits .f32 0xFF800000#32 = ⊥ := by simp [Ideal.ofBits, Ideal.ieee]
theorem w_128 : Ideal.ofBits .f32 0x43000000#32 = ((128 : ℝ) : EReal) := by
  simp [Ideal.ofBits, Ideal.ieee]
  rw [← EReal.coe_mul]
  norm_num
theorem w_8 : Ideal.ofBits .f32 0x41000000#32 = ((8 : ℝ) : EReal) := by
  simp [Ideal.ofBits, Ideal.ieee]
  rw [← EReal.coe_mul]
  norm_num
theorem w_1 : Ideal.ofBits .f32 0x3F800000#32 = 1 := by
  simp [Ideal.ofBits, Ideal.ieee]
  rw [← EReal.coe_mul]
  norm_num

/-- The scores of a row: eight of them, and −∞ beyond. -/
theorem pay10_at (Y : FVec F S512x1024 .f32) (x6 : Vec F S1024x128 .f32) (r : Fin 512) (n : Fin 128) :
    k0_pay10 Y x6 (ix2 r n) = pad (lRow (brow Y r) fun k e => x6 (ix2 k (ecol e))) n := by
  pointwise [k0_pay10, k0_pay9]
  rw [word_num, w_8, w_ninf]
  unfold pad num
  by_cases h : n.val < 8
  · rw [if_pos (EReal.coe_lt_coe_iff.2 (by exact_mod_cast h)), dif_pos h]
    rfl
  · rw [if_neg fun h' => h (by exact_mod_cast EReal.coe_lt_coe_iff.1 h'), dif_neg h]

section
variable {Y : FVec F S512x1024 .f32} {x6 : Vec F S1024x128 .f32} {r : Fin 512} {l : Fin 8 → EReal} {a b : Fin 8}
  (hL : ∀ n, k0_pay10 Y x6 (ix2 r n) = pad l n) (h : IsTop l a b) (hl : ∀ j, ⊥ < l j)

include hL h in
/-- The greatest score. -/
theorem pay11_at : k0_pay11 Y x6 (ix2 r 0) = l a := by
  unfold k0_pay11
  pointwise []
  rw [w_ninf, ← max_one h]
  exact congrArg (fun f => Finset.fold max ⊥ f Finset.univ) (funext hL)

include hL h hl in
/-- Its position. -/
theorem pay12_at : k0_pay12 Y x6 (ix2 r 0) = num (ecol a) := by
  have h11 := pay11_at hL h
  unfold k0_pay12
  generalize k0_pay11 Y x6 = M at h11 ⊢
  pointwise [k0_pay9]
  rw [w_pinf, w_128, ← pos_one h hl]
  refine congrArg (fun f => Finset.fold min ⊤ f Finset.univ) (funext fun x => ?_)
  rw [hL, h11, word_num]

include hL h hl in
/-- The scores without it. -/
theorem pay13_at (n : Fin 128) : k0_pay13 Y x6 (ix2 r n) = rest l a n := by
  have h12 := pay12_at hL h hl
  unfold k0_pay13
  generalize k0_pay12 Y x6 = M at h12 ⊢
  pointwise [k0_pay9]
  rw [h12, hL, word_num, w_ninf]
  rfl

include hL h hl in
/-- The second greatest score. -/
theorem pay14_at : k0_pay14 Y x6 (ix2 r 0) = l b := by
  have h13 := pay13_at hL h hl
  unfold k0_pay14
  generalize k0_pay13 Y x6 = M at h13 ⊢
  pointwise []
  rw [w_ninf, ← max_two h]
  exact congrArg (fun f => Finset.fold max ⊥ f Finset.univ) (funext h13)

include hL h hl in
/-- Its position. -/
theorem pay15_at : k0_pay15 Y x6 (ix2 r 0) = num (ecol b) := by
  have h14 := pay14_at hL h hl
  have h13 := pay13_at hL h hl
  unfold k0_pay15
  generalize k0_pay14 Y x6 = M at h14 ⊢
  generalize k0_pay13 Y x6 = N at h13 ⊢
  pointwise [k0_pay9]
  rw [w_pinf, w_128, ← pos_two h hl]
  refine congrArg (fun f => Finset.fold min ⊤ f Finset.univ) (funext fun x => ?_)
  rw [h13, h14, word_num]

include hL h hl in
/-- The exponential of their difference. -/
theorem pay16_at : k0_pay16 Y x6 (ix2 r 0) = Ideal.exp (l b - l a) := by
  have h14 := pay14_at hL h hl
  have h11 := pay11_at hL h
  unfold k0_pay16
  generalize k0_pay14 Y x6 = M at h14 ⊢
  generalize k0_pay11 Y x6 = N at h11 ⊢
  pointwise []
  rw [h11, h14]

include hL h hl in
/-- The greatest score's share. -/
theorem pay17_at : k0_pay17 Y x6 (ix2 r 0) = Ideal.div 1 (1 + Ideal.exp (l b - l a)) := by
  have h16 := pay16_at hL h hl
  unfold k0_pay17
  generalize k0_pay16 Y x6 = M at h16 ⊢
  pointwise []
  rw [h16]

include hL h hl in
/-- The gates of a row. -/
theorem gates_of (e : Fin 8) : gates Y x6 (ix2 r (ecol e)) = gateOf l a b e := by
  have h12 := pay12_at hL h hl
  have h15 := pay15_at hL h hl
  have h16 := pay16_at hL h hl
  have h17 := pay17_at hL h hl
  have h18 : @k0_pay18 F _ (ix2 r 0) = 1 := by pointwise [k0_pay18]
  have h9 : @k0_pay9 F _ (ix2 r (ecol e)) = num (ecol e) := by pointwise [k0_pay9]; exact word_num _
  unfold gates
  generalize k0_pay12 Y x6 = p12 at h12 ⊢
  generalize k0_pay15 Y x6 = p15 at h15 ⊢
  generalize k0_pay16 Y x6 = p16 at h16 ⊢
  generalize k0_pay17 Y x6 = p17 at h17 ⊢
  pointwise [k0_pay19]
  rw [h12, h15, h16, h17, h18, h9]
  unfold gateOf
  have i : ∀ c, (num (ecol e) = num (ecol c)) = (e = c) := fun c =>
    propext (num_inj.trans ⟨ecol_inj, congrArg ecol⟩)
  simp only [i]
end

/-- The gates of a row, by its two greatest scores. -/
theorem gates_at (Y : FVec F S512x1024 .f32) (x6 : Vec F S1024x128 .f32) (r : Fin 512) {a b : Fin 8}
    (h : IsTop (lRow (brow Y r) fun k e => x6 (ix2 k (ecol e))) a b)
    (hl : ∀ j, ⊥ < lRow (brow Y r) (fun k e => x6 (ix2 k (ecol e))) j) (e : Fin 8) :
    gates Y x6 (ix2 r (ecol e)) = gateOf (lRow (brow Y r) fun k e => x6 (ix2 k (ecol e))) a b e :=
  gates_of (fun n => pay10_at Y x6 r n) h hl e

end Cert.Moe

end
-- ==== Proof.Moe.Win.lean ====
/-
  The experts' windows from the arguments, row by row.
-/
module

public import proofs.«01_k».proof.Proof.Moe.Ref
public import proofs.«01_k».proof.Proof.Moe.Ops
public import Idealize.ShloMosaic.Lib.Routing.OpsSet

@[expose] public section

noncomputable section

namespace Cert.Moe

open Cert.Kernel2Ideal Cert.Kernel2Ideal.Gen
open Idealize.ShloMosaic Idealize.ShloMosaic.TcCoe Idealize.SL.Sem
open Idealize.ShloMosaic.Pipeline (Dat Cfg Window)

/-- The call's arguments. -/
structure Args where
  /-- The residual stream. -/
  x : Ref.Rows
  /-- The mixers' outputs. -/
  oa : FVec Ideal S2x8192x384 .f32
  ob : FVec Ideal S2x8192x384 .f32
  oc : FVec Ideal S2x8192x256 .f32
  /-- The out-projection. -/
  w : FVec Ideal S1024x1024 .f32
  /-- The norm's scale. -/
  g : FVec Ideal S1024 .f32
  /-- The router. -/
  wr : FVec Ideal S1024x8 .f32
  /-- The experts. -/
  wg : Ref.Slab
  wu : Ref.Slab
  wd : Ref.Slab

/-- The batch of a row. -/
def rb (R : Fin 16384) : Fin 2 := ⟨R.val / 8192, by omega⟩
/-- The place of a row. -/
def rs (R : Fin 16384) : Fin 8192 := ⟨R.val % 8192, by omega⟩

namespace Args
variable (A : Args)

/-- The residual rows. -/
def y : Ref.Rows := Ref.yv A.x A.oa A.ob A.oc A.w
/-- The residual's row. -/
def h (R : Fin 16384) : Fin 1024 → EReal := Ref.row A.y (rb R) (rs R)
/-- The normed row. -/
def nn (R : Fin 16384) : Fin 1024 → EReal := nRow (A.h R) (Ref.vec A.g)
/-- The row's scores. -/
def l (R : Fin 16384) : Fin 8 → EReal := lRow (A.nn R) (Ref.mat A.wr)
/-- The row's gates. -/
def gate (R : Fin 16384) : Fin 8 → EReal := Ref.row (Ref.cv (Ref.lg (Ref.nv A.y A.g) A.wr)) (rb R) (rs R)
/-- One expert's product. -/
def f (R : Fin 16384) (e : Fin 8) : Fin 1024 → EReal := fRow (A.nn R) (Ref.slab A.wg e) (Ref.slab A.wu e) (Ref.slab A.wd e)
/-- The result. -/
def res : FVec Ideal S16384x1024 .f32 := Ref.rv A.y A.g A.wr A.wg A.wu A.wd

theorem res_at (R : Fin 16384) (n : Fin 1024) : A.res (ix2 R n) = outRow (A.h R) (A.gate R) (A.f R) n := Ref.rv_at _ _ _ _ _ _ R n

/-- The norm's scale and the router are real numbers. -/
def Real : Prop := (∀ i, IsReal (A.g i)) ∧ ∀ i, IsReal (A.wr i)

theorem l_real {A : Args} (hA : A.Real) (R : Fin 16384) (e : Fin 8) : IsReal (A.l R e) :=
  lRow_real _ _ _ (fun _ => hA.1 _) (fun _ _ => hA.2 _) e

theorem l_eq (R : Fin 16384) : Ref.row (Ref.lg (Ref.nv A.y A.g) A.wr) (rb R) (rs R) = A.l R := by
  rw [Ref.lg_at, Ref.nv_at]
  rfl

theorem gate_eq {A : Args} (hA : A.Real) (R : Fin 16384) {a b : Fin 8} (h : IsTop (A.l R) a b) : A.gate R = gateOf (A.l R) a b := by
  unfold gate
  rw [Ref.cv_at (p := a) (q := b) (by rw [l_eq]; exact h) (by rw [l_eq]; exact l_real hA R a), l_eq]

/-- The sum of the first experts' gated products. -/
def part (R : Fin 16384) (n : Fin 1024) (k : ℕ) : EReal :=
  ∑ e ∈ Finset.range k, if h : e < 8 then A.gate R ⟨e, h⟩ * A.f R ⟨e, h⟩ n else 0

theorem part_zero (R : Fin 16384) (n : Fin 1024) : A.part R n 0 = 0 := Finset.sum_range_zero _
theorem part_succ (R : Fin 16384) (n : Fin 1024) (e : Fin 8) : A.part R n (e.val + 1) = A.part R n e.val + A.gate R e * A.f R e n := by
  unfold part
  rw [Finset.sum_range_succ, dif_pos e.isLt]
theorem part_all (R : Fin 16384) (n : Fin 1024) : A.h R n + A.part R n 8 = A.res (ix2 R n) := by
  rw [res_at]
  unfold part outRow
  rw [Finset.sum_range]
  refine congrArg (A.h R n + ·) (Finset.sum_congr rfl fun e _ => dif_pos e.isLt)
end Args

variable (m : (ℓ : Loc nD τ sig) → Buf (Elt Ideal) ℓ) (c : Dev nD)

/-- The arguments as launched. -/
def args : Args where
  x := m ((c.tc : Thread nD τ).loc main_arg0)
  oa := m ((c.tc : Thread nD τ).loc main_arg1)
  ob := m ((c.tc : Thread nD τ).loc main_arg2)
  oc := m ((c.tc : Thread nD τ).loc main_arg3)
  w := m ((c.tc : Thread nD τ).loc main_arg4)
  g := m ((c.tc : Thread nD τ).loc main_arg5)
  wr := m ((c.tc : Thread nD τ).loc main_arg6)
  wg := m ((c.tc : Thread nD τ).loc main_arg7)
  wu := m ((c.tc : Thread nD τ).loc main_arg8)
  wd := m ((c.tc : Thread nD τ).loc main_arg9)

/-- The residual stream by rows. -/
def hX (x : FVec Ideal S2x8192x1024 .f32) : FVec Ideal S16384x1024 .f32 := shapeCast S16384x1024 x shapeCasts_S2x8192x1024_S16384x1024
/-- A mixer's output by rows. -/
def hO (x : FVec Ideal S2x8192x384 .f32) : FVec Ideal S16384x384 .bf16 := truncf .bf16 (shapeCast S16384x384 x shapeCasts_S2x8192x384_S16384x384) bitsLt_bf16_f32
/-- The third mixer's output by rows. -/
def hO' (x : FVec Ideal S2x8192x256 .f32) : FVec Ideal S16384x256 .bf16 := truncf .bf16 (shapeCast S16384x256 x shapeCasts_S2x8192x256_S16384x256) bitsLt_bf16_f32
/-- The norm's scale as a row. -/
def hG (g : FVec Ideal S1024 .f32) : FVec Ideal S1x1024 .f32 := shapeCast S1x1024 g shapeCasts_S1024_S1x1024
/-- The router with zero columns added. -/
def hR (x : FVec Ideal S1024x8 .f32) : FVec Ideal S1024x128 .f32 :=
  Host.scatter scatter_S1024x128_S1_S1024x8_01_n_1_0 (fun _ b => b) (broadcastInDim S1024x128 ![] bcast_S_S1024x128 (constant S_ .f32 0x00000000#32))
    (broadcastInDim S1 ![] bcast_S_S1 (constantI S_ 32 0#32)) x

theorem V_x : V m c main_v3 = hX (args m c).x := by
  unfold V
  after_results_simp
  rfl
theorem V_oa : V m c main_v5 = hO (args m c).oa := by
  unfold V
  after_results_simp
  rfl
theorem V_ob : V m c main_v7 = hO (args m c).ob := by
  unfold V
  after_results_simp
  rfl
theorem V_oc : V m c main_v9 = hO' (args m c).oc := by
  unfold V
  after_results_simp
  rfl
theorem V_w : V m c main_v10 = truncf (F := Ideal) (φ := .f32) .bf16 (args m c).w bitsLt_bf16_f32 := by
  unfold V
  after_results_simp
  rfl
theorem V_g : V m c main_v14 = hG (args m c).g := by
  unfold V
  after_results_simp
  rfl
theorem V_r : V m c main_v2 = hR (args m c).wr := by
  unfold V
  after_results_simp
  rfl
theorem V_wg : V m c main_v11 = truncf (F := Ideal) (φ := .f32) .bf16 (args m c).wg bitsLt_bf16_f32 := by
  unfold V
  after_results_simp
  rfl
theorem V_wu : V m c main_v12 = truncf (F := Ideal) (φ := .f32) .bf16 (args m c).wu bitsLt_bf16_f32 := by
  unfold V
  after_results_simp
  rfl
theorem V_wd : V m c main_v13 = truncf (F := Ideal) (φ := .f32) .bf16 (args m c).wd bitsLt_bf16_f32 := by
  unfold V
  after_results_simp
  rfl

theorem hX_at (x : FVec Ideal S2x8192x1024 .f32) (R : Fin 16384) (n : Fin 1024) : hX x (ix2 R n) = x (ix3 (rb R) (rs R) n) := by
  pointwise [hX, rb, rs]
theorem hO_at (x : FVec Ideal S2x8192x384 .f32) (R : Fin 16384) (n : Fin 384) : hO x (ix2 R n) = x (ix3 (rb R) (rs R) n) := by
  pointwise [hO, rb, rs]
theorem hO'_at (x : FVec Ideal S2x8192x256 .f32) (R : Fin 16384) (n : Fin 256) : hO' x (ix2 R n) = x (ix3 (rb R) (rs R) n) := by
  pointwise [hO', rb, rs]
theorem hG_at (x : FVec Ideal S1024 .f32) (n : Fin 1024) : hG x (ix2 0 n) = x (ix1 n) := by
  pointwise [hG]

/-- Where an entry of the router lands. -/
theorem lands (idx : IVec S1 32) (hi : idx = broadcastInDim S1 ![] bcast_S_S1 (constantI S_ 32 0#32)) (k : Fin 1024) (j : S1024x8.Idx) (e : Fin 8) :
    scatter_S1024x128_S1_S1024x8_01_n_1_0.resultIdx? j idx = some (ix2 k (ecol e)) ↔ j = ix2 k e := by
  refine (Routing.resultIdx?_ix2 (R := 1024) (C := 128) scatter_S1024x128_S1_S1024x8_01_n_1_0 j idx k (ecol e)).trans ?_
  subst hi
  have s0 : scatter_S1024x128_S1_S1024x8_01_n_1_0.start j (broadcastInDim S1 ![] bcast_S_S1 (constantI S_ 32 0#32)) 0 = 0 := rfl
  have s1 : scatter_S1024x128_S1_S1024x8_01_n_1_0.start j (broadcastInDim S1 ![] bcast_S_S1 (constantI S_ 32 0#32)) 1 = 0 := rfl
  have w0 : scatter_S1024x128_S1_S1024x8_01_n_1_0.window j 0 = (j 0).val := rfl
  have w1 : scatter_S1024x128_S1_S1024x8_01_n_1_0.window j 1 = (j 1).val := rfl
  rw [s0, s1, w0, w1]
  constructor
  · rintro ⟨h0, h1⟩
    funext a; apply Fin.ext
    match a with
    | ⟨0, _⟩ => show (j 0).val = k.val; omega
    | ⟨1, _⟩ => show (j 1).val = e.val; change 0 + ((j 1).val : Int) = (e.val : Int) at h1; omega
  · rintro rfl
    exact ⟨Int.zero_add _, Int.zero_add _⟩

theorem hR_at (x : FVec Ideal S1024x8 .f32) (k : Fin 1024) (e : Fin 8) : hR x (ix2 k (ecol e)) = x (ix2 k e) := by
  unfold hR
  exact Routing.scatter_set_hit _ _ _ _ _ _ (fun j hj => congrArg x ((lands _ rfl k j e).1 hj)) (ix2 k e) ((lands _ rfl k _ e).2 rfl)

theorem grid_N : grid0.N = 256 := by decide +kernel
theorem lt_N (t : Fin cfg0.N) : t.val < 256 := by have h : t.val < grid0.N := t.isLt; rwa [grid_N] at h
theorem coord1 : ∀ t : Fin grid0.N, (grid0.coords t 1).val = t.val % 8 := by decide +kernel

theorem idx0 : ∀ t : Fin grid0.N, win0_0.index t (0 : Fin 2) = t.val / 8 ∧ win0_0.index t (1 : Fin 2) = 0 := by decide +kernel
theorem idx1 : ∀ t : Fin grid0.N, win0_1.index t (0 : Fin 2) = t.val / 8 ∧ win0_1.index t (1 : Fin 2) = 0 := by decide +kernel
theorem idx2 : ∀ t : Fin grid0.N, win0_2.index t (0 : Fin 2) = t.val / 8 ∧ win0_2.index t (1 : Fin 2) = 0 := by decide +kernel
theorem idx3 : ∀ t : Fin grid0.N, win0_3.index t (0 : Fin 2) = t.val / 8 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 3) = t.val % 8 ∧ win0_7.index t (1 : Fin 3) = 0 ∧ win0_7.index t (2 : Fin 3) = 0 := by decide +kernel
theorem idx8 : ∀ t : Fin grid0.N, win0_8.index t (0 : Fin 3) = t.val % 8 ∧ win0_8.index t (1 : Fin 3) = 0 ∧ win0_8.index t (2 : Fin 3) = 0 := by decide +kernel
theorem idx9 : ∀ t : Fin grid0.N, win0_9.index t (0 : Fin 3) = t.val % 8 ∧ win0_9.index t (1 : Fin 3) = 0 ∧ win0_9.index t (2 : Fin 3) = 0 := by decide +kernel

variable (t : Fin cfg0.N)

/-- The expert of a point. -/
def ex : Fin 8 := ⟨t.val % 8, Nat.mod_lt _ (by decide)⟩

/-- A point's row, in the whole array. -/
def gr (i : Fin 512) : Fin 16384 := ⟨512 * (t.val / 8) + i.val, by have := lt_N t; omega⟩

theorem coord_ex : grid0.coords t 1 = ex t := Fin.ext (coord1 t)

theorem emb0 (i : Fin 512) (n : Fin 1024) :
    ((cfg0.win 0).blk t).view.emb (ix2 i n) = (ix2 (gr t i) n : S16384x1024.Idx) := by
  obtain ⟨e0, e1⟩ := idx0 t
  funext a; apply Fin.ext
  match a with
  | ⟨0, _⟩ => show win0_0.index t (0 : Fin 2) * 512 + 1 * i.val = 512 * (t.val / 8) + i.val; omega
  | ⟨1, _⟩ => show win0_0.index t (1 : Fin 2) * 1024 + 1 * n.val = n.val; omega

theorem emb1 (i : Fin 512) (n : Fin 384) :
    ((cfg0.win 1).blk t).view.emb (ix2 i n) = (ix2 (gr t i) n : S16384x384.Idx) := by
  obtain ⟨e0, e1⟩ := idx1 t
  funext a; apply Fin.ext
  match a with
  | ⟨0, _⟩ => show win0_1.index t (0 : Fin 2) * 512 + 1 * i.val = 512 * (t.val / 8) + i.val; omega
  | ⟨1, _⟩ => show win0_1.index t (1 : Fin 2) * 384 + 1 * n.val = n.val; omega

theorem emb2 (i : Fin 512) (n : Fin 384) :
    ((cfg0.win 2).blk t).view.emb (ix2 i n) = (ix2 (gr t i) n : S16384x384.Idx) := by
  obtain ⟨e0, e1⟩ := idx2 t
  funext a; apply Fin.ext
  match a with
  | ⟨0, _⟩ => show win0_2.index t (0 : Fin 2) * 512 + 1 * i.val = 512 * (t.val / 8) + i.val; omega
  | ⟨1, _⟩ => show win0_2.index t (1 : Fin 2) * 384 + 1 * n.val = n.val; omega

theorem emb3 (i : Fin 512) (n : Fin 256) :
    ((cfg0.win 3).blk t).view.emb (ix2 i n) = (ix2 (gr t i) n : S16384x256.Idx) := by
  obtain ⟨e0, e1⟩ := idx3 t
  funext a; apply Fin.ext
  match a with
  | ⟨0, _⟩ => show win0_3.index t (0 : Fin 2) * 512 + 1 * i.val = 512 * (t.val / 8) + i.val; omega
  | ⟨1, _⟩ => show win0_3.index t (1 : Fin 2) * 256 + 1 * n.val = n.val; omega

theorem emb4 (j : S1024x1024.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem emb5 (j : S1x1024.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem emb6 (j : S1024x128.Idx) : ((cfg0.win 6).blk t).view.emb j = j := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 128 + 1 * (j 1).val = (j 1).val; omega

theorem emb7 (k n : Fin 1024) : ((cfg0.win 7).blk t).view.emb (ix3 0 k n) = (ix3 (ex t) k n : S8x1024x1024.Idx) := by
  obtain ⟨e0, e1, e2⟩ := idx7 t
  funext a; apply Fin.ext
  match a with
  | ⟨0, _⟩ => show win0_7.index t (0 : Fin 3) * 1 + 1 * 0 = t.val % 8; omega
  | ⟨1, _⟩ => show win0_7.index t (1 : Fin 3) * 1024 + 1 * k.val = k.val; omega
  | ⟨2, _⟩ => show win0_7.index t (2 : Fin 3) * 1024 + 1 * n.val = n.val; omega

theorem emb8 (k n : Fin 1024) : ((cfg0.win 8).blk t).view.emb (ix3 0 k n) = (ix3 (ex t) k n : S8x1024x1024.Idx) := by
  obtain ⟨e0, e1, e2⟩ := idx8 t
  funext a; apply Fin.ext
  match a with
  | ⟨0, _⟩ => show win0_8.index t (0 : Fin 3) * 1 + 1 * 0 = t.val % 8; omega
  | ⟨1, _⟩ => show win0_8.index t (1 : Fin 3) * 1024 + 1 * k.val = k.val; omega
  | ⟨2, _⟩ => show win0_8.index t (2 : Fin 3) * 1024 + 1 * n.val = n.val; omega

theorem emb9 (k n : Fin 1024) : ((cfg0.win 9).blk t).view.emb (ix3 0 k n) = (ix3 (ex t) k n : S8x1024x1024.Idx) := by
  obtain ⟨e0, e1, e2⟩ := idx9 t
  funext a; apply Fin.ext
  match a with
  | ⟨0, _⟩ => show win0_9.index t (0 : Fin 3) * 1 + 1 * 0 = t.val % 8; omega
  | ⟨1, _⟩ => show win0_9.index t (1 : Fin 3) * 1024 + 1 * k.val = k.val; omega
  | ⟨2, _⟩ => show win0_9.index t (2 : Fin 3) * 1024 + 1 * n.val = n.val; omega

theorem blk0 (i : Fin 512) : brow (iblk m c 0 t) i = Ref.row (args m c).x (rb (gr t i)) (rs (gr t i)) := by
  funext n
  show V m c main_v3 (((cfg0.win 0).blk t).view.emb (ix2 i n)) = _
  rw [emb0, V_x, hX_at]
  rfl

theorem blk1 (i : Fin 512) : brow (iblk m c 1 t) i = Ref.row (args m c).oa (rb (gr t i)) (rs (gr t i)) := by
  funext n
  show V m c main_v5 (((cfg0.win 1).blk t).view.emb (ix2 i n)) = _
  rw [emb1, V_oa, hO_at]
  rfl

theorem blk2 (i : Fin 512) : brow (iblk m c 2 t) i = Ref.row (args m c).ob (rb (gr t i)) (rs (gr t i)) := by
  funext n
  show V m c main_v7 (((cfg0.win 2).blk t).view.emb (ix2 i n)) = _
  rw [emb2, V_ob, hO_at]
  rfl

theorem blk3 (i : Fin 512) : brow (iblk m c 3 t) i = Ref.row (args m c).oc (rb (gr t i)) (rs (gr t i)) := by
  funext n
  show V m c main_v9 (((cfg0.win 3).blk t).view.emb (ix2 i n)) = _
  rw [emb3, V_oc, hO'_at]
  rfl

theorem blk4 : brow (iblk m c 4 t) = Ref.mat (args m c).w := by
  funext k n
  show V m c main_v10 (((cfg0.win 4).blk t).view.emb (ix2 k n)) = _
  rw [emb4, V_w]
  rfl

theorem blk5 : (fun n => iblk m c 5 t (ix2 0 n)) = Ref.vec (args m c).g := by
  funext n
  show V m c main_v14 (((cfg0.win 5).blk t).view.emb (ix2 0 n)) = _
  rw [emb5, V_g, hG_at]
  rfl

theorem blk6 : (fun k e => iblk m c 6 t (ix2 k (ecol e))) = Ref.mat (args m c).wr := by
  funext k e
  show V m c main_v2 (((cfg0.win 6).blk t).view.emb (ix2 k (ecol e))) = _
  rw [emb6, V_r, hR_at]
  rfl

theorem blk7 : bslab (iblk m c 7 t) = Ref.slab (args m c).wg (ex t) := by
  funext k n
  show V m c main_v11 (((cfg0.win 7).blk t).view.emb (ix3 0 k n)) = _
  rw [emb7, V_wg]
  rfl

theorem blk8 : bslab (iblk m c 8 t) = Ref.slab (args m c).wu (ex t) := by
  funext k n
  show V m c main_v12 (((cfg0.win 8).blk t).view.emb (ix3 0 k n)) = _
  rw [emb8, V_wu]
  rfl

theorem blk9 : bslab (iblk m c 9 t) = Ref.slab (args m c).wd (ex t) := by
  funext k n
  show V m c main_v13 (((cfg0.win 9).blk t).view.emb (ix3 0 k n)) = _
  rw [emb9, V_wd]
  rfl

end Cert.Moe

end
-- ==== Proof.Moe.Arr.lean ====
/-
  The experts' result array, from the arguments: what each grid point leaves, by induction over the points.
-/
module

public import proofs.«01_k».proof.Proof.Moe.Win

@[expose] public section

noncomputable section

namespace Cert.Moe

open Cert.Kernel2Ideal Cert.Kernel2Ideal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD) (t : Fin cfg0.N)

/-- What a point leaves in the carried arrays. -/
def left : Vec Ideal S512x1024 .f32 × Vec Ideal S512x1024 .bf16 × Vec Ideal S8x512x128 .f32 × Vec Ideal S512x1024 .f32 := (outsAt0 m c t.val t.isLt).2

/-- The normed rows of a point's block. -/
def nrm : FVec Ideal S512x1024 .f32 := normed (iblk m c 0 t) (iblk m c 1 t) (iblk m c 2 t) (iblk m c 3 t) (iblk m c 4 t) (iblk m c 5 t)

/-- The first point of a block of rows. -/
theorem left_A (h0 : t.val % 8 = 0) : left m c t
    = (resid (iblk m c 0 t) (iblk m c 1 t) (iblk m c 2 t) (iblk m c 3 t) (iblk m c 4 t), k0_pay8 (nrm m c t), slabs (gates (nrm m c t) (iblk m c 6 t)),
      acc (ex t) (k0_pay8 (nrm m c t)) (slabs (gates (nrm m c t) (iblk m c 6 t))) zrows (iblk m c 7 t) (iblk m c 8 t) (iblk m c 9 t)) := by
  unfold left nrm
  rw [outsAt0_A m c t h0 (by omega), ← coord_ex]
  dsimp only
  rw [hA, nA, gA, accA]

/-- A later point keeps the residual, the normed rows and the gates, and adds its expert. -/
theorem left_BC (h0 : ¬t.val % 8 = 0) (t' : Fin cfg0.N) (ht : t'.val = t.val - 1) : left m c t
    = ((left m c t').1, (left m c t').2.1, (left m c t').2.2.1,
      acc (ex t) (left m c t').2.1 (left m c t').2.2.1 (left m c t').2.2.2 (iblk m c 7 t) (iblk m c 8 t) (iblk m c 9 t)) := by
  obtain ⟨k, hk⟩ := t'
  have e : k = t.val - 1 := ht
  subst e
  unfold left
  by_cases h1 : t.val % 8 = 7
  · rw [outsAt0_C m c t h0 h1, ← coord_ex]
    dsimp only
    rw [accC]
    rfl
  · rw [outsAt0_B m c t h0 h1, ← coord_ex]
    dsimp only
    rw [accB]
    rfl

/-- The last point of a block of rows stores residual plus sum. -/
theorem out_C (h1 : t.val % 8 = 7) : (outsAt0 m c t.val t.isLt).1 = k0_pay4 (left m c t).1 (left m c t).2.2.2 := by
  unfold left
  rw [outsAt0_C m c t (by omega) h1]
  dsimp only
  rw [outC, accC]
  rfl

/-- What a point has computed, by rows. -/
def Inv : Prop := ∀ i : Fin 512,
  brow (left m c t).1 i = (args m c).h (gr t i) ∧ brow (left m c t).2.1 i = (args m c).nn (gr t i)
    ∧ (∀ e z, (left m c t).2.2.1 (ix3 e i z) = (args m c).gate (gr t i) e)
    ∧ ∀ n, (left m c t).2.2.2 (ix2 i n) = (args m c).part (gr t i) n (t.val % 8 + 1)

/-- One expert more. -/
theorem acc_at (hn : Vec Ideal S512x1024 .bf16) (cb : Vec Ideal S8x512x128 .f32) (a : Vec Ideal S512x1024 .f32) (i : Fin 512)
    (h2 : brow hn i = (args m c).nn (gr t i)) (h3 : ∀ e z, cb (ix3 e i z) = (args m c).gate (gr t i) e) (n : Fin 1024)
    (h4 : a (ix2 i n) = (args m c).part (gr t i) n (t.val % 8)) :
    acc (ex t) hn cb a (iblk m c 7 t) (iblk m c 8 t) (iblk m c 9 t) (ix2 i n) = (args m c).part (gr t i) n (t.val % 8 + 1) := by
  show a (ix2 i n) + cb (ix3 (ex t) i (lane (ix2 i n))) * ffn hn (iblk m c 7 t) (iblk m c 8 t) (iblk m c 9 t) (ix2 i n) = _
  rw [h4, h3, ffn_at, h2, blk7, blk8, blk9]
  exact ((args m c).part_succ (gr t i) n (ex t)).symm

theorem resid_row (i : Fin 512) : brow (resid (iblk m c 0 t) (iblk m c 1 t) (iblk m c 2 t) (iblk m c 3 t) (iblk m c 4 t)) i = (args m c).h (gr t i) := by
  rw [resid_at, blk0, blk1, blk2, blk3, blk4]
  exact (Ref.yv_at _ _ _ _ _ _ _).symm

theorem normed_row (i : Fin 512) : brow (nrm m c t) i = (args m c).nn (gr t i) := by
  unfold nrm
  rw [normed_at, resid_row, blk5]
  rfl

variable {m c} (hA : (args m c).Real)

include hA in
theorem inv_A (h0 : t.val % 8 = 0) : Inv m c t := by
  intro i
  rw [left_A m c t h0]
  have hn : brow (k0_pay8 (nrm m c t)) i = (args m c).nn (gr t i) := (pay8_eq _ i).trans (normed_row m c t i)
  have hg : ∀ e z, slabs (gates (nrm m c t) (iblk m c 6 t)) (ix3 e i z) = (args m c).gate (gr t i) e := by
    intro e z
    have hl : (lRow (brow (nrm m c t) i) fun k e => iblk m c 6 t (ix2 k (ecol e))) = (args m c).l (gr t i) := by
      rw [normed_row, blk6]
      rfl
    obtain ⟨a, b, hab⟩ := exists_isTop ((args m c).l (gr t i))
    show gates (nrm m c t) (iblk m c 6 t) (ix2 i (ecol e)) = _
    rw [gates_at (nrm m c t) (iblk m c 6 t) i (a := a) (b := b) (by rw [hl]; exact hab)
      (fun j => by rw [hl]; exact (Args.l_real hA _ j).bot_lt) e, hl, Args.gate_eq hA _ hab]
  refine ⟨resid_row m c t i, hn, hg, fun n => acc_at m c t _ _ _ i hn hg n ?_⟩
  rw [zrows_at, h0, Args.part_zero]

theorem inv_BC (h0 : ¬t.val % 8 = 0) (t' : Fin cfg0.N) (ht : t'.val = t.val - 1) (h : Inv m c t') : Inv m c t := by
  intro i
  obtain ⟨e1, e2, e3, e4⟩ := h i
  have eg : gr t' i = gr t i := Fin.ext (by show 512 * (t'.val / 8) + i.val = 512 * (t.val / 8) + i.val; omega)
  rw [eg] at e1 e2 e3 e4
  rw [left_BC m c t h0 t' ht]
  refine ⟨e1, e2, e3, fun n => acc_at m c t _ _ _ i e2 e3 n ((e4 n).trans ?_)⟩
  have : t'.val % 8 + 1 = t.val % 8 := by omega
  rw [this]

include hA in
theorem inv : ∀ (n : ℕ) (hn : n < cfg0.N), Inv m c ⟨n, hn⟩
  | 0, hn => inv_A ⟨0, hn⟩ hA rfl
  | n + 1, hn => by
    by_cases h0 : (n + 1) % 8 = 0
    · exact inv_A ⟨n + 1, hn⟩ hA h0
    · exact inv_BC ⟨n + 1, hn⟩ h0 ⟨n, Nat.lt_of_succ_lt hn⟩ rfl (inv n (Nat.lt_of_succ_lt hn))

include hA in
/-- The block that a last point stores. -/
theorem out_at (h1 : t.val % 8 = 7) (i : Fin 512) (n : Fin 1024) : (outsAt0 m c t.val t.isLt).1 (ix2 i n) = (args m c).res (ix2 (gr t i) n) := by
  obtain ⟨e1, -, -, e4⟩ := inv hA t.val t.isLt i
  rw [out_C m c t h1, pay4_at]
  have e1' : (left m c t).1 (ix2 i n) = (args m c).h (gr t i) n := congrFun e1 n
  have e4' : (left m c t).2.2.2 (ix2 i n) = (args m c).part (gr t i) n 8 := by
    rw [show (8 : ℕ) = t.val % 8 + 1 by omega]; exact e4 n
  rw [e1', e4', Args.part_all]

include hA in
/-- The result array. -/
theorem G10_eq : Cert.Kernel2Ideal.Value.G10 m c = (args m c).res := by
  funext j
  have h0 : (j 0).val < 16384 := (j 0).isLt
  have h1 : (j 1).val < 1024 := (j 1).isLt
  have hr : Cert.Kernel2Ideal.Value.run10Of j = (j 0).val / 512 := by
    show 1 * ((j 0).val / 512 - 0) + 1 * ((j 1).val / 1024 - 0) = _
    omega
  have hp : Cert.Kernel2Ideal.Value.pt10Of j < cfg0.N := by
    show 8 * Cert.Kernel2Ideal.Value.run10Of j + 7 < grid0.N
    rw [grid_N, hr]; omega
  unfold Cert.Kernel2Ideal.Value.G10
  rw [dif_pos hp]
  refine (congrArg (fun S => S.1 (Cert.Kernel2Ideal.Value.loc10Of j)) (Cert.Kernel2Ideal.Value.outsAt0_sweep m c _ hp).symm).trans ?_
  have el : Cert.Kernel2Ideal.Value.loc10Of j = (ix2 ⟨(j 0).val % 512, by omega⟩ (j 1) : S512x1024.Idx) := by
    funext a; apply Fin.ext
    match a with
    | ⟨0, _⟩ => rfl
    | ⟨1, _⟩ => show (j 1).val % 1024 = (j 1).val; omega
  rw [el]
  refine (out_at ⟨_, hp⟩ hA (by show (8 * Cert.Kernel2Ideal.Value.run10Of j + 7) % 8 = 7; omega) _ _).trans (congrArg _ ?_)
  funext a; apply Fin.ext
  match a with
  | ⟨0, _⟩ =>
    show 512 * ((8 * Cert.Kernel2Ideal.Value.run10Of j + 7) / 8) + (j 0).val % 512 = (j 0).val
    rw [hr]; omega
  | ⟨1, _⟩ => rfl

end Cert.Moe

end
-- ==== Proof.Moe.Algebraic.lean ====
/-
  The experts' call: its frames, the finite norm scale and router from the precondition, and the value claim.
-/
module

public import proofs.«01_k».proof.Proof.Algebraic
public import proofs.«01_k».proof.Proof.Moe.Arr
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run

@[expose] public section

noncomputable section

namespace Cert.Moe

open Idealize.ShloMosaic Idealize.ShloMosaic.TcCoe Idealize.SL.Sem

attribute [local instance] Cert.Kernel2.Gen.facts Cert.Kernel2Ideal.Gen.facts Cert.Reference2Ideal.Gen.facts

/-- The precondition's side conditions. -/
theorem pre_facts : Cert.Pre_finite2.Facts where
  bcast_S_S1024 := by decide
  reducesTo_S1024_S_d0 := by decide
  h_S_ := by decide
  bcast_S_S1024x8 := by decide
  reducesTo_S1024x8_S_d0_1 := by decide

attribute [local instance] pre_facts

/-- The kernel changes no argument and leaves no counter. -/
theorem frame_p : Cert.quiescent_Kernel2 := fun m ρ _ => Cert.Kernel2.Gen.frame m ρ
/-- The kernel over the extended reals changes no argument and leaves no counter. -/
theorem frame_pi : Cert.quiescent_Kernel2Ideal := fun m ρ _ => Cert.Kernel2Ideal.Gen.frame m ρ
/-- The same under the precondition. -/
theorem frame_pi_pre : Cert.quiescent_Kernel2Ideal_pre_finite2 := fun m ρ _ => Cert.Kernel2Ideal.Gen.frame m ρ
/-- The reference changes no argument and leaves no counter. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
/-- The same under the precondition. -/
theorem frame_ri_pre : Cert.quiescent_Reference2Ideal_pre_finite2 := fun m ρ _ => frame_ri m ρ trivial

instance : Subsingleton Cert.Pre_finite2.S_.Idx := ⟨fun a b => funext fun i => i.elim0⟩

/-- The precondition makes the norm's scale and the router real numbers. -/
theorem real_args (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : (args m c).Real := by
  have h1 := congrFun (h c) (fun a => a.elim0)
  unfold Cert.Pre_finite2.fn at h1
  obtain ⟨ha, hb⟩ := IntOp.andi_eq_one.1 h1
  refine ⟨fun i => ?_, fun i => ?_⟩
  · have := Cert.Proof.Value.finite_of_lt _ (Host.reduce_andi_all _ _ _ _ _ ha i)
    exact IsReal.of_ne this
  · have := Cert.Proof.Value.finite_of_lt _ (Host.reduce_andi_all _ _ _ _ _ hb i)
    exact IsReal.of_ne this

/-- With a real norm scale and router the kernel's result and the reference's are equal. -/
theorem algebraic : Cert.algebraic_Kernel2Ideal_Reference2Ideal_pre_finite2 := by
  intro m ρ m' ρ' hpre hagree
  refine ⟨fun c => (args m c).res, (θ_run Cert.Kernel2Ideal.defs _ _).mono (fun _ h c => ⟨(h c).1.trans (G10_eq (real_args m hpre c)), (h c).2⟩)
    (Cert.Kernel2Ideal.Value.run m ρ), ?_⟩
  refine (θ_run Cert.Reference2Ideal.defs _ _).mono (fun _ h c => ⟨(h c).1.trans ?_, (h c).2⟩) (Cert.Reference2Ideal.Value.run (F := Ideal) m' ρ')
  obtain ⟨e0, e1, e2, e3, e4, e5, e6, e7, e8, e9⟩ := hagree c
  unfold args Args.res
  dsimp only
  rw [← e0, ← e1, ← e2, ← e3, ← e4, ← e5, ← e6, ← e7, ← e8, ← e9]
  rfl

end Cert.Moe

end
-- ==== Proof.Dense.Step.lean ====
/-
  What one grid point of the dense feed-forward call stores: the residual rows, and on them, one after the other, the products of
  eleven slices of 256 inner columns.
-/
module

public import proofs.«01_k».proof.Defs
public import proofs.«01_k».proof.Proof.Moe.Step
public import proofs.«01_k».proof.Proof.Gen.Kernel3Ideal.Value
public import Idealize.ShloMosaic.Lib.Pipeline.Value
public import Idealize.ShloMosaic.Lib.Pipeline.ValueKit.Acc
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Dense

open Cert.Kernel3Ideal Cert.Kernel3Ideal.Gen
open Cert.Moe (hz2)

local notation "F" => Ideal

/-- The residual rows: the inputs plus the three slabs' products. -/
def resid (x0 : Vec F S512x1024 .f32) (x1 x2 : Vec F S512x384 .bf16) (x3 : Vec F S512x256 .bf16) (x4 : Vec F S1024x1024 .bf16) :
    FVec F S512x1024 .f32 :=
  k0_pay3 x0 x1 (View.ld x4 (Rect.unit ![0, 0] ![384, 1024] inb_S1024x1024_S384x1024_0_0)) x2
    (View.ld x4 (Rect.unit ![384, 0] ![384, 1024] inb_S1024x1024_S384x1024_384_0)) x3
    (View.ld x4 (Rect.unit ![768, 0] ![256, 1024] inb_S1024x1024_S256x1024_768_0))

/-- The normed rows. -/
def normed (x0 : Vec F S512x1024 .f32) (x1 x2 : Vec F S512x384 .bf16) (x3 : Vec F S512x256 .bf16) (x4 : Vec F S1024x1024 .bf16)
    (x5 : Vec F S1x1024 .f32) : FVec F S512x1024 .bf16 :=
  k0_pay4 x0 x1 (View.ld x4 (Rect.unit ![0, 0] ![384, 1024] inb_S1024x1024_S384x1024_0_0)) x2
    (View.ld x4 (Rect.unit ![384, 0] ![384, 1024] inb_S1024x1024_S384x1024_384_0)) x3
    (View.ld x4 (Rect.unit ![768, 0] ![256, 1024] inb_S1024x1024_S256x1024_768_0)) x5

/-- The rows after 1 slices. -/
def y1 (hn : FVec F S512x1024 .bf16) (x6 x7 : Vec F S1024x2816 .bf16) (x8 : Vec F S2816x1024 .bf16) (y : FVec F S512x1024 .f32) : FVec F S512x1024 .f32 :=
  k0_pay5 hn (View.ld x6 (Rect.unit ![0, 0] ![1024, 256] inb_S1024x2816_S1024x256_0_0)) (View.ld x7 (Rect.unit ![0, 0] ![1024, 256] inb_S1024x2816_S1024x256_0_0)) y (View.ld x8 (Rect.unit ![0, 0] ![256, 1024] inb_S2816x1024_S256x1024_0_0))

/-- The rows after 2 slices. -/
def y2 (hn : FVec F S512x1024 .bf16) (x6 x7 : Vec F S1024x2816 .bf16) (x8 : Vec F S2816x1024 .bf16) (y : FVec F S512x1024 .f32) : FVec F S512x1024 .f32 :=
  k0_pay6 hn (View.ld x6 (Rect.unit ![0, 256] ![1024, 256] inb_S1024x2816_S1024x256_0_256)) (View.ld x7 (Rect.unit ![0, 256] ![1024, 256] inb_S1024x2816_S1024x256_0_256)) y (View.ld x8 (Rect.unit ![256, 0] ![256, 1024] inb_S2816x1024_S256x1024_256_0))

/-- The rows after 3 slices. -/
def y3 (hn : FVec F S512x1024 .bf16) (x6 x7 : Vec F S1024x2816 .bf16) (x8 : Vec F S2816x1024 .bf16) (y : FVec F S512x1024 .f32) : FVec F S512x1024 .f32 :=
  k0_pay7 hn (View.ld x6 (Rect.unit ![0, 512] ![1024, 256] inb_S1024x2816_S1024x256_0_512)) (View.ld x7 (Rect.unit ![0, 512] ![1024, 256] inb_S1024x2816_S1024x256_0_512)) y (View.ld x8 (Rect.unit ![512, 0] ![256, 1024] inb_S2816x1024_S256x1024_512_0))

/-- The rows after 4 slices. -/
def y4 (hn : FVec F S512x1024 .bf16) (x6 x7 : Vec F S1024x2816 .bf16) (x8 : Vec F S2816x1024 .bf16) (y : FVec F S512x1024 .f32) : FVec F S512x1024 .f32 :=
  k0_pay11 (k0_pay8 hn (View.ld x6 (Rect.unit ![0, 768] ![1024, 256] inb_S1024x2816_S1024x256_0_768)) (View.ld x7 (Rect.unit ![0, 768] ![1024, 256] inb_S1024x2816_S1024x256_0_768))) (k0_pay9 y) (k0_pay10 (View.ld x8 (Rect.unit ![768, 0] ![256, 1024] inb_S2816x1024_S256x1024_768_0))) (constant S512x1024 FTy.f32 0x00000000#32)

/-- The rows after 5 slices. -/
def y5 (hn : FVec F S512x1024 .bf16) (x6 x7 : Vec F S1024x2816 .bf16) (x8 : Vec F S2816x1024 .bf16) (y : FVec F S512x1024 .f32) : FVec F S512x1024 .f32 :=
  k0_pay12 hn (View.ld x6 (Rect.unit ![0, 1024] ![1024, 256] inb_S1024x2816_S1024x256_0_1024)) (View.ld x7 (Rect.unit ![0, 1024] ![1024, 256] inb_S1024x2816_S1024x256_0_1024)) y (View.ld x8 (Rect.unit ![1024, 0] ![256, 1024] inb_S2816x1024_S256x1024_1024_0))

/-- The rows after 6 slices. -/
def y6 (hn : FVec F S512x1024 .bf16) (x6 x7 : Vec F S1024x2816 .bf16) (x8 : Vec F S2816x1024 .bf16) (y : FVec F S512x1024 .f32) : FVec F S512x1024 .f32 :=
  k0_pay15 (k0_pay13 hn (View.ld x6 (Rect.unit ![0, 1280] ![1024, 256] inb_S1024x2816_S1024x256_0_1280)) (View.ld x7 (Rect.unit ![0, 1280] ![1024, 256] inb_S1024x2816_S1024x256_0_1280))) (k0_pay14 y) (View.ld x8 (Rect.unit ![1280, 0] ![256, 1024] inb_S2816x1024_S256x1024_1280_0))

/-- The rows after 7 slices. -/
def y7 (hn : FVec F S512x1024 .bf16) (x6 x7 : Vec F S1024x2816 .bf16) (x8 : Vec F S2816x1024 .bf16) (y : FVec F S512x1024 .f32) : FVec F S512x1024 .f32 :=
  k0_pay16 hn (View.ld x6 (Rect.unit ![0, 1536] ![1024, 256] inb_S1024x2816_S1024x256_0_1536)) (View.ld x7 (Rect.unit ![0, 1536] ![1024, 256] inb_S1024x2816_S1024x256_0_1536)) y (View.ld x8 (Rect.unit ![1536, 0] ![256, 1024] inb_S2816x1024_S256x1024_1536_0))

/-- The rows after 8 slices. -/
def y8 (hn : FVec F S512x1024 .bf16) (x6 x7 : Vec F S1024x2816 .bf16) (x8 : Vec F S2816x1024 .bf16) (y : FVec F S512x1024 .f32) : FVec F S512x1024 .f32 :=
  k0_pay19 (k0_pay17 hn (View.ld x6 (Rect.unit ![0, 1792] ![1024, 256] inb_S1024x2816_S1024x256_0_1792)) (View.ld x7 (Rect.unit ![0, 1792] ![1024, 256] inb_S1024x2816_S1024x256_0_1792))) (k0_pay18 y) (View.ld x8 (Rect.unit ![1792, 0] ![256, 1024] inb_S2816x1024_S256x1024_1792_0))

/-- The rows after 9 slices. -/
def y9 (hn : FVec F S512x1024 .bf16) (x6 x7 : Vec F S1024x2816 .bf16) (x8 : Vec F S2816x1024 .bf16) (y : FVec F S512x1024 .f32) : FVec F S512x1024 .f32 :=
  k0_pay20 hn (View.ld x6 (Rect.unit ![0, 2048] ![1024, 256] inb_S1024x2816_S1024x256_0_2048)) (View.ld x7 (Rect.unit ![0, 2048] ![1024, 256] inb_S1024x2816_S1024x256_0_2048)) y (View.ld x8 (Rect.unit ![2048, 0] ![256, 1024] inb_S2816x1024_S256x1024_2048_0))

/-- The rows after 10 slices. -/
def y10 (hn : FVec F S512x1024 .bf16) (x6 x7 : Vec F S1024x2816 .bf16) (x8 : Vec F S2816x1024 .bf16) (y : FVec F S512x1024 .f32) : FVec F S512x1024 .f32 :=
  k0_pay1 (k0_pay21 hn (View.ld x6 (Rect.unit ![0, 2304] ![1024, 256] inb_S1024x2816_S1024x256_0_2304)) (View.ld x7 (Rect.unit ![0, 2304] ![1024, 256] inb_S1024x2816_S1024x256_0_2304))) y (View.ld x8 (Rect.unit ![2304, 0] ![256, 1024] inb_S2816x1024_S256x1024_2304_0))

/-- The rows after 11 slices. -/
def y11 (hn : FVec F S512x1024 .bf16) (x6 x7 : Vec F S1024x2816 .bf16) (x8 : Vec F S2816x1024 .bf16) (y : FVec F S512x1024 .f32) : FVec F S512x1024 .f32 :=
  k0_pay2 hn (View.ld x6 (Rect.unit ![0, 2560] ![1024, 256] inb_S1024x2816_S1024x256_0_2560)) (View.ld x7 (Rect.unit ![0, 2560] ![1024, 256] inb_S1024x2816_S1024x256_0_2560)) y (View.ld x8 (Rect.unit ![2560, 0] ![256, 1024] inb_S2816x1024_S256x1024_2560_0))

/-- What the point's block holds in the end. -/
theorem out_eq (c : Dev nD) (i : grid0.Coords) (arg1 : Memref sig .tc .vmem S512x1024 .f32) (harg1 : arg1.IsWhole) (arg2 : Memref sig .tc .vmem S512x384 .bf16) (harg2 : arg2.IsWhole) (arg3 : Memref sig .tc .vmem S512x384 .bf16) (harg3 : arg3.IsWhole) (arg4 : Memref sig .tc .vmem S512x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S512x1024 .f32) (harg10 : arg10.IsWhole)
    (x0 : Vec F S512x1024 .f32) (x1 : Vec F S512x384 .bf16) (x2 : Vec F S512x384 .bf16) (x3 : Vec F S512x256 .bf16) (x4 : Vec F S1024x1024 .bf16) (x5 : Vec F S1x1024 .f32) (x6 : Vec F S1024x2816 .bf16) (x7 : Vec F S1024x2816 .bf16) (x8 : Vec F S2816x1024 .bf16) :
    out0_A_9 c i arg1 harg1 arg2 harg2 arg3 harg3 arg4 harg4 arg5 harg5 arg6 harg6 arg7 harg7 arg8 harg8 arg9 harg9 arg10 harg10 x0 x1 x2 x3 x4 x5 x6 x7 x8
      = y11 (normed x0 x1 x2 x3 x4 x5) x6 x7 x8 (y10 (normed x0 x1 x2 x3 x4 x5) x6 x7 x8 (y9 (normed x0 x1 x2 x3 x4 x5) x6 x7 x8 (y8 (normed x0 x1 x2 x3 x4 x5) x6 x7 x8 (y7 (normed x0 x1 x2 x3 x4 x5) x6 x7 x8 (y6 (normed x0 x1 x2 x3 x4 x5) x6 x7 x8 (y5 (normed x0 x1 x2 x3 x4 x5) x6 x7 x8 (y4 (normed x0 x1 x2 x3 x4 x5) x6 x7 x8 (y3 (normed x0 x1 x2 x3 x4 x5) x6 x7 x8 (y2 (normed x0 x1 x2 x3 x4 x5) x6 x7 x8 (y1 (normed x0 x1 x2 x3 x4 x5) x6 x7 x8 (resid x0 x1 x2 x3 x4))))))))))) := by
  unfold out0_A_9
  frame_out
  rfl

/-- One inner column's part of a product. -/
def term (hn : Fin 1024 → EReal) (a b : Fin 1024 → EReal) (d : EReal) : EReal :=
  (∑ k, hn k * a k) * Ideal.logistic (∑ k, hn k * a k) * (∑ k, hn k * b k) * d

/-- A column slice of a weight's block. -/
theorem ld_cols (o : ℕ) (ho : o + 256 ≤ 2816) (inb) (x : Vec F S1024x2816 .bf16) (k : Fin 1024) (j : Fin 256) :
    View.ld x (Rect.unit (s := S1024x2816) ![0, o] ![1024, 256] inb) (ix2 k j : S1024x256.Idx) = x (ix2 k ⟨o + j.val, by omega⟩) := by
  refine congrArg x ?_
  funext i; apply Fin.ext
  match i with
  | ⟨0, _⟩ => exact (Nat.zero_add _).trans (Nat.one_mul _)
  | ⟨1, _⟩ => exact congrArg (o + ·) (Nat.one_mul _)

/-- A row slice of a weight's block. -/
theorem ld_rows (o : ℕ) (ho : o + 256 ≤ 2816) (inb) (x : Vec F S2816x1024 .bf16) (j : Fin 256) (n : Fin 1024) :
    View.ld x (Rect.unit (s := S2816x1024) ![o, 0] ![256, 1024] inb) (ix2 j n : S256x1024.Idx) = x (ix2 ⟨o + j.val, by omega⟩ n) := by
  refine congrArg x ?_
  funext i; apply Fin.ext
  match i with
  | ⟨0, _⟩ => exact congrArg (o + ·) (Nat.one_mul _)
  | ⟨1, _⟩ => exact (Nat.zero_add _).trans (Nat.one_mul _)

/-- A slice's part, from its loads. -/
theorem slice (o : ℕ) (ho : o + 256 ≤ 2816) (hn : FVec F S512x1024 .bf16) (x6 x7 : Vec F S1024x2816 .bf16) (x8 : Vec F S2816x1024 .bf16) (i6 i7 i8)
    (r : Fin 512) (n : Fin 1024) :
    (∑ j : Fin 256, term (fun k => hn (ix2 r k)) (fun k => View.ld x6 (Rect.unit (s := S1024x2816) ![0, o] ![1024, 256] i6) (ix2 k j : S1024x256.Idx))
      (fun k => View.ld x7 (Rect.unit (s := S1024x2816) ![0, o] ![1024, 256] i7) (ix2 k j : S1024x256.Idx))
      (View.ld x8 (Rect.unit (s := S2816x1024) ![o, 0] ![256, 1024] i8) (ix2 j n : S256x1024.Idx)))
    = ∑ j : Fin 256, (fun J : Fin 2816 => term (fun k => hn (ix2 r k)) (fun k => x6 (ix2 k J)) (fun k => x7 (ix2 k J)) (x8 (ix2 J n))) ⟨o + j.val, by omega⟩ := by
  refine Finset.sum_congr rfl fun j _ => ?_
  exact congr (congr (congrArg (term _) (funext fun k => ld_cols o ho i6 x6 k j)) (funext fun k => ld_cols o ho i7 x7 k j)) (ld_rows o ho i8 x8 j n)

section
variable (hn : FVec F S512x1024 .bf16) (x6 x7 : Vec F S1024x2816 .bf16) (x8 : Vec F S2816x1024 .bf16) (y : FVec F S512x1024 .f32) (r : Fin 512) (n : Fin 1024)
  (A B : Vec F S1024x256 .bf16) (D : Vec F S256x1024 .bf16)

theorem part1_at : k0_pay5 hn A B y D (ix2 r n) = y (ix2 r n)
    + ∑ j : Fin 256, term (fun k => hn (ix2 r k)) (fun k => A (ix2 k j)) (fun k => B (ix2 k j)) (D (ix2 j n)) := by
  unfold term
  pointwise [k0_pay5]

theorem y1_at : y1 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨0 + j.val, by omega⟩ :=
  (part1_at hn y r n _ _ _).trans (congrArg (y (ix2 r n) + ·) (slice 0 (by omega) hn x6 x7 x8 _ _ _ r n))

theorem part2_at : k0_pay6 hn A B y D (ix2 r n) = y (ix2 r n)
    + ∑ j : Fin 256, term (fun k => hn (ix2 r k)) (fun k => A (ix2 k j)) (fun k => B (ix2 k j)) (D (ix2 j n)) := by
  unfold term
  pointwise [k0_pay6]

theorem y2_at : y2 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨256 + j.val, by omega⟩ :=
  (part2_at hn y r n _ _ _).trans (congrArg (y (ix2 r n) + ·) (slice 256 (by omega) hn x6 x7 x8 _ _ _ r n))

theorem part3_at : k0_pay7 hn A B y D (ix2 r n) = y (ix2 r n)
    + ∑ j : Fin 256, term (fun k => hn (ix2 r k)) (fun k => A (ix2 k j)) (fun k => B (ix2 k j)) (D (ix2 j n)) := by
  unfold term
  pointwise [k0_pay7]

theorem y3_at : y3 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨512 + j.val, by omega⟩ :=
  (part3_at hn y r n _ _ _).trans (congrArg (y (ix2 r n) + ·) (slice 512 (by omega) hn x6 x7 x8 _ _ _ r n))

theorem part4_at : k0_pay11 (k0_pay8 hn A B) (k0_pay9 y) (k0_pay10 D) (constant S512x1024 FTy.f32 0x00000000#32) (ix2 r n) = y (ix2 r n)
    + ∑ j : Fin 256, term (fun k => hn (ix2 r k)) (fun k => A (ix2 k j)) (fun k => B (ix2 k j)) (D (ix2 j n)) := by
  unfold term
  pointwise [k0_pay11, k0_pay8, k0_pay9, k0_pay10]

theorem y4_at : y4 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨768 + j.val, by omega⟩ :=
  (part4_at hn y r n _ _ _).trans (congrArg (y (ix2 r n) + ·) (slice 768 (by omega) hn x6 x7 x8 _ _ _ r n))

theorem part5_at : k0_pay12 hn A B y D (ix2 r n) = y (ix2 r n)
    + ∑ j : Fin 256, term (fun k => hn (ix2 r k)) (fun k => A (ix2 k j)) (fun k => B (ix2 k j)) (D (ix2 j n)) := by
  unfold term
  pointwise [k0_pay12]

theorem y5_at : y5 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨1024 + j.val, by omega⟩ :=
  (part5_at hn y r n _ _ _).trans (congrArg (y (ix2 r n) + ·) (slice 1024 (by omega) hn x6 x7 x8 _ _ _ r n))

theorem part6_at : k0_pay15 (k0_pay13 hn A B) (k0_pay14 y) D (ix2 r n) = y (ix2 r n)
    + ∑ j : Fin 256, term (fun k => hn (ix2 r k)) (fun k => A (ix2 k j)) (fun k => B (ix2 k j)) (D (ix2 j n)) := by
  unfold term
  pointwise [k0_pay15, k0_pay13, k0_pay14]

theorem y6_at : y6 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨1280 + j.val, by omega⟩ :=
  (part6_at hn y r n _ _ _).trans (congrArg (y (ix2 r n) + ·) (slice 1280 (by omega) hn x6 x7 x8 _ _ _ r n))

theorem part7_at : k0_pay16 hn A B y D (ix2 r n) = y (ix2 r n)
    + ∑ j : Fin 256, term (fun k => hn (ix2 r k)) (fun k => A (ix2 k j)) (fun k => B (ix2 k j)) (D (ix2 j n)) := by
  unfold term
  pointwise [k0_pay16]

theorem y7_at : y7 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨1536 + j.val, by omega⟩ :=
  (part7_at hn y r n _ _ _).trans (congrArg (y (ix2 r n) + ·) (slice 1536 (by omega) hn x6 x7 x8 _ _ _ r n))

theorem part8_at : k0_pay19 (k0_pay17 hn A B) (k0_pay18 y) D (ix2 r n) = y (ix2 r n)
    + ∑ j : Fin 256, term (fun k => hn (ix2 r k)) (fun k => A (ix2 k j)) (fun k => B (ix2 k j)) (D (ix2 j n)) := by
  unfold term
  pointwise [k0_pay19, k0_pay17, k0_pay18]

theorem y8_at : y8 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨1792 + j.val, by omega⟩ :=
  (part8_at hn y r n _ _ _).trans (congrArg (y (ix2 r n) + ·) (slice 1792 (by omega) hn x6 x7 x8 _ _ _ r n))

theorem part9_at : k0_pay20 hn A B y D (ix2 r n) = y (ix2 r n)
    + ∑ j : Fin 256, term (fun k => hn (ix2 r k)) (fun k => A (ix2 k j)) (fun k => B (ix2 k j)) (D (ix2 j n)) := by
  unfold term
  pointwise [k0_pay20]

theorem y9_at : y9 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨2048 + j.val, by omega⟩ :=
  (part9_at hn y r n _ _ _).trans (congrArg (y (ix2 r n) + ·) (slice 2048 (by omega) hn x6 x7 x8 _ _ _ r n))

theorem part10_at : k0_pay1 (k0_pay21 hn A B) y D (ix2 r n) = y (ix2 r n)
    + ∑ j : Fin 256, term (fun k => hn (ix2 r k)) (fun k => A (ix2 k j)) (fun k => B (ix2 k j)) (D (ix2 j n)) := by
  unfold term
  pointwise [k0_pay1, k0_pay21]

theorem y10_at : y10 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨2304 + j.val, by omega⟩ :=
  (part10_at hn y r n _ _ _).trans (congrArg (y (ix2 r n) + ·) (slice 2304 (by omega) hn x6 x7 x8 _ _ _ r n))

theorem part11_at : k0_pay2 hn A B y D (ix2 r n) = y (ix2 r n)
    + ∑ j : Fin 256, term (fun k => hn (ix2 r k)) (fun k => A (ix2 k j)) (fun k => B (ix2 k j)) (D (ix2 j n)) := by
  unfold term
  pointwise [k0_pay2]

theorem y11_at : y11 hn x6 x7 x8 y (ix2 r n) = y (ix2 r n)
    + ∑ j : Fin 256, (fun J : Fin 2816 => term (fun k => hn (ix2 r k)) (fun k => x6 (ix2 k J)) (fun k => x7 (ix2 k J)) (x8 (ix2 J n))) ⟨2560 + j.val, by omega⟩ :=
  (part11_at hn y r n _ _ _).trans (congrArg (y (ix2 r n) + ·) (slice 2560 (by omega) hn x6 x7 x8 _ _ _ r n))
end

end Cert.Dense

end
-- ==== Proof.Dense.Ref.lean ====
/-
  The dense feed-forward reference at an index.
-/
module

public import proofs.«01_k».proof.Proof.Gen.Reference3Ideal.Run
public import proofs.«01_k».proof.Proof.Moe.Ref

@[expose] public section

noncomputable section

namespace Cert.Dense.Ref

open Cert.Reference3Ideal Cert.Reference3Ideal.Gen Cert.Reference3Ideal.Value
open Idealize.ShloMosaic Idealize.ShloMosaic.TcCoe
open Cert.Moe (nRow hRow cat)
open Cert.Moe.Ref (Rows row mat vec yv nv yv_at nv_at)

abbrev Wide := FVec Ideal S2x8192x2816 .f32

/-- A product with a matrix of 2816 columns. -/
def uv (n : Rows) (w : FVec Ideal S1024x2816 .f32) : Wide := Host.dotGeneral dot_S2x8192x1024_S1024x2816_S2x8192x2816_2_0_01_1_n_n none n w

/-- `silu a * b`. -/
def av (a b : Wide) : Wide :=
  mulf (mulf a (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf a))))) b

/-- The product back to 1024 columns. -/
def dv (a : Wide) (w : FVec Ideal S2816x1024 .f32) : Rows := Host.dotGeneral dot_S2x8192x2816_S2816x1024_S2x8192x1024_2_0_01_1_n_n none a w

/-- The result from the residual rows. -/
def rv (y : Rows) (g : FVec Ideal S1024 .f32) (wg wu : FVec Ideal S1024x2816 .f32) (wd : FVec Ideal S2816x1024 .f32) : FVec Ideal S16384x1024 .f32 :=
  shapeCast _ (addf y (dv (av (uv (nv y g) wg) (uv (nv y g) wu)) wd)) shapeCasts_S2x8192x1024_S16384x1024

/-- One row of the result: the residual plus the gated products of the 2816 inner columns. -/
def outRow (h nn : Fin 1024 → EReal) (wg wu : Fin 1024 → Fin 2816 → EReal) (wd : Fin 2816 → Fin 1024 → EReal) (n : Fin 1024) : EReal :=
  h n + ∑ j : Fin 2816, (∑ k, nn k * wg k j) * Ideal.logistic (∑ k, nn k * wg k j) * (∑ k, nn k * wu k j) * wd j n

/-- A product with a matrix, at an index. -/
theorem uv_at (nn : Rows) (w : FVec Ideal S1024x2816 .f32) (p : Fin 2) (s : Fin 8192) (j : Fin 2816) :
    uv nn w (ix3 p s j) = ∑ k, row nn p s k * mat w k j := by
  unfold row mat
  pointwise [uv]

/-- The gate, at an index. -/
theorem av_at (a b : Wide) (p : Fin 2) (s : Fin 8192) (n : Fin 2816) :
    av a b (ix3 p s n) = a (ix3 p s n) * Ideal.logistic (a (ix3 p s n)) * b (ix3 p s n) := by
  pointwise [av]
  rfl

/-- The product back, at an index. -/
theorem dv_at (a : Wide) (w : FVec Ideal S2816x1024 .f32) (p : Fin 2) (s : Fin 8192) (n : Fin 1024) :
    dv a w (ix3 p s n) = ∑ k, a (ix3 p s k) * mat w k n := by
  unfold mat
  pointwise [dv]

/-- The result, at an index. -/
theorem rv_at (y : Rows) (g : FVec Ideal S1024 .f32) (wg wu : FVec Ideal S1024x2816 .f32) (wd : FVec Ideal S2816x1024 .f32) (r : Fin 16384) (n : Fin 1024) :
    rv y g wg wu wd (ix2 r n) = outRow (row y ⟨r.val / 8192, by omega⟩ ⟨r.val % 8192, by omega⟩)
      (nRow (row y ⟨r.val / 8192, by omega⟩ ⟨r.val % 8192, by omega⟩) (vec g)) (mat wg) (mat wu) (mat wd) n := by
  unfold rv outRow
  rw [← nv_at]
  generalize nv y g = nn
  have e : ∀ (p : Fin 2) (s : Fin 8192), dv (av (uv nn wg) (uv nn wu)) wd (ix3 p s n)
      = ∑ j : Fin 2816, (∑ k, row nn p s k * mat wg k j) * Ideal.logistic (∑ k, row nn p s k * mat wg k j) * (∑ k, row nn p s k * mat wu k j) * mat wd j n := by
    intro p s
    rw [dv_at]
    refine Finset.sum_congr rfl fun j _ => ?_
    rw [av_at, uv_at, uv_at]
  rw [← e]
  generalize dv (av (uv nn wg) (uv nn wu)) wd = d
  unfold row
  pointwise []

end Cert.Dense.Ref

end
-- ==== Proof.Dense.Ops.lean ====
/-
  What one grid point of the dense feed-forward call stores, at an index: the residual row plus the gated products of all 2816
  inner columns.
-/
module

public import proofs.«01_k».proof.Proof.Dense.Step
public import proofs.«01_k».proof.Proof.Dense.Ref
public import proofs.«01_k».proof.Proof.Moe.Ops

@[expose] public section

noncomputable section

open Idealize.ShloMosaic Idealize.ShloMosaic.TcCoe Idealize.SL.Sem

namespace Cert.Dense

open Cert.Kernel3Ideal Cert.Kernel3Ideal.Gen
open Cert.Moe (brow hRow nRow cat hRow_slabs)

local notation "F" => Ideal

/-- The residual payload, at an index. -/
theorem pay3_at (x0 : Vec F S512x1024 .f32) (x1 : Vec F S512x384 .bf16) (w1 : Vec F S384x1024 .bf16) (x2 : Vec F S512x384 .bf16)
    (w2 : Vec F S384x1024 .bf16) (x3 : Vec F S512x256 .bf16) (w3 : Vec F S256x1024 .bf16) (r : Fin 512) (n : Fin 1024) :
    k0_pay3 x0 x1 w1 x2 w2 x3 w3 (ix2 r n) = x0 (ix2 r n) + (∑ k, x1 (ix2 r k) * w1 (ix2 k n)) + (∑ k, x2 (ix2 r k) * w2 (ix2 k n))
      + ∑ k, x3 (ix2 r k) * w3 (ix2 k n) := by
  pointwise [k0_pay3]

/-- The residual's row. -/
theorem resid_at (x0 : Vec F S512x1024 .f32) (x1 x2 : Vec F S512x384 .bf16) (x3 : Vec F S512x256 .bf16) (x4 : Vec F S1024x1024 .bf16)
    (r : Fin 512) : brow (resid x0 x1 x2 x3 x4) r = hRow (brow x0 r) (cat (brow x1 r) (brow x2 r) (brow x3 r)) (brow x4) := by
  funext n
  rw [← hRow_slabs]
  unfold brow resid
  rw [pay3_at]
  congr 1
  · congr 1
    · congr 1
      refine Finset.sum_congr rfl fun k _ => congrArg (x1 (ix2 r k) * ·) ?_
      refine (Moe.ld_rows 0 384 (by omega) _ x4 k n).trans (congrArg x4 ?_)
      congr 1; apply Fin.ext; exact Nat.zero_add _
    · exact Finset.sum_congr rfl fun k _ => congrArg (x2 (ix2 r k) * ·) (Moe.ld_rows 384 384 (by omega) _ x4 k n)
  · exact Finset.sum_congr rfl fun k _ => congrArg (x3 (ix2 r k) * ·) (Moe.ld_rows 768 256 (by omega) _ x4 k n)

/-- The normed row. -/
theorem normed_at (x0 : Vec F S512x1024 .f32) (x1 x2 : Vec F S512x384 .bf16) (x3 : Vec F S512x256 .bf16) (x4 : Vec F S1024x1024 .bf16)
    (x5 : Vec F S1x1024 .f32) (r : Fin 512) :
    brow (normed x0 x1 x2 x3 x4 x5) r = nRow (brow (resid x0 x1 x2 x3 x4) r) (fun n => x5 (ix2 0 n)) := by
  funext n
  unfold brow normed k0_pay4
  show _ = nRow (fun n => @k0_pay3 F _ _ _ _ _ _ _ _ (ix2 r n)) _ n
  generalize @k0_pay3 F _ _ _ _ _ _ _ _ = H
  unfold nRow
  pointwise []

/-- A sum over 2816 columns, added to a term slice by slice. -/
theorem chunks (f : Fin 2816 → EReal) (h : EReal) :
    h      + ∑ j : Fin 256, f ⟨0 + j.val, by omega⟩
      + ∑ j : Fin 256, f ⟨256 + j.val, by omega⟩
      + ∑ j : Fin 256, f ⟨512 + j.val, by omega⟩
      + ∑ j : Fin 256, f ⟨768 + j.val, by omega⟩
      + ∑ j : Fin 256, f ⟨1024 + j.val, by omega⟩
      + ∑ j : Fin 256, f ⟨1280 + j.val, by omega⟩
      + ∑ j : Fin 256, f ⟨1536 + j.val, by omega⟩
      + ∑ j : Fin 256, f ⟨1792 + j.val, by omega⟩
      + ∑ j : Fin 256, f ⟨2048 + j.val, by omega⟩
      + ∑ j : Fin 256, f ⟨2304 + j.val, by omega⟩
      + ∑ j : Fin 256, f ⟨2560 + j.val, by omega⟩
      = h + ∑ J, f J := by
  let g : ℕ → EReal := fun i => if h : i < 2816 then f ⟨i, h⟩ else 0
  have e : ∀ o, (ho : o + 256 ≤ 2816) → ∑ j : Fin 256, f ⟨o + j.val, by omega⟩ = ∑ i ∈ Finset.range 256, g (o + i) := by
    intro o ho
    rw [Finset.sum_range]
    refine Finset.sum_congr rfl fun j _ => ?_
    show _ = dite _ _ _
    rw [dif_pos (by omega)]
  have e' : ∑ J, f J = ∑ i ∈ Finset.range 2816, g i := by
    rw [Finset.sum_range]
    refine Finset.sum_congr rfl fun j _ => ?_
    show _ = dite _ _ _
    rw [dif_pos j.isLt]
  have st : ∀ o, ∑ i ∈ Finset.range (o + 256), g i = ∑ i ∈ Finset.range o, g i + ∑ i ∈ Finset.range 256, g (o + i) :=
    fun o => Finset.sum_range_add g o 256
  rw [e', e 0 (by omega), e 256 (by omega), e 512 (by omega), e 768 (by omega), e 1024 (by omega), e 1280 (by omega), e 1536 (by omega), e 1792 (by omega), e 2048 (by omega), e 2304 (by omega), e 2560 (by omega),
    st 2560, st 2304, st 2048, st 1792, st 1536, st 1280, st 1024, st 768, st 512, st 256]
  have z : ∀ i, g (0 + i) = g i := fun i => congrArg g (Nat.zero_add i)
  simp only [z, add_assoc]

variable (x0 : Vec F S512x1024 .f32) (x1 x2 : Vec F S512x384 .bf16) (x3 : Vec F S512x256 .bf16) (x4 : Vec F S1024x1024 .bf16)
  (x5 : Vec F S1x1024 .f32) (x6 x7 : Vec F S1024x2816 .bf16) (x8 : Vec F S2816x1024 .bf16)

/-- What a point stores, as one term. -/
def blockOut : FVec F S512x1024 .f32 :=
  y11 (normed x0 x1 x2 x3 x4 x5) x6 x7 x8 (y10 (normed x0 x1 x2 x3 x4 x5) x6 x7 x8 (y9 (normed x0 x1 x2 x3 x4 x5) x6 x7 x8 (y8 (normed x0 x1 x2 x3 x4 x5) x6 x7 x8 (y7 (normed x0 x1 x2 x3 x4 x5) x6 x7 x8 (y6 (normed x0 x1 x2 x3 x4 x5) x6 x7 x8 (y5 (normed x0 x1 x2 x3 x4 x5) x6 x7 x8 (y4 (normed x0 x1 x2 x3 x4 x5) x6 x7 x8 (y3 (normed x0 x1 x2 x3 x4 x5) x6 x7 x8 (y2 (normed x0 x1 x2 x3 x4 x5) x6 x7 x8 (y1 (normed x0 x1 x2 x3 x4 x5) x6 x7 x8 (resid x0 x1 x2 x3 x4)))))))))))

/-- What a point stores, at an index. -/
theorem block_at (r : Fin 512) (n : Fin 1024) : blockOut x0 x1 x2 x3 x4 x5 x6 x7 x8 (ix2 r n)
    = Ref.outRow (hRow (brow x0 r) (cat (brow x1 r) (brow x2 r) (brow x3 r)) (brow x4))
      (nRow (hRow (brow x0 r) (cat (brow x1 r) (brow x2 r) (brow x3 r)) (brow x4)) (fun n => x5 (ix2 0 n))) (brow x6) (brow x7) (brow x8) n := by
  rw [← resid_at, ← normed_at]
  unfold blockOut
  generalize normed x0 x1 x2 x3 x4 x5 = hn
  generalize resid x0 x1 x2 x3 x4 = y
  rw [y11_at, y10_at, y9_at, y8_at, y7_at, y6_at, y5_at, y4_at, y3_at, y2_at, y1_at]
  exact chunks (fun J : Fin 2816 => term (fun k => hn (ix2 r k)) (fun k => x6 (ix2 k J)) (fun k => x7 (ix2 k J)) (x8 (ix2 J n))) (y (ix2 r n))

end Cert.Dense

end
-- ==== Proof.Dense.Win.lean ====
/-
  The dense feed-forward call's windows from the arguments, row by row, and its result array after the run.
-/
module

public import proofs.«01_k».proof.Proof.Dense.Ops

@[expose] public section

noncomputable section

namespace Cert.Dense

open Cert.Kernel3Ideal Cert.Kernel3Ideal.Gen
open Idealize.ShloMosaic Idealize.ShloMosaic.TcCoe Idealize.SL.Sem
open Idealize.ShloMosaic.Pipeline (Dat Cfg Window)
open Cert.Moe (brow hRow nRow cat)
open Cert.Moe.Ref (Rows row mat vec yv)

/-- The call's arguments. -/
structure Args where
  /-- The residual stream. -/
  x : Rows
  /-- The mixers' outputs. -/
  oa : FVec Ideal S2x8192x384 .f32
  ob : FVec Ideal S2x8192x384 .f32
  oc : FVec Ideal S2x8192x256 .f32
  /-- The out-projection. -/
  w : FVec Ideal S1024x1024 .f32
  /-- The norm's scale. -/
  g : FVec Ideal S1024 .f32
  /-- The feed-forward matrices. -/
  wg : FVec Ideal S1024x2816 .f32
  wu : FVec Ideal S1024x2816 .f32
  wd : FVec Ideal S2816x1024 .f32

/-- The batch of a row. -/
def rb (R : Fin 16384) : Fin 2 := ⟨R.val / 8192, by omega⟩
/-- The place of a row. -/
def rs (R : Fin 16384) : Fin 8192 := ⟨R.val % 8192, by omega⟩

namespace Args
variable (A : Args)

/-- The residual rows. -/
def y : Rows := yv A.x A.oa A.ob A.oc A.w
/-- The result. -/
def res : FVec Ideal S16384x1024 .f32 := Ref.rv A.y A.g A.wg A.wu A.wd

/-- The result, at an index. -/
theorem res_at (R : Fin 16384) (n : Fin 1024) : A.res (ix2 R n) =
    Ref.outRow (row A.y (rb R) (rs R)) (nRow (row A.y (rb R) (rs R)) (vec A.g)) (mat A.wg) (mat A.wu) (mat A.wd) n := Ref.rv_at _ _ _ _ _ R n
end Args

variable (m : (ℓ : Loc nD τ sig) → Buf (Elt Ideal) ℓ) (c : Dev nD)

/-- The arguments as launched. -/
def args : Args where
  x := m ((c.tc : Thread nD τ).loc main_arg0)
  oa := m ((c.tc : Thread nD τ).loc main_arg1)
  ob := m ((c.tc : Thread nD τ).loc main_arg2)
  oc := m ((c.tc : Thread nD τ).loc main_arg3)
  w := m ((c.tc : Thread nD τ).loc main_arg4)
  g := m ((c.tc : Thread nD τ).loc main_arg5)
  wg := m ((c.tc : Thread nD τ).loc main_arg6)
  wu := m ((c.tc : Thread nD τ).loc main_arg7)
  wd := m ((c.tc : Thread nD τ).loc main_arg8)

/-- The residual stream by rows. -/
def hX (x : FVec Ideal S2x8192x1024 .f32) : FVec Ideal S16384x1024 .f32 := shapeCast S16384x1024 x shapeCasts_S2x8192x1024_S16384x1024
/-- A mixer's output by rows. -/
def hO (x : FVec Ideal S2x8192x384 .f32) : FVec Ideal S16384x384 .bf16 := truncf .bf16 (shapeCast S16384x384 x shapeCasts_S2x8192x384_S16384x384) bitsLt_bf16_f32
/-- The third mixer's output by rows. -/
def hO' (x : FVec Ideal S2x8192x256 .f32) : FVec Ideal S16384x256 .bf16 := truncf .bf16 (shapeCast S16384x256 x shapeCasts_S2x8192x256_S16384x256) bitsLt_bf16_f32
/-- The norm's scale as a row. -/
def hG (g : FVec Ideal S1024 .f32) : FVec Ideal S1x1024 .f32 := shapeCast S1x1024 g shapeCasts_S1024_S1x1024

theorem V_x : V m c main_v0 = hX (args m c).x := by
  unfold V
  after_results_simp
  rfl
theorem V_oa : V m c main_v2 = hO (args m c).oa := by
  unfold V
  after_results_simp
  rfl
theorem V_ob : V m c main_v4 = hO (args m c).ob := by
  unfold V
  after_results_simp
  rfl
theorem V_oc : V m c main_v6 = hO' (args m c).oc := by
  unfold V
  after_results_simp
  rfl
theorem V_w : V m c main_v7 = truncf (F := Ideal) (φ := .f32) .bf16 (args m c).w bitsLt_bf16_f32 := by
  unfold V
  after_results_simp
  rfl
theorem V_wg : V m c main_v8 = truncf (F := Ideal) (φ := .f32) .bf16 (args m c).wg bitsLt_bf16_f32 := by
  unfold V
  after_results_simp
  rfl
theorem V_wu : V m c main_v9 = truncf (F := Ideal) (φ := .f32) .bf16 (args m c).wu bitsLt_bf16_f32 := by
  unfold V
  after_results_simp
  rfl
theorem V_wd : V m c main_v10 = truncf (F := Ideal) (φ := .f32) .bf16 (args m c).wd bitsLt_bf16_f32 := by
  unfold V
  after_results_simp
  rfl
theorem V_g : V m c main_v11 = hG (args m c).g := by
  unfold V
  after_results_simp
  rfl

theorem hX_at (x : FVec Ideal S2x8192x1024 .f32) (R : Fin 16384) (n : Fin 1024) : hX x (ix2 R n) = x (ix3 (rb R) (rs R) n) := by
  pointwise [hX, rb, rs]
theorem hO_at (x : FVec Ideal S2x8192x384 .f32) (R : Fin 16384) (n : Fin 384) : hO x (ix2 R n) = x (ix3 (rb R) (rs R) n) := by
  pointwise [hO, rb, rs]
theorem hO'_at (x : FVec Ideal S2x8192x256 .f32) (R : Fin 16384) (n : Fin 256) : hO' x (ix2 R n) = x (ix3 (rb R) (rs R) n) := by
  pointwise [hO', rb, rs]
theorem hG_at (x : FVec Ideal S1024 .f32) (n : Fin 1024) : hG x (ix2 0 n) = x (ix1 n) := by
  pointwise [hG]

theorem grid_N : grid0.N = 32 := by decide +kernel
theorem lt_N (t : Fin cfg0.N) : t.val < 32 := by have h : t.val < grid0.N := t.isLt; rwa [grid_N] at h

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = t.val ∧ win0_9.index t (1 : Fin 2) = 0 := by decide +kernel

variable (t : Fin cfg0.N)

/-- A point's row, in the whole array. -/
def gr (i : Fin 512) : Fin 16384 := ⟨512 * t.val + i.val, by have := lt_N t; omega⟩

theorem emb0 (i : Fin 512) (n : Fin 1024) :
    ((cfg0.win 0).blk t).view.emb (ix2 i n) = (ix2 (gr t i) n : S16384x1024.Idx) := by
  obtain ⟨e0, e1⟩ := idx0 t
  funext a; apply Fin.ext
  match a with
  | ⟨0, _⟩ => show win0_0.index t (0 : Fin 2) * 512 + 1 * i.val = 512 * t.val + i.val; omega
  | ⟨1, _⟩ => show win0_0.index t (1 : Fin 2) * 1024 + 1 * n.val = n.val; omega

theorem emb1 (i : Fin 512) (n : Fin 384) :
    ((cfg0.win 1).blk t).view.emb (ix2 i n) = (ix2 (gr t i) n : S16384x384.Idx) := by
  obtain ⟨e0, e1⟩ := idx1 t
  funext a; apply Fin.ext
  match a with
  | ⟨0, _⟩ => show win0_1.index t (0 : Fin 2) * 512 + 1 * i.val = 512 * t.val + i.val; omega
  | ⟨1, _⟩ => show win0_1.index t (1 : Fin 2) * 384 + 1 * n.val = n.val; omega

theorem emb2 (i : Fin 512) (n : Fin 384) :
    ((cfg0.win 2).blk t).view.emb (ix2 i n) = (ix2 (gr t i) n : S16384x384.Idx) := by
  obtain ⟨e0, e1⟩ := idx2 t
  funext a; apply Fin.ext
  match a with
  | ⟨0, _⟩ => show win0_2.index t (0 : Fin 2) * 512 + 1 * i.val = 512 * t.val + i.val; omega
  | ⟨1, _⟩ => show win0_2.index t (1 : Fin 2) * 384 + 1 * n.val = n.val; omega

theorem emb3 (i : Fin 512) (n : Fin 256) :
    ((cfg0.win 3).blk t).view.emb (ix2 i n) = (ix2 (gr t i) n : S16384x256.Idx) := by
  obtain ⟨e0, e1⟩ := idx3 t
  funext a; apply Fin.ext
  match a with
  | ⟨0, _⟩ => show win0_3.index t (0 : Fin 2) * 512 + 1 * i.val = 512 * t.val + i.val; omega
  | ⟨1, _⟩ => show win0_3.index t (1 : Fin 2) * 256 + 1 * n.val = n.val; omega

theorem emb9 (i : Fin 512) (n : Fin 1024) :
    ((cfg0.win 9).blk t).view.emb (ix2 i n) = (ix2 (gr t i) n : S16384x1024.Idx) := by
  obtain ⟨e0, e1⟩ := idx9 t
  funext a; apply Fin.ext
  match a with
  | ⟨0, _⟩ => show win0_9.index t (0 : Fin 2) * 512 + 1 * i.val = 512 * t.val + i.val; omega
  | ⟨1, _⟩ => show win0_9.index t (1 : Fin 2) * 1024 + 1 * n.val = n.val; omega

theorem emb4 (j : S1024x1024.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem emb5 (j : S1x1024.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem emb6 (j : S1024x2816.Idx) : ((cfg0.win 6).blk t).view.emb j = j := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 2816 + 1 * (j 1).val = (j 1).val; omega

theorem emb7 (j : S1024x2816.Idx) : ((cfg0.win 7).blk t).view.emb j = j := by
  obtain ⟨e0, e1⟩ := idx7 t
  funext a; apply Fin.ext
  match a with
  | ⟨0, _⟩ => show win0_7.index t (0 : Fin 2) * 1024 + 1 * (j 0).val = (j 0).val; omega
  | ⟨1, _⟩ => show win0_7.index t (1 : Fin 2) * 2816 + 1 * (j 1).val = (j 1).val; omega

theorem emb8 (j : S2816x1024.Idx) : ((cfg0.win 8).blk t).view.emb j = j := by
  obtain ⟨e0, e1⟩ := idx8 t
  funext a; apply Fin.ext
  match a with
  | ⟨0, _⟩ => show win0_8.index t (0 : Fin 2) * 2816 + 1 * (j 0).val = (j 0).val; omega
  | ⟨1, _⟩ => show win0_8.index t (1 : Fin 2) * 1024 + 1 * (j 1).val = (j 1).val; omega

theorem blk0 (i : Fin 512) : brow (iblk m c 0 t) i = row (args m c).x (rb (gr t i)) (rs (gr t i)) := by
  funext n
  show V m c main_v0 (((cfg0.win 0).blk t).view.emb (ix2 i n)) = _
  rw [emb0, V_x, hX_at]
  rfl

theorem blk1 (i : Fin 512) : brow (iblk m c 1 t) i = row (args m c).oa (rb (gr t i)) (rs (gr t i)) := by
  funext n
  show V m c main_v2 (((cfg0.win 1).blk t).view.emb (ix2 i n)) = _
  rw [emb1, V_oa, hO_at]
  rfl

theorem blk2 (i : Fin 512) : brow (iblk m c 2 t) i = row (args m c).ob (rb (gr t i)) (rs (gr t i)) := by
  funext n
  show V m c main_v4 (((cfg0.win 2).blk t).view.emb (ix2 i n)) = _
  rw [emb2, V_ob, hO_at]
  rfl

theorem blk3 (i : Fin 512) : brow (iblk m c 3 t) i = row (args m c).oc (rb (gr t i)) (rs (gr t i)) := by
  funext n
  show V m c main_v6 (((cfg0.win 3).blk t).view.emb (ix2 i n)) = _
  rw [emb3, V_oc, hO'_at]
  rfl

theorem blk4 : brow (iblk m c 4 t) = mat (args m c).w := by
  funext k n
  show V m c main_v7 (((cfg0.win 4).blk t).view.emb (ix2 k n)) = _
  rw [emb4, V_w]
  rfl

theorem blk5 : (fun n => iblk m c 5 t (ix2 0 n)) = vec (args m c).g := by
  funext n
  show V m c main_v11 (((cfg0.win 5).blk t).view.emb (ix2 0 n)) = _
  rw [emb5, V_g, hG_at]
  rfl

theorem blk6 : brow (iblk m c 6 t) = mat (args m c).wg := by
  funext k n
  show V m c main_v8 (((cfg0.win 6).blk t).view.emb (ix2 k n)) = _
  rw [emb6, V_wg]
  rfl

theorem blk7 : brow (iblk m c 7 t) = mat (args m c).wu := by
  funext k n
  show V m c main_v9 (((cfg0.win 7).blk t).view.emb (ix2 k n)) = _
  rw [emb7, V_wu]
  rfl

theorem blk8 : brow (iblk m c 8 t) = mat (args m c).wd := by
  funext k n
  show V m c main_v10 (((cfg0.win 8).blk t).view.emb (ix2 k n)) = _
  rw [emb8, V_wd]
  rfl

/-- A point's output block is its block of the reference's result. -/
theorem out_block (r : Fin 512) (n : Fin 1024) : outsAt0 m c t (ix2 r n) = (args m c).res (ix2 (gr t r) n) := by
  have e : outsAt0 m c t = blockOut (iblk m c 0 t) (iblk m c 1 t) (iblk m c 2 t) (iblk m c 3 t) (iblk m c 4 t) (iblk m c 5 t) (iblk m c 6 t) (iblk m c 7 t) (iblk m c 8 t) := by
    unfold outsAt0
    rw [out_eq]
    rfl
  rw [e, block_at, blk0, blk1, blk2, blk3, blk4, blk5, blk6, blk7, blk8, Args.res_at]
  unfold Args.y
  rw [Cert.Moe.Ref.yv_at]

/-- What a point writes back is its block of the result. -/
theorem flushed_eq : (dats m 0 c).flushed 9 t = ((cfg0.win 9).blk t).view.read (Elt Ideal) (args m c).res := by
  show (cfg0.win 9).cut (grid0.coords t) ((dats m 0 c).after 9 t) = _
  rw [after0_9]
  funext j
  show outsAt0 m c t j = (args m c).res (((cfg0.win 9).blk t).view.emb j)
  have e : j = (ix2 (j 0) (j 1) : S512x1024.Idx) := by
    funext a; fin_cases a <;> rfl
  rw [e]
  exact (out_block m c t (j 0) (j 1)).trans (congrArg _ (emb9 t (j 0) (j 1)).symm)

/-- Every index of the result lies in some point's block. -/
theorem covered (i : S16384x1024.Idx) :
    ∃ t : Fin cfg0.N, (cfg0.win 9).flush t = true ∧ i ∈ ((cfg0.win 9).blk t).view.set := by
  have h0 : (i 0).val < 16384 := (i 0).isLt
  have hN : (i 0).val / 512 < grid0.N := by rw [grid_N]; omega
  refine ⟨⟨(i 0).val / 512, hN⟩, flush0_9 _, ?_⟩
  have h := ((cfg0.win 9).blk ⟨(i 0).val / 512, hN⟩).view.emb_mem_set (ix2 (⟨(i 0).val % 512, by omega⟩ : Fin 512) (i 1) : S512x1024.Idx)
  have e : ((cfg0.win 9).blk ⟨(i 0).val / 512, hN⟩).view.emb (ix2 (⟨(i 0).val % 512, by omega⟩ : Fin 512) (i 1) : S512x1024.Idx) = i := by
    refine (emb9 _ _ _).trans ?_
    funext a; apply Fin.ext
    match a with
    | ⟨0, _⟩ => show 512 * ((i 0).val / 512) + (i 0).val % 512 = (i 0).val; omega
    | ⟨1, _⟩ => rfl
  rw [e] at h
  exact h

/-- The result array after the run. -/
theorem final : (dats m 0 c).arrAt 9 cfg0.N = (args m c).res :=
  (dats m 0 c).arrAt_eq_of_cover 9 (args m c).res (fun t _ => flushed_eq m c t) covered

end Cert.Dense

end
-- ==== Proof.Dense.Algebraic.lean ====
/-
  The dense feed-forward call: its frames and the value claim.
-/
module

public import proofs.«01_k».proof.Proof.Dense.Win
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run

@[expose] public section

noncomputable section

namespace Cert.Dense

open Idealize.ShloMosaic Idealize.ShloMosaic.TcCoe Idealize.SL.Sem

attribute [local instance] Cert.Kernel3.Gen.facts Cert.Kernel3Ideal.Gen.facts Cert.Reference3Ideal.Gen.facts

/-- The kernel changes no argument and leaves no counter. -/
theorem frame_p : Cert.quiescent_Kernel3 := fun m ρ _ => Cert.Kernel3.Gen.frame m ρ
/-- The kernel over the extended reals changes no argument and leaves no counter. -/
theorem frame_pi : Cert.quiescent_Kernel3Ideal := fun m ρ _ => Cert.Kernel3Ideal.Gen.frame m ρ
/-- The reference changes no argument and leaves no counter. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's result and the reference's are equal. -/
theorem algebraic : Cert.algebraic_Kernel3Ideal_Reference3Ideal := by
  intro m ρ m' ρ' _ hagree
  refine ⟨fun c => (args m c).res, (θ_run Cert.Kernel3Ideal.defs _ _).mono (fun _ h c => ⟨(h c).1.trans (final m c), (h c).2⟩)
    (Cert.Kernel3Ideal.Value.run_blocks m ρ), ?_⟩
  refine (θ_run Cert.Reference3Ideal.defs _ _).mono (fun _ h c => ⟨(h c).1.trans ?_, (h c).2⟩) (Cert.Reference3Ideal.Value.run (F := Ideal) m' ρ')
  obtain ⟨e0, e1, e2, e3, e4, e5, e6, e7, e8⟩ := hagree c
  unfold args Args.res
  dsimp only
  rw [← e0, ← e1, ← e2, ← e3, ← e4, ← e5, ← e6, ← e7, ← e8]
  rfl

end Cert.Dense

end
-- ==== Proof.Proj.Step.lean ====
/-
  What one grid point of the input projection's call stores in each of its seven output blocks.
-/
module

public import proofs.«01_k».proof.Proof.Gen.Kernel4Ideal.Value
public import proofs.«01_k».proof.Proof.Moe.Step
public import Idealize.ShloMosaic.Lib.Pipeline.Value
public import Idealize.ShloMosaic.Lib.Pipeline.ValueKit.Acc
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Proj

open Cert.Kernel4Ideal Cert.Kernel4Ideal.Gen

local notation "F" => Ideal

/-- What a point stores as the queries' block. -/
def b6 (x0 : Vec F S512x1024 .f32) (x1 : Vec F S1x1024 .f32) (x2 : Vec F S1024x3200 .bf16) (x3 : Vec F S1x384 .f32) (x4 : Vec F S1x384 .f32) (x5 : Vec F S384x384 .bf16) : FVec F S512x384 .bf16 :=
  k0_pay8 (k0_pay7 x0 x1 x5 (View.ld x2 (Rect.unit ![0, 0] ![1024, 384] inb_S1024x3200_S1024x384_0_0)) x3) (Scalar.ofBits .f32 0x3E000000#32)

/-- What a point stores as the keys' block. -/
def b7 (x0 : Vec F S512x1024 .f32) (x1 : Vec F S1x1024 .f32) (x2 : Vec F S1024x3200 .bf16) (x3 : Vec F S1x384 .f32) (x4 : Vec F S1x384 .f32) (x5 : Vec F S384x384 .bf16) : FVec F S1x1x384x512 .f32 :=
  k0_pay11 (k0_pay5 x0 x1) (k0_pay6 x5) (View.ld x2 (Rect.unit ![0, 384] ![1024, 384] inb_S1024x3200_S1024x384_0_384)) x4

/-- What a point stores as the values' block. -/
def b8 (x0 : Vec F S512x1024 .f32) (x1 : Vec F S1x1024 .f32) (x2 : Vec F S1024x3200 .bf16) (x3 : Vec F S1x384 .f32) (x4 : Vec F S1x384 .f32) (x5 : Vec F S384x384 .bf16) : FVec F S1x1x384x512 .f32 :=
  k0_pay12 (k0_pay5 x0 x1) (View.ld x2 (Rect.unit ![0, 768] ![1024, 384] inb_S1024x3200_S1024x384_0_768))

/-- What a point stores as the keys' block in bf16. -/
def b9 (x0 : Vec F S512x1024 .f32) (x1 : Vec F S1x1024 .f32) (x2 : Vec F S1024x3200 .bf16) (x3 : Vec F S1x384 .f32) (x4 : Vec F S1x384 .f32) (x5 : Vec F S384x384 .bf16) : FVec F S1x384x512 .bf16 :=
  k0_pay1 (k0_pay9 (k0_pay5 x0 x1) (k0_pay6 x5) (View.ld x2 (Rect.unit ![0, 384] ![1024, 384] inb_S1024x3200_S1024x384_0_384)) x4)

/-- What a point stores as the values' block in bf16. -/
def b10 (x0 : Vec F S512x1024 .f32) (x1 : Vec F S1x1024 .f32) (x2 : Vec F S1024x3200 .bf16) (x3 : Vec F S1x384 .f32) (x4 : Vec F S1x384 .f32) (x5 : Vec F S384x384 .bf16) : FVec F S1x384x512 .bf16 :=
  k0_pay2 (k0_pay10 (k0_pay5 x0 x1) (View.ld x2 (Rect.unit ![0, 768] ![1024, 384] inb_S1024x3200_S1024x384_0_768)))

/-- What a point stores as the block of the second mixer's inputs. -/
def b11 (x0 : Vec F S512x1024 .f32) (x1 : Vec F S1x1024 .f32) (x2 : Vec F S1024x3200 .bf16) (x3 : Vec F S1x384 .f32) (x4 : Vec F S1x384 .f32) (x5 : Vec F S384x384 .bf16) : FVec F S512x1536 .f32 :=
  k0_pay3 (k0_pay5 x0 x1) (View.ld x2 (Rect.unit ![0, 1152] ![1024, 1536] inb_S1024x3200_S1024x1536_0_1152))

/-- What a point stores as the block of the third mixer's inputs. -/
def b12 (x0 : Vec F S512x1024 .f32) (x1 : Vec F S1x1024 .f32) (x2 : Vec F S1024x3200 .bf16) (x3 : Vec F S1x384 .f32) (x4 : Vec F S1x384 .f32) (x5 : Vec F S384x384 .bf16) : FVec F S512x512 .f32 :=
  k0_pay4 (k0_pay5 x0 x1) (View.ld x2 (Rect.unit ![0, 2688] ![1024, 512] inb_S1024x3200_S1024x512_0_2688))

/-- A point stores the queries' block so. -/
theorem out_eq6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_6 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b6 x0 x1 x2 x3 x4 x5 := by
  unfold out0_A_6
  frame_out
  rfl

/-- A point stores the keys' block so. -/
theorem out_eq7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_7 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b7 x0 x1 x2 x3 x4 x5 := by
  unfold out0_A_7
  frame_out
  rfl

/-- A point stores the values' block so. -/
theorem out_eq8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_8 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b8 x0 x1 x2 x3 x4 x5 := by
  unfold out0_A_8
  frame_out
  rfl

/-- A point stores the keys' block in bf16 so. -/
theorem out_eq9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_9 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b9 x0 x1 x2 x3 x4 x5 := by
  unfold out0_A_9
  frame_out
  rfl

/-- A point stores the values' block in bf16 so. -/
theorem out_eq10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_10 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b10 x0 x1 x2 x3 x4 x5 := by
  unfold out0_A_10
  frame_out
  rfl

/-- A point stores the block of the second mixer's inputs so. -/
theorem out_eq11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_11 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b11 x0 x1 x2 x3 x4 x5 := by
  unfold out0_A_11
  frame_out
  rfl

/-- A point stores the block of the third mixer's inputs so. -/
theorem out_eq12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S384x384 .bf16) (harg6 : arg6.IsWhole) (arg9 : Memref sig .tc .vmem S512x384 .bf16) (harg9 : arg9.IsWhole) (arg10 : Memref sig .tc .vmem S1x1x384x512 .f32) (harg10 : arg10.IsWhole) (arg11 : Memref sig .tc .vmem S1x1x384x512 .f32) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S512x1536 .f32) (harg14 : arg14.IsWhole) (arg15 : Memref sig .tc .vmem S512x512 .f32) (harg15 : arg15.IsWhole)
    (x0 : Vec F S512x1024 .f32) (x1 : Vec F S1x1024 .f32) (x2 : Vec F S1024x3200 .bf16) (x3 : Vec F S1x384 .f32) (x4 : Vec F S1x384 .f32) (x5 : Vec F S384x384 .bf16) :
    out0_A_12 c i arg1 harg1 arg2 harg2 arg3 harg3 arg4 harg4 arg5 harg5 arg6 harg6 arg9 harg9 arg10 harg10 arg11 harg11 arg12 harg12 arg13 harg13 arg14 harg14 arg15 harg15 x0 x1 x2 x3 x4 x5 = b12 x0 x1 x2 x3 x4 x5 := by
  unfold out0_A_12
  frame_out
  rfl

end Cert.Proj

end
-- ==== Proof.Proj.Spec.lean ====
/-
  One row of the input projection: the columns of the product, and the norm over a head of 64 of them, as the kernel computes it by
  an indicator matrix and as the reference computes it.
-/
module

public import proofs.«01_k».proof.Proof.Moe.Spec

@[expose] public section

noncomputable section

open Idealize.ShloMosaic

namespace Cert.Proj

open Cert.Moe (IsReal eps sq_nonneg')

/-- Columns from `o` on of a row's product. -/
def pRow {n : ℕ} (nn : Fin 1024 → EReal) (w : Fin 1024 → Fin 3200 → EReal) (o : ℕ) (ho : o + n ≤ 3200) (j : Fin n) : EReal :=
  ∑ k, nn k * w k ⟨o + j.val, by omega⟩

/-- The heads' norm by an indicator matrix, in two halves of the squares. -/
def kNorm (a : Fin 384 → EReal) (d : Fin 384 → Fin 384 → EReal) (g : Fin 384 → EReal) (n : Fin 384) : EReal :=
  a n * Ideal.rsqrt (((∑ j, a j * a j * d j n) + ∑ j, (a j * a j - a j * a j) * d j n) * Ideal.ofBits .f32 0x3C800000#32
    + Ideal.ofBits .f32 0x358637BD#32) * g n

/-- The heads' norm, a head being 64 columns. -/
def hNorm (a : Fin 384 → EReal) (g : Fin 64 → EReal) (n : Fin 384) : EReal :=
  a n * Ideal.rsqrt (Ideal.div (∑ d : Fin 64, a ⟨64 * (n.val / 64) + d.val, by omega⟩ * a ⟨64 * (n.val / 64) + d.val, by omega⟩)
    (Ideal.ofBits .f32 0x42800000#32) + Ideal.ofBits .f32 0x358637BD#32) * g ⟨n.val % 64, by omega⟩

/-- The width of a head. -/
theorem head : Ideal.ofBits .f32 0x42800000#32 = ((64 : ℝ) : EReal) := by
  simp [Ideal.ofBits, Ideal.ieee]
  rw [← EReal.coe_mul]
  norm_num

/-- Its inverse. -/
theorem head_inv : Ideal.ofBits .f32 0x3C800000#32 = ((1 / 64 : ℝ) : EReal) := by
  simp [Ideal.ofBits, Ideal.ieee]
  rw [← EReal.coe_mul]
  norm_num

/-- A sum against one column of the indicator is the sum over the column's head. -/
theorem sum_head (f : Fin 384 → EReal) (n : Fin 384) :
    ∑ j : Fin 384, f j * (if j.val / 64 = n.val / 64 then 1 else 0) = ∑ d : Fin 64, f ⟨64 * (n.val / 64) + d.val, by omega⟩ := by
  have e : ∀ j : Fin 384, f j * (if j.val / 64 = n.val / 64 then 1 else 0) = if j.val / 64 = n.val / 64 then f j else 0 := by
    intro j
    split
    · exact mul_one _
    · exact mul_zero _
  rw [Finset.sum_congr rfl fun j _ => e j, ← Finset.sum_filter]
  refine (Finset.sum_bij' (fun d _ => (⟨64 * (n.val / 64) + d.val, by omega⟩ : Fin 384)) (fun j _ => (⟨j.val % 64, by omega⟩ : Fin 64))
    ?_ ?_ ?_ ?_ ?_).symm
  · intro d _
    refine Finset.mem_filter.2 ⟨Finset.mem_univ _, ?_⟩
    show (64 * (n.val / 64) + d.val) / 64 = n.val / 64
    omega
  · intro j _; exact Finset.mem_univ _
  · intro d _
    apply Fin.ext
    show (64 * (n.val / 64) + d.val) % 64 = d.val
    omega
  · intro j hj
    have h := (Finset.mem_filter.1 hj).2
    apply Fin.ext
    show 64 * (n.val / 64) + j.val % 64 = j.val
    omega
  · intro d _; rfl

/-- For a real row the two norms are one. -/
theorem kNorm_eq (a : Fin 384 → EReal) (ha : ∀ j, IsReal (a j)) (d : Fin 384 → Fin 384 → EReal)
    (hd : ∀ j n, d j n = if j.val / 64 = n.val / 64 then 1 else 0) (g' : Fin 384 → EReal) (g : Fin 64 → EReal)
    (hg : ∀ n : Fin 384, g' n = g ⟨n.val % 64, by omega⟩) (n : Fin 384) : kNorm a d g' n = hNorm a g n := by
  unfold kNorm hNorm
  have z : ∑ j, (a j * a j - a j * a j) * d j n = 0 :=
    Finset.sum_eq_zero fun j _ => by rw [((ha j).mul (ha j)).sub_self]; exact zero_mul _
  have s : ∑ j, a j * a j * d j n = ∑ e : Fin 64, a ⟨64 * (n.val / 64) + e.val, by omega⟩ * a ⟨64 * (n.val / 64) + e.val, by omega⟩ := by
    rw [← sum_head (fun j => a j * a j) n]
    exact Finset.sum_congr rfl fun j _ => by rw [hd]
  have hr : IsReal (∑ e : Fin 64, a ⟨64 * (n.val / 64) + e.val, by omega⟩ * a ⟨64 * (n.val / 64) + e.val, by omega⟩) :=
    IsReal.sum _ _ fun e => (ha _).mul (ha _)
  rw [z, add_zero, s, hg, head, head_inv]
  obtain ⟨r, hr⟩ := hr
  rw [hr]
  congr 4
  rw [← EReal.coe_mul]
  simp [Ideal.div]
  rfl

/-- The product of a normed row with real columns is real. -/
theorem pRow_real {n : ℕ} (nn : Fin 1024 → EReal) (w : Fin 1024 → Fin 3200 → EReal) (o : ℕ) (ho : o + n ≤ 3200)
    (hn : ∀ k, IsReal (nn k)) (j : Fin n) (hw : ∀ k, IsReal (w k ⟨o + j.val, by omega⟩)) : IsReal (pRow nn w o ho j) :=
  IsReal.sum _ _ fun k => (hn k).mul (hw k)

end Cert.Proj

end
-- ==== Proof.Proj.Ops.lean ====
/-
  What one grid point of the input projection's call stores, at an index.
-/
module

public import proofs.«01_k».proof.Proof.Proj.Step
public import proofs.«01_k».proof.Proof.Proj.Spec
public import proofs.«01_k».proof.Proof.Moe.Ops

@[expose] public section

noncomputable section

open Idealize.ShloMosaic Idealize.ShloMosaic.TcCoe Idealize.SL.Sem

namespace Cert.Proj

open Cert.Kernel4Ideal Cert.Kernel4Ideal.Gen
open Cert.Moe (brow nRow)

local notation "F" => Ideal

/-- A column slice of the weight's block. -/
theorem ld_cols (o w : ℕ) (ho : o + w ≤ 3200) (inb) (x : Vec F S1024x3200 .bf16) (k : Fin 1024) (j : Fin w) :
    View.ld x (Rect.unit (s := S1024x3200) ![0, o] ![1024, w] inb) (ix2 k j : Shape.Idx ⟨2, ![1024, w]⟩) = x (ix2 k ⟨o + j.val, by omega⟩) := by
  refine congrArg x ?_
  funext i; apply Fin.ext
  match i with
  | ⟨0, _⟩ => exact (Nat.zero_add _).trans (Nat.one_mul _)
  | ⟨1, _⟩ => exact congrArg (o + ·) (Nat.one_mul _)

/-- The normed row. -/
theorem pay5_at (x0 : Vec F S512x1024 .f32) (x1 : Vec F S1x1024 .f32) (r : Fin 512) :
    brow (k0_pay5 x0 x1) r = nRow (brow x0 r) (fun n => x1 (ix2 0 n)) := by
  funext n
  unfold brow nRow
  pointwise [k0_pay5]

/-- A head norm of a product of the normed rows, at an index. -/
theorem pay9_at (H : FVec F S512x1024 .bf16) (d : FVec F S384x384 .bf16) (W : Vec F S1024x384 .bf16) (g : Vec F S1x384 .f32)
    (n : Fin 384) (r : Fin 512) :
    k0_pay9 H d W g (ix2 n r) = kNorm (fun j => ∑ k, H (ix2 r k) * W (ix2 k j)) (brow d) (fun j => g (ix2 0 j)) n := by
  unfold kNorm brow
  pointwise [k0_pay9]

/-- The same by rows. -/
theorem pay7_at (x0 : Vec F S512x1024 .f32) (x1 : Vec F S1x1024 .f32) (d : FVec F S384x384 .bf16) (W : Vec F S1024x384 .bf16) (g : Vec F S1x384 .f32)
    (r : Fin 512) (n : Fin 384) :
    k0_pay7 x0 x1 d W g (ix2 r n) = kNorm (fun j => ∑ k, k0_pay5 x0 x1 (ix2 r k) * W (ix2 k j)) (brow d) (fun j => g (ix2 0 j)) n := by
  unfold k0_pay7
  show _ = kNorm (fun j => ∑ k, @k0_pay5 F _ _ _ (ix2 r k) * W (ix2 k j)) (brow d) (fun j => g (ix2 0 j)) n
  generalize @k0_pay5 F _ _ _ = H
  unfold kNorm brow
  pointwise [k0_pay6]

/-- A product of the normed rows, at an index. -/
theorem pay10_at (H : FVec F S512x1024 .bf16) (W : Vec F S1024x384 .bf16) (n : Fin 384) (r : Fin 512) :
    k0_pay10 H W (ix2 n r) = ∑ k, H (ix2 r k) * W (ix2 k n) := by
  pointwise [k0_pay10]

/-- The second mixer's product, at an index. -/
theorem pay3_at (H : FVec F S512x1024 .bf16) (W : Vec F S1024x1536 .bf16) (r : Fin 512) (n : Fin 1536) :
    k0_pay3 H W (ix2 r n) = ∑ k, H (ix2 r k) * W (ix2 k n) := by
  pointwise [k0_pay3]

/-- The third mixer's product, at an index. -/
theorem pay4_at (H : FVec F S512x1024 .bf16) (W : Vec F S1024x512 .bf16) (r : Fin 512) (n : Fin 512) :
    k0_pay4 H W (ix2 r n) = ∑ k, H (ix2 r k) * W (ix2 k n) := by
  pointwise [k0_pay4]

/-- A block with a leading axis of one. -/
theorem pay1_at (x : FVec F S384x512 .f32) (n : Fin 384) (r : Fin 512) : k0_pay1 x (ix3 0 n r) = x (ix2 n r) := by
  pointwise [k0_pay1]

/-- A block with a leading axis of one. -/
theorem pay2_at (x : FVec F S384x512 .f32) (n : Fin 384) (r : Fin 512) : k0_pay2 x (ix3 0 n r) = x (ix2 n r) := by
  pointwise [k0_pay2]

/-- The keys' block, with two leading axes of one. -/
theorem pay11_at (H : FVec F S512x1024 .bf16) (d : FVec F S384x384 .bf16) (W : Vec F S1024x384 .bf16) (g : Vec F S1x384 .f32)
    (n : Fin 384) (r : Fin 512) : k0_pay11 H d W g (ix4 0 0 n r) = k0_pay9 H d W g (ix2 n r) := by
  unfold k0_pay11
  generalize k0_pay9 H d W g = x
  pointwise []

/-- The values' block, with two leading axes of one. -/
theorem pay12_at (H : FVec F S512x1024 .bf16) (W : Vec F S1024x384 .bf16) (n : Fin 384) (r : Fin 512) :
    k0_pay12 H W (ix4 0 0 n r) = k0_pay10 H W (ix2 n r) := by
  unfold k0_pay12
  generalize k0_pay10 H W = x
  pointwise []

/-- The indicator's block is read as it is. -/
theorem pay6_at (d : Vec F S384x384 .bf16) : brow (k0_pay6 d) = brow d := by
  funext j n
  unfold brow
  pointwise [k0_pay6]

/-- The last step of the queries, at an index. -/
theorem pay8_at (x : FVec F S512x384 .f32) (s : Idealize.ShloMosaic.Ideal .f32) (r : Fin 512) (n : Fin 384) : k0_pay8 x s (ix2 r n) = x (ix2 r n) * s := by
  pointwise [k0_pay8]

variable (x0 : Vec F S512x1024 .f32) (x1 : Vec F S1x1024 .f32) (x2 : Vec F S1024x3200 .bf16) (x3 x4 : Vec F S1x384 .f32) (x5 : Vec F S384x384 .bf16)

/-- A product of a normed row with a slice of the weight. -/
theorem prod_at {w : ℕ} (o : ℕ) (ho : o + w ≤ 3200) (inb) (r : Fin 512) (j : Fin w) :
    ∑ k, k0_pay5 x0 x1 (ix2 r k) * View.ld x2 (Rect.unit (s := S1024x3200) ![0, o] ![1024, w] inb) (ix2 k j : Shape.Idx ⟨2, ![1024, w]⟩)
      = pRow (nRow (brow x0 r) (fun n => x1 (ix2 0 n))) (brow x2) o ho j := by
  rw [← pay5_at]
  exact Finset.sum_congr rfl fun k _ => congrArg (k0_pay5 x0 x1 (ix2 r k) * ·) (ld_cols o w ho inb x2 k j)

/-- The queries' block, at an index. -/
theorem b6_at (r : Fin 512) (n : Fin 384) : b6 x0 x1 x2 x3 x4 x5 (ix2 r n)
    = kNorm (pRow (nRow (brow x0 r) (fun n => x1 (ix2 0 n))) (brow x2) 0 (by omega)) (brow x5) (fun j => x3 (ix2 0 j)) n
      * Ideal.ofBits .f32 0x3E000000#32 := by
  unfold b6
  rw [pay8_at, pay7_at]
  refine congrArg (fun a => kNorm a _ _ n * Ideal.ofBits .f32 0x3E000000#32) (funext fun j => ?_)
  exact prod_at x0 x1 x2 0 (by omega) _ r j

/-- The keys, at an index. -/
theorem keys_at (n : Fin 384) (r : Fin 512) :
    k0_pay9 (k0_pay5 x0 x1) (k0_pay6 x5) (View.ld x2 (Rect.unit ![0, 384] ![1024, 384] inb_S1024x3200_S1024x384_0_384)) x4 (ix2 n r)
    = kNorm (pRow (nRow (brow x0 r) (fun n => x1 (ix2 0 n))) (brow x2) 384 (by omega)) (brow x5) (fun j => x4 (ix2 0 j)) n := by
  rw [pay9_at, pay6_at]
  refine congrArg (fun a => kNorm a _ _ n) (funext fun j => ?_)
  exact prod_at x0 x1 x2 384 (by omega) _ r j

/-- The values, at an index. -/
theorem vals_at (n : Fin 384) (r : Fin 512) :
    k0_pay10 (k0_pay5 x0 x1) (View.ld x2 (Rect.unit ![0, 768] ![1024, 384] inb_S1024x3200_S1024x384_0_768)) (ix2 n r)
    = pRow (nRow (brow x0 r) (fun n => x1 (ix2 0 n))) (brow x2) 768 (by omega) n := by
  rw [pay10_at]
  exact prod_at x0 x1 x2 768 (by omega) _ r n

/-- The keys' block, at an index. -/
theorem b7_at (n : Fin 384) (r : Fin 512) : b7 x0 x1 x2 x3 x4 x5 (ix4 0 0 n r)
    = kNorm (pRow (nRow (brow x0 r) (fun n => x1 (ix2 0 n))) (brow x2) 384 (by omega)) (brow x5) (fun j => x4 (ix2 0 j)) n :=
  (pay11_at _ _ _ _ n r).trans (keys_at x0 x1 x2 x4 x5 n r)

/-- The values' block, at an index. -/
theorem b8_at (n : Fin 384) (r : Fin 512) : b8 x0 x1 x2 x3 x4 x5 (ix4 0 0 n r)
    = pRow (nRow (brow x0 r) (fun n => x1 (ix2 0 n))) (brow x2) 768 (by omega) n :=
  (pay12_at _ _ n r).trans (vals_at x0 x1 x2 n r)

/-- The keys' block in bf16, at an index. -/
theorem b9_at (n : Fin 384) (r : Fin 512) : b9 x0 x1 x2 x3 x4 x5 (ix3 0 n r)
    = kNorm (pRow (nRow (brow x0 r) (fun n => x1 (ix2 0 n))) (brow x2) 384 (by omega)) (brow x5) (fun j => x4 (ix2 0 j)) n :=
  (pay1_at _ n r).trans (keys_at x0 x1 x2 x4 x5 n r)

/-- The values' block in bf16, at an index. -/
theorem b10_at (n : Fin 384) (r : Fin 512) : b10 x0 x1 x2 x3 x4 x5 (ix3 0 n r)
    = pRow (nRow (brow x0 r) (fun n => x1 (ix2 0 n))) (brow x2) 768 (by omega) n :=
  (pay2_at _ n r).trans (vals_at x0 x1 x2 n r)

/-- The second mixer's block, at an index. -/
theorem b11_at (r : Fin 512) (n : Fin 1536) : b11 x0 x1 x2 x3 x4 x5 (ix2 r n)
    = pRow (nRow (brow x0 r) (fun n => x1 (ix2 0 n))) (brow x2) 1152 (by omega) n :=
  (pay3_at _ _ r n).trans (prod_at x0 x1 x2 1152 (by omega) _ r n)

/-- The third mixer's block, at an index. -/
theorem b12_at (r : Fin 512) (n : Fin 512) : b12 x0 x1 x2 x3 x4 x5 (ix2 r n)
    = pRow (nRow (brow x0 r) (fun n => x1 (ix2 0 n))) (brow x2) 2688 (by omega) n :=
  (pay4_at _ _ r n).trans (prod_at x0 x1 x2 2688 (by omega) _ r n)

end Cert.Proj

end
-- ==== Proof.Proj.Ref.lean ====
/-
  The input projection's reference at an index.
-/
module

public import proofs.«01_k».proof.Proof.Gen.Reference4Ideal.Run
public import proofs.«01_k».proof.Proof.Moe.Ref
public import proofs.«01_k».proof.Proof.Proj.Spec

@[expose] public section

noncomputable section

namespace Cert.Proj.Ref

open Cert.Reference4Ideal Cert.Reference4Ideal.Gen Cert.Reference4Ideal.Value
open Idealize.ShloMosaic Idealize.ShloMosaic.TcCoe
open Cert.Moe (nRow)
open Cert.Moe.Ref (Rows row mat vec nv nv_at)

abbrev Proj := FVec Ideal S2x8192x3200 .f32
abbrev Part := FVec Ideal S2x8192x384 .f32
abbrev Heads := FVec Ideal S2x8192x6x64 .f32
abbrev Cols := FVec Ideal S2x384x8192 .f32
abbrev Cache := FVec Ideal S2x2x384x8192 .f32

/-- The batch of a row. -/
def rb (R : Fin 16384) : Fin 2 := ⟨R.val / 8192, by omega⟩
/-- The place of a row. -/
def rs (R : Fin 16384) : Fin 8192 := ⟨R.val % 8192, by omega⟩
/-- The head of a column. -/
def hd (n : Fin 384) : Fin 6 := ⟨n.val / 64, by omega⟩
/-- The place of a column in its head. -/
def hp (n : Fin 384) : Fin 64 := ⟨n.val % 64, by omega⟩

/-- The product of the normed rows with the whole weight. -/
def pp (x : Rows) (g : FVec Ideal S1024 .f32) (w : FVec Ideal S1024x3200 .f32) : Proj :=
  Host.dotGeneral dot_S2x8192x1024_S1024x3200_S2x8192x3200_2_0_01_1_n_n none (nv x g) w

/-- 384 columns of the product. -/
def part (o : ℕ) (h : S2x8192x3200.Slices ![0, 0, o] S2x8192x384) (p : Proj) : Part := extractStridedSlice S2x8192x384 ![0, 0, o] p h

/-- Columns by heads. -/
def split (a : Part) : Heads := shapeCast _ a shapeCasts_S2x8192x384_S2x8192x6x64

/-- The heads' norm. -/
def hn (a : Heads) (g : FVec Ideal S64 .f32) : Heads :=
  mulf (mulf a (broadcastInDim S2x8192x6x64 ![0, 1, 2, 3] bcast_S2x8192x6x1_S2x8192x6x64_0_1_2_3 (Host.rsqrt (addf (Host.divf (broadcastInDim S2x8192x6x1 ![0, 1, 2] bcast_S2x8192x6_S2x8192x6x1_0_1_2 (Host.reduceAdd (mulf a a) (constant S_ .f32 0x00000000#32) reducesTo_S2x8192x6x64_S2x8192x6_d3 h_S_)) (broadcastInDim S2x8192x6x1 ![] bcast_S_S2x8192x6x1 (constant S_ .f32 0x42800000#32))) (broadcastInDim S2x8192x6x1 ![] bcast_S_S2x8192x6x1 (constant S_ .f32 0x358637BD#32)))))) (broadcastInDim S2x8192x6x64 ![0, 1, 2, 3] bcast_S1x1x1x64_S2x8192x6x64_0_1_2_3 (broadcastInDim S1x1x1x64 ![3] bcast_S64_S1x1x1x64_3 g))

/-- The queries, scaled and by rows. -/
def qv (a : Heads) : FVec Ideal S16384x384 .bf16 :=
  truncf .bf16 (shapeCast _ (mulf a (broadcastInDim S2x8192x6x64 ![] bcast_S_S2x8192x6x64 (constant S_ .f32 0x3E000000#32))) shapeCasts_S2x8192x6x64_S16384x384) bitsLt_bf16_f32

/-- Heads by columns. -/
def join (a : Heads) : Part := shapeCast _ a shapeCasts_S2x8192x6x64_S2x8192x384
/-- Columns first. -/
def flip (a : Part) : Cols := transpose S2x384x8192 [0, 2, 1] a transposes_S2x8192x384_S2x384x8192_0_2_1

/-- The cache with this layer's slot written. -/
def store (old : Cache) (k : Cols) : Cache :=
  concatenate S2x2x384x8192 0 [⟨S1x2x384x8192, broadcastInDim S1x2x384x8192 ![1, 2, 3] bcast_S2x384x8192_S1x2x384x8192_1_2_3 (shapeCast _ (extractStridedSlice S1x2x384x8192 ![0, 0, 0, 0] old slices_S2x2x384x8192_S1x2x384x8192_0_0_0_0) shapeCasts_S1x2x384x8192_S2x384x8192)⟩, ⟨S1x2x384x8192, broadcastInDim S1x2x384x8192 ![1, 2, 3] bcast_S2x384x8192_S1x2x384x8192_1_2_3 k⟩] concatenates_S1x2x384x8192_S1x2x384x8192_S2x2x384x8192_d0

/-- The second mixer's inputs, by rows. -/
def bv (p : Proj) : FVec Ideal S16384x1536 .f32 :=
  shapeCast _ (extractStridedSlice S2x8192x1536 ![0, 0, 1152] p slices_S2x8192x3200_S2x8192x1536_0_0_1152) shapeCasts_S2x8192x1536_S16384x1536
/-- The third mixer's inputs, by rows. -/
def cv (p : Proj) : FVec Ideal S16384x512 .f32 :=
  shapeCast _ (extractStridedSlice S2x8192x512 ![0, 0, 2688] p slices_S2x8192x3200_S2x8192x512_0_0_2688) shapeCasts_S2x8192x512_S16384x512

/-- The product, at an index. -/
theorem pp_at (x : Rows) (g : FVec Ideal S1024 .f32) (w : FVec Ideal S1024x3200 .f32) (b : Fin 2) (s : Fin 8192) (n : Fin 3200) :
    pp x g w (ix3 b s n) = ∑ k, nRow (row x b s) (vec g) k * mat w k n := by
  rw [← nv_at]
  unfold pp row mat
  generalize nv x g = nn
  pointwise []

/-- Columns of the product, at an index. -/
theorem part_at (o : ℕ) (ho : o + 384 ≤ 3200) (h) (p : Proj) (b : Fin 2) (s : Fin 8192) (n : Fin 384) :
    part o h p (ix3 b s n) = p (ix3 b s ⟨o + n.val, by omega⟩) := by
  refine congrArg p ?_
  funext i; apply Fin.ext
  match i with
  | ⟨0, _⟩ => exact Nat.zero_add _
  | ⟨1, _⟩ => exact Nat.zero_add _
  | ⟨2, _⟩ => rfl

/-- Columns by heads, at an index. -/
theorem split_at (a : Part) (b : Fin 2) (s : Fin 8192) (h : Fin 6) (d : Fin 64) :
    split a (ix4 b s h d) = a (ix3 b s ⟨64 * h.val + d.val, by omega⟩) := by
  pointwise [split]
  refine congrArg a (congrArg (ix3 b s) (Fin.ext ?_))
  show h.val * 64 + d.val = 64 * h.val + d.val
  omega

/-- The heads' norm, at an index. -/
theorem hn_at (a : Heads) (g : FVec Ideal S64 .f32) (b : Fin 2) (s : Fin 8192) (h : Fin 6) (d : Fin 64) :
    hn a g (ix4 b s h d) = a (ix4 b s h d) * Ideal.rsqrt (Ideal.div (∑ e, a (ix4 b s h e) * a (ix4 b s h e)) (Ideal.ofBits .f32 0x42800000#32)
      + Ideal.ofBits .f32 0x358637BD#32) * g (ix1 d) := by
  pointwise [hn]

/-- The queries, at an index. -/
theorem qv_at (a : Heads) (R : Fin 16384) (n : Fin 384) :
    qv a (ix2 R n) = a (ix4 (rb R) (rs R) (hd n) (hp n)) * Ideal.ofBits .f32 0x3E000000#32 := by
  pointwise [qv, rb, rs, hd, hp]

/-- Heads by columns, at an index. -/
theorem join_at (a : Heads) (b : Fin 2) (s : Fin 8192) (n : Fin 384) : join a (ix3 b s n) = a (ix4 b s (hd n) (hp n)) := by
  pointwise [join, hd, hp]

/-- Columns first, at an index. -/
theorem flip_at (a : Part) (b : Fin 2) (n : Fin 384) (s : Fin 8192) : flip a (ix3 b n s) = a (ix3 b s n) := by
  pointwise [flip]

/-- The first layer's slot is kept. -/
theorem store_first (old : Cache) (k : Cols) (b : Fin 2) (n : Fin 384) (s : Fin 8192) :
    store old k (ix4 0 b n s) = old (ix4 0 b n s) := by
  pointwise [store]

/-- This layer's slot is written. -/
theorem store_last (old : Cache) (k : Cols) (b : Fin 2) (n : Fin 384) (s : Fin 8192) :
    store old k (ix4 1 b n s) = k (ix3 b n s) := by
  pointwise [store]

/-- The second mixer's inputs, at an index. -/
theorem bv_at (p : Proj) (R : Fin 16384) (n : Fin 1536) : bv p (ix2 R n) = p (ix3 (rb R) (rs R) ⟨1152 + n.val, by omega⟩) := by
  pointwise [bv, rb, rs]
/-- The third mixer's inputs, at an index. -/
theorem cv_at (p : Proj) (R : Fin 16384) (n : Fin 512) : cv p (ix2 R n) = p (ix3 (rb R) (rs R) ⟨2688 + n.val, by omega⟩) := by
  pointwise [cv, rb, rs]

variable (x : Rows) (g : FVec Ideal S1024 .f32) (w : FVec Ideal S1024x3200 .f32)

/-- A part of the product, a row at a time. -/
theorem part_row (o : ℕ) (ho : o + 384 ≤ 3200) (h) (b : Fin 2) (s : Fin 8192) (n : Fin 384) :
    part o h (pp x g w) (ix3 b s n) = pRow (nRow (row x b s) (vec g)) (mat w) o ho n :=
  (part_at o ho h _ b s n).trans (pp_at x g w b s _)

/-- The heads' norm of a part of the product. -/
theorem norm_row (o : ℕ) (ho : o + 384 ≤ 3200) (h) (q : FVec Ideal S64 .f32) (b : Fin 2) (s : Fin 8192) (n : Fin 384) :
    hn (split (part o h (pp x g w))) q (ix4 b s (hd n) (hp n))
      = hNorm (pRow (nRow (row x b s) (vec g)) (mat w) o ho) (fun d => q (ix1 d)) n := by
  have e : ∀ d : Fin 64, split (part o h (pp x g w)) (ix4 b s (hd n) d)
      = pRow (nRow (row x b s) (vec g)) (mat w) o ho ⟨64 * (n.val / 64) + d.val, by omega⟩ := fun d =>
    (split_at _ b s (hd n) d).trans (part_row x g w o ho h b s _)
  have en : (⟨64 * (n.val / 64) + (hp n).val, by have := (hp n).isLt; omega⟩ : Fin 384) = n := by
    apply Fin.ext
    show 64 * (n.val / 64) + n.val % 64 = n.val
    omega
  rw [hn_at]
  unfold hNorm
  rw [e (hp n), en, Finset.sum_congr rfl fun d _ => by rw [e d]]
  rfl

variable (q : FVec Ideal S64 .f32)

/-- The queries from the arguments. -/
def resQ : FVec Ideal S16384x384 .bf16 := qv (hn (split (part 0 slices_S2x8192x3200_S2x8192x384_0_0_0 (pp x g w))) q)
/-- The keys from the arguments. -/
def resK : Cols := flip (join (hn (split (part 384 slices_S2x8192x3200_S2x8192x384_0_0_384 (pp x g w))) q))
/-- The values from the arguments. -/
def resV : Cols := flip (part 768 slices_S2x8192x3200_S2x8192x384_0_0_768 (pp x g w))

/-- The queries, at an index. -/
theorem resQ_at (R : Fin 16384) (n : Fin 384) : resQ x g w q (ix2 R n)
    = hNorm (pRow (nRow (row x (rb R) (rs R)) (vec g)) (mat w) 0 (by omega)) (fun d => q (ix1 d)) n * Ideal.ofBits .f32 0x3E000000#32 := by
  unfold resQ
  rw [qv_at, norm_row x g w 0 (by omega)]

/-- The keys, at an index. -/
theorem resK_at (b : Fin 2) (n : Fin 384) (s : Fin 8192) : resK x g w q (ix3 b n s)
    = hNorm (pRow (nRow (row x b s) (vec g)) (mat w) 384 (by omega)) (fun d => q (ix1 d)) n := by
  unfold resK
  rw [flip_at, join_at, norm_row x g w 384 (by omega)]

/-- The values, at an index. -/
theorem resV_at (b : Fin 2) (n : Fin 384) (s : Fin 8192) : resV x g w (ix3 b n s)
    = pRow (nRow (row x b s) (vec g)) (mat w) 768 (by omega) n := by
  unfold resV
  rw [flip_at, part_row x g w 768 (by omega)]

/-- The second mixer's inputs, at an index. -/
theorem resB_at (R : Fin 16384) (n : Fin 1536) : bv (pp x g w) (ix2 R n)
    = pRow (nRow (row x (rb R) (rs R)) (vec g)) (mat w) 1152 (by omega) n := by
  rw [bv_at, pp_at]
  rfl

/-- The third mixer's inputs, at an index. -/
theorem resC_at (R : Fin 16384) (n : Fin 512) : cv (pp x g w) (ix2 R n)
    = pRow (nRow (row x (rb R) (rs R)) (vec g)) (mat w) 2688 (by omega) n := by
  rw [cv_at, pp_at]
  rfl

end Cert.Proj.Ref

end
-- ==== Proof.Proj.Win.lean ====
/-
  The input projection's windows from the arguments, row by row.
-/
module

public import proofs.«01_k».proof.Proof.Proj.Ops
public import proofs.«01_k».proof.Proof.Proj.Ref

@[expose] public section

noncomputable section

namespace Cert.Proj

open Cert.Kernel4Ideal Cert.Kernel4Ideal.Gen
open Idealize.ShloMosaic Idealize.ShloMosaic.TcCoe Idealize.SL.Sem
open Idealize.ShloMosaic.Pipeline (Dat Cfg Window)
open Cert.Moe (brow nRow IsReal)
open Cert.Moe.Ref (Rows row mat vec)
open Cert.Proj.Ref (Cache Cols rb rs hd hp)

/-- The call's arguments. -/
structure Args where
  /-- The residual stream. -/
  x : Rows
  /-- The norm's scale. -/
  g : FVec Ideal S1024 .f32
  /-- The input projection's weight. -/
  w : FVec Ideal S1024x3200 .f32
  /-- The queries' and the keys' gains. -/
  qn : FVec Ideal S64 .f32
  kn : FVec Ideal S64 .f32
  /-- The keys and values so far. -/
  ka : Cache
  va : Cache

variable (m : (ℓ : Loc nD τ sig) → Buf (Elt Ideal) ℓ) (c : Dev nD)

/-- The arguments as launched. -/
def args : Args where
  x := m ((c.tc : Thread nD τ).loc main_arg0)
  g := m ((c.tc : Thread nD τ).loc main_arg1)
  w := m ((c.tc : Thread nD τ).loc main_arg2)
  qn := m ((c.tc : Thread nD τ).loc main_arg3)
  kn := m ((c.tc : Thread nD τ).loc main_arg4)
  ka := m ((c.tc : Thread nD τ).loc main_arg5)
  va := m ((c.tc : Thread nD τ).loc main_arg6)

/-- The residual stream by rows. -/
def hX (x : FVec Ideal S2x8192x1024 .f32) : FVec Ideal S16384x1024 .f32 := shapeCast S16384x1024 x shapeCasts_S2x8192x1024_S16384x1024
/-- The norm's scale as a row. -/
def hG (g : FVec Ideal S1024 .f32) : FVec Ideal S1x1024 .f32 := shapeCast S1x1024 g shapeCasts_S1024_S1x1024
/-- A gain once for every head. -/
def hT (g : FVec Ideal S64 .f32) : FVec Ideal S1x384 .f32 :=
  shapeCast S1x384 (shapeCast S384 (broadcastInDim S6x64 ![0, 1] bcast_S1x64_S6x64_0_1 (shapeCast S1x64 g shapeCasts_S64_S1x64)) shapeCasts_S6x64_S384) shapeCasts_S384_S1x384

/-- The head of a column, as the kernel's wrapper divides. -/
def hF : IVec S384 32 :=
  select (andi (cmpi .ne (signi (iotaInDim S384 32 0)) (broadcastInDim S384 ![] bcast_S_S384 (signi (constantI S_ 32 64#32))))
      (cmpi .ne (Host.remsi (iotaInDim S384 32 0) (broadcastInDim S384 ![] bcast_S_S384 (constantI S_ 32 64#32))) (broadcastInDim S384 ![] bcast_S_S384 (constantI S_ 32 0#32))))
    (subi (Host.divsi (iotaInDim S384 32 0) (broadcastInDim S384 ![] bcast_S_S384 (constantI S_ 32 64#32))) (broadcastInDim S384 ![] bcast_S_S384 (constantI S_ 32 1#32)))
    (Host.divsi (iotaInDim S384 32 0) (broadcastInDim S384 ![] bcast_S_S384 (constantI S_ 32 64#32)))

/-- The indicator of one head: whether two columns are of the same. -/
def hD : FVec Ideal S384x384 .bf16 :=
  uitofp .bf16 (cmpi .eq (broadcastInDim S384x384 ![0, 1] bcast_S384x1_S384x384_0_1 (broadcastInDim S384x1 ![0] bcast_S384_S384x1_0 hF))
    (broadcastInDim S384x384 ![0, 1] bcast_S1x384_S384x384_0_1 (broadcastInDim S1x384 ![1] bcast_S384_S1x384_1 hF)))

/-- What the call's windows read, as the host code leaves it. -/
theorem V_all : V m c main_v0 = hX (args m c).x
    ∧ V m c main_v10 = hG (args m c).g
    ∧ V m c main_v1 = truncf (F := Ideal) (φ := .f32) .bf16 (args m c).w bitsLt_bf16_f32
    ∧ V m c main_v5 = hT (args m c).qn
    ∧ V m c main_v9 = hT (args m c).kn
    ∧ V m c main_v18 = hD
    ∧ V m c main_v19_1 = (args m c).ka
    ∧ V m c main_v19_2 = (args m c).va := by
  refine ⟨?_, ?_, ?_, ?_, ?_, ?_, ?_, ?_⟩
  all_goals
    unfold V
    simp only [hostOps0, hostOps0_1, hostOps0_2, List.flatten_cons, List.flatten_nil, List.append_nil, List.cons_append, List.nil_append]
    after_results_simp
    rfl
theorem V_x : V m c main_v0 = hX (args m c).x := (V_all m c).1
theorem V_g : V m c main_v10 = hG (args m c).g := (V_all m c).2.1
theorem V_w : V m c main_v1 = truncf (F := Ideal) (φ := .f32) .bf16 (args m c).w bitsLt_bf16_f32 := (V_all m c).2.2.1
theorem V_qn : V m c main_v5 = hT (args m c).qn := (V_all m c).2.2.2.1
theorem V_kn : V m c main_v9 = hT (args m c).kn := (V_all m c).2.2.2.2.1
theorem V_d : V m c main_v18 = hD := (V_all m c).2.2.2.2.2.1
theorem V_ka : V m c main_v19_1 = (args m c).ka := (V_all m c).2.2.2.2.2.2.1
theorem V_va : V m c main_v19_2 = (args m c).va := (V_all m c).2.2.2.2.2.2.2

theorem hX_at (x : FVec Ideal S2x8192x1024 .f32) (R : Fin 16384) (n : Fin 1024) : hX x (ix2 R n) = x (ix3 (rb R) (rs R) n) := by
  pointwise [hX, rb, rs]
theorem hG_at (x : FVec Ideal S1024 .f32) (n : Fin 1024) : hG x (ix2 0 n) = x (ix1 n) := by
  pointwise [hG]
theorem hT_at (x : FVec Ideal S64 .f32) (n : Fin 384) : hT x (ix2 0 n) = x (ix1 (hp n)) := by
  pointwise [hT, hp]

/-- The division of a column by the head's width rounds down. -/
theorem hF_at (n : Fin 384) : hF (ix1 n) = BitVec.ofNat 32 (n.val / 64) := by
  pointwise [hF]
  revert n
  decide +kernel

/-- Whether two columns' heads are the same, as a number. -/
theorem same (j n : Fin 384) :
    FloatOps.uitofp (F := Ideal) FTy.bf16 (IntOp.cmpi CmpIPredicate.eq (BitVec.ofNat 32 (j.val / 64)) (BitVec.ofNat 32 (n.val / 64)))
      = if j.val / 64 = n.val / 64 then 1 else 0 := by
  have h : ∀ a b : Fin 6, IntOp.cmpi CmpIPredicate.eq (BitVec.ofNat 32 a.val) (BitVec.ofNat 32 b.val) = if a.val = b.val then 1#1 else 0#1 := by
    decide
  have e := h ⟨j.val / 64, by omega⟩ ⟨n.val / 64, by omega⟩
  dsimp only at e
  rw [e]
  split
  · show (((1#1 : BitVec 1).toNat : ℝ) : EReal) = 1
    simp
  · show (((0#1 : BitVec 1).toNat : ℝ) : EReal) = 0
    simp

/-- The indicator, at an index. -/
theorem hD_at (j n : Fin 384) : hD (ix2 j n) = if j.val / 64 = n.val / 64 then 1 else 0 := by
  unfold hD
  have hj := hF_at j
  have hn := hF_at n
  generalize hF = f at hj hn
  pointwise []
  rw [hj, hn]
  exact same j n

end Cert.Proj

end
-- ==== Proof.Proj.Arr.lean ====
/-
  The input projection's output arrays after the run: the reference's queries, keys, values and the two other mixers' inputs.
-/
module

public import proofs.«01_k».proof.Proof.Proj.Win

@[expose] public section

noncomputable section

namespace Cert.Proj

open Cert.Kernel4Ideal Cert.Kernel4Ideal.Gen
open Idealize.ShloMosaic Idealize.ShloMosaic.TcCoe Idealize.SL.Sem
open Idealize.ShloMosaic.Pipeline (Dat Cfg Window)
open Cert.Moe (brow nRow IsReal)
open Cert.Moe.Ref (Rows row mat vec)
open Cert.Proj.Ref (Cache Cols rb rs hd hp)

namespace Args
variable (A : Args)

/-- The queries. -/
def rQ : FVec Ideal S16384x384 .bf16 := Ref.resQ A.x A.g A.w A.qn
/-- The keys. -/
def rK : Cols := Ref.resK A.x A.g A.w A.kn
/-- The values. -/
def rV : Cols := Ref.resV A.x A.g A.w
/-- The keys' cache. -/
def rKa : Cache := Ref.store A.ka A.rK
/-- The values' cache. -/
def rVa : Cache := Ref.store A.va A.rV
/-- The keys in bf16. -/
def rKb : FVec Ideal S2x384x8192 .bf16 := truncf (F := Ideal) (φ := .f32) .bf16 A.rK bitsLt_bf16_f32
/-- The values in bf16. -/
def rVb : FVec Ideal S2x384x8192 .bf16 := truncf (F := Ideal) (φ := .f32) .bf16 A.rV bitsLt_bf16_f32
/-- The second mixer's inputs. -/
def rB : FVec Ideal S16384x1536 .f32 := Ref.bv (Ref.pp A.x A.g A.w)
/-- The third mixer's inputs. -/
def rC : FVec Ideal S16384x512 .f32 := Ref.cv (Ref.pp A.x A.g A.w)

/-- The norm's scale and the queries' and keys' part of the weight are real numbers. -/
structure Real : Prop where
  g : ∀ n : Fin 1024, IsReal (A.g (ix1 n))
  w : ∀ (k : Fin 1024) (j : Fin 768), IsReal (A.w (ix2 k ⟨j.val, by omega⟩))

/-- A row's normed product with the queries' or keys' columns is real. -/
theorem Real.proj {A : Args} (h : A.Real) (b : Fin 2) (s : Fin 8192) (o : ℕ) (ho : o + 384 ≤ 3200) (ho' : o + 384 ≤ 768) (j : Fin 384) :
    IsReal (pRow (nRow (row A.x b s) (vec A.g)) (mat A.w) o ho j) :=
  pRow_real _ _ o ho (fun k => Moe.nRow_real _ _ h.g k) j fun k => h.w k ⟨o + j.val, by omega⟩
end Args

variable (m : (ℓ : Loc nD τ sig) → Buf (Elt Ideal) ℓ) (c : Dev nD)

theorem grid_N : grid0.N = 32 := by decide +kernel
theorem lt_N (t : Fin cfg0.N) : t.val < 32 := by have h : t.val < grid0.N := t.isLt; rwa [grid_N] at h

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 4) = 1 ∧ win0_7.index t (1 : Fin 4) = t.val / 16 ∧ win0_7.index t (2 : Fin 4) = 0 ∧ win0_7.index t (3 : Fin 4) = t.val % 16 := by decide +kernel
theorem idx8 : ∀ t : Fin grid0.N, win0_8.index t (0 : Fin 4) = 1 ∧ win0_8.index t (1 : Fin 4) = t.val / 16 ∧ win0_8.index t (2 : Fin 4) = 0 ∧ win0_8.index t (3 : Fin 4) = t.val % 16 := by decide +kernel
theorem idx9 : ∀ t : Fin grid0.N, win0_9.index t (0 : Fin 3) = t.val / 16 ∧ win0_9.index t (1 : Fin 3) = 0 ∧ win0_9.index t (2 : Fin 3) = t.val % 16 := by decide +kernel
theorem idx10 : ∀ t : Fin grid0.N, win0_10.index t (0 : Fin 3) = t.val / 16 ∧ win0_10.index t (1 : Fin 3) = 0 ∧ win0_10.index t (2 : Fin 3) = t.val % 16 := by decide +kernel
theorem idx11 : ∀ t : Fin grid0.N, win0_11.index t (0 : Fin 2) = t.val ∧ win0_11.index t (1 : Fin 2) = 0 := by decide +kernel
theorem idx12 : ∀ t : Fin grid0.N, win0_12.index t (0 : Fin 2) = t.val ∧ win0_12.index t (1 : Fin 2) = 0 := by decide +kernel

variable (t : Fin cfg0.N)

/-- A point's row, in the whole array. -/
def gr (i : Fin 512) : Fin 16384 := ⟨512 * t.val + i.val, by have := lt_N t; omega⟩

theorem emb0 (i : Fin 512) (n : Fin 1024) :
    ((cfg0.win 0).blk t).view.emb (ix2 i n) = (ix2 (gr t i) n : S16384x1024.Idx) := by
  obtain ⟨e0, e1⟩ := idx0 t
  funext a; apply Fin.ext
  match a with
  | ⟨0, _⟩ => show win0_0.index t (0 : Fin 2) * 512 + 1 * i.val = 512 * t.val + i.val; omega
  | ⟨1, _⟩ => show win0_0.index t (1 : Fin 2) * 1024 + 1 * n.val = n.val; omega

theorem emb1 (j : S1x1024.Idx) :
    ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (j : S1024x3200.Idx) :
    ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 3200 + 1 * (j 1).val = (j 1).val; omega

theorem emb3 (j : S1x384.Idx) :
    ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 384 + 1 * (j 1).val = (j 1).val; omega

theorem emb4 (j : S1x384.Idx) :
    ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 384 + 1 * (j 1).val = (j 1).val; omega

theorem emb5 (j : S384x384.Idx) :
    ((cfg0.win 5).blk t).view.emb j = j := by
  obtain ⟨e0, e1⟩ := idx5 t
  funext a; apply Fin.ext
  match a with
  | ⟨0, _⟩ => show win0_5.index t (0 : Fin 2) * 384 + 1 * (j 0).val = (j 0).val; omega
  | ⟨1, _⟩ => show win0_5.index t (1 : Fin 2) * 384 + 1 * (j 1).val = (j 1).val; omega

theorem emb6 (i : Fin 512) (n : Fin 384) :
    ((cfg0.win 6).blk t).view.emb (ix2 i n) = (ix2 (gr t i) n : S16384x384.Idx) := by
  obtain ⟨e0, e1⟩ := idx6 t
  funext a; apply Fin.ext
  match a with
  | ⟨0, _⟩ => show win0_6.index t (0 : Fin 2) * 512 + 1 * i.val = 512 * t.val + i.val; omega
  | ⟨1, _⟩ => show win0_6.index t (1 : Fin 2) * 384 + 1 * n.val = n.val; omega

theorem emb7 (n : Fin 384) (i : Fin 512) :
    ((cfg0.win 7).blk t).view.emb (ix4 0 0 n i) = (ix4 1 (rb (gr t i)) n (rs (gr t i)) : S2x2x384x8192.Idx) := by
  obtain ⟨e0, e1, e2, e3⟩ := idx7 t
  have := lt_N t
  funext a; apply Fin.ext
  match a with
  | ⟨0, _⟩ => show win0_7.index t (0 : Fin 4) * 1 + 1 * 0 = 1; omega
  | ⟨1, _⟩ => show win0_7.index t (1 : Fin 4) * 1 + 1 * 0 = (512 * t.val + i.val) / 8192; omega
  | ⟨2, _⟩ => show win0_7.index t (2 : Fin 4) * 384 + 1 * n.val = n.val; omega
  | ⟨3, _⟩ => show win0_7.index t (3 : Fin 4) * 512 + 1 * i.val = (512 * t.val + i.val) % 8192; omega

theorem emb8 (n : Fin 384) (i : Fin 512) :
    ((cfg0.win 8).blk t).view.emb (ix4 0 0 n i) = (ix4 1 (rb (gr t i)) n (rs (gr t i)) : S2x2x384x8192.Idx) := by
  obtain ⟨e0, e1, e2, e3⟩ := idx8 t
  have := lt_N t
  funext a; apply Fin.ext
  match a with
  | ⟨0, _⟩ => show win0_8.index t (0 : Fin 4) * 1 + 1 * 0 = 1; omega
  | ⟨1, _⟩ => show win0_8.index t (1 : Fin 4) * 1 + 1 * 0 = (512 * t.val + i.val) / 8192; omega
  | ⟨2, _⟩ => show win0_8.index t (2 : Fin 4) * 384 + 1 * n.val = n.val; omega
  | ⟨3, _⟩ => show win0_8.index t (3 : Fin 4) * 512 + 1 * i.val = (512 * t.val + i.val) % 8192; omega

theorem emb9 (n : Fin 384) (i : Fin 512) :
    ((cfg0.win 9).blk t).view.emb (ix3 0 n i) = (ix3 (rb (gr t i)) n (rs (gr t i)) : S2x384x8192.Idx) := by
  obtain ⟨e0, e1, e2⟩ := idx9 t
  have := lt_N t
  funext a; apply Fin.ext
  match a with
  | ⟨0, _⟩ => show win0_9.index t (0 : Fin 3) * 1 + 1 * 0 = (512 * t.val + i.val) / 8192; omega
  | ⟨1, _⟩ => show win0_9.index t (1 : Fin 3) * 384 + 1 * n.val = n.val; omega
  | ⟨2, _⟩ => show win0_9.index t (2 : Fin 3) * 512 + 1 * i.val = (512 * t.val + i.val) % 8192; omega

theorem emb10 (n : Fin 384) (i : Fin 512) :
    ((cfg0.win 10).blk t).view.emb (ix3 0 n i) = (ix3 (rb (gr t i)) n (rs (gr t i)) : S2x384x8192.Idx) := by
  obtain ⟨e0, e1, e2⟩ := idx10 t
  have := lt_N t
  funext a; apply Fin.ext
  match a with
  | ⟨0, _⟩ => show win0_10.index t (0 : Fin 3) * 1 + 1 * 0 = (512 * t.val + i.val) / 8192; omega
  | ⟨1, _⟩ => show win0_10.index t (1 : Fin 3) * 384 + 1 * n.val = n.val; omega
  | ⟨2, _⟩ => show win0_10.index t (2 : Fin 3) * 512 + 1 * i.val = (512 * t.val + i.val) % 8192; omega

theorem emb11 (i : Fin 512) (n : Fin 1536) :
    ((cfg0.win 11).blk t).view.emb (ix2 i n) = (ix2 (gr t i) n : S16384x1536.Idx) := by
  obtain ⟨e0, e1⟩ := idx11 t
  funext a; apply Fin.ext
  match a with
  | ⟨0, _⟩ => show win0_11.index t (0 : Fin 2) * 512 + 1 * i.val = 512 * t.val + i.val; omega
  | ⟨1, _⟩ => show win0_11.index t (1 : Fin 2) * 1536 + 1 * n.val = n.val; omega

theorem emb12 (i : Fin 512) (n : Fin 512) :
    ((cfg0.win 12).blk t).view.emb (ix2 i n) = (ix2 (gr t i) n : S16384x512.Idx) := by
  obtain ⟨e0, e1⟩ := idx12 t
  funext a; apply Fin.ext
  match a with
  | ⟨0, _⟩ => show win0_12.index t (0 : Fin 2) * 512 + 1 * i.val = 512 * t.val + i.val; omega
  | ⟨1, _⟩ => show win0_12.index t (1 : Fin 2) * 512 + 1 * n.val = n.val; omega

theorem blk0 (i : Fin 512) : brow (iblk m c 0 t) i = row (args m c).x (rb (gr t i)) (rs (gr t i)) := by
  funext n
  show V m c main_v0 (((cfg0.win 0).blk t).view.emb (ix2 i n)) = _
  rw [emb0, V_x, hX_at]
  rfl

theorem blk1 : (fun n => iblk m c 1 t (ix2 0 n)) = vec (args m c).g := by
  funext n
  show V m c main_v10 (((cfg0.win 1).blk t).view.emb (ix2 0 n)) = _
  rw [emb1, V_g, hG_at]
  rfl

theorem blk2 : brow (iblk m c 2 t) = mat (args m c).w := by
  funext k n
  show V m c main_v1 (((cfg0.win 2).blk t).view.emb (ix2 k n)) = _
  rw [emb2, V_w]
  rfl

theorem blk3 (n : Fin 384) : iblk m c 3 t (ix2 0 n) = (args m c).qn (ix1 (hp n)) := by
  show V m c main_v5 (((cfg0.win 3).blk t).view.emb (ix2 0 n)) = _
  rw [emb3, V_qn, hT_at]

theorem blk4 (n : Fin 384) : iblk m c 4 t (ix2 0 n) = (args m c).kn (ix1 (hp n)) := by
  show V m c main_v9 (((cfg0.win 4).blk t).view.emb (ix2 0 n)) = _
  rw [emb4, V_kn, hT_at]

theorem blk5 (j n : Fin 384) : brow (iblk m c 5 t) j n = if j.val / 64 = n.val / 64 then 1 else 0 := by
  show V m c main_v18 (((cfg0.win 5).blk t).view.emb (ix2 j n)) = _
  rw [emb5, V_d, hD_at]

/-- A point's block of output 0, over its input blocks. -/
theorem outs6 : (outsAt0 m c t).1 = b6 (iblk m c 0 t) (iblk m c 1 t) (iblk m c 2 t) (iblk m c 3 t) (iblk m c 4 t) (iblk m c 5 t) := by
  unfold outsAt0
  dsimp only
  rw [out_eq6]

/-- A point's block of output 1, over its input blocks. -/
theorem outs7 : (outsAt0 m c t).2.1 = b7 (iblk m c 0 t) (iblk m c 1 t) (iblk m c 2 t) (iblk m c 3 t) (iblk m c 4 t) (iblk m c 5 t) := by
  unfold outsAt0
  dsimp only
  rw [out_eq7]

/-- A point's block of output 2, over its input blocks. -/
theorem outs8 : (outsAt0 m c t).2.2.1 = b8 (iblk m c 0 t) (iblk m c 1 t) (iblk m c 2 t) (iblk m c 3 t) (iblk m c 4 t) (iblk m c 5 t) := by
  unfold outsAt0
  dsimp only
  rw [out_eq8]

/-- A point's block of output 3, over its input blocks. -/
theorem outs9 : (outsAt0 m c t).2.2.2.1 = b9 (iblk m c 0 t) (iblk m c 1 t) (iblk m c 2 t) (iblk m c 3 t) (iblk m c 4 t) (iblk m c 5 t) := by
  unfold outsAt0
  dsimp only
  rw [out_eq9]

/-- A point's block of output 4, over its input blocks. -/
theorem outs10 : (outsAt0 m c t).2.2.2.2.1 = b10 (iblk m c 0 t) (iblk m c 1 t) (iblk m c 2 t) (iblk m c 3 t) (iblk m c 4 t) (iblk m c 5 t) := by
  unfold outsAt0
  dsimp only
  rw [out_eq10]

/-- A point's block of output 5, over its input blocks. -/
theorem outs11 : (outsAt0 m c t).2.2.2.2.2.1 = b11 (iblk m c 0 t) (iblk m c 1 t) (iblk m c 2 t) (iblk m c 3 t) (iblk m c 4 t) (iblk m c 5 t) := by
  unfold outsAt0
  dsimp only
  rw [out_eq11]

/-- A point's block of output 6, over its input blocks. -/
theorem outs12 : (outsAt0 m c t).2.2.2.2.2.2 = b12 (iblk m c 0 t) (iblk m c 1 t) (iblk m c 2 t) (iblk m c 3 t) (iblk m c 4 t) (iblk m c 5 t) := by
  unfold outsAt0
  dsimp only
  rw [out_eq12]

/-- A point's block of output 0 is its block of the reference's. -/
theorem out_block6 (hr : (args m c).Real) (r : Fin 512) (n : Fin 384) : (outsAt0 m c t).1 (ix2 r n) = (args m c).rQ (ix2 (gr t r) n) := by
  rw [outs6]
  refine (b6_at _ _ _ _ _ _ r n).trans ?_
  rw [blk0, blk1, blk2]
  unfold Args.rQ
  rw [Ref.resQ_at]
  refine congrArg (· * _) (kNorm_eq _ (fun j => hr.proj _ _ 0 (by omega) (by omega) j) _ (blk5 m c t) _ (fun d => (args m c).qn (ix1 d)) (fun n => blk3 m c t n) n)

/-- A point's block of output 1 is its block of the reference's. -/
theorem out_block7 (hr : (args m c).Real) (n : Fin 384) (r : Fin 512) : (outsAt0 m c t).2.1 (ix4 0 0 n r) = (args m c).rK (ix3 (rb (gr t r)) n (rs (gr t r))) := by
  rw [outs7]
  refine (b7_at _ _ _ _ _ _ n r).trans ?_
  rw [blk0, blk1, blk2]
  unfold Args.rK
  rw [Ref.resK_at]
  refine kNorm_eq _ (fun j => hr.proj _ _ 384 (by omega) (by omega) j) _ (blk5 m c t) _ (fun d => (args m c).kn (ix1 d)) (fun n => blk4 m c t n) n

/-- A point's block of output 2 is its block of the reference's. -/
theorem out_block8 (n : Fin 384) (r : Fin 512) : (outsAt0 m c t).2.2.1 (ix4 0 0 n r) = (args m c).rV (ix3 (rb (gr t r)) n (rs (gr t r))) := by
  rw [outs8]
  refine (b8_at _ _ _ _ _ _ n r).trans ?_
  rw [blk0, blk1, blk2]
  unfold Args.rV
  rw [Ref.resV_at]

/-- A point's block of output 3 is its block of the reference's. -/
theorem out_block9 (hr : (args m c).Real) (n : Fin 384) (r : Fin 512) : (outsAt0 m c t).2.2.2.1 (ix3 0 n r) = (args m c).rK (ix3 (rb (gr t r)) n (rs (gr t r))) := by
  rw [outs9]
  refine (b9_at _ _ _ _ _ _ n r).trans ?_
  rw [blk0, blk1, blk2]
  unfold Args.rK
  rw [Ref.resK_at]
  refine kNorm_eq _ (fun j => hr.proj _ _ 384 (by omega) (by omega) j) _ (blk5 m c t) _ (fun d => (args m c).kn (ix1 d)) (fun n => blk4 m c t n) n

/-- A point's block of output 4 is its block of the reference's. -/
theorem out_block10 (n : Fin 384) (r : Fin 512) : (outsAt0 m c t).2.2.2.2.1 (ix3 0 n r) = (args m c).rV (ix3 (rb (gr t r)) n (rs (gr t r))) := by
  rw [outs10]
  refine (b10_at _ _ _ _ _ _ n r).trans ?_
  rw [blk0, blk1, blk2]
  unfold Args.rV
  rw [Ref.resV_at]

/-- A point's block of output 5 is its block of the reference's. -/
theorem out_block11 (r : Fin 512) (n : Fin 1536) : (outsAt0 m c t).2.2.2.2.2.1 (ix2 r n) = (args m c).rB (ix2 (gr t r) n) := by
  rw [outs11]
  refine (b11_at _ _ _ _ _ _ r n).trans ?_
  rw [blk0, blk1, blk2]
  unfold Args.rB
  rw [Ref.resB_at]

/-- A point's block of output 6 is its block of the reference's. -/
theorem out_block12 (r : Fin 512) (n : Fin 512) : (outsAt0 m c t).2.2.2.2.2.2 (ix2 r n) = (args m c).rC (ix2 (gr t r) n) := by
  rw [outs12]
  refine (b12_at _ _ _ _ _ _ r n).trans ?_
  rw [blk0, blk1, blk2]
  unfold Args.rC
  rw [Ref.resC_at]

/-- What a point writes back to output 0 is its block of the result. -/
theorem flushed_eq6 (hr : (args m c).Real) : (dats m 0 c).flushed 6 t = ((cfg0.win 6).blk t).view.read (Elt Ideal) (args m c).rQ := by
  show (cfg0.win 6).cut (grid0.coords t) ((dats m 0 c).after 6 t) = _
  rw [after0_6]
  funext j
  show (outsAt0 m c t).1 j = (args m c).rQ (((cfg0.win 6).blk t).view.emb j)
  have e : j = (ix2 (j 0) (j 1) : S512x384.Idx) := by
    funext a; fin_cases a <;> rfl
  rw [e]
  exact (out_block6 m c t hr (j 0) (j 1)).trans (congrArg (args m c).rQ (emb6 t (j 0) (j 1)).symm)

/-- Every index of output 0 lies in some point's block. -/
theorem covered6 (i : S16384x384.Idx) :
    ∃ t : Fin cfg0.N, (cfg0.win 6).flush t = true ∧ i ∈ ((cfg0.win 6).blk t).view.set := by
  have h0 : (i 0).val < 16384 := (i 0).isLt
  have hN : (i 0).val / 512 < grid0.N := by rw [grid_N]; omega
  refine ⟨⟨(i 0).val / 512, hN⟩, flush0_6 _, ?_⟩
  have h := ((cfg0.win 6).blk ⟨(i 0).val / 512, hN⟩).view.emb_mem_set (ix2 (⟨(i 0).val % 512, by omega⟩ : Fin 512) (i 1) : S512x384.Idx)
  have e : ((cfg0.win 6).blk ⟨(i 0).val / 512, hN⟩).view.emb (ix2 (⟨(i 0).val % 512, by omega⟩ : Fin 512) (i 1) : S512x384.Idx) = i := by
    refine (emb6 _ _ _).trans ?_
    funext a; apply Fin.ext
    match a with
    | ⟨0, _⟩ => show 512 * ((i 0).val / 512) + (i 0).val % 512 = (i 0).val; omega
    | ⟨1, _⟩ => rfl
  rw [e] at h
  exact h

/-- Output 0 after the run. -/
theorem final6 (hr : (args m c).Real) : (dats m 0 c).arrAt 6 cfg0.N = (args m c).rQ :=
  (dats m 0 c).arrAt_eq_of_cover 6 (args m c).rQ (fun t _ => flushed_eq6 m c t hr) covered6

/-- What a point writes back to output 3 is its block of the result. -/
theorem flushed_eq9 (hr : (args m c).Real) : (dats m 0 c).flushed 9 t = ((cfg0.win 9).blk t).view.read (Elt Ideal) (args m c).rKb := by
  show (cfg0.win 9).cut (grid0.coords t) ((dats m 0 c).after 9 t) = _
  rw [after0_9]
  funext j
  show (outsAt0 m c t).2.2.2.1 j = (args m c).rKb (((cfg0.win 9).blk t).view.emb j)
  have e : j = (ix3 0 (j 1) (j 2) : S1x384x512.Idx) := by
    funext a; fin_cases a
    · exact Fin.ext (by have h : (j 0).val < 1 := (j 0).isLt; show (j 0).val = 0; omega)
    · rfl
    · rfl
  rw [e]
  exact (out_block9 m c t hr (j 1) (j 2)).trans (congrArg (args m c).rKb (emb9 t (j 1) (j 2)).symm)

/-- Every index of output 3 lies in some point's block. -/
theorem covered9 (i : S2x384x8192.Idx) :
    ∃ t : Fin cfg0.N, (cfg0.win 9).flush t = true ∧ i ∈ ((cfg0.win 9).blk t).view.set := by
  have h0 : (i 0).val < 2 := (i 0).isLt
  have h2 : (i 2).val < 8192 := (i 2).isLt
  have hN : 16 * (i 0).val + (i 2).val / 512 < grid0.N := by rw [grid_N]; omega
  refine ⟨⟨16 * (i 0).val + (i 2).val / 512, hN⟩, flush0_9 _, ?_⟩
  have h := ((cfg0.win 9).blk ⟨16 * (i 0).val + (i 2).val / 512, hN⟩).view.emb_mem_set (ix3 0 (i 1) (⟨(i 2).val % 512, by omega⟩ : Fin 512) : S1x384x512.Idx)
  have e : ((cfg0.win 9).blk ⟨16 * (i 0).val + (i 2).val / 512, hN⟩).view.emb (ix3 0 (i 1) (⟨(i 2).val % 512, by omega⟩ : Fin 512) : S1x384x512.Idx) = i := by
    refine (emb9 _ _ _).trans ?_
    funext a; apply Fin.ext
    match a with
    | ⟨0, _⟩ => show (512 * (16 * (i 0).val + (i 2).val / 512) + (i 2).val % 512) / 8192 = (i 0).val; omega
    | ⟨1, _⟩ => rfl
    | ⟨2, _⟩ => show (512 * (16 * (i 0).val + (i 2).val / 512) + (i 2).val % 512) % 8192 = (i 2).val; omega
  rw [e] at h
  exact h

/-- Output 3 after the run. -/
theorem final9 (hr : (args m c).Real) : (dats m 0 c).arrAt 9 cfg0.N = (args m c).rKb :=
  (dats m 0 c).arrAt_eq_of_cover 9 (args m c).rKb (fun t _ => flushed_eq9 m c t hr) covered9

/-- What a point writes back to output 4 is its block of the result. -/
theorem flushed_eq10 : (dats m 0 c).flushed 10 t = ((cfg0.win 10).blk t).view.read (Elt Ideal) (args m c).rVb := by
  show (cfg0.win 10).cut (grid0.coords t) ((dats m 0 c).after 10 t) = _
  rw [after0_10]
  funext j
  show (outsAt0 m c t).2.2.2.2.1 j = (args m c).rVb (((cfg0.win 10).blk t).view.emb j)
  have e : j = (ix3 0 (j 1) (j 2) : S1x384x512.Idx) := by
    funext a; fin_cases a
    · exact Fin.ext (by have h : (j 0).val < 1 := (j 0).isLt; show (j 0).val = 0; omega)
    · rfl
    · rfl
  rw [e]
  exact (out_block10 m c t (j 1) (j 2)).trans (congrArg (args m c).rVb (emb10 t (j 1) (j 2)).symm)

/-- Every index of output 4 lies in some point's block. -/
theorem covered10 (i : S2x384x8192.Idx) :
    ∃ t : Fin cfg0.N, (cfg0.win 10).flush t = true ∧ i ∈ ((cfg0.win 10).blk t).view.set := by
  have h0 : (i 0).val < 2 := (i 0).isLt
  have h2 : (i 2).val < 8192 := (i 2).isLt
  have hN : 16 * (i 0).val + (i 2).val / 512 < grid0.N := by rw [grid_N]; omega
  refine ⟨⟨16 * (i 0).val + (i 2).val / 512, hN⟩, flush0_10 _, ?_⟩
  have h := ((cfg0.win 10).blk ⟨16 * (i 0).val + (i 2).val / 512, hN⟩).view.emb_mem_set (ix3 0 (i 1) (⟨(i 2).val % 512, by omega⟩ : Fin 512) : S1x384x512.Idx)
  have e : ((cfg0.win 10).blk ⟨16 * (i 0).val + (i 2).val / 512, hN⟩).view.emb (ix3 0 (i 1) (⟨(i 2).val % 512, by omega⟩ : Fin 512) : S1x384x512.Idx) = i := by
    refine (emb10 _ _ _).trans ?_
    funext a; apply Fin.ext
    match a with
    | ⟨0, _⟩ => show (512 * (16 * (i 0).val + (i 2).val / 512) + (i 2).val % 512) / 8192 = (i 0).val; omega
    | ⟨1, _⟩ => rfl
    | ⟨2, _⟩ => show (512 * (16 * (i 0).val + (i 2).val / 512) + (i 2).val % 512) % 8192 = (i 2).val; omega
  rw [e] at h
  exact h

/-- Output 4 after the run. -/
theorem final10 : (dats m 0 c).arrAt 10 cfg0.N = (args m c).rVb :=
  (dats m 0 c).arrAt_eq_of_cover 10 (args m c).rVb (fun t _ => flushed_eq10 m c t) covered10

/-- What a point writes back to output 5 is its block of the result. -/
theorem flushed_eq11 : (dats m 0 c).flushed 11 t = ((cfg0.win 11).blk t).view.read (Elt Ideal) (args m c).rB := by
  show (cfg0.win 11).cut (grid0.coords t) ((dats m 0 c).after 11 t) = _
  rw [after0_11]
  funext j
  show (outsAt0 m c t).2.2.2.2.2.1 j = (args m c).rB (((cfg0.win 11).blk t).view.emb j)
  have e : j = (ix2 (j 0) (j 1) : S512x1536.Idx) := by
    funext a; fin_cases a <;> rfl
  rw [e]
  exact (out_block11 m c t (j 0) (j 1)).trans (congrArg (args m c).rB (emb11 t (j 0) (j 1)).symm)

/-- Every index of output 5 lies in some point's block. -/
theorem covered11 (i : S16384x1536.Idx) :
    ∃ t : Fin cfg0.N, (cfg0.win 11).flush t = true ∧ i ∈ ((cfg0.win 11).blk t).view.set := by
  have h0 : (i 0).val < 16384 := (i 0).isLt
  have hN : (i 0).val / 512 < grid0.N := by rw [grid_N]; omega
  refine ⟨⟨(i 0).val / 512, hN⟩, flush0_11 _, ?_⟩
  have h := ((cfg0.win 11).blk ⟨(i 0).val / 512, hN⟩).view.emb_mem_set (ix2 (⟨(i 0).val % 512, by omega⟩ : Fin 512) (i 1) : S512x1536.Idx)
  have e : ((cfg0.win 11).blk ⟨(i 0).val / 512, hN⟩).view.emb (ix2 (⟨(i 0).val % 512, by omega⟩ : Fin 512) (i 1) : S512x1536.Idx) = i := by
    refine (emb11 _ _ _).trans ?_
    funext a; apply Fin.ext
    match a with
    | ⟨0, _⟩ => show 512 * ((i 0).val / 512) + (i 0).val % 512 = (i 0).val; omega
    | ⟨1, _⟩ => rfl
  rw [e] at h
  exact h

/-- Output 5 after the run. -/
theorem final11 : (dats m 0 c).arrAt 11 cfg0.N = (args m c).rB :=
  (dats m 0 c).arrAt_eq_of_cover 11 (args m c).rB (fun t _ => flushed_eq11 m c t) covered11

/-- What a point writes back to output 6 is its block of the result. -/
theorem flushed_eq12 : (dats m 0 c).flushed 12 t = ((cfg0.win 12).blk t).view.read (Elt Ideal) (args m c).rC := by
  show (cfg0.win 12).cut (grid0.coords t) ((dats m 0 c).after 12 t) = _
  rw [after0_12]
  funext j
  show (outsAt0 m c t).2.2.2.2.2.2 j = (args m c).rC (((cfg0.win 12).blk t).view.emb j)
  have e : j = (ix2 (j 0) (j 1) : S512x512.Idx) := by
    funext a; fin_cases a <;> rfl
  rw [e]
  exact (out_block12 m c t (j 0) (j 1)).trans (congrArg (args m c).rC (emb12 t (j 0) (j 1)).symm)

/-- Every index of output 6 lies in some point's block. -/
theorem covered12 (i : S16384x512.Idx) :
    ∃ t : Fin cfg0.N, (cfg0.win 12).flush t = true ∧ i ∈ ((cfg0.win 12).blk t).view.set := by
  have h0 : (i 0).val < 16384 := (i 0).isLt
  have hN : (i 0).val / 512 < grid0.N := by rw [grid_N]; omega
  refine ⟨⟨(i 0).val / 512, hN⟩, flush0_12 _, ?_⟩
  have h := ((cfg0.win 12).blk ⟨(i 0).val / 512, hN⟩).view.emb_mem_set (ix2 (⟨(i 0).val % 512, by omega⟩ : Fin 512) (i 1) : S512x512.Idx)
  have e : ((cfg0.win 12).blk ⟨(i 0).val / 512, hN⟩).view.emb (ix2 (⟨(i 0).val % 512, by omega⟩ : Fin 512) (i 1) : S512x512.Idx) = i := by
    refine (emb12 _ _ _).trans ?_
    funext a; apply Fin.ext
    match a with
    | ⟨0, _⟩ => show 512 * ((i 0).val / 512) + (i 0).val % 512 = (i 0).val; omega
    | ⟨1, _⟩ => rfl
  rw [e] at h
  exact h

/-- Output 6 after the run. -/
theorem final12 : (dats m 0 c).arrAt 12 cfg0.N = (args m c).rC :=
  (dats m 0 c).arrAt_eq_of_cover 12 (args m c).rC (fun t _ => flushed_eq12 m c t) covered12

/-- An index of slot 0. -/
theorem slot0 (i : S2x2x384x8192.Idx) (hz : (i 0).val = 0) : i = (ix4 0 (i 1) (i 2) (i 3) : S2x2x384x8192.Idx) := by
  funext a; fin_cases a
  · exact Fin.ext hz
  · rfl
  · rfl
  · rfl

/-- An index of slot 1. -/
theorem slot1 (i : S2x2x384x8192.Idx) (hz : (i 0).val = 1) : i = (ix4 1 (i 1) (i 2) (i 3) : S2x2x384x8192.Idx) := by
  funext a; fin_cases a
  · exact Fin.ext hz
  · rfl
  · rfl
  · rfl

/-- A point's block lies in this layer's slot. -/
theorem whole7 (j : S1x1x384x512.Idx) : (((cfg0.win 7).blk t).view.emb j 0).val = 1 := by
  have e : j = (ix4 0 0 (j 2) (j 3) : S1x1x384x512.Idx) := by
    funext a; fin_cases a
    · exact Fin.ext (by have h : (j 0).val < 1 := (j 0).isLt; show (j 0).val = 0; omega)
    · exact Fin.ext (by have h : (j 1).val < 1 := (j 1).isLt; show (j 1).val = 0; omega)
    · rfl
    · rfl
  rw [e]
  exact congrArg (fun q : S2x2x384x8192.Idx => (q 0).val) (emb7 t (j 2) (j 3))

/-- Output 1 after the run: this layer's slot written, the first layer's kept. -/
theorem final7 (hr : (args m c).Real) : (dats m 0 c).arrAt 7 cfg0.N = (args m c).rKa := by
  refine funext fun (i : S2x2x384x8192.Idx) => ?_
  have h0 : (i 0).val < 2 := (i 0).isLt
  have h1 : (i 1).val < 2 := (i 1).isLt
  have h3 : (i 3).val < 8192 := (i 3).isLt
  rcases (by omega : (i 0).val = 0 ∨ (i 0).val = 1) with hz | hz
  · have ei := slot0 i hz
    refine (Value.entry7 m c i fun t _ hm => ?_).trans ?_
    · obtain ⟨j, -, hj⟩ := Finset.mem_map.1 hm
      have hv := whole7 t j
      rw [hj] at hv
      omega
    · show V m c main_v19_1 i = _
      rw [V_ka, ei]
      exact (Ref.store_first _ _ _ _ _).symm
  · have hN : 16 * (i 1).val + (i 3).val / 512 < grid0.N := by rw [grid_N]; omega
    obtain ⟨t, ht⟩ : ∃ t : Fin cfg0.N, t.val = 16 * (i 1).val + (i 3).val / 512 := ⟨⟨_, hN⟩, rfl⟩
    obtain ⟨r, hr'⟩ : ∃ r : Fin 512, r.val = (i 3).val % 512 := ⟨⟨_, by omega⟩, rfl⟩
    have eb : rb (gr t r) = i 1 := Fin.ext (by show (512 * t.val + r.val) / 8192 = (i 1).val; omega)
    have es : rs (gr t r) = i 3 := Fin.ext (by show (512 * t.val + r.val) % 8192 = (i 3).val; omega)
    have ei := slot1 i hz
    have em : ((cfg0.win 7).blk t).view.emb (ix4 0 0 (i 2) r : S1x1x384x512.Idx) = i := by
      refine (emb7 t (i 2) r).trans ?_
      rw [eb, es, ← ei]
    have hb := congrFun (Value.blocks7 m c t (flush0_7 t)) (ix4 0 0 (i 2) r : S1x1x384x512.Idx)
    rw [Value.flushed7] at hb
    have hb' : (dats m 0 c).arrAt 7 cfg0.N (((cfg0.win 7).blk t).view.emb (ix4 0 0 (i 2) r : S1x1x384x512.Idx)) = (outsAt0 m c t).2.1 (ix4 0 0 (i 2) r) := hb
    rw [em] at hb'
    refine (hb'.trans (out_block7 m c t hr (i 2) r)).trans ?_
    rw [eb, es]
    exact ((congrArg (args m c).rKa ei).trans (Ref.store_last _ _ _ _ _)).symm

/-- A point's block lies in this layer's slot. -/
theorem whole8 (j : S1x1x384x512.Idx) : (((cfg0.win 8).blk t).view.emb j 0).val = 1 := by
  have e : j = (ix4 0 0 (j 2) (j 3) : S1x1x384x512.Idx) := by
    funext a; fin_cases a
    · exact Fin.ext (by have h : (j 0).val < 1 := (j 0).isLt; show (j 0).val = 0; omega)
    · exact Fin.ext (by have h : (j 1).val < 1 := (j 1).isLt; show (j 1).val = 0; omega)
    · rfl
    · rfl
  rw [e]
  exact congrArg (fun q : S2x2x384x8192.Idx => (q 0).val) (emb8 t (j 2) (j 3))

/-- Output 2 after the run: this layer's slot written, the first layer's kept. -/
theorem final8 : (dats m 0 c).arrAt 8 cfg0.N = (args m c).rVa := by
  refine funext fun (i : S2x2x384x8192.Idx) => ?_
  have h0 : (i 0).val < 2 := (i 0).isLt
  have h1 : (i 1).val < 2 := (i 1).isLt
  have h3 : (i 3).val < 8192 := (i 3).isLt
  rcases (by omega : (i 0).val = 0 ∨ (i 0).val = 1) with hz | hz
  · have ei := slot0 i hz
    refine (Value.entry8 m c i fun t _ hm => ?_).trans ?_
    · obtain ⟨j, -, hj⟩ := Finset.mem_map.1 hm
      have hv := whole8 t j
      rw [hj] at hv
      omega
    · show V m c main_v19_2 i = _
      rw [V_va, ei]
      exact (Ref.store_first _ _ _ _ _).symm
  · have hN : 16 * (i 1).val + (i 3).val / 512 < grid0.N := by rw [grid_N]; omega
    obtain ⟨t, ht⟩ : ∃ t : Fin cfg0.N, t.val = 16 * (i 1).val + (i 3).val / 512 := ⟨⟨_, hN⟩, rfl⟩
    obtain ⟨r, hr'⟩ : ∃ r : Fin 512, r.val = (i 3).val % 512 := ⟨⟨_, by omega⟩, rfl⟩
    have eb : rb (gr t r) = i 1 := Fin.ext (by show (512 * t.val + r.val) / 8192 = (i 1).val; omega)
    have es : rs (gr t r) = i 3 := Fin.ext (by show (512 * t.val + r.val) % 8192 = (i 3).val; omega)
    have ei := slot1 i hz
    have em : ((cfg0.win 8).blk t).view.emb (ix4 0 0 (i 2) r : S1x1x384x512.Idx) = i := by
      refine (emb8 t (i 2) r).trans ?_
      rw [eb, es, ← ei]
    have hb := congrFun (Value.blocks8 m c t (flush0_8 t)) (ix4 0 0 (i 2) r : S1x1x384x512.Idx)
    rw [Value.flushed8] at hb
    have hb' : (dats m 0 c).arrAt 8 cfg0.N (((cfg0.win 8).blk t).view.emb (ix4 0 0 (i 2) r : S1x1x384x512.Idx)) = (outsAt0 m c t).2.2.1 (ix4 0 0 (i 2) r) := hb
    rw [em] at hb'
    refine (hb'.trans (out_block8 m c t (i 2) r)).trans ?_
    rw [eb, es]
    exact ((congrArg (args m c).rVa ei).trans (Ref.store_last _ _ _ _ _)).symm

end Cert.Proj

end
-- ==== Proof.Proj.Algebraic.lean ====
/-
  The input projection's call: its frames, the finite norm scale and weight from the precondition, and the value claim.
-/
module

public import proofs.«01_k».proof.Proof.Algebraic
public import proofs.«01_k».proof.Proof.Proj.Arr
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run

@[expose] public section

noncomputable section

namespace Cert.Proj

open Idealize.ShloMosaic Idealize.ShloMosaic.TcCoe Idealize.SL.Sem
open Cert.Moe (IsReal)

attribute [local instance] Cert.Kernel4.Gen.facts Cert.Kernel4Ideal.Gen.facts Cert.Reference4Ideal.Gen.facts

/-- The precondition's side conditions. -/
theorem pre_facts : Cert.Pre_finite4.Facts where
  bcast_S_S1024 := by decide
  reducesTo_S1024_S_d0 := by decide
  h_S_ := by decide
  slices_S1024x3200_S1024x768_0_0 := by decide
  bcast_S_S1024x768 := by decide
  reducesTo_S1024x768_S_d0_1 := by decide

attribute [local instance] pre_facts

/-- The kernel changes no argument and leaves no counter. -/
theorem frame_p : Cert.quiescent_Kernel4 := fun m ρ _ => Cert.Kernel4.Gen.frame m ρ
/-- The kernel over the extended reals changes no argument and leaves no counter. -/
theorem frame_pi : Cert.quiescent_Kernel4Ideal := fun m ρ _ => Cert.Kernel4Ideal.Gen.frame m ρ
/-- The same under the precondition. -/
theorem frame_pi_pre : Cert.quiescent_Kernel4Ideal_pre_finite4 := fun m ρ _ => Cert.Kernel4Ideal.Gen.frame m ρ
/-- The reference changes no argument and leaves no counter. -/
theorem frame_ri : Cert.quiescent_Reference4Ideal := fun m ρ _ =>
  (θ_run Cert.Reference4Ideal.defs _ _).mono (fun r h => ⟨fun c => (h c).2.2.2.2.2.2.2,
      Idealize.ShloMosaic.sem_eq_zero_of_no_sems (by decide) r.2⟩)
    (Cert.Reference4Ideal.Value.run (F := Ideal) m ρ)
/-- The same under the precondition. -/
theorem frame_ri_pre : Cert.quiescent_Reference4Ideal_pre_finite4 := fun m ρ _ => frame_ri m ρ trivial

instance : Subsingleton Cert.Pre_finite4.S_.Idx := ⟨fun a b => funext fun i => i.elim0⟩

/-- The precondition makes the norm's scale and the queries' and keys' part of the weight real numbers. -/
theorem real_args (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : (args m c).Real := by
  have h1 := congrFun (h c) (fun a => a.elim0)
  unfold Cert.Pre_finite4.fn at h1
  obtain ⟨ha, hb⟩ := IntOp.andi_eq_one.1 h1
  refine ⟨fun n => ?_, fun k j => ?_⟩
  · have := Cert.Proof.Value.finite_of_lt _ (Host.reduce_andi_all _ _ _ _ _ ha (ix1 n))
    exact IsReal.of_ne this
  · have := Cert.Proof.Value.finite_of_lt _ (Host.reduce_andi_all _ _ _ _ _ hb (ix2 k j))
    refine IsReal.of_ne ?_
    have e : (args m c).w (ix2 k ⟨j.val, by omega⟩) = extractStridedSlice Cert.Pre_finite4.S1024x768 ![0, 0] (args m c).w Cert.Pre_finite4.Facts.slices_S1024x3200_S1024x768_0_0 (ix2 k j) := by
      refine congrArg (args m c).w ?_
      funext a; apply Fin.ext
      match a with
      | ⟨0, _⟩ => exact (Nat.zero_add _).symm
      | ⟨1, _⟩ => exact (Nat.zero_add _).symm
    rw [e]
    exact this

/-- With a real norm scale and real queries' and keys' columns the kernel's seven arrays and the reference's are equal. -/
theorem algebraic : Cert.algebraic_Kernel4Ideal_Reference4Ideal_pre_finite4 := by
  intro m ρ m' ρ' hpre hagree
  have hr := fun c => real_args m hpre c
  refine ⟨fun c => (args m c).rQ, fun c => (args m c).rKa, fun c => (args m c).rVa, fun c => (args m c).rKb, fun c => (args m c).rVb,
    fun c => (args m c).rB, fun c => (args m c).rC, (θ_run Cert.Kernel4Ideal.defs _ _).mono (fun _ h c => ?_)
    (Cert.Kernel4Ideal.Value.run_blocks m ρ), ?_⟩
  · obtain ⟨h0, h1, h2, h3, h4, h5, h6, hk⟩ := h c
    exact ⟨h0.trans (final6 m c (hr c)), h1.trans (final7 m c (hr c)), h2.trans (final8 m c), h3.trans (final9 m c (hr c)),
      h4.trans (final10 m c), h5.trans (final11 m c), h6.trans (final12 m c), hk⟩
  refine (θ_run Cert.Reference4Ideal.defs _ _).mono (fun _ h c => ?_) (Cert.Reference4Ideal.Value.run (F := Ideal) m' ρ')
  obtain ⟨h0, h1, h2, h3, h4, h5, h6, hk⟩ := h c
  obtain ⟨e0, e1, e2, e3, e4, e5, e6⟩ := hagree c
  refine ⟨h0.trans ?_, h1.trans ?_, h2.trans ?_, h3.trans ?_, h4.trans ?_, h5.trans ?_, h6.trans ?_, hk⟩
  · unfold args Args.rQ
    dsimp only
    rw [← e0, ← e1, ← e2, ← e3]
    rfl
  · unfold args Args.rKa Args.rK
    dsimp only
    rw [← e0, ← e1, ← e2, ← e4, ← e5]
    rfl
  · unfold args Args.rVa Args.rV
    dsimp only
    rw [← e0, ← e1, ← e2, ← e6]
    rfl
  · unfold args Args.rKb Args.rK
    dsimp only
    rw [← e0, ← e1, ← e2, ← e4]
    rfl
  · unfold args Args.rVb Args.rV
    dsimp only
    rw [← e0, ← e1, ← e2]
    rfl
  · unfold args Args.rB
    dsimp only
    rw [← e0, ← e1, ← e2]
    rfl
  · unfold args Args.rC
    dsimp only
    rw [← e0, ← e1, ← e2]
    rfl

end Cert.Proj

end
-- ==== Proof.Sgu.Spec.lean ====
/-
  One row of the spatial gating: the activation, and the norm over a head of 64 columns, as the kernel computes it by an indicator
  matrix and as the reference computes it.
-/
module

public import proofs.«01_k».proof.Proof.Proj.Spec

@[expose] public section

noncomputable section

open Idealize.ShloMosaic

namespace Cert.Sgu

open Cert.Moe (IsReal)
open Cert.Proj (head head_inv)

/-- The activation. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

theorem half_real : IsReal (Ideal.ofBits .f32 0x3F000000#32) := by
  simp [Ideal.ofBits, Ideal.ieee]
  exact ⟨_, (EReal.coe_mul _ _).symm⟩
theorem one_real : IsReal (Ideal.ofBits .f32 0x3F800000#32) := by
  simp [Ideal.ofBits, Ideal.ieee]
  exact ⟨_, (EReal.coe_mul _ _).symm⟩
theorem root_real : IsReal (Ideal.ofBits .f32 0x3F4C422A#32) := by
  simp [Ideal.ofBits, Ideal.ieee]
  exact ⟨_, (EReal.coe_mul _ _).symm⟩
theorem cube_real : IsReal (Ideal.ofBits .f32 0x3D372713#32) := by
  simp [Ideal.ofBits, Ideal.ieee]
  exact ⟨_, (EReal.coe_mul _ _).symm⟩

/-- The hyperbolic tangent of a real number is real. -/
theorem tanh_real {x : EReal} (h : IsReal x) : IsReal (Ideal.tanh x) := by
  obtain ⟨r, rfl⟩ := h
  exact ⟨Real.tanh r, rfl⟩

/-- The activation of a real number is real. -/
theorem gelu_real {x : EReal} (h : IsReal x) : IsReal (gelu x) :=
  h.mul (half_real.mul (one_real.add (tanh_real (root_real.mul (h.add (cube_real.mul (h.mul (h.mul h))))))))

/-- The heads' norm by an indicator matrix, in two halves of the squares. -/
def kNorm (a : Fin 256 → EReal) (d : Fin 256 → Fin 256 → EReal) (g : Fin 256 → EReal) (n : Fin 256) : EReal :=
  a n * Ideal.rsqrt (((∑ j, a j * a j * d j n) + ∑ j, (a j * a j - a j * a j) * d j n) * Ideal.ofBits .f32 0x3C800000#32
    + Ideal.ofBits .f32 0x358637BD#32) * g n

/-- The heads' norm, a head being 64 columns. -/
def hNorm (a : Fin 256 → EReal) (g : Fin 64 → EReal) (n : Fin 256) : EReal :=
  a n * Ideal.rsqrt (Ideal.div (∑ d : Fin 64, a ⟨64 * (n.val / 64) + d.val, by omega⟩ * a ⟨64 * (n.val / 64) + d.val, by omega⟩)
    (Ideal.ofBits .f32 0x42800000#32) + Ideal.ofBits .f32 0x358637BD#32) * g ⟨n.val % 64, by omega⟩

/-- A sum against one column of the indicator is the sum over the column's head. -/
theorem sum_head (f : Fin 256 → EReal) (n : Fin 256) :
    ∑ j : Fin 256, f j * (if j.val / 64 = n.val / 64 then 1 else 0) = ∑ d : Fin 64, f ⟨64 * (n.val / 64) + d.val, by omega⟩ := by
  have e : ∀ j : Fin 256, f j * (if j.val / 64 = n.val / 64 then 1 else 0) = if j.val / 64 = n.val / 64 then f j else 0 := by
    intro j
    split
    · exact mul_one _
    · exact mul_zero _
  rw [Finset.sum_congr rfl fun j _ => e j, ← Finset.sum_filter]
  refine (Finset.sum_bij' (fun d _ => (⟨64 * (n.val / 64) + d.val, by omega⟩ : Fin 256)) (fun j _ => (⟨j.val % 64, by omega⟩ : Fin 64))
    ?_ ?_ ?_ ?_ ?_).symm
  · intro d _
    refine Finset.mem_filter.2 ⟨Finset.mem_univ _, ?_⟩
    show (64 * (n.val / 64) + d.val) / 64 = n.val / 64
    omega
  · intro j _; exact Finset.mem_univ _
  · intro d _
    apply Fin.ext
    show (64 * (n.val / 64) + d.val) % 64 = d.val
    omega
  · intro j hj
    have h := (Finset.mem_filter.1 hj).2
    apply Fin.ext
    show 64 * (n.val / 64) + j.val % 64 = j.val
    omega
  · intro d _; rfl

/-- For a real row the two norms are one. -/
theorem kNorm_eq (a : Fin 256 → EReal) (ha : ∀ j, IsReal (a j)) (d : Fin 256 → Fin 256 → EReal)
    (hd : ∀ j n, d j n = if j.val / 64 = n.val / 64 then 1 else 0) (g' : Fin 256 → EReal) (g : Fin 64 → EReal)
    (hg : ∀ n : Fin 256, g' n = g ⟨n.val % 64, by omega⟩) (n : Fin 256) : kNorm a d g' n = hNorm a g n := by
  unfold kNorm hNorm
  have z : ∑ j, (a j * a j - a j * a j) * d j n = 0 :=
    Finset.sum_eq_zero fun j _ => by rw [((ha j).mul (ha j)).sub_self]; exact zero_mul _
  have s : ∑ j, a j * a j * d j n = ∑ e : Fin 64, a ⟨64 * (n.val / 64) + e.val, by omega⟩ * a ⟨64 * (n.val / 64) + e.val, by omega⟩ := by
    rw [← sum_head (fun j => a j * a j) n]
    exact Finset.sum_congr rfl fun j _ => by rw [hd]
  have hr : IsReal (∑ e : Fin 64, a ⟨64 * (n.val / 64) + e.val, by omega⟩ * a ⟨64 * (n.val / 64) + e.val, by omega⟩) :=
    IsReal.sum _ _ fun e => (ha _).mul (ha _)
  rw [z, add_zero, s, hg, head, head_inv]
  obtain ⟨r, hr⟩ := hr
  rw [hr]
  congr 4
  rw [← EReal.coe_mul]
  simp [Ideal.div]
  rfl

end Cert.Sgu

end
-- ==== Proof.Sgu.Step.lean ====
/-
  What the spatial gating's call stores in its two output blocks: the gated rows, a chunk of 16 at a time, and the normed rows.
-/
module

public import proofs.«01_k».proof.Proof.Gen.Kernel5Ideal.Value
public import proofs.«01_k».proof.Proof.Moe.Step
public import proofs.«01_k».proof.Proof.Moe.Ops
public import proofs.«01_k».proof.Proof.Sgu.Spec
public import Idealize.ShloMosaic.Lib.Pipeline.Value
public import Idealize.ShloMosaic.Lib.Pipeline.ValueKit.Acc
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Sgu

open Cert.Kernel5Ideal Cert.Kernel5Ideal.Gen
open Cert.Moe (brow)

local notation "F" => Ideal

/-- One group's mixing of 128 normed columns over a chunk. -/
def dot (w : Vec F S1x16x16 .bf16) (a : FVec F S16x128 .f32) : FVec F S16x128 .f32 :=
  matmul dot_S16x16_S16x128_S16x128_1_0_0_1_n_n none (shapeCast S16x16 w shapeCasts_S1x16x16_S16x16 : FVec F S16x16 .bf16)
    (truncf .bf16 a bitsLt_bf16_f32 : FVec F S16x128 .bf16) (constant S16x128 .f32 0x00000000#32)

/-- Two groups side by side: the low lanes of one product, the high lanes of the other. -/
def pair (w w' : Vec F S1x16x16 .bf16) (a : FVec F S16x128 .f32) : FVec F S16x128 .f32 :=
  select k0_pay8 (dot w a) (dot w' a)

/-- A chunk's gated rows. -/
def gate (u : FVec F S16x256 .f32) (a b : FVec F S16x128 .f32) (bias : FVec F S16x256 .f32) (w0 w1 w2 w3 : Vec F S1x16x16 .bf16) :
    FVec F S16x256 .bf16 :=
  truncf .bf16 (mulf u (addf (concatenate S16x256 1 [⟨S16x128, pair w0 w1 a⟩, ⟨S16x128, pair w2 w3 b⟩] concatenates_S16x128_S16x128_S16x256_d1) bias)) bitsLt_bf16_f32

/-- A chunk's rows from the whole block's. -/
def chunk (o : ℕ) (hu : S128x256.Slices ![o, 0] S16x256) (ha : S128x256.Slices ![o, 0] S16x128) (hb : S128x256.Slices ![o, 128] S16x128)
    (u v : FVec F S128x256 .f32) (bias : FVec F S16x256 .f32) (w0 w1 w2 w3 : Vec F S1x16x16 .bf16) : FVec F S16x256 .bf16 :=
  gate (extractStridedSlice S16x256 ![o, 0] u hu) (extractStridedSlice S16x128 ![o, 0] v ha) (extractStridedSlice S16x128 ![o, 128] v hb) bias w0 w1 w2 w3

/-- The mask of the low lanes, at an index. -/
theorem low_at (i : Fin 16) (l : Fin 128) : k0_pay8 (ix2 i l) = if l.val < 64 then 1#1 else 0#1 := by
  pointwise [k0_pay8]
  revert l
  decide +kernel

theorem dot_at (w : Vec F S1x16x16 .bf16) (a : FVec F S16x128 .f32) (i : Fin 16) (l : Fin 128) :
    dot w a (ix2 i l) = ∑ s : Fin 16, w (ix3 0 i s) * a (ix2 s l) := by
  pointwise [dot]

theorem pair_at (w w' : Vec F S1x16x16 .bf16) (a : FVec F S16x128 .f32) (i : Fin 16) (l : Fin 128) :
    pair w w' a (ix2 i l) = if l.val < 64 then ∑ s : Fin 16, w (ix3 0 i s) * a (ix2 s l) else ∑ s : Fin 16, w' (ix3 0 i s) * a (ix2 s l) := by
  rw [← dot_at, ← dot_at]
  unfold pair
  have h := low_at i l
  generalize k0_pay8 = M at h
  generalize dot w a = x
  generalize dot w' a = y
  show (if M (ix2 i l) = 1#1 then x (ix2 i l) else y (ix2 i l)) = _
  rw [h]
  by_cases hl : l.val < 64
  · simp [hl]
  · simp [hl]

theorem gate_at (u : FVec F S16x256 .f32) (a b : FVec F S16x128 .f32) (bias : FVec F S16x256 .f32) (w0 w1 w2 w3 : Vec F S1x16x16 .bf16)
    (i : Fin 16) (n : Fin 256) : gate u a b bias w0 w1 w2 w3 (ix2 i n)
      = u (ix2 i n) * ((if h : n.val < 128 then pair w0 w1 a (ix2 i ⟨n.val, h⟩) else pair w2 w3 b (ix2 i ⟨n.val - 128, by omega⟩)) + bias (ix2 i n)) := by
  unfold gate
  generalize pair w0 w1 a = x
  generalize pair w2 w3 b = y
  pointwise []

/-- The columns of one chunk, at an index. -/
theorem cols_at {w : ℕ} (o q : ℕ) (ho : o + 16 ≤ 128) (hq : q + w ≤ 256) (h : S128x256.Slices ![o, q] (⟨2, ![16, w]⟩ : Shape)) (x : FVec F S128x256 .f32) (i : Fin 16) (l : Fin w) :
    extractStridedSlice (⟨2, ![16, w]⟩ : Shape) ![o, q] x h (ix2 i l) = x (ix2 ⟨o + i.val, by omega⟩ ⟨q + l.val, by omega⟩) := by
  refine congrArg x ?_
  funext a; apply Fin.ext
  match a with
  | ⟨0, _⟩ => rfl
  | ⟨1, _⟩ => rfl

/-- A row of a weight's group. -/
theorem grp_at (g : ℕ) (hg : g < 4) (inb) (x : Vec F S4x16x16 .bf16) (i s : Fin 16) :
    View.ld x (Rect.unit (s := S4x16x16) ![g, 0, 0] S1x16x16.size inb) (ix3 0 i s : S1x16x16.Idx) = x (ix3 ⟨g, hg⟩ i s) := by
  refine congrArg x ?_
  funext a; apply Fin.ext
  match a with
  | ⟨0, _⟩ => rfl
  | ⟨1, _⟩ => exact (Nat.zero_add _).trans (Nat.one_mul _)
  | ⟨2, _⟩ => exact (Nat.zero_add _).trans (Nat.one_mul _)

/-- A row's gated value at a column: the activation against the mixed rows of the row's chunk. -/
def gRow (u : EReal) (w : Fin 4 → Fin 16 → EReal) (v : Fin 16 → Fin 256 → EReal) (bias : EReal) (n : Fin 256) : EReal :=
  u * ((∑ s : Fin 16, w ⟨n.val / 64, by omega⟩ s * v s n) + bias)

/-- A chunk's rows, at an index. -/
theorem chunk_at (o : ℕ) (ho : o + 16 ≤ 128) (hu : S128x256.Slices ![o, 0] S16x256) (ha : S128x256.Slices ![o, 0] S16x128) (hb : S128x256.Slices ![o, 128] S16x128)
    (u v : FVec F S128x256 .f32) (bias : FVec F S16x256 .f32) (w : Vec F S4x16x16 .bf16) (i : Fin 16) (n : Fin 256) :
    chunk o hu ha hb u v bias (View.ld w r0_5) (View.ld w r0_6) (View.ld w r0_7) (View.ld w r0_8) (ix2 i n)
      = gRow (u (ix2 ⟨o + i.val, by omega⟩ n)) (fun g s => w (ix3 g i s)) (fun s j => v (ix2 ⟨o + s.val, by omega⟩ j)) (bias (ix2 i n)) n := by
  unfold chunk gRow
  rw [gate_at]
  have hn := n.isLt
  have eu : extractStridedSlice S16x256 ![o, 0] u hu (ix2 i n) = u (ix2 ⟨o + i.val, by omega⟩ n) := by
    refine (cols_at o 0 ho (by omega) hu u i n).trans ?_
    congr 2
    exact Fin.ext (Nat.zero_add _)
  rw [eu]
  congr 2
  by_cases h1 : n.val < 128
  · rw [dif_pos h1, pair_at]
    have ea : ∀ s : Fin 16, extractStridedSlice S16x128 ![o, 0] v ha (ix2 s ⟨n.val, h1⟩) = v (ix2 ⟨o + s.val, by omega⟩ n) := by
      intro s
      refine (cols_at o 0 ho (by omega) ha v s ⟨n.val, h1⟩).trans ?_
      congr 2
      exact Fin.ext (Nat.zero_add _)
    by_cases h2 : n.val < 64
    · rw [if_pos h2]
      refine Finset.sum_congr rfl fun s _ => congrArg₂ (· * ·) ((grp_at 0 (by omega) _ w i s).trans ?_) (ea s)
      congr 2
      exact Fin.ext (by show 0 = n.val / 64; omega)
    · rw [if_neg h2]
      refine Finset.sum_congr rfl fun s _ => congrArg₂ (· * ·) ((grp_at 1 (by omega) _ w i s).trans ?_) (ea s)
      congr 2
      exact Fin.ext (by show 1 = n.val / 64; omega)
  · rw [dif_neg h1, pair_at]
    have eb : ∀ s : Fin 16, extractStridedSlice S16x128 ![o, 128] v hb (ix2 s ⟨n.val - 128, by omega⟩) = v (ix2 ⟨o + s.val, by omega⟩ n) := by
      intro s
      refine (cols_at o 128 ho (by omega) hb v s ⟨n.val - 128, by omega⟩).trans ?_
      congr 2
      exact Fin.ext (by show 128 + (n.val - 128) = n.val; omega)
    by_cases h2 : n.val - 128 < 64
    · rw [if_pos h2]
      refine Finset.sum_congr rfl fun s _ => congrArg₂ (· * ·) ((grp_at 2 (by omega) _ w i s).trans ?_) (eb s)
      congr 2
      exact Fin.ext (by show 2 = n.val / 64; omega)
    · rw [if_neg h2]
      refine Finset.sum_congr rfl fun s _ => congrArg₂ (· * ·) ((grp_at 3 (by omega) _ w i s).trans ?_) (eb s)
      congr 2
      exact Fin.ext (by show 3 = n.val / 64; omega)

variable (x0 : Vec F S128x512 .f32) (x1 : Vec F S1x256 .f32) (x2 : Vec F S4x16x16 .bf16) (x3 : Vec F S16x256 .f32) (x4 : Vec F S256x256 .bf16)

/-- The gated rows, as one function of the whole block. -/
def gAll (y : S128x256.Idx) : Idealize.ShloMosaic.Ideal .bf16 :=
  gRow (k0_pay26 x0 x1 x2 x3 x4 y) (fun g s => x2 (ix3 g ⟨(y 0).val % 16, by omega⟩ s))
    (fun s j => k0_pay30 x0 x1 x2 x3 x4 (ix2 ⟨16 * ((y 0).val / 16) + s.val, by have h : (y 0).val < 128 := (y 0).isLt; omega⟩ j))
    (k0_pay32 x0 x1 x2 x3 x4 (ix2 ⟨(y 0).val % 16, by omega⟩ (y 1))) (y 1)

/-- One chunk's piece is the whole block's at its rows. -/
theorem piece (k : ℕ) (hk : k < 8) (hu : S128x256.Slices ![16 * k, 0] S16x256) (ha : S128x256.Slices ![16 * k, 0] S16x128) (hb : S128x256.Slices ![16 * k, 128] S16x128)
    (inb) (x : S16x256.Idx) :
    chunk (16 * k) hu ha hb (k0_pay26 x0 x1 x2 x3 x4) (k0_pay30 x0 x1 x2 x3 x4) (k0_pay32 x0 x1 x2 x3 x4) (View.ld x2 r0_5) (View.ld x2 r0_6) (View.ld x2 r0_7) (View.ld x2 r0_8) x
      = gAll x0 x1 x2 x3 x4 ((Rect.unit (s := S128x256) ![16 * k, 0] S16x256.size inb).emb x) := by
  obtain ⟨i, n, rfl⟩ : ∃ (i : Fin 16) (n : Fin 256), x = ix2 i n := ⟨x 0, x 1, by funext a; match a with | ⟨0, _⟩ => rfl | ⟨1, _⟩ => rfl⟩
  have hi := i.isLt
  have ey : (Rect.unit (s := S128x256) ![16 * k, 0] S16x256.size inb).emb (ix2 i n) = (ix2 ⟨16 * k + i.val, by omega⟩ n : S128x256.Idx) := by
    funext a; apply Fin.ext
    match a with
    | ⟨0, _⟩ => show 16 * k + 1 * i.val = 16 * k + i.val; omega
    | ⟨1, _⟩ => show 0 + 1 * n.val = n.val; omega
  rw [ey, chunk_at (16 * k) (by omega)]
  unfold gAll
  have e1 : (⟨(16 * k + i.val) % 16, by omega⟩ : Fin 16) = i := Fin.ext (by show (16 * k + i.val) % 16 = i.val; omega)
  have e2 : ∀ s : Fin 16, (⟨16 * ((16 * k + i.val) / 16) + s.val, by omega⟩ : Fin 128) = ⟨16 * k + s.val, by omega⟩ :=
    fun s => Fin.ext (by show 16 * ((16 * k + i.val) / 16) + s.val = 16 * k + s.val; omega)
  show _ = gRow _ (fun g s => x2 (ix3 g (⟨(16 * k + i.val) % 16, _⟩ : Fin 16) s)) (fun s j => k0_pay30 x0 x1 x2 x3 x4 (ix2 (⟨16 * ((16 * k + i.val) / 16) + s.val, _⟩ : Fin 128) j))
    (k0_pay32 x0 x1 x2 x3 x4 (ix2 (⟨(16 * k + i.val) % 16, _⟩ : Fin 16) n)) n
  simp only [e1, e2]

/-- The gated block is one function of its rows. -/
theorem out5 : out0_5 x0 x1 x2 x3 x4 = gAll x0 x1 x2 x3 x4 := by
  funext y
  unfold out0_5
  refine View.canon_apply_of_pieces (Val := Elt F) (gAll x0 x1 x2 x3 x4) _ ?_ y (cover0_5 _ _ _ _ _ _ _ _ y)
  intro p hp x
  simp only [List.mem_cons, List.not_mem_nil, or_false] at hp
  rcases hp with rfl | rfl | rfl | rfl | rfl | rfl | rfl | rfl
  · exact piece x0 x1 x2 x3 x4 7 (by omega) (by decide) (by decide) (by decide) inb_S128x256_S16x256_112_0 x
  · exact piece x0 x1 x2 x3 x4 6 (by omega) (by decide) (by decide) (by decide) inb_S128x256_S16x256_96_0 x
  · exact piece x0 x1 x2 x3 x4 5 (by omega) (by decide) (by decide) (by decide) inb_S128x256_S16x256_80_0 x
  · exact piece x0 x1 x2 x3 x4 4 (by omega) (by decide) (by decide) (by decide) inb_S128x256_S16x256_64_0 x
  · exact piece x0 x1 x2 x3 x4 3 (by omega) (by decide) (by decide) (by decide) inb_S128x256_S16x256_48_0 x
  · exact piece x0 x1 x2 x3 x4 2 (by omega) (by decide) (by decide) (by decide) inb_S128x256_S16x256_32_0 x
  · exact piece x0 x1 x2 x3 x4 1 (by omega) (by decide) (by decide) (by decide) inb_S128x256_S16x256_16_0 x
  · exact piece x0 x1 x2 x3 x4 0 (by omega) (by decide) (by decide) (by decide) inb_S128x256_S16x256_0_0 x

/-- The normed block is the norm's payload. -/
theorem out6 : out0_6 x0 x1 x2 x3 x4 = k0_pay30 x0 x1 x2 x3 x4 := by
  unfold out0_6
  exact View.canon_unit_zero (by funext a; fin_cases a <;> rfl) _ _

end Cert.Sgu

end
-- ==== Proof.Sgu.Ops.lean ====
/-
  What the spatial gating's call stores, at an index.
-/
module

public import proofs.«01_k».proof.Proof.Sgu.Step

@[expose] public section

noncomputable section

open Idealize.ShloMosaic Idealize.ShloMosaic.TcCoe Idealize.SL.Sem

namespace Cert.Sgu

open Cert.Kernel5Ideal Cert.Kernel5Ideal.Gen
open Cert.Moe (brow)

local notation "F" => Ideal

/-- The activation of the first half of the columns. -/
theorem pay3_at (x0 : Vec F S128x512 .f32) (r : Fin 128) (n : Fin 256) : k0_pay3 x0 (ix2 r n) = gelu (x0 (ix2 r ⟨n.val, by omega⟩)) := by
  unfold gelu
  pointwise [k0_pay3, k0_pay2]

/-- The activation of the second half of the columns. -/
theorem pay4_at (x0 : Vec F S128x512 .f32) (r : Fin 128) (n : Fin 256) : k0_pay4 x0 (ix2 r n) = gelu (x0 (ix2 r ⟨256 + n.val, by omega⟩)) := by
  unfold gelu
  pointwise [k0_pay4, k0_pay2]

/-- The norm's sum of squares, at an index. -/
theorem pay6_at (x0 : Vec F S128x512 .f32) (d : Vec F S256x256 .bf16) (r : Fin 128) (n : Fin 256) : k0_pay6 x0 d (ix2 r n)
    = (∑ j, k0_pay4 x0 (ix2 r j) * k0_pay4 x0 (ix2 r j) * d (ix2 j n))
      + ∑ j, (k0_pay4 x0 (ix2 r j) * k0_pay4 x0 (ix2 r j) - k0_pay4 x0 (ix2 r j) * k0_pay4 x0 (ix2 r j)) * d (ix2 j n) := by
  unfold k0_pay6
  generalize k0_pay4 x0 = a
  pointwise []

/-- The gain's row is read as it is. -/
theorem pay5_at (g : Vec F S1x256 .f32) (n : Fin 256) : k0_pay5 g (ix2 0 n) = g (ix2 0 n) := by
  pointwise [k0_pay5]

/-- The norm of a row from its sum of squares. -/
theorem pay7_at (a : FVec F S128x256 .f32) (g : FVec F S1x256 .f32) (q : FVec F S128x256 .f32) (s : Idealize.ShloMosaic.Ideal .f32) (r : Fin 128) (n : Fin 256) :
    k0_pay7 a g q s (ix2 r n) = a (ix2 r n) * Ideal.rsqrt (q (ix2 r n) * s + Ideal.ofBits .f32 0x358637BD#32) * g (ix2 0 n) := by
  pointwise [k0_pay7]

variable (x0 : Vec F S128x512 .f32) (x1 : Vec F S1x256 .f32) (x2 : Vec F S4x16x16 .bf16) (x3 : Vec F S16x256 .f32) (x4 : Vec F S256x256 .bf16)

/-- A row's activation of the second half. -/
def act (r : Fin 128) (j : Fin 256) : EReal := gelu (x0 (ix2 r ⟨256 + j.val, by omega⟩))

theorem ld_x0 : View.ld x0 r0_0 = x0 := View.ld_unit_zero (by funext a; fin_cases a <;> rfl) _ x0
theorem ld_x1 : View.ld x1 r0_2 = x1 := View.ld_unit_zero (by funext a; fin_cases a <;> rfl) _ x1
theorem ld_x3 : View.ld x3 r0_4 = x3 := View.ld_unit_zero (by funext a; fin_cases a <;> rfl) _ x3
theorem ld_x4 : View.ld x4 r0_1 = x4 := View.ld_unit_zero (by funext a; fin_cases a <;> rfl) _ x4

/-- The normed rows, at an index. -/
theorem norm_at (r : Fin 128) (n : Fin 256) : k0_pay30 x0 x1 x2 x3 x4 (ix2 r n) = kNorm (act x0 r) (brow x4) (fun j => x1 (ix2 0 j)) n := by
  unfold k0_pay30 k0_pay27 k0_pay28 k0_pay29
  rw [pay7_at, pay6_at, pay5_at, ld_x0, ld_x1, ld_x4]
  unfold kNorm act brow
  simp only [pay4_at]
  rfl

/-- The gated rows, at an index. -/
theorem gAll_at (r : Fin 128) (n : Fin 256) : gAll x0 x1 x2 x3 x4 (ix2 r n)
    = gRow (gelu (x0 (ix2 r ⟨n.val, by omega⟩))) (fun g s => x2 (ix3 g ⟨r.val % 16, by omega⟩ s))
      (fun s j => kNorm (act x0 ⟨16 * (r.val / 16) + s.val, by omega⟩) (brow x4) (fun j => x1 (ix2 0 j)) j)
      (x3 (ix2 ⟨r.val % 16, by omega⟩ n)) n := by
  have e : k0_pay32 x0 x1 x2 x3 x4 = x3 := by
    unfold k0_pay32 k0_pay9
    rw [ld_x3]
    funext j
    pointwise []
  have e' : k0_pay26 x0 x1 x2 x3 x4 = k0_pay3 x0 := by
    unfold k0_pay26
    rw [ld_x0]
  unfold gAll
  rw [e, e', pay3_at]
  show gRow _ _ (fun s j => k0_pay30 x0 x1 x2 x3 x4 (ix2 (⟨16 * (r.val / 16) + s.val, _⟩ : Fin 128) j)) _ n = _
  simp only [norm_at]
  rfl

end Cert.Sgu

end
-- ==== Proof.Sgu.Ref.lean ====
/-
  The spatial gating's reference at an index.
-/
module

public import proofs.«01_k».proof.Proof.Gen.Reference5Ideal.Run
public import proofs.«01_k».proof.Proof.Sgu.Step

@[expose] public section

noncomputable section

namespace Cert.Sgu.Ref

open Cert.Reference5Ideal Cert.Reference5Ideal.Gen Cert.Reference5Ideal.Value
open Idealize.ShloMosaic Idealize.ShloMosaic.TcCoe

abbrev Cols := FVec Ideal S8x16x512 .f32
abbrev Part := FVec Ideal S8x16x256 .f32
abbrev Heads := FVec Ideal S8x1x16x4x64 .f32

/-- The stream of a row. -/
def rb (R : Fin 128) : Fin 8 := ⟨R.val / 16, by omega⟩
/-- The place of a row. -/
def rs (R : Fin 128) : Fin 16 := ⟨R.val % 16, by omega⟩
/-- The head of a column. -/
def hd (n : Fin 256) : Fin 4 := ⟨n.val / 64, by omega⟩
/-- The place of a column in its head. -/
def hp (n : Fin 256) : Fin 64 := ⟨n.val % 64, by omega⟩

/-- The first half of the columns. -/
def lo (c : Cols) : Part := extractStridedSlice S8x16x256 ![0, 0, 0] c slices_S8x16x512_S8x16x256_0_0_0
/-- The second half of the columns. -/
def hi (c : Cols) : Part := extractStridedSlice S8x16x256 ![0, 0, 256] c slices_S8x16x512_S8x16x256_0_0_256

/-- The activation. -/
def av (a : Part) : Part :=
  mulf a (mulf (broadcastInDim S8x16x256 ![] bcast_S_S8x16x256 (constant S_ .f32 0x3F000000#32)) (addf (broadcastInDim S8x16x256 ![] bcast_S_S8x16x256 (constant S_ .f32 0x3F800000#32)) (Host.tanh (mulf (broadcastInDim S8x16x256 ![] bcast_S_S8x16x256 (constant S_ .f32 0x3F4C422A#32)) (addf a (mulf (broadcastInDim S8x16x256 ![] bcast_S_S8x16x256 (constant S_ .f32 0x3D372713#32)) (mulf (mulf a a) a)))))))

/-- Columns by heads. -/
def split (a : Part) : Heads := shapeCast _ a shapeCasts_S8x16x256_S8x1x16x4x64

/-- The heads' norm. -/
def hn (a : Heads) (g : FVec Ideal S64 .f32) : Heads :=
  mulf (mulf a (broadcastInDim S8x1x16x4x64 ![0, 1, 2, 3, 4] bcast_S8x1x16x4x1_S8x1x16x4x64_0_1_2_3_4 (Host.rsqrt (addf (Host.divf (broadcastInDim S8x1x16x4x1 ![0, 1, 2, 3] bcast_S8x1x16x4_S8x1x16x4x1_0_1_2_3 (Host.reduceAdd (mulf a a) (constant S_ .f32 0x00000000#32) reducesTo_S8x1x16x4x64_S8x1x16x4_d4 h_S_)) (broadcastInDim S8x1x16x4x1 ![] bcast_S_S8x1x16x4x1 (constant S_ .f32 0x42800000#32))) (broadcastInDim S8x1x16x4x1 ![] bcast_S_S8x1x16x4x1 (constant S_ .f32 0x358637BD#32)))))) (broadcastInDim S8x1x16x4x64 ![0, 1, 2, 3, 4] bcast_S1x1x1x1x64_S8x1x16x4x64_0_1_2_3_4 (broadcastInDim S1x1x1x1x64 ![4] bcast_S64_S1x1x1x1x64_4 g))

/-- Ones below and on the diagonal. -/
def tri : FVec Ideal S16x16 .f32 :=
  select (cmpi .sge (addi (iotaInDim S16x16 32 0) (broadcastInDim S16x16 ![] bcast_S_S16x16 (constantI S_ 32 0#32))) (iotaInDim S16x16 32 1)) (broadcastInDim S16x16 ![] bcast_S_S16x16 (constant S_ .f32 0x3F800000#32)) (broadcastInDim S16x16 ![] bcast_S_S16x16 (constant S_ .f32 0x00000000#32))

/-- The causal part of the mixing weights. -/
def wt (w : FVec Ideal S4x128x128 .f32) : FVec Ideal S4x16x16 .f32 :=
  mulf (extractStridedSlice S4x16x16 ![0, 0, 0] w slices_S4x128x128_S4x16x16_0_0_0) (broadcastInDim S4x16x16 ![0, 1, 2] bcast_S1x16x16_S4x16x16_0_1_2 (broadcastInDim S1x16x16 ![1, 2] bcast_S16x16_S1x16x16_1_2 tri))

/-- The mixed rows. -/
def mix (v : Heads) (w : FVec Ideal S4x16x16 .f32) : Heads :=
  transpose S8x1x16x4x64 [1, 2, 4, 0, 3] (Host.dotGeneral dot_S8x1x16x4x64_S4x16x16_S4x8x1x64x16_2_2_014_1_3_0 none v w : FVec Ideal S4x8x1x64x16 .f32) transposes_S4x8x1x64x16_S8x1x16x4x64_1_2_4_0_3

/-- The bias for every stream and column. -/
def bi (b : FVec Ideal S4x128 .f32) : Heads :=
  broadcastInDim S8x1x16x4x64 ![0, 1, 2, 3, 4] bcast_S1x1x16x4x1_S8x1x16x4x64_0_1_2_3_4 (broadcastInDim S1x1x16x4x1 ![2, 3] bcast_S16x4_S1x1x16x4x1_2_3 (transpose S16x4 [1, 0] (extractStridedSlice S4x16 ![0, 0] b slices_S4x128_S4x16_0_0) transposes_S4x16_S16x4_1_0))

/-- Heads by rows and columns. -/
def rows (a : Heads) : FVec Ideal S128x256 .f32 := shapeCast _ (shapeCast S8x16x256 a shapeCasts_S8x1x16x4x64_S8x16x256) shapeCasts_S8x16x256_S128x256

variable (c : Cols) (g : FVec Ideal S64 .f32) (w : FVec Ideal S4x128x128 .f32) (b : FVec Ideal S4x128 .f32)

/-- The normed rows from the arguments. -/
def nv : Heads := hn (split (av (hi c))) g
/-- The second result from the arguments. -/
def resV : FVec Ideal S128x256 .f32 := rows (nv c g)
/-- The first result from the arguments. -/
def resY : FVec Ideal S128x256 .bf16 := truncf .bf16 (rows (mulf (split (av (lo c))) (addf (mix (nv c g) (wt w)) (bi b)))) bitsLt_bf16_f32

theorem lo_at (k : Fin 8) (s : Fin 16) (n : Fin 256) : lo c (ix3 k s n) = c (ix3 k s ⟨n.val, by omega⟩) := by
  pointwise [lo]
theorem hi_at (k : Fin 8) (s : Fin 16) (n : Fin 256) : hi c (ix3 k s n) = c (ix3 k s ⟨256 + n.val, by omega⟩) := by
  pointwise [hi]

/-- The activation, at an index. -/
theorem av_at (a : Part) (k : Fin 8) (s : Fin 16) (n : Fin 256) : av a (ix3 k s n) = gelu (a (ix3 k s n)) := by
  unfold gelu
  rw [mul_comm (a (ix3 k s n)) (a (ix3 k s n) * a (ix3 k s n))]
  pointwise [av]

/-- Columns by heads, at an index. -/
theorem split_at (a : Part) (k : Fin 8) (s : Fin 16) (h : Fin 4) (d : Fin 64) :
    split a (ix5 k 0 s h d) = a (ix3 k s ⟨64 * h.val + d.val, by omega⟩) := by
  pointwise [split]
  refine congrArg a (congrArg (ix3 k s) (Fin.ext ?_))
  show h.val * 64 + d.val = 64 * h.val + d.val
  omega

/-- The heads' norm, at an index. -/
theorem hn_at (a : Heads) (k : Fin 8) (s : Fin 16) (h : Fin 4) (d : Fin 64) :
    hn a g (ix5 k 0 s h d) = a (ix5 k 0 s h d) * Ideal.rsqrt (Ideal.div (∑ e, a (ix5 k 0 s h e) * a (ix5 k 0 s h e)) (Ideal.ofBits .f32 0x42800000#32)
      + Ideal.ofBits .f32 0x358637BD#32) * g (ix1 d) := by
  pointwise [hn]

/-- The mixed rows, at an index. -/
theorem mix_at (v : Heads) (u : FVec Ideal S4x16x16 .f32) (k : Fin 8) (t : Fin 16) (h : Fin 4) (d : Fin 64) :
    mix v u (ix5 k 0 t h d) = ∑ s : Fin 16, v (ix5 k 0 s h d) * u (ix3 h t s) := by
  pointwise [mix]

/-- The bias, at an index. -/
theorem bi_at (k : Fin 8) (t : Fin 16) (h : Fin 4) (d : Fin 64) : bi b (ix5 k 0 t h d) = b (ix2 h ⟨t.val, by omega⟩) := by
  pointwise [bi]

/-- Heads by rows and columns, at an index. -/
theorem rows_at (a : Heads) (R : Fin 128) (n : Fin 256) : rows a (ix2 R n) = a (ix5 (rb R) 0 (rs R) (hd n) (hp n)) := by
  pointwise [rows, rb, rs, hd, hp]

/-- A row's activation of the second half. -/
def row (k : Fin 8) (s : Fin 16) (j : Fin 256) : EReal := gelu (c (ix3 k s ⟨256 + j.val, by omega⟩))

/-- A column by its head and its place. -/
theorem head_col (n : Fin 256) (h : 64 * (hd n).val + (hp n).val < 256) : (⟨64 * (hd n).val + (hp n).val, h⟩ : Fin 256) = n := by
  apply Fin.ext
  show 64 * (n.val / 64) + n.val % 64 = n.val
  omega

/-- The normed rows, at an index. -/
theorem nv_at (k : Fin 8) (s : Fin 16) (n : Fin 256) :
    nv c g (ix5 k 0 s (hd n) (hp n)) = hNorm (row c k s) (fun d => g (ix1 d)) n := by
  have e : ∀ d : Fin 64, split (av (hi c)) (ix5 k 0 s (hd n) d) = row c k s ⟨64 * (n.val / 64) + d.val, by omega⟩ := fun d => by
    rw [split_at, av_at, hi_at]
    rfl
  have en : (⟨64 * (n.val / 64) + (hp n).val, by have := (hp n).isLt; omega⟩ : Fin 256) = n := head_col n _
  unfold nv
  rw [hn_at]
  unfold hNorm
  rw [e (hp n), en, Finset.sum_congr rfl fun d _ => by rw [e d]]
  rfl

/-- The second result, at an index. -/
theorem resV_at (R : Fin 128) (n : Fin 256) : resV c g (ix2 R n) = hNorm (row c (rb R) (rs R)) (fun d => g (ix1 d)) n := by
  unfold resV
  rw [rows_at, nv_at]

/-- The first half's activation by heads, at an index. -/
theorem up_at (k : Fin 8) (s : Fin 16) (n : Fin 256) : split (av (lo c)) (ix5 k 0 s (hd n) (hp n)) = gelu (c (ix3 k s ⟨n.val, by omega⟩)) := by
  rw [split_at, av_at, lo_at]
  exact congrArg (fun x => gelu (c (ix3 k s x))) (Fin.ext (by
    show 64 * (n.val / 64) + n.val % 64 = n.val
    omega))

/-- The product of the activation and the biased mixed rows, at an index. -/
theorem gated_at (u x y : Heads) (i : S8x1x16x4x64.Idx) : mulf u (addf x y) i = u i * (x i + y i) := rfl

/-- The first result, at an index. -/
theorem resY_at (R : Fin 128) (n : Fin 256) : resY c g w b (ix2 R n)
    = gRow (gelu (c (ix3 (rb R) (rs R) ⟨n.val, by omega⟩))) (fun h s => wt w (ix3 h (rs R) s))
      (fun s j => hNorm (row c (rb R) s) (fun d => g (ix1 d)) j) (b (ix2 (hd n) ⟨(rs R).val, by have := (rs R).isLt; omega⟩)) n := by
  have e : resY c g w b (ix2 R n) = rows (mulf (split (av (lo c))) (addf (mix (nv c g) (wt w)) (bi b))) (ix2 R n) := rfl
  rw [e, rows_at, gated_at, up_at, mix_at, bi_at]
  unfold gRow
  congr 2
  exact Finset.sum_congr rfl fun s _ => by rw [nv_at, mul_comm]; rfl

end Cert.Sgu.Ref

end
-- ==== Proof.Sgu.Win.lean ====
/-
  The spatial gating's windows from the arguments, row by row.
-/
module

public import proofs.«01_k».proof.Proof.Sgu.Ops
public import proofs.«01_k».proof.Proof.Sgu.Ref

@[expose] public section

noncomputable section

namespace Cert.Sgu

open Cert.Kernel5Ideal Cert.Kernel5Ideal.Gen
open Idealize.ShloMosaic Idealize.ShloMosaic.TcCoe Idealize.SL.Sem
open Idealize.ShloMosaic.Pipeline (Dat Cfg Window)
open Cert.Moe (brow IsReal)
open Cert.Sgu.Ref (rb rs hd hp)

/-- The call's arguments. -/
structure Args where
  /-- The mixer's columns. -/
  c : Ref.Cols
  /-- The norm's gain. -/
  g : FVec Ideal S64 .f32
  /-- The mixing weights. -/
  w : FVec Ideal S4x128x128 .f32
  /-- The bias. -/
  b : FVec Ideal S4x128 .f32

variable (m : (ℓ : Loc nD τ sig) → Buf (Elt Ideal) ℓ) (c : Dev nD)

/-- The arguments as launched. -/
def args : Args where
  c := m ((c.tc : Thread nD τ).loc main_arg0)
  g := m ((c.tc : Thread nD τ).loc main_arg1)
  w := m ((c.tc : Thread nD τ).loc main_arg2)
  b := m ((c.tc : Thread nD τ).loc main_arg3)

/-- The columns by rows. -/
def hC (x : Ref.Cols) : FVec Ideal S128x512 .f32 := shapeCast S128x512 x shapeCasts_S8x16x512_S128x512
/-- The gain once for every head. -/
def hT (g : FVec Ideal S64 .f32) : FVec Ideal S1x256 .f32 :=
  shapeCast S1x256 (shapeCast S256 (broadcastInDim S4x64 ![0, 1] bcast_S1x64_S4x64_0_1 (shapeCast S1x64 g shapeCasts_S64_S1x64)) shapeCasts_S4x64_S256) shapeCasts_S256_S1x256
/-- The bias over every head's columns. -/
def hB (b : FVec Ideal S4x128 .f32) : FVec Ideal S16x256 .f32 :=
  shapeCast S16x256 (broadcastInDim S16x4x64 ![0, 1] bcast_S16x4_S16x4x64_0_1 (transpose S16x4 [1, 0] (extractStridedSlice S4x16 ![0, 0] b slices_S4x128_S4x16_0_0) transposes_S4x16_S16x4_1_0)) shapeCasts_S16x4x64_S16x256

/-- The head of a column, as the kernel's wrapper divides. -/
def hF : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The indicator of one head: whether two columns are of the same. -/
def hD : FVec Ideal S256x256 .bf16 :=
  uitofp .bf16 (cmpi .eq (broadcastInDim S256x256 ![0, 1] bcast_S256x1_S256x256_0_1 (broadcastInDim S256x1 ![0] bcast_S256_S256x1_0 hF))
    (broadcastInDim S256x256 ![0, 1] bcast_S1x256_S256x256_0_1 (broadcastInDim S1x256 ![1] bcast_S256_S1x256_1 hF)))

/-- What the call's windows read, as the host code leaves it. -/
theorem V_all : V m c main_v11 = hC (args m c).c
    ∧ V m c main_v15 = hT (args m c).g
    ∧ V m c main_v6 = truncf (F := Ideal) (φ := .f32) .bf16 (Ref.wt (args m c).w) bitsLt_bf16_f32
    ∧ V m c main_v10 = hB (args m c).b
    ∧ V m c main_v23 = hD := by
  refine ⟨?_, ?_, ?_, ?_, ?_⟩
  all_goals
    unfold V
    simp only [hostOps0, hostOps0_1, hostOps0_2, hostOps0_3, hostOps0_4, List.flatten_cons, List.flatten_nil, List.append_nil, List.cons_append, List.nil_append]
    after_results_simp
    rfl
theorem V_c : V m c main_v11 = hC (args m c).c := (V_all m c).1
theorem V_g : V m c main_v15 = hT (args m c).g := (V_all m c).2.1
theorem V_w : V m c main_v6 = truncf (F := Ideal) (φ := .f32) .bf16 (Ref.wt (args m c).w) bitsLt_bf16_f32 := (V_all m c).2.2.1
theorem V_b : V m c main_v10 = hB (args m c).b := (V_all m c).2.2.2.1
theorem V_d : V m c main_v23 = hD := (V_all m c).2.2.2.2

theorem hC_at (x : Ref.Cols) (R : Fin 128) (n : Fin 512) : hC x (ix2 R n) = x (ix3 (rb R) (rs R) n) := by
  pointwise [hC, rb, rs]
theorem hT_at (x : FVec Ideal S64 .f32) (n : Fin 256) : hT x (ix2 0 n) = x (ix1 (hp n)) := by
  pointwise [hT, hp]
theorem hB_at (x : FVec Ideal S4x128 .f32) (t : Fin 16) (n : Fin 256) : hB x (ix2 t n) = x (ix2 (hd n) ⟨t.val, by omega⟩) := by
  pointwise [hB, hd]

/-- The division of a column by the head's width rounds down. -/
theorem hF_at (n : Fin 256) : hF (ix1 n) = BitVec.ofNat 32 (n.val / 64) := by
  pointwise [hF]
  revert n
  decide +kernel

/-- Whether two columns' heads are the same, as a number. -/
theorem same (j n : Fin 256) :
    FloatOps.uitofp (F := Ideal) FTy.bf16 (IntOp.cmpi CmpIPredicate.eq (BitVec.ofNat 32 (j.val / 64)) (BitVec.ofNat 32 (n.val / 64)))
      = if j.val / 64 = n.val / 64 then 1 else 0 := by
  have h : ∀ a b : Fin 4, IntOp.cmpi CmpIPredicate.eq (BitVec.ofNat 32 a.val) (BitVec.ofNat 32 b.val) = if a.val = b.val then 1#1 else 0#1 := by
    decide
  have e := h ⟨j.val / 64, by omega⟩ ⟨n.val / 64, by omega⟩
  dsimp only at e
  rw [e]
  split
  · show (((1#1 : BitVec 1).toNat : ℝ) : EReal) = 1
    simp
  · show (((0#1 : BitVec 1).toNat : ℝ) : EReal) = 0
    simp

/-- The indicator, at an index. -/
theorem hD_at (j n : Fin 256) : hD (ix2 j n) = if j.val / 64 = n.val / 64 then 1 else 0 := by
  unfold hD
  have hj := hF_at j
  have hn := hF_at n
  generalize hF = f at hj hn
  pointwise []
  rw [hj, hn]
  exact same j n

end Cert.Sgu

end
-- ==== Proof.Sgu.Arr.lean ====
/-
  The spatial gating's output arrays after the run: the reference's gated and normed rows.
-/
module

public import proofs.«01_k».proof.Proof.Sgu.Win
public import proofs.«01_k».proof.Proof.Gen.Kernel5Ideal.Value

@[expose] public section

noncomputable section

namespace Cert.Sgu

open Cert.Kernel5Ideal Cert.Kernel5Ideal.Gen
open Idealize.ShloMosaic Idealize.ShloMosaic.TcCoe Idealize.SL.Sem
open Idealize.ShloMosaic.Pipeline (Dat Cfg Window)
open Cert.Moe (brow IsReal)
open Cert.Sgu.Ref (rb rs hd hp row)

namespace Args
variable (A : Args)

/-- The gated rows. -/
def rY : FVec Ideal S128x256 .bf16 := Ref.resY A.c A.g A.w A.b
/-- The normed rows. -/
def rV : FVec Ideal S128x256 .f32 := Ref.resV A.c A.g

/-- The normed half of the columns is real. -/
structure Real : Prop where
  c : ∀ (k : Fin 8) (s : Fin 16) (j : Fin 256), IsReal (A.c (ix3 k s ⟨256 + j.val, by omega⟩))

/-- A row's activation is real. -/
theorem Real.row {A : Args} (h : A.Real) (k : Fin 8) (s : Fin 16) (j : Fin 256) : IsReal (Ref.row A.c k s j) := gelu_real (h.c k s j)
end Args

variable (m : (ℓ : Loc nD τ sig) → Buf (Elt Ideal) ℓ) (c : Dev nD)

theorem idx0 : ∀ t : Fin grid0.N, win0_0.index t (0 : Fin 2) = 0 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 3) = 0 ∧ win0_2.index t (1 : Fin 3) = 0 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem flush5 : ∀ t : Fin grid0.N, win0_5.flush t = true := by decide +kernel
theorem idx5 : ∀ t : Fin grid0.N, win0_5.index t (0 : Fin 2) = 0 ∧ win0_5.index t (1 : Fin 2) = 0 := by decide +kernel
theorem flush6 : ∀ t : Fin grid0.N, win0_6.flush t = true := by decide +kernel
theorem idx6 : ∀ t : Fin grid0.N, win0_6.index t (0 : Fin 2) = 0 ∧ win0_6.index t (1 : Fin 2) = 0 := by decide +kernel

variable (t : Fin cfg0.N)

theorem emb0 (j : S128x512.Idx) : ((cfg0.win 0).blk t).view.emb j = j := by
  obtain ⟨e0, e1⟩ := idx0 t
  funext a; apply Fin.ext
  match a with
  | ⟨0, _⟩ => show win0_0.index t (0 : Fin 2) * 128 + 1 * (j 0).val = (j 0).val; omega
  | ⟨1, _⟩ => show win0_0.index t (1 : Fin 2) * 512 + 1 * (j 1).val = (j 1).val; omega

theorem emb1 (j : S1x256.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 256 + 1 * (j 1).val = (j 1).val; omega

theorem emb2 (j : S4x16x16.Idx) : ((cfg0.win 2).blk t).view.emb j = j := by
  obtain ⟨e0, e1, e2⟩ := idx2 t
  funext a; apply Fin.ext
  match a with
  | ⟨0, _⟩ => show win0_2.index t (0 : Fin 3) * 4 + 1 * (j 0).val = (j 0).val; omega
  | ⟨1, _⟩ => show win0_2.index t (1 : Fin 3) * 16 + 1 * (j 1).val = (j 1).val; omega
  | ⟨2, _⟩ => show win0_2.index t (2 : Fin 3) * 16 + 1 * (j 2).val = (j 2).val; omega

theorem emb3 (j : S16x256.Idx) : ((cfg0.win 3).blk t).view.emb j = j := by
  obtain ⟨e0, e1⟩ := idx3 t
  funext a; apply Fin.ext
  match a with
  | ⟨0, _⟩ => show win0_3.index t (0 : Fin 2) * 16 + 1 * (j 0).val = (j 0).val; omega
  | ⟨1, _⟩ => show win0_3.index t (1 : Fin 2) * 256 + 1 * (j 1).val = (j 1).val; omega

theorem emb4 (j : S256x256.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 256 + 1 * (j 1).val = (j 1).val; omega

theorem emb5 (j : S128x256.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 256 + 1 * (j 1).val = (j 1).val; omega

theorem emb6 (j : S128x256.Idx) : ((cfg0.win 6).blk t).view.emb j = j := by
  obtain ⟨e0, e1⟩ := idx6 t
  funext a; apply Fin.ext
  match a with
  | ⟨0, _⟩ => show win0_6.index t (0 : Fin 2) * 128 + 1 * (j 0).val = (j 0).val; omega
  | ⟨1, _⟩ => show win0_6.index t (1 : Fin 2) * 256 + 1 * (j 1).val = (j 1).val; omega

theorem blk0 (R : Fin 128) (n : Fin 512) : iblk m c 0 t (ix2 R n) = (args m c).c (ix3 (rb R) (rs R) n) := by
  show V m c main_v11 (((cfg0.win 0).blk t).view.emb (ix2 R n)) = _
  rw [emb0, V_c, hC_at]

theorem blk1 (n : Fin 256) : iblk m c 1 t (ix2 0 n) = (args m c).g (ix1 (hp n)) := by
  show V m c main_v15 (((cfg0.win 1).blk t).view.emb (ix2 0 n)) = _
  rw [emb1, V_g, hT_at]

theorem blk2 (h : Fin 4) (i s : Fin 16) : iblk m c 2 t (ix3 h i s) = Ref.wt (args m c).w (ix3 h i s) := by
  show V m c main_v6 (((cfg0.win 2).blk t).view.emb (ix3 h i s)) = _
  rw [emb2, V_w]
  rfl

theorem blk3 (i : Fin 16) (n : Fin 256) : iblk m c 3 t (ix2 i n) = (args m c).b (ix2 (hd n) ⟨i.val, by omega⟩) := by
  show V m c main_v10 (((cfg0.win 3).blk t).view.emb (ix2 i n)) = _
  rw [emb3, V_b, hB_at]

theorem blk4 (j n : Fin 256) : brow (iblk m c 4 t) j n = if j.val / 64 = n.val / 64 then 1 else 0 := by
  show V m c main_v23 (((cfg0.win 4).blk t).view.emb (ix2 j n)) = _
  rw [emb4, V_d, hD_at]

/-- A row's activation, over the argument. -/
theorem act_blk (R : Fin 128) : act (iblk m c 0 t) R = row (args m c).c (rb R) (rs R) := by
  funext j
  unfold act row
  rw [blk0]

/-- A point's normed row is the reference's. -/
theorem norm_blk (hr : (args m c).Real) (R : Fin 128) (n : Fin 256) :
    kNorm (act (iblk m c 0 t) R) (brow (iblk m c 4 t)) (fun j => iblk m c 1 t (ix2 0 j)) n
      = hNorm (row (args m c).c (rb R) (rs R)) (fun d => (args m c).g (ix1 d)) n := by
  rw [act_blk]
  exact kNorm_eq _ (fun j => hr.row _ _ j) _ (blk4 m c t) _ (fun d => (args m c).g (ix1 d)) (fun n => blk1 m c t n) n

/-- The rows of a row's stream. -/
theorem stream (R : Fin 128) (s : Fin 16) (h : 16 * (R.val / 16) + s.val < 128) :
    rb ⟨16 * (R.val / 16) + s.val, h⟩ = rb R ∧ rs ⟨16 * (R.val / 16) + s.val, h⟩ = s := by
  constructor <;> apply Fin.ext
  · show (16 * (R.val / 16) + s.val) / 16 = R.val / 16
    omega
  · show (16 * (R.val / 16) + s.val) % 16 = s.val
    omega

/-- The point's normed block is the reference's. -/
theorem out_block6 (hr : (args m c).Real) (R : Fin 128) (n : Fin 256) :
    out0_6 (iblk m c 0 t) (iblk m c 1 t) (iblk m c 2 t) (iblk m c 3 t) (iblk m c 4 t) (ix2 R n) = (args m c).rV (ix2 R n) := by
  rw [out6]
  refine (norm_at _ _ _ _ _ R n).trans ?_
  unfold Args.rV
  rw [Ref.resV_at]
  exact norm_blk m c t hr R n

/-- The point's gated block is the reference's. -/
theorem out_block5 (hr : (args m c).Real) (R : Fin 128) (n : Fin 256) :
    out0_5 (iblk m c 0 t) (iblk m c 1 t) (iblk m c 2 t) (iblk m c 3 t) (iblk m c 4 t) (ix2 R n) = (args m c).rY (ix2 R n) := by
  rw [out5]
  refine (gAll_at _ _ _ _ _ R n).trans ?_
  unfold Args.rY
  rw [Ref.resY_at, blk0, blk3]
  have ew : (fun (g : Fin 4) (s : Fin 16) => iblk m c 2 t (ix3 g (⟨R.val % 16, by omega⟩ : Fin 16) s)) = fun h s => Ref.wt (args m c).w (ix3 h (rs R) s) := by
    funext h s
    exact blk2 m c t h _ s
  have ev : (fun (s : Fin 16) (j : Fin 256) => kNorm (act (iblk m c 0 t) (⟨16 * (R.val / 16) + s.val, by omega⟩ : Fin 128)) (brow (iblk m c 4 t)) (fun j => iblk m c 1 t (ix2 0 j)) j)
      = fun s j => hNorm (row (args m c).c (rb R) s) (fun d => (args m c).g (ix1 d)) j := by
    funext s j
    have := stream R s (by omega)
    rw [norm_blk m c t hr, this.1, this.2]
  rw [ew, ev]
  rfl

theorem grid_N : grid0.N = 1 := by decide +kernel

/-- What the point writes back is the gated rows. -/
theorem flushed_eq5 (hr : (args m c).Real) : (dats m 0 c).flushed 5 t = ((cfg0.win 5).blk t).view.read (Elt Ideal) (args m c).rY := by
  rw [Value.flushed5]
  funext j
  show out0_5 (iblk m c 0 t) (iblk m c 1 t) (iblk m c 2 t) (iblk m c 3 t) (iblk m c 4 t) j = (args m c).rY (((cfg0.win 5).blk t).view.emb j)
  have e : j = (ix2 (j 0) (j 1) : S128x256.Idx) := by
    funext a; fin_cases a <;> rfl
  rw [e]
  exact (out_block5 m c t hr (j 0) (j 1)).trans (congrArg (args m c).rY (emb5 t (ix2 (j 0) (j 1))).symm)

/-- Every index of the gated rows lies in the point's block. -/
theorem covered5 (i : S128x256.Idx) : ∃ t : Fin cfg0.N, (cfg0.win 5).flush t = true ∧ i ∈ ((cfg0.win 5).blk t).view.set := by
  have hN : 0 < grid0.N := by rw [grid_N]; omega
  refine ⟨⟨0, hN⟩, flush5 _, ?_⟩
  have h := ((cfg0.win 5).blk ⟨0, hN⟩).view.emb_mem_set i
  have e : ((cfg0.win 5).blk ⟨0, hN⟩).view.emb i = i := emb5 _ i
  rw [e] at h
  exact h

/-- The gated rows after the run. -/
theorem final5 (hr : (args m c).Real) : (dats m 0 c).arrAt 5 cfg0.N = (args m c).rY :=
  (dats m 0 c).arrAt_eq_of_cover 5 (args m c).rY (fun t _ => flushed_eq5 m c t hr) covered5

/-- What the point writes back is the normed rows. -/
theorem flushed_eq6 (hr : (args m c).Real) : (dats m 0 c).flushed 6 t = ((cfg0.win 6).blk t).view.read (Elt Ideal) (args m c).rV := by
  rw [Value.flushed6]
  funext j
  show out0_6 (iblk m c 0 t) (iblk m c 1 t) (iblk m c 2 t) (iblk m c 3 t) (iblk m c 4 t) j = (args m c).rV (((cfg0.win 6).blk t).view.emb j)
  have e : j = (ix2 (j 0) (j 1) : S128x256.Idx) := by
    funext a; fin_cases a <;> rfl
  rw [e]
  exact (out_block6 m c t hr (j 0) (j 1)).trans (congrArg (args m c).rV (emb6 t (ix2 (j 0) (j 1))).symm)

/-- Every index of the normed rows lies in the point's block. -/
theorem covered6 (i : S128x256.Idx) : ∃ t : Fin cfg0.N, (cfg0.win 6).flush t = true ∧ i ∈ ((cfg0.win 6).blk t).view.set := by
  have hN : 0 < grid0.N := by rw [grid_N]; omega
  refine ⟨⟨0, hN⟩, flush6 _, ?_⟩
  have h := ((cfg0.win 6).blk ⟨0, hN⟩).view.emb_mem_set i
  have e : ((cfg0.win 6).blk ⟨0, hN⟩).view.emb i = i := emb6 _ i
  rw [e] at h
  exact h

/-- The normed rows after the run. -/
theorem final6 (hr : (args m c).Real) : (dats m 0 c).arrAt 6 cfg0.N = (args m c).rV :=
  (dats m 0 c).arrAt_eq_of_cover 6 (args m c).rV (fun t _ => flushed_eq6 m c t hr) covered6

end Cert.Sgu

end
-- ==== Proof.Sgu.Algebraic.lean ====
/-
  The spatial gating's call: its frames, the finite normed half from the precondition, and the value claim.
-/
module

public import proofs.«01_k».proof.Proof.Algebraic
public import proofs.«01_k».proof.Proof.Sgu.Arr
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

@[expose] public section

noncomputable section

namespace Cert.Sgu

open Idealize.ShloMosaic Idealize.ShloMosaic.TcCoe Idealize.SL.Sem
open Cert.Moe (IsReal)

attribute [local instance] Cert.Kernel5.Gen.facts Cert.Kernel5Ideal.Gen.facts Cert.Reference5Ideal.Gen.facts

/-- The precondition's side conditions. -/
theorem pre_facts : Cert.Pre_finite5.Facts where
  slices_S8x16x512_S8x16x256_0_0_256 := by decide
  bcast_S_S8x16x256 := by decide
  reducesTo_S8x16x256_S_d0_1_2 := by decide
  h_S_ := by decide

attribute [local instance] pre_facts

/-- The kernel changes no argument and leaves no counter. -/
theorem frame_p : Cert.quiescent_Kernel5 := fun m ρ _ => Cert.Kernel5.Gen.frame m ρ
/-- The kernel over the extended reals changes no argument and leaves no counter. -/
theorem frame_pi : Cert.quiescent_Kernel5Ideal := fun m ρ _ => Cert.Kernel5Ideal.Gen.frame m ρ
/-- The same under the precondition. -/
theorem frame_pi_pre : Cert.quiescent_Kernel5Ideal_pre_finite5 := fun m ρ _ => Cert.Kernel5Ideal.Gen.frame m ρ
/-- The reference changes no argument and leaves no counter. -/
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)
/-- The same under the precondition. -/
theorem frame_ri_pre : Cert.quiescent_Reference5Ideal_pre_finite5 := fun m ρ _ => frame_ri m ρ trivial

instance : Subsingleton Cert.Pre_finite5.S_.Idx := ⟨fun a b => funext fun i => i.elim0⟩

/-- The precondition makes the normed half of the columns real numbers. -/
theorem real_args (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) : (args m c).Real := by
  have h1 := congrFun (h c) (fun a => a.elim0)
  unfold Cert.Pre_finite5.fn at h1
  refine ⟨fun k s j => ?_⟩
  have := Cert.Proof.Value.finite_of_lt _ (Host.reduce_andi_all _ _ _ _ _ h1 (ix3 k s j))
  refine IsReal.of_ne ?_
  have e : (args m c).c (ix3 k s ⟨256 + j.val, by omega⟩)
      = extractStridedSlice Cert.Pre_finite5.S8x16x256 ![0, 0, 256] (args m c).c Cert.Pre_finite5.Facts.slices_S8x16x512_S8x16x256_0_0_256 (ix3 k s j) := by
    refine congrArg (args m c).c ?_
    funext a; apply Fin.ext
    match a with
    | ⟨0, _⟩ => exact (Nat.zero_add _).symm
    | ⟨1, _⟩ => exact (Nat.zero_add _).symm
    | ⟨2, _⟩ => rfl
  rw [e]
  exact this

/-- With a real normed half the kernel's two arrays and the reference's are equal. -/
theorem algebraic : Cert.algebraic_Kernel5Ideal_Reference5Ideal_pre_finite5 := by
  intro m ρ m' ρ' hpre hagree
  have hr := fun c => real_args m hpre c
  refine ⟨fun c => (args m c).rY, fun c => (args m c).rV, (θ_run Cert.Kernel5Ideal.defs _ _).mono (fun _ h c => ?_)
    (Cert.Kernel5Ideal.Value.run_blocks m ρ), ?_⟩
  · obtain ⟨h0, h1, hk⟩ := h c
    exact ⟨h0.trans (final5 m c (hr c)), h1.trans (final6 m c (hr c)), hk⟩
  refine (θ_run Cert.Reference5Ideal.defs _ _).mono (fun _ h c => ?_) (Cert.Reference5Ideal.Value.run (F := Ideal) m' ρ')
  obtain ⟨h0, h1, hk⟩ := h c
  obtain ⟨e0, e1, e2, e3⟩ := hagree c
  refine ⟨h0.trans ?_, h1.trans ?_, hk⟩
  · unfold args Args.rY
    dsimp only
    rw [← e0, ← e1, ← e2, ← e3]
    rfl
  · unfold args Args.rV
    dsimp only
    rw [← e0, ← e1]
    rfl

end Cert.Sgu

end
-- ==== Proof.Samp.Ops.lean ====
/-
  What the one grid point of the input projection's call at the sample streams stores, at an index.
-/
module

public import proofs.«01_k».proof.Proof.Gen.Kernel6Ideal.Value
public import proofs.«01_k».proof.Proof.Proj.Spec
public import proofs.«01_k».proof.Proof.Moe.Ops
public import Idealize.ShloMosaic.Lib.Pipeline.Value
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Samp

open Cert.Kernel6Ideal Cert.Kernel6Ideal.Gen
open Cert.Moe (brow nRow)
open Cert.Proj (pRow kNorm)

local notation "F" => Ideal

/-- A column slice of the weight's block. -/
theorem ld_cols (o w : ℕ) (ho : o + w ≤ 3200) (inb) (x : Vec F S1024x3200 .bf16) (k : Fin 1024) (j : Fin w) :
    View.ld x (Rect.unit (s := S1024x3200) ![0, o] ![1024, w] inb) (ix2 k j : Shape.Idx ⟨2, ![1024, w]⟩) = x (ix2 k ⟨o + j.val, by omega⟩) := by
  refine congrArg x ?_
  funext i; apply Fin.ext
  match i with
  | ⟨0, _⟩ => exact (Nat.zero_add _).trans (Nat.one_mul _)
  | ⟨1, _⟩ => exact congrArg (o + ·) (Nat.one_mul _)

/-- The normed row. -/
theorem pay3_at (x0 : Vec F S128x1024 .f32) (x1 : Vec F S1x1024 .f32) (r : Fin 128) :
    brow (k0_pay3 x0 x1) r = nRow (brow x0 r) (fun n => x1 (ix2 0 n)) := by
  funext n
  unfold brow nRow
  pointwise [k0_pay3]

/-- A head norm of a product of the normed rows, at an index. -/
theorem pay7_at (H : FVec F S128x1024 .bf16) (d : FVec F S384x384 .bf16) (W : Vec F S1024x384 .bf16) (g : Vec F S1x384 .f32)
    (r : Fin 128) (n : Fin 384) :
    k0_pay7 H d W g (ix2 r n) = kNorm (fun j => ∑ k, H (ix2 r k) * W (ix2 k j)) (brow d) (fun j => g (ix2 0 j)) n := by
  unfold kNorm brow
  pointwise [k0_pay7]

/-- The same of the queries. -/
theorem pay5_at (x0 : Vec F S128x1024 .f32) (x1 : Vec F S1x1024 .f32) (d : FVec F S384x384 .bf16) (W : Vec F S1024x384 .bf16) (g : Vec F S1x384 .f32)
    (r : Fin 128) (n : Fin 384) :
    k0_pay5 x0 x1 d W g (ix2 r n) = kNorm (fun j => ∑ k, k0_pay3 x0 x1 (ix2 r k) * W (ix2 k j)) (brow d) (fun j => g (ix2 0 j)) n := by
  unfold k0_pay5
  show _ = kNorm (fun j => ∑ k, @k0_pay3 F _ _ _ (ix2 r k) * W (ix2 k j)) (brow d) (fun j => g (ix2 0 j)) n
  generalize @k0_pay3 F _ _ _ = H
  unfold kNorm brow
  pointwise [k0_pay4]

/-- A product of the normed rows, at an index. -/
theorem pay8_at (H : FVec F S128x1024 .bf16) (W : Vec F S1024x384 .bf16) (r : Fin 128) (n : Fin 384) :
    k0_pay8 H W (ix2 r n) = ∑ k, H (ix2 r k) * W (ix2 k n) := by
  pointwise [k0_pay8]

/-- The second mixer's product, at an index. -/
theorem pay1_at (H : FVec F S128x1024 .bf16) (W : Vec F S1024x1536 .bf16) (r : Fin 128) (n : Fin 1536) :
    k0_pay1 H W (ix2 r n) = ∑ k, H (ix2 r k) * W (ix2 k n) := by
  pointwise [k0_pay1]

/-- The third mixer's product, at an index. -/
theorem pay2_at (H : FVec F S128x1024 .bf16) (W : Vec F S1024x512 .bf16) (r : Fin 128) (n : Fin 512) :
    k0_pay2 H W (ix2 r n) = ∑ k, H (ix2 r k) * W (ix2 k n) := by
  pointwise [k0_pay2]

/-- The indicator's block is read as it is. -/
theorem pay4_at (d : Vec F S384x384 .bf16) : brow (k0_pay4 d) = brow d := by
  funext j n
  unfold brow
  pointwise [k0_pay4]

/-- The last step of the queries, at an index. -/
theorem pay6_at (x : FVec F S128x384 .f32) (s : Idealize.ShloMosaic.Ideal .f32) (r : Fin 128) (n : Fin 384) : k0_pay6 x s (ix2 r n) = x (ix2 r n) * s := by
  pointwise [k0_pay6]

variable (x0 : Vec F S128x1024 .f32) (x1 : Vec F S1x1024 .f32) (x2 : Vec F S1024x3200 .bf16) (x3 x4 : Vec F S1x384 .f32) (x5 : Vec F S384x384 .bf16)

theorem ld_x0 : View.ld x0 r0_0 = x0 := View.ld_unit_zero (by funext a; fin_cases a <;> rfl) _ x0
theorem ld_x1 : View.ld x1 r0_1 = x1 := View.ld_unit_zero (by funext a; fin_cases a <;> rfl) _ x1
theorem ld_x3 : View.ld x3 r0_4 = x3 := View.ld_unit_zero (by funext a; fin_cases a <;> rfl) _ x3
theorem ld_x5 : View.ld x5 r0_2 = x5 := View.ld_unit_zero (by funext a; fin_cases a <;> rfl) _ x5

/-- The normed rows' block. -/
theorem pay11_eq : k0_pay11 x0 x1 x2 x3 x4 x5 = k0_pay3 x0 x1 := by
  unfold k0_pay11
  rw [ld_x0, ld_x1]

/-- The indicator's block. -/
theorem pay12_eq : k0_pay12 x0 x1 x2 x3 x4 x5 = k0_pay4 x5 := by
  unfold k0_pay12
  rw [ld_x5]

/-- A product of a normed row with a slice of the weight. -/
theorem prod_at {w : ℕ} (o : ℕ) (ho : o + w ≤ 3200) (inb) (r : Fin 128) (j : Fin w) :
    ∑ k, k0_pay3 x0 x1 (ix2 r k) * View.ld x2 (Rect.unit (s := S1024x3200) ![0, o] ![1024, w] inb) (ix2 k j : Shape.Idx ⟨2, ![1024, w]⟩)
      = pRow (nRow (brow x0 r) (fun n => x1 (ix2 0 n))) (brow x2) o ho j := by
  rw [← pay3_at]
  exact Finset.sum_congr rfl fun k _ => congrArg (k0_pay3 x0 x1 (ix2 r k) * ·) (ld_cols o w ho inb x2 k j)

/-- The queries' block, at an index. -/
theorem out6_at (r : Fin 128) (n : Fin 384) : out0_6 x0 x1 x2 x3 x4 x5 (ix2 r n)
    = kNorm (pRow (nRow (brow x0 r) (fun n => x1 (ix2 0 n))) (brow x2) 0 (by omega)) (brow x5) (fun j => x3 (ix2 0 j)) n
      * Ideal.ofBits .f32 0x3E000000#32 := by
  unfold out0_6
  rw [View.canon_unit_zero (by funext a; fin_cases a <;> rfl), ld_x0, ld_x1, ld_x3, ld_x5, pay6_at, pay5_at]
  refine congrArg (fun a => kNorm a _ _ n * Ideal.ofBits .f32 0x3E000000#32) (funext fun j => ?_)
  exact prod_at x0 x1 x2 0 (by omega) _ r j

/-- The keys' block, at an index. -/
theorem out7_at (r : Fin 128) (n : Fin 384) : out0_7 x0 x1 x2 x3 x4 x5 (ix2 r n)
    = kNorm (pRow (nRow (brow x0 r) (fun n => x1 (ix2 0 n))) (brow x2) 384 (by omega)) (brow x5) (fun j => x4 (ix2 0 j)) n := by
  unfold out0_7
  rw [View.canon_unit_zero (by funext a; fin_cases a <;> rfl), pay11_eq, pay12_eq, ld_x3, pay7_at, pay4_at]
  refine congrArg (fun a => kNorm a _ _ n) (funext fun j => ?_)
  exact prod_at x0 x1 x2 384 (by omega) _ r j

/-- The values' block, at an index. -/
theorem out8_at (r : Fin 128) (n : Fin 384) : out0_8 x0 x1 x2 x3 x4 x5 (ix2 r n)
    = pRow (nRow (brow x0 r) (fun n => x1 (ix2 0 n))) (brow x2) 768 (by omega) n := by
  unfold out0_8
  rw [View.canon_unit_zero (by funext a; fin_cases a <;> rfl), pay11_eq, pay8_at]
  exact prod_at x0 x1 x2 768 (by omega) _ r n

/-- The keys' block in bf16 is the keys'. -/
theorem out9_at (r : Fin 128) (n : Fin 384) : out0_9 x0 x1 x2 x3 x4 x5 (ix2 r n)
    = kNorm (pRow (nRow (brow x0 r) (fun n => x1 (ix2 0 n))) (brow x2) 384 (by omega)) (brow x5) (fun j => x4 (ix2 0 j)) n := by
  rw [← out7_at x0 x1 x2 x3 x4 x5]
  unfold out0_9 out0_7
  rw [View.canon_unit_zero (by funext a; fin_cases a <;> rfl), View.canon_unit_zero (by funext a; fin_cases a <;> rfl)]
  rfl

/-- The values' block in bf16 is the values'. -/
theorem out10_at (r : Fin 128) (n : Fin 384) : out0_10 x0 x1 x2 x3 x4 x5 (ix2 r n)
    = pRow (nRow (brow x0 r) (fun n => x1 (ix2 0 n))) (brow x2) 768 (by omega) n := by
  rw [← out8_at x0 x1 x2 x3 x4 x5]
  unfold out0_10 out0_8
  rw [View.canon_unit_zero (by funext a; fin_cases a <;> rfl), View.canon_unit_zero (by funext a; fin_cases a <;> rfl)]
  rfl

/-- The second mixer's block, at an index. -/
theorem out11_at (r : Fin 128) (n : Fin 1536) : out0_11 x0 x1 x2 x3 x4 x5 (ix2 r n)
    = pRow (nRow (brow x0 r) (fun n => x1 (ix2 0 n))) (brow x2) 1152 (by omega) n := by
  unfold out0_11
  rw [View.canon_unit_zero (by funext a; fin_cases a <;> rfl), pay11_eq, pay1_at]
  exact prod_at x0 x1 x2 1152 (by omega) _ r n

/-- The third mixer's block, at an index. -/
theorem out12_at (r : Fin 128) (n : Fin 512) : out0_12 x0 x1 x2 x3 x4 x5 (ix2 r n)
    = pRow (nRow (brow x0 r) (fun n => x1 (ix2 0 n))) (brow x2) 2688 (by omega) n := by
  unfold out0_12
  rw [View.canon_unit_zero (by funext a; fin_cases a <;> rfl), pay11_eq, pay2_at]
  exact prod_at x0 x1 x2 2688 (by omega) _ r n

end Cert.Samp

end
-- ==== Proof.Samp.Ref.lean ====
/-
  The input projection's reference at the sample streams, at an index.
-/
module

public import proofs.«01_k».proof.Proof.Gen.Reference6Ideal.Run
public import proofs.«01_k».proof.Proof.Moe.Ref
public import proofs.«01_k».proof.Proof.Proj.Ref

@[expose] public section

noncomputable section

namespace Cert.Samp.Ref

open Cert.Reference6Ideal Cert.Reference6Ideal.Gen Cert.Reference6Ideal.Value
open Idealize.ShloMosaic Idealize.ShloMosaic.TcCoe
open Cert.Moe (nRow)
open Cert.Moe.Ref (mat vec)
open Cert.Proj (pRow hNorm)
open Cert.Proj.Ref (hd hp)

abbrev Rows := FVec Ideal S8x16x1024 .f32
abbrev Proj := FVec Ideal S8x16x3200 .f32
abbrev Part := FVec Ideal S8x16x384 .f32
abbrev Heads := FVec Ideal S8x16x6x64 .f32

/-- The stream of a row. -/
def rb (R : Fin 128) : Fin 8 := ⟨R.val / 16, by omega⟩
/-- The place of a row. -/
def rs (R : Fin 128) : Fin 16 := ⟨R.val % 16, by omega⟩
/-- A row of a stream. -/
def row (x : Rows) (b : Fin 8) (s : Fin 16) (n : Fin 1024) : EReal := x (ix3 b s n)

/-- The normed rows. -/
def nv (h : Rows) (g : FVec Ideal S1024 .f32) : Rows :=
  mulf (mulf h (broadcastInDim S8x16x1024 ![0, 1, 2] bcast_S8x16x1_S8x16x1024_0_1_2 (Host.rsqrt (addf (Host.divf (broadcastInDim S8x16x1 ![0, 1] bcast_S8x16_S8x16x1_0_1 (Host.reduceAdd (mulf h h) (constant S_ .f32 0x00000000#32) reducesTo_S8x16x1024_S8x16_d2 h_S_)) (broadcastInDim S8x16x1 ![] bcast_S_S8x16x1 (constant S_ .f32 0x44800000#32))) (broadcastInDim S8x16x1 ![] bcast_S_S8x16x1 (constant S_ .f32 0x358637BD#32)))))) (broadcastInDim S8x16x1024 ![0, 1, 2] bcast_S1x1x1024_S8x16x1024_0_1_2 (broadcastInDim S1x1x1024 ![2] bcast_S1024_S1x1x1024_2 g))

/-- The normed rows, a row at a time. -/
theorem nv_at (h : Rows) (g : FVec Ideal S1024 .f32) (b : Fin 8) (s : Fin 16) : row (nv h g) b s = nRow (row h b s) (vec g) := by
  funext n
  unfold row nRow vec
  pointwise [nv]

/-- The product of the normed rows with the whole weight. -/
def pp (x : Rows) (g : FVec Ideal S1024 .f32) (w : FVec Ideal S1024x3200 .f32) : Proj :=
  Host.dotGeneral dot_S8x16x1024_S1024x3200_S8x16x3200_2_0_01_1_n_n none (nv x g) w

/-- 384 columns of the product. -/
def part (o : ℕ) (h : S8x16x3200.Slices ![0, 0, o] S8x16x384) (p : Proj) : Part := extractStridedSlice S8x16x384 ![0, 0, o] p h

/-- Columns by heads. -/
def split (a : Part) : Heads := shapeCast _ a shapeCasts_S8x16x384_S8x16x6x64

/-- The heads' norm. -/
def hn (a : Heads) (g : FVec Ideal S64 .f32) : Heads :=
  mulf (mulf a (broadcastInDim S8x16x6x64 ![0, 1, 2, 3] bcast_S8x16x6x1_S8x16x6x64_0_1_2_3 (Host.rsqrt (addf (Host.divf (broadcastInDim S8x16x6x1 ![0, 1, 2] bcast_S8x16x6_S8x16x6x1_0_1_2 (Host.reduceAdd (mulf a a) (constant S_ .f32 0x00000000#32) reducesTo_S8x16x6x64_S8x16x6_d3 h_S_)) (broadcastInDim S8x16x6x1 ![] bcast_S_S8x16x6x1 (constant S_ .f32 0x42800000#32))) (broadcastInDim S8x16x6x1 ![] bcast_S_S8x16x6x1 (constant S_ .f32 0x358637BD#32)))))) (broadcastInDim S8x16x6x64 ![0, 1, 2, 3] bcast_S1x1x1x64_S8x16x6x64_0_1_2_3 (broadcastInDim S1x1x1x64 ![3] bcast_S64_S1x1x1x64_3 g))

/-- The queries, scaled and by rows. -/
def qv (a : Heads) : FVec Ideal S128x384 .bf16 :=
  truncf .bf16 (shapeCast _ (mulf a (broadcastInDim S8x16x6x64 ![] bcast_S_S8x16x6x64 (constant S_ .f32 0x3E000000#32))) shapeCasts_S8x16x6x64_S128x384) bitsLt_bf16_f32

/-- Heads by rows. -/
def jv (a : Heads) : FVec Ideal S128x384 .f32 := shapeCast _ a shapeCasts_S8x16x6x64_S128x384
/-- The values, by rows. -/
def vv (p : Proj) : FVec Ideal S128x384 .f32 :=
  shapeCast _ (part 768 slices_S8x16x3200_S8x16x384_0_0_768 p) shapeCasts_S8x16x384_S128x384
/-- The second mixer's inputs, by rows. -/
def bv (p : Proj) : FVec Ideal S128x1536 .f32 :=
  shapeCast _ (extractStridedSlice S8x16x1536 ![0, 0, 1152] p slices_S8x16x3200_S8x16x1536_0_0_1152) shapeCasts_S8x16x1536_S128x1536
/-- The third mixer's inputs, by rows. -/
def cv (p : Proj) : FVec Ideal S128x512 .f32 :=
  shapeCast _ (extractStridedSlice S8x16x512 ![0, 0, 2688] p slices_S8x16x3200_S8x16x512_0_0_2688) shapeCasts_S8x16x512_S128x512

/-- The product, at an index. -/
theorem pp_at (x : Rows) (g : FVec Ideal S1024 .f32) (w : FVec Ideal S1024x3200 .f32) (b : Fin 8) (s : Fin 16) (n : Fin 3200) :
    pp x g w (ix3 b s n) = ∑ k, nRow (row x b s) (vec g) k * mat w k n := by
  rw [← nv_at]
  unfold pp row mat
  generalize nv x g = nn
  pointwise []

/-- Columns of the product, at an index. -/
theorem part_at (o : ℕ) (ho : o + 384 ≤ 3200) (h) (p : Proj) (b : Fin 8) (s : Fin 16) (n : Fin 384) :
    part o h p (ix3 b s n) = p (ix3 b s ⟨o + n.val, by omega⟩) := by
  refine congrArg p ?_
  funext i; apply Fin.ext
  match i with
  | ⟨0, _⟩ => exact Nat.zero_add _
  | ⟨1, _⟩ => exact Nat.zero_add _
  | ⟨2, _⟩ => rfl

/-- Columns by heads, at an index. -/
theorem split_at (a : Part) (b : Fin 8) (s : Fin 16) (h : Fin 6) (d : Fin 64) :
    split a (ix4 b s h d) = a (ix3 b s ⟨64 * h.val + d.val, by omega⟩) := by
  pointwise [split]
  refine congrArg a (congrArg (ix3 b s) (Fin.ext ?_))
  show h.val * 64 + d.val = 64 * h.val + d.val
  omega

/-- The heads' norm, at an index. -/
theorem hn_at (a : Heads) (g : FVec Ideal S64 .f32) (b : Fin 8) (s : Fin 16) (h : Fin 6) (d : Fin 64) :
    hn a g (ix4 b s h d) = a (ix4 b s h d) * Ideal.rsqrt (Ideal.div (∑ e, a (ix4 b s h e) * a (ix4 b s h e)) (Ideal.ofBits .f32 0x42800000#32)
      + Ideal.ofBits .f32 0x358637BD#32) * g (ix1 d) := by
  pointwise [hn]

/-- The queries, at an index. -/
theorem qv_at (a : Heads) (R : Fin 128) (n : Fin 384) :
    qv a (ix2 R n) = a (ix4 (rb R) (rs R) (hd n) (hp n)) * Ideal.ofBits .f32 0x3E000000#32 := by
  pointwise [qv, rb, rs, hd, hp]

/-- Heads by rows, at an index. -/
theorem jv_at (a : Heads) (R : Fin 128) (n : Fin 384) : jv a (ix2 R n) = a (ix4 (rb R) (rs R) (hd n) (hp n)) := by
  pointwise [jv, rb, rs, hd, hp]
/-- The values by rows, at an index. -/
theorem vv_at (p : Proj) (R : Fin 128) (n : Fin 384) :
    vv p (ix2 R n) = part 768 slices_S8x16x3200_S8x16x384_0_0_768 p (ix3 (rb R) (rs R) n) := by
  unfold vv
  generalize part 768 slices_S8x16x3200_S8x16x384_0_0_768 p = a
  pointwise [rb, rs]
/-- The second mixer's inputs, at an index. -/
theorem bv_at (p : Proj) (R : Fin 128) (n : Fin 1536) : bv p (ix2 R n) = p (ix3 (rb R) (rs R) ⟨1152 + n.val, by omega⟩) := by
  pointwise [bv, rb, rs]
/-- The third mixer's inputs, at an index. -/
theorem cv_at (p : Proj) (R : Fin 128) (n : Fin 512) : cv p (ix2 R n) = p (ix3 (rb R) (rs R) ⟨2688 + n.val, by omega⟩) := by
  pointwise [cv, rb, rs]

variable (x : Rows) (g : FVec Ideal S1024 .f32) (w : FVec Ideal S1024x3200 .f32)

/-- A part of the product, a row at a time. -/
theorem part_row (o : ℕ) (ho : o + 384 ≤ 3200) (h) (b : Fin 8) (s : Fin 16) (n : Fin 384) :
    part o h (pp x g w) (ix3 b s n) = pRow (nRow (row x b s) (vec g)) (mat w) o ho n :=
  (part_at o ho h _ b s n).trans (pp_at x g w b s _)

/-- The heads' norm of a part of the product. -/
theorem norm_row (o : ℕ) (ho : o + 384 ≤ 3200) (h) (q : FVec Ideal S64 .f32) (b : Fin 8) (s : Fin 16) (n : Fin 384) :
    hn (split (part o h (pp x g w))) q (ix4 b s (hd n) (hp n))
      = hNorm (pRow (nRow (row x b s) (vec g)) (mat w) o ho) (fun d => q (ix1 d)) n := by
  have e : ∀ d : Fin 64, split (part o h (pp x g w)) (ix4 b s (hd n) d)
      = pRow (nRow (row x b s) (vec g)) (mat w) o ho ⟨64 * (n.val / 64) + d.val, by omega⟩ := fun d =>
    (split_at _ b s (hd n) d).trans (part_row x g w o ho h b s _)
  have en : (⟨64 * (n.val / 64) + (hp n).val, by have := (hp n).isLt; omega⟩ : Fin 384) = n := by
    apply Fin.ext
    show 64 * (n.val / 64) + n.val % 64 = n.val
    omega
  rw [hn_at]
  unfold hNorm
  rw [e (hp n), en, Finset.sum_congr rfl fun d _ => by rw [e d]]
  rfl

variable (q : FVec Ideal S64 .f32)

/-- The queries from the arguments. -/
def resQ : FVec Ideal S128x384 .bf16 := qv (hn (split (part 0 slices_S8x16x3200_S8x16x384_0_0_0 (pp x g w))) q)
/-- The keys from the arguments. -/
def resK : FVec Ideal S128x384 .f32 := jv (hn (split (part 384 slices_S8x16x3200_S8x16x384_0_0_384 (pp x g w))) q)
/-- The values from the arguments. -/
def resV : FVec Ideal S128x384 .f32 := vv (pp x g w)

/-- The queries, at an index. -/
theorem resQ_at (R : Fin 128) (n : Fin 384) : resQ x g w q (ix2 R n)
    = hNorm (pRow (nRow (row x (rb R) (rs R)) (vec g)) (mat w) 0 (by omega)) (fun d => q (ix1 d)) n * Ideal.ofBits .f32 0x3E000000#32 := by
  unfold resQ
  rw [qv_at, norm_row x g w 0 (by omega)]

/-- The keys, at an index. -/
theorem resK_at (R : Fin 128) (n : Fin 384) : resK x g w q (ix2 R n)
    = hNorm (pRow (nRow (row x (rb R) (rs R)) (vec g)) (mat w) 384 (by omega)) (fun d => q (ix1 d)) n := by
  unfold resK
  rw [jv_at, norm_row x g w 384 (by omega)]

/-- The values, at an index. -/
theorem resV_at (R : Fin 128) (n : Fin 384) : resV x g w (ix2 R n)
    = pRow (nRow (row x (rb R) (rs R)) (vec g)) (mat w) 768 (by omega) n := by
  unfold resV
  rw [vv_at, part_row x g w 768 (by omega)]

/-- The second mixer's inputs, at an index. -/
theorem resB_at (R : Fin 128) (n : Fin 1536) : bv (pp x g w) (ix2 R n)
    = pRow (nRow (row x (rb R) (rs R)) (vec g)) (mat w) 1152 (by omega) n := by
  rw [bv_at, pp_at]
  rfl

/-- The third mixer's inputs, at an index. -/
theorem resC_at (R : Fin 128) (n : Fin 512) : cv (pp x g w) (ix2 R n)
    = pRow (nRow (row x (rb R) (rs R)) (vec g)) (mat w) 2688 (by omega) n := by
  rw [cv_at, pp_at]
  rfl

end Cert.Samp.Ref

end
-- ==== Proof.Samp.Win.lean ====
/-
  The input projection's windows at the sample streams from the arguments, row by row.
-/
module

public import proofs.«01_k».proof.Proof.Proj.Win
public import proofs.«01_k».proof.Proof.Samp.Ops
public import proofs.«01_k».proof.Proof.Samp.Ref

@[expose] public section

noncomputable section

namespace Cert.Samp

open Cert.Kernel6Ideal Cert.Kernel6Ideal.Gen
open Idealize.ShloMosaic Idealize.ShloMosaic.TcCoe Idealize.SL.Sem
open Idealize.ShloMosaic.Pipeline (Dat Cfg Window)
open Cert.Moe (brow nRow IsReal)
open Cert.Moe.Ref (mat vec)
open Cert.Samp.Ref (rb rs Rows row)
open Cert.Proj.Ref (hd hp)
open Cert.Proj (hD hD_at)

/-- The call's arguments. -/
structure Args where
  /-- The streams. -/
  x : Rows
  /-- The norm's scale. -/
  g : FVec Ideal S1024 .f32
  /-- The input projection's weight. -/
  w : FVec Ideal S1024x3200 .f32
  /-- The queries' and the keys' gains. -/
  qn : FVec Ideal S64 .f32
  kn : FVec Ideal S64 .f32

variable (m : (ℓ : Loc nD τ sig) → Buf (Elt Ideal) ℓ) (c : Dev nD)

/-- The arguments as launched. -/
def args : Args where
  x := m ((c.tc : Thread nD τ).loc main_arg0)
  g := m ((c.tc : Thread nD τ).loc main_arg1)
  w := m ((c.tc : Thread nD τ).loc main_arg2)
  qn := m ((c.tc : Thread nD τ).loc main_arg3)
  kn := m ((c.tc : Thread nD τ).loc main_arg4)

/-- The streams by rows. -/
def hX (x : FVec Ideal S8x16x1024 .f32) : FVec Ideal S128x1024 .f32 := shapeCast S128x1024 x shapeCasts_S8x16x1024_S128x1024
/-- The norm's scale as a row. -/
def hG (g : FVec Ideal S1024 .f32) : FVec Ideal S1x1024 .f32 := shapeCast S1x1024 g shapeCasts_S1024_S1x1024
/-- A gain once for every head. -/
def hT (g : FVec Ideal S64 .f32) : FVec Ideal S1x384 .f32 :=
  shapeCast S1x384 (shapeCast S384 (broadcastInDim S6x64 ![0, 1] bcast_S1x64_S6x64_0_1 (shapeCast S1x64 g shapeCasts_S64_S1x64)) shapeCasts_S6x64_S384) shapeCasts_S384_S1x384

/-- What the call's windows read, as the host code leaves it. -/
theorem V_all : V m c main_v0 = hX (args m c).x
    ∧ V m c main_v10 = hG (args m c).g
    ∧ V m c main_v1 = truncf (F := Ideal) (φ := .f32) .bf16 (args m c).w bitsLt_bf16_f32
    ∧ V m c main_v5 = hT (args m c).qn
    ∧ V m c main_v9 = hT (args m c).kn
    ∧ V m c main_v18 = hD := by
  refine ⟨?_, ?_, ?_, ?_, ?_, ?_⟩
  all_goals
    unfold V
    simp only [hostOps0, hostOps0_1, hostOps0_2, List.flatten_cons, List.flatten_nil, List.append_nil, List.cons_append, List.nil_append]
    after_results_simp
    rfl
theorem V_x : V m c main_v0 = hX (args m c).x := (V_all m c).1
theorem V_g : V m c main_v10 = hG (args m c).g := (V_all m c).2.1
theorem V_w : V m c main_v1 = truncf (F := Ideal) (φ := .f32) .bf16 (args m c).w bitsLt_bf16_f32 := (V_all m c).2.2.1
theorem V_qn : V m c main_v5 = hT (args m c).qn := (V_all m c).2.2.2.1
theorem V_kn : V m c main_v9 = hT (args m c).kn := (V_all m c).2.2.2.2.1
theorem V_d : V m c main_v18 = hD := (V_all m c).2.2.2.2.2

theorem hX_at (x : FVec Ideal S8x16x1024 .f32) (R : Fin 128) (n : Fin 1024) : hX x (ix2 R n) = x (ix3 (rb R) (rs R) n) := by
  pointwise [hX, rb, rs]
theorem hG_at (x : FVec Ideal S1024 .f32) (n : Fin 1024) : hG x (ix2 0 n) = x (ix1 n) := by
  pointwise [hG]
theorem hT_at (x : FVec Ideal S64 .f32) (n : Fin 384) : hT x (ix2 0 n) = x (ix1 (hp n)) := by
  pointwise [hT, hp]

end Cert.Samp

end
-- ==== Proof.Samp.Arr.lean ====
/-
  The input projection's output arrays at the sample streams after the run: the reference's queries, keys, values and the two other
  mixers' inputs, by rows.
-/
module

public import proofs.«01_k».proof.Proof.Samp.Win

@[expose] public section

noncomputable section

namespace Cert.Samp

open Cert.Proj (hD hD_at)

open Cert.Kernel6Ideal Cert.Kernel6Ideal.Gen
open Idealize.ShloMosaic Idealize.ShloMosaic.TcCoe Idealize.SL.Sem
open Idealize.ShloMosaic.Pipeline (Dat Cfg Window)
open Cert.Moe (brow nRow IsReal)
open Cert.Moe.Ref (mat vec)
open Cert.Proj (pRow kNorm hNorm kNorm_eq pRow_real)
open Cert.Proj.Ref (hd hp)
open Cert.Samp.Ref (rb rs row)

namespace Args
variable (A : Args)

/-- The queries. -/
def rQ : FVec Ideal S128x384 .bf16 := Ref.resQ A.x A.g A.w A.qn
/-- The keys. -/
def rK : FVec Ideal S128x384 .f32 := Ref.resK A.x A.g A.w A.kn
/-- The values. -/
def rV : FVec Ideal S128x384 .f32 := Ref.resV A.x A.g A.w
/-- The keys in bf16. -/
def rKb : FVec Ideal S128x384 .bf16 := truncf (F := Ideal) (φ := .f32) .bf16 A.rK bitsLt_bf16_f32
/-- The values in bf16. -/
def rVb : FVec Ideal S128x384 .bf16 := truncf (F := Ideal) (φ := .f32) .bf16 A.rV bitsLt_bf16_f32
/-- The second mixer's inputs. -/
def rB : FVec Ideal S128x1536 .f32 := Ref.bv (Ref.pp A.x A.g A.w)
/-- The third mixer's inputs. -/
def rC : FVec Ideal S128x512 .f32 := Ref.cv (Ref.pp A.x A.g A.w)

/-- The norm's scale and the queries' and keys' part of the weight are real numbers. -/
structure Real : Prop where
  g : ∀ n : Fin 1024, IsReal (A.g (ix1 n))
  w : ∀ (k : Fin 1024) (j : Fin 768), IsReal (A.w (ix2 k ⟨j.val, by omega⟩))

/-- A row's normed product with the queries' or keys' columns is real. -/
theorem Real.proj {A : Args} (h : A.Real) (b : Fin 8) (s : Fin 16) (o : ℕ) (ho : o + 384 ≤ 3200) (ho' : o + 384 ≤ 768) (j : Fin 384) :
    IsReal (pRow (nRow (row A.x b s) (vec A.g)) (mat A.w) o ho j) :=
  pRow_real _ _ o ho (fun k => Moe.nRow_real _ _ h.g k) j fun k => h.w k ⟨o + j.val, by omega⟩
end Args

variable (m : (ℓ : Loc nD τ sig) → Buf (Elt Ideal) ℓ) (c : Dev nD)

theorem grid_N : grid0.N = 1 := by decide +kernel

theorem idx0 : ∀ t : Fin grid0.N, win0_0.index t (0 : Fin 2) = 0 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem flush6 : ∀ t : Fin grid0.N, win0_6.flush t = true := by decide +kernel
theorem idx6 : ∀ t : Fin grid0.N, win0_6.index t (0 : Fin 2) = 0 ∧ win0_6.index t (1 : Fin 2) = 0 := by decide +kernel
theorem flush7 : ∀ t : Fin grid0.N, win0_7.flush t = true := by decide +kernel
theorem idx7 : ∀ t : Fin grid0.N, win0_7.index t (0 : Fin 2) = 0 ∧ win0_7.index t (1 : Fin 2) = 0 := by decide +kernel
theorem flush8 : ∀ t : Fin grid0.N, win0_8.flush t = true := by decide +kernel
theorem idx8 : ∀ t : Fin grid0.N, win0_8.index t (0 : Fin 2) = 0 ∧ win0_8.index t (1 : Fin 2) = 0 := by decide +kernel
theorem flush9 : ∀ t : Fin grid0.N, win0_9.flush t = true := by decide +kernel
theorem idx9 : ∀ t : Fin grid0.N, win0_9.index t (0 : Fin 2) = 0 ∧ win0_9.index t (1 : Fin 2) = 0 := by decide +kernel
theorem flush10 : ∀ t : Fin grid0.N, win0_10.flush t = true := by decide +kernel
theorem idx10 : ∀ t : Fin grid0.N, win0_10.index t (0 : Fin 2) = 0 ∧ win0_10.index t (1 : Fin 2) = 0 := by decide +kernel
theorem flush11 : ∀ t : Fin grid0.N, win0_11.flush t = true := by decide +kernel
theorem idx11 : ∀ t : Fin grid0.N, win0_11.index t (0 : Fin 2) = 0 ∧ win0_11.index t (1 : Fin 2) = 0 := by decide +kernel
theorem flush12 : ∀ t : Fin grid0.N, win0_12.flush t = true := by decide +kernel
theorem idx12 : ∀ t : Fin grid0.N, win0_12.index t (0 : Fin 2) = 0 ∧ win0_12.index t (1 : Fin 2) = 0 := by decide +kernel

variable (t : Fin cfg0.N)

theorem emb0 (j : S128x1024.Idx) : ((cfg0.win 0).blk t).view.emb j = j := by
  obtain ⟨e0, e1⟩ := idx0 t
  funext a; apply Fin.ext
  match a with
  | ⟨0, _⟩ => show win0_0.index t (0 : Fin 2) * 128 + 1 * (j 0).val = (j 0).val; omega
  | ⟨1, _⟩ => show win0_0.index t (1 : Fin 2) * 1024 + 1 * (j 1).val = (j 1).val; omega

theorem emb1 (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb2 (j : S1024x3200.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 3200 + 1 * (j 1).val = (j 1).val; omega

theorem emb3 (j : S1x384.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 384 + 1 * (j 1).val = (j 1).val; omega

theorem emb4 (j : S1x384.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 384 + 1 * (j 1).val = (j 1).val; omega

theorem emb5 (j : S384x384.Idx) : ((cfg0.win 5).blk t).view.emb j = j := by
  obtain ⟨e0, e1⟩ := idx5 t
  funext a; apply Fin.ext
  match a with
  | ⟨0, _⟩ => show win0_5.index t (0 : Fin 2) * 384 + 1 * (j 0).val = (j 0).val; omega
  | ⟨1, _⟩ => show win0_5.index t (1 : Fin 2) * 384 + 1 * (j 1).val = (j 1).val; omega

theorem emb6 (j : S128x384.Idx) : ((cfg0.win 6).blk t).view.emb j = j := by
  obtain ⟨e0, e1⟩ := idx6 t
  funext a; apply Fin.ext
  match a with
  | ⟨0, _⟩ => show win0_6.index t (0 : Fin 2) * 128 + 1 * (j 0).val = (j 0).val; omega
  | ⟨1, _⟩ => show win0_6.index t (1 : Fin 2) * 384 + 1 * (j 1).val = (j 1).val; omega

theorem emb7 (j : S128x384.Idx) : ((cfg0.win 7).blk t).view.emb j = j := by
  obtain ⟨e0, e1⟩ := idx7 t
  funext a; apply Fin.ext
  match a with
  | ⟨0, _⟩ => show win0_7.index t (0 : Fin 2) * 128 + 1 * (j 0).val = (j 0).val; omega
  | ⟨1, _⟩ => show win0_7.index t (1 : Fin 2) * 384 + 1 * (j 1).val = (j 1).val; omega

theorem emb8 (j : S128x384.Idx) : ((cfg0.win 8).blk t).view.emb j = j := by
  obtain ⟨e0, e1⟩ := idx8 t
  funext a; apply Fin.ext
  match a with
  | ⟨0, _⟩ => show win0_8.index t (0 : Fin 2) * 128 + 1 * (j 0).val = (j 0).val; omega
  | ⟨1, _⟩ => show win0_8.index t (1 : Fin 2) * 384 + 1 * (j 1).val = (j 1).val; omega

theorem emb9 (j : S128x384.Idx) : ((cfg0.win 9).blk t).view.emb j = j := by
  obtain ⟨e0, e1⟩ := idx9 t
  funext a; apply Fin.ext
  match a with
  | ⟨0, _⟩ => show win0_9.index t (0 : Fin 2) * 128 + 1 * (j 0).val = (j 0).val; omega
  | ⟨1, _⟩ => show win0_9.index t (1 : Fin 2) * 384 + 1 * (j 1).val = (j 1).val; omega

theorem emb10 (j : S128x384.Idx) : ((cfg0.win 10).blk t).view.emb j = j := by
  obtain ⟨e0, e1⟩ := idx10 t
  funext a; apply Fin.ext
  match a with
  | ⟨0, _⟩ => show win0_10.index t (0 : Fin 2) * 128 + 1 * (j 0).val = (j 0).val; omega
  | ⟨1, _⟩ => show win0_10.index t (1 : Fin 2) * 384 + 1 * (j 1).val = (j 1).val; omega

theorem emb11 (j : S128x1536.Idx) : ((cfg0.win 11).blk t).view.emb j = j := by
  obtain ⟨e0, e1⟩ := idx11 t
  funext a; apply Fin.ext
  match a with
  | ⟨0, _⟩ => show win0_11.index t (0 : Fin 2) * 128 + 1 * (j 0).val = (j 0).val; omega
  | ⟨1, _⟩ => show win0_11.index t (1 : Fin 2) * 1536 + 1 * (j 1).val = (j 1).val; omega

theorem emb12 (j : S128x512.Idx) : ((cfg0.win 12).blk t).view.emb j = j := by
  obtain ⟨e0, e1⟩ := idx12 t
  funext a; apply Fin.ext
  match a with
  | ⟨0, _⟩ => show win0_12.index t (0 : Fin 2) * 128 + 1 * (j 0).val = (j 0).val; omega
  | ⟨1, _⟩ => show win0_12.index t (1 : Fin 2) * 512 + 1 * (j 1).val = (j 1).val; omega

theorem blk0 (R : Fin 128) : brow (iblk m c 0 t) R = row (args m c).x (rb R) (rs R) := by
  funext n
  show V m c main_v0 (((cfg0.win 0).blk t).view.emb (ix2 R n)) = _
  rw [emb0, V_x, hX_at]
  rfl

theorem blk1 : (fun n => iblk m c 1 t (ix2 0 n)) = vec (args m c).g := by
  funext n
  show V m c main_v10 (((cfg0.win 1).blk t).view.emb (ix2 0 n)) = _
  rw [emb1, V_g, hG_at]
  rfl

theorem blk2 : brow (iblk m c 2 t) = mat (args m c).w := by
  funext k n
  show V m c main_v1 (((cfg0.win 2).blk t).view.emb (ix2 k n)) = _
  rw [emb2, V_w]
  rfl

theorem blk3 (n : Fin 384) : iblk m c 3 t (ix2 0 n) = (args m c).qn (ix1 (hp n)) := by
  show V m c main_v5 (((cfg0.win 3).blk t).view.emb (ix2 0 n)) = _
  rw [emb3, V_qn, hT_at]

theorem blk4 (n : Fin 384) : iblk m c 4 t (ix2 0 n) = (args m c).kn (ix1 (hp n)) := by
  show V m c main_v9 (((cfg0.win 4).blk t).view.emb (ix2 0 n)) = _
  rw [emb4, V_kn, hT_at]

theorem blk5 (j n : Fin 384) : brow (iblk m c 5 t) j n = if j.val / 64 = n.val / 64 then 1 else 0 := by
  show V m c main_v18 (((cfg0.win 5).blk t).view.emb (ix2 j n)) = _
  rw [emb5, V_d, hD_at]

/-- The point's block of the queries is the reference's. -/
theorem out_block6 (hr : (args m c).Real) (R : Fin 128) (n : Fin 384) :
    out0_6 (iblk m c 0 t) (iblk m c 1 t) (iblk m c 2 t) (iblk m c 3 t) (iblk m c 4 t) (iblk m c 5 t) (ix2 R n) = (args m c).rQ (ix2 R n) := by
  refine (out6_at _ _ _ _ _ _ R n).trans ?_
  rw [blk0, blk1, blk2]
  unfold Args.rQ
  rw [Ref.resQ_at]
  exact congrArg (· * _) (kNorm_eq _ (fun j => hr.proj _ _ 0 (by omega) (by omega) j) _ (blk5 m c t) _ (fun d => (args m c).qn (ix1 d)) (fun n => blk3 m c t n) n)

/-- What the point writes back is the queries. -/
theorem flushed_eq6 (hr : (args m c).Real) : (dats m 0 c).flushed 6 t = ((cfg0.win 6).blk t).view.read (Elt Ideal) (args m c).rQ := by
  rw [Value.flushed6]
  funext j
  show out0_6 (iblk m c 0 t) (iblk m c 1 t) (iblk m c 2 t) (iblk m c 3 t) (iblk m c 4 t) (iblk m c 5 t) j = (args m c).rQ (((cfg0.win 6).blk t).view.emb j)
  have e : j = (ix2 (j 0) (j 1) : S128x384.Idx) := by
    funext a; fin_cases a <;> rfl
  rw [e]
  exact (out_block6 m c t hr (j 0) (j 1)).trans (congrArg (args m c).rQ (emb6 t (ix2 (j 0) (j 1))).symm)

/-- Every index of the queries lies in the point's block. -/
theorem covered6 (i : S128x384.Idx) : ∃ t : Fin cfg0.N, (cfg0.win 6).flush t = true ∧ i ∈ ((cfg0.win 6).blk t).view.set := by
  have hN : 0 < grid0.N := by rw [grid_N]; omega
  refine ⟨⟨0, hN⟩, flush6 _, ?_⟩
  have h := ((cfg0.win 6).blk ⟨0, hN⟩).view.emb_mem_set i
  have e : ((cfg0.win 6).blk ⟨0, hN⟩).view.emb i = i := emb6 _ i
  rw [e] at h
  exact h

/-- The array of the queries after the run. -/
theorem final6 (hr : (args m c).Real) : (dats m 0 c).arrAt 6 cfg0.N = (args m c).rQ :=
  (dats m 0 c).arrAt_eq_of_cover 6 (args m c).rQ (fun t _ => flushed_eq6 m c t hr) covered6

/-- The point's block of the keys is the reference's. -/
theorem out_block7 (hr : (args m c).Real) (R : Fin 128) (n : Fin 384) :
    out0_7 (iblk m c 0 t) (iblk m c 1 t) (iblk m c 2 t) (iblk m c 3 t) (iblk m c 4 t) (iblk m c 5 t) (ix2 R n) = (args m c).rK (ix2 R n) := by
  refine (out7_at _ _ _ _ _ _ R n).trans ?_
  rw [blk0, blk1, blk2]
  unfold Args.rK
  rw [Ref.resK_at]
  exact kNorm_eq _ (fun j => hr.proj _ _ 384 (by omega) (by omega) j) _ (blk5 m c t) _ (fun d => (args m c).kn (ix1 d)) (fun n => blk4 m c t n) n

/-- What the point writes back is the keys. -/
theorem flushed_eq7 (hr : (args m c).Real) : (dats m 0 c).flushed 7 t = ((cfg0.win 7).blk t).view.read (Elt Ideal) (args m c).rK := by
  rw [Value.flushed7]
  funext j
  show out0_7 (iblk m c 0 t) (iblk m c 1 t) (iblk m c 2 t) (iblk m c 3 t) (iblk m c 4 t) (iblk m c 5 t) j = (args m c).rK (((cfg0.win 7).blk t).view.emb j)
  have e : j = (ix2 (j 0) (j 1) : S128x384.Idx) := by
    funext a; fin_cases a <;> rfl
  rw [e]
  exact (out_block7 m c t hr (j 0) (j 1)).trans (congrArg (args m c).rK (emb7 t (ix2 (j 0) (j 1))).symm)

/-- Every index of the keys lies in the point's block. -/
theorem covered7 (i : S128x384.Idx) : ∃ t : Fin cfg0.N, (cfg0.win 7).flush t = true ∧ i ∈ ((cfg0.win 7).blk t).view.set := by
  have hN : 0 < grid0.N := by rw [grid_N]; omega
  refine ⟨⟨0, hN⟩, flush7 _, ?_⟩
  have h := ((cfg0.win 7).blk ⟨0, hN⟩).view.emb_mem_set i
  have e : ((cfg0.win 7).blk ⟨0, hN⟩).view.emb i = i := emb7 _ i
  rw [e] at h
  exact h

/-- The array of the keys after the run. -/
theorem final7 (hr : (args m c).Real) : (dats m 0 c).arrAt 7 cfg0.N = (args m c).rK :=
  (dats m 0 c).arrAt_eq_of_cover 7 (args m c).rK (fun t _ => flushed_eq7 m c t hr) covered7

/-- The point's block of the values is the reference's. -/
theorem out_block8 (R : Fin 128) (n : Fin 384) :
    out0_8 (iblk m c 0 t) (iblk m c 1 t) (iblk m c 2 t) (iblk m c 3 t) (iblk m c 4 t) (iblk m c 5 t) (ix2 R n) = (args m c).rV (ix2 R n) := by
  refine (out8_at _ _ _ _ _ _ R n).trans ?_
  rw [blk0, blk1, blk2]
  unfold Args.rV
  rw [Ref.resV_at]

/-- What the point writes back is the values. -/
theorem flushed_eq8 : (dats m 0 c).flushed 8 t = ((cfg0.win 8).blk t).view.read (Elt Ideal) (args m c).rV := by
  rw [Value.flushed8]
  funext j
  show out0_8 (iblk m c 0 t) (iblk m c 1 t) (iblk m c 2 t) (iblk m c 3 t) (iblk m c 4 t) (iblk m c 5 t) j = (args m c).rV (((cfg0.win 8).blk t).view.emb j)
  have e : j = (ix2 (j 0) (j 1) : S128x384.Idx) := by
    funext a; fin_cases a <;> rfl
  rw [e]
  exact (out_block8 m c t (j 0) (j 1)).trans (congrArg (args m c).rV (emb8 t (ix2 (j 0) (j 1))).symm)

/-- Every index of the values lies in the point's block. -/
theorem covered8 (i : S128x384.Idx) : ∃ t : Fin cfg0.N, (cfg0.win 8).flush t = true ∧ i ∈ ((cfg0.win 8).blk t).view.set := by
  have hN : 0 < grid0.N := by rw [grid_N]; omega
  refine ⟨⟨0, hN⟩, flush8 _, ?_⟩
  have h := ((cfg0.win 8).blk ⟨0, hN⟩).view.emb_mem_set i
  have e : ((cfg0.win 8).blk ⟨0, hN⟩).view.emb i = i := emb8 _ i
  rw [e] at h
  exact h

/-- The array of the values after the run. -/
theorem final8 : (dats m 0 c).arrAt 8 cfg0.N = (args m c).rV :=
  (dats m 0 c).arrAt_eq_of_cover 8 (args m c).rV (fun t _ => flushed_eq8 m c t) covered8

/-- The point's block of the keys in bf16 is the reference's. -/
theorem out_block9 (hr : (args m c).Real) (R : Fin 128) (n : Fin 384) :
    out0_9 (iblk m c 0 t) (iblk m c 1 t) (iblk m c 2 t) (iblk m c 3 t) (iblk m c 4 t) (iblk m c 5 t) (ix2 R n) = (args m c).rKb (ix2 R n) := by
  refine (out9_at _ _ _ _ _ _ R n).trans ?_
  refine (out7_at (iblk m c 0 t) (iblk m c 1 t) (iblk m c 2 t) (iblk m c 3 t) (iblk m c 4 t) (iblk m c 5 t) R n).symm.trans ?_
  exact out_block7 m c t hr R n

/-- What the point writes back is the keys in bf16. -/
theorem flushed_eq9 (hr : (args m c).Real) : (dats m 0 c).flushed 9 t = ((cfg0.win 9).blk t).view.read (Elt Ideal) (args m c).rKb := by
  rw [Value.flushed9]
  funext j
  show out0_9 (iblk m c 0 t) (iblk m c 1 t) (iblk m c 2 t) (iblk m c 3 t) (iblk m c 4 t) (iblk m c 5 t) j = (args m c).rKb (((cfg0.win 9).blk t).view.emb j)
  have e : j = (ix2 (j 0) (j 1) : S128x384.Idx) := by
    funext a; fin_cases a <;> rfl
  rw [e]
  exact (out_block9 m c t hr (j 0) (j 1)).trans (congrArg (args m c).rKb (emb9 t (ix2 (j 0) (j 1))).symm)

/-- Every index of the keys in bf16 lies in the point's block. -/
theorem covered9 (i : S128x384.Idx) : ∃ t : Fin cfg0.N, (cfg0.win 9).flush t = true ∧ i ∈ ((cfg0.win 9).blk t).view.set := by
  have hN : 0 < grid0.N := by rw [grid_N]; omega
  refine ⟨⟨0, hN⟩, flush9 _, ?_⟩
  have h := ((cfg0.win 9).blk ⟨0, hN⟩).view.emb_mem_set i
  have e : ((cfg0.win 9).blk ⟨0, hN⟩).view.emb i = i := emb9 _ i
  rw [e] at h
  exact h

/-- The array of the keys in bf16 after the run. -/
theorem final9 (hr : (args m c).Real) : (dats m 0 c).arrAt 9 cfg0.N = (args m c).rKb :=
  (dats m 0 c).arrAt_eq_of_cover 9 (args m c).rKb (fun t _ => flushed_eq9 m c t hr) covered9

/-- The point's block of the values in bf16 is the reference's. -/
theorem out_block10 (R : Fin 128) (n : Fin 384) :
    out0_10 (iblk m c 0 t) (iblk m c 1 t) (iblk m c 2 t) (iblk m c 3 t) (iblk m c 4 t) (iblk m c 5 t) (ix2 R n) = (args m c).rVb (ix2 R n) := by
  refine (out10_at _ _ _ _ _ _ R n).trans ?_
  refine (out8_at (iblk m c 0 t) (iblk m c 1 t) (iblk m c 2 t) (iblk m c 3 t) (iblk m c 4 t) (iblk m c 5 t) R n).symm.trans ?_
  exact out_block8 m c t R n

/-- What the point writes back is the values in bf16. -/
theorem flushed_eq10 : (dats m 0 c).flushed 10 t = ((cfg0.win 10).blk t).view.read (Elt Ideal) (args m c).rVb := by
  rw [Value.flushed10]
  funext j
  show out0_10 (iblk m c 0 t) (iblk m c 1 t) (iblk m c 2 t) (iblk m c 3 t) (iblk m c 4 t) (iblk m c 5 t) j = (args m c).rVb (((cfg0.win 10).blk t).view.emb j)
  have e : j = (ix2 (j 0) (j 1) : S128x384.Idx) := by
    funext a; fin_cases a <;> rfl
  rw [e]
  exact (out_block10 m c t (j 0) (j 1)).trans (congrArg (args m c).rVb (emb10 t (ix2 (j 0) (j 1))).symm)

/-- Every index of the values in bf16 lies in the point's block. -/
theorem covered10 (i : S128x384.Idx) : ∃ t : Fin cfg0.N, (cfg0.win 10).flush t = true ∧ i ∈ ((cfg0.win 10).blk t).view.set := by
  have hN : 0 < grid0.N := by rw [grid_N]; omega
  refine ⟨⟨0, hN⟩, flush10 _, ?_⟩
  have h := ((cfg0.win 10).blk ⟨0, hN⟩).view.emb_mem_set i
  have e : ((cfg0.win 10).blk ⟨0, hN⟩).view.emb i = i := emb10 _ i
  rw [e] at h
  exact h

/-- The array of the values in bf16 after the run. -/
theorem final10 : (dats m 0 c).arrAt 10 cfg0.N = (args m c).rVb :=
  (dats m 0 c).arrAt_eq_of_cover 10 (args m c).rVb (fun t _ => flushed_eq10 m c t) covered10

/-- The point's block of the second mixer's inputs is the reference's. -/
theorem out_block11 (R : Fin 128) (n : Fin 1536) :
    out0_11 (iblk m c 0 t) (iblk m c 1 t) (iblk m c 2 t) (iblk m c 3 t) (iblk m c 4 t) (iblk m c 5 t) (ix2 R n) = (args m c).rB (ix2 R n) := by
  refine (out11_at _ _ _ _ _ _ R n).trans ?_
  rw [blk0, blk1, blk2]
  unfold Args.rB
  rw [Ref.resB_at]

/-- What the point writes back is the second mixer's inputs. -/
theorem flushed_eq11 : (dats m 0 c).flushed 11 t = ((cfg0.win 11).blk t).view.read (Elt Ideal) (args m c).rB := by
  rw [Value.flushed11]
  funext j
  show out0_11 (iblk m c 0 t) (iblk m c 1 t) (iblk m c 2 t) (iblk m c 3 t) (iblk m c 4 t) (iblk m c 5 t) j = (args m c).rB (((cfg0.win 11).blk t).view.emb j)
  have e : j = (ix2 (j 0) (j 1) : S128x1536.Idx) := by
    funext a; fin_cases a <;> rfl
  rw [e]
  exact (out_block11 m c t (j 0) (j 1)).trans (congrArg (args m c).rB (emb11 t (ix2 (j 0) (j 1))).symm)

/-- Every index of the second mixer's inputs lies in the point's block. -/
theorem covered11 (i : S128x1536.Idx) : ∃ t : Fin cfg0.N, (cfg0.win 11).flush t = true ∧ i ∈ ((cfg0.win 11).blk t).view.set := by
  have hN : 0 < grid0.N := by rw [grid_N]; omega
  refine ⟨⟨0, hN⟩, flush11 _, ?_⟩
  have h := ((cfg0.win 11).blk ⟨0, hN⟩).view.emb_mem_set i
  have e : ((cfg0.win 11).blk ⟨0, hN⟩).view.emb i = i := emb11 _ i
  rw [e] at h
  exact h

/-- The array of the second mixer's inputs after the run. -/
theorem final11 : (dats m 0 c).arrAt 11 cfg0.N = (args m c).rB :=
  (dats m 0 c).arrAt_eq_of_cover 11 (args m c).rB (fun t _ => flushed_eq11 m c t) covered11

/-- The point's block of the third mixer's inputs is the reference's. -/
theorem out_block12 (R : Fin 128) (n : Fin 512) :
    out0_12 (iblk m c 0 t) (iblk m c 1 t) (iblk m c 2 t) (iblk m c 3 t) (iblk m c 4 t) (iblk m c 5 t) (ix2 R n) = (args m c).rC (ix2 R n) := by
  refine (out12_at _ _ _ _ _ _ R n).trans ?_
  rw [blk0, blk1, blk2]
  unfold Args.rC
  rw [Ref.resC_at]

/-- What the point writes back is the third mixer's inputs. -/
theorem flushed_eq12 : (dats m 0 c).flushed 12 t = ((cfg0.win 12).blk t).view.read (Elt Ideal) (args m c).rC := by
  rw [Value.flushed12]
  funext j
  show out0_12 (iblk m c 0 t) (iblk m c 1 t) (iblk m c 2 t) (iblk m c 3 t) (iblk m c 4 t) (iblk m c 5 t) j = (args m c).rC (((cfg0.win 12).blk t).view.emb j)
  have e : j = (ix2 (j 0) (j 1) : S128x512.Idx) := by
    funext a; fin_cases a <;> rfl
  rw [e]
  exact (out_block12 m c t (j 0) (j 1)).trans (congrArg (args m c).rC (emb12 t (ix2 (j 0) (j 1))).symm)

/-- Every index of the third mixer's inputs lies in the point's block. -/
theorem covered12 (i : S128x512.Idx) : ∃ t : Fin cfg0.N, (cfg0.win 12).flush t = true ∧ i ∈ ((cfg0.win 12).blk t).view.set := by
  have hN : 0 < grid0.N := by rw [grid_N]; omega
  refine ⟨⟨0, hN⟩, flush12 _, ?_⟩
  have h := ((cfg0.win 12).blk ⟨0, hN⟩).view.emb_mem_set i
  have e : ((cfg0.win 12).blk ⟨0, hN⟩).view.emb i = i := emb12 _ i
  rw [e] at h
  exact h

/-- The array of the third mixer's inputs after the run. -/
theorem final12 : (dats m 0 c).arrAt 12 cfg0.N = (args m c).rC :=
  (dats m 0 c).arrAt_eq_of_cover 12 (args m c).rC (fun t _ => flushed_eq12 m c t) covered12

end Cert.Samp

end
-- ==== Proof.Samp.Algebraic.lean ====
/-
  The input projection's call at the sample streams: its frames, the finite norm scale and weight from the precondition, and the value claim.
-/
module

public import proofs.«01_k».proof.Proof.Algebraic
public import proofs.«01_k».proof.Proof.Samp.Arr
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

noncomputable section

namespace Cert.Samp

open Idealize.ShloMosaic Idealize.ShloMosaic.TcCoe Idealize.SL.Sem
open Cert.Moe (IsReal)

attribute [local instance] Cert.Kernel6.Gen.facts Cert.Kernel6Ideal.Gen.facts Cert.Reference6Ideal.Gen.facts

/-- The precondition's side conditions. -/
theorem pre_facts : Cert.Pre_finite6.Facts where
  bcast_S_S1024 := by decide
  reducesTo_S1024_S_d0 := by decide
  h_S_ := by decide
  slices_S1024x3200_S1024x768_0_0 := by decide
  bcast_S_S1024x768 := by decide
  reducesTo_S1024x768_S_d0_1 := by decide

attribute [local instance] pre_facts

/-- The kernel changes no argument and leaves no counter. -/
theorem frame_p : Cert.quiescent_Kernel6 := fun m ρ _ => Cert.Kernel6.Gen.frame m ρ
/-- The kernel over the extended reals changes no argument and leaves no counter. -/
theorem frame_pi : Cert.quiescent_Kernel6Ideal := fun m ρ _ => Cert.Kernel6Ideal.Gen.frame m ρ
/-- The same under the precondition. -/
theorem frame_pi_pre : Cert.quiescent_Kernel6Ideal_pre_finite6 := fun m ρ _ => Cert.Kernel6Ideal.Gen.frame m ρ
/-- The reference changes no argument and leaves no counter. -/
theorem frame_ri : Cert.quiescent_Reference6Ideal := fun m ρ _ =>
  (θ_run Cert.Reference6Ideal.defs _ _).mono (fun r h => ⟨fun c => (h c).2.2.2.2.2.2.2,
      Idealize.ShloMosaic.sem_eq_zero_of_no_sems (by decide) r.2⟩)
    (Cert.Reference6Ideal.Value.run (F := Ideal) m ρ)
/-- The same under the precondition. -/
theorem frame_ri_pre : Cert.quiescent_Reference6Ideal_pre_finite6 := fun m ρ _ => frame_ri m ρ trivial

instance : Subsingleton Cert.Pre_finite6.S_.Idx := ⟨fun a b => funext fun i => i.elim0⟩

/-- The precondition makes the norm's scale and the queries' and keys' part of the weight real numbers. -/
theorem real_args (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) : (args m c).Real := by
  have h1 := congrFun (h c) (fun a => a.elim0)
  unfold Cert.Pre_finite6.fn at h1
  obtain ⟨ha, hb⟩ := IntOp.andi_eq_one.1 h1
  refine ⟨fun n => ?_, fun k j => ?_⟩
  · have := Cert.Proof.Value.finite_of_lt _ (Host.reduce_andi_all _ _ _ _ _ ha (ix1 n))
    exact IsReal.of_ne this
  · have := Cert.Proof.Value.finite_of_lt _ (Host.reduce_andi_all _ _ _ _ _ hb (ix2 k j))
    refine IsReal.of_ne ?_
    have e : (args m c).w (ix2 k ⟨j.val, by omega⟩) = extractStridedSlice Cert.Pre_finite6.S1024x768 ![0, 0] (args m c).w Cert.Pre_finite6.Facts.slices_S1024x3200_S1024x768_0_0 (ix2 k j) := by
      refine congrArg (args m c).w ?_
      funext a; apply Fin.ext
      match a with
      | ⟨0, _⟩ => exact (Nat.zero_add _).symm
      | ⟨1, _⟩ => exact (Nat.zero_add _).symm
    rw [e]
    exact this

/-- With a real norm scale and real queries' and keys' columns the kernel's seven arrays and the reference's are equal. -/
theorem algebraic : Cert.algebraic_Kernel6Ideal_Reference6Ideal_pre_finite6 := by
  intro m ρ m' ρ' hpre hagree
  have hr := fun c => real_args m hpre c
  refine ⟨fun c => (args m c).rQ, fun c => (args m c).rK, fun c => (args m c).rV, fun c => (args m c).rKb, fun c => (args m c).rVb,
    fun c => (args m c).rB, fun c => (args m c).rC, (θ_run Cert.Kernel6Ideal.defs _ _).mono (fun _ h c => ?_)
    (Cert.Kernel6Ideal.Value.run_blocks m ρ), ?_⟩
  · obtain ⟨h0, h1, h2, h3, h4, h5, h6, hk⟩ := h c
    exact ⟨h0.trans (final6 m c (hr c)), h1.trans (final7 m c (hr c)), h2.trans (final8 m c), h3.trans (final9 m c (hr c)),
      h4.trans (final10 m c), h5.trans (final11 m c), h6.trans (final12 m c), hk⟩
  refine (θ_run Cert.Reference6Ideal.defs _ _).mono (fun _ h c => ?_) (Cert.Reference6Ideal.Value.run (F := Ideal) m' ρ')
  obtain ⟨h0, h1, h2, h3, h4, h5, h6, hk⟩ := h c
  obtain ⟨e0, e1, e2, e3, e4⟩ := hagree c
  refine ⟨h0.trans ?_, h1.trans ?_, h2.trans ?_, h3.trans ?_, h4.trans ?_, h5.trans ?_, h6.trans ?_, hk⟩
  · unfold args Args.rQ
    dsimp only
    rw [← e0, ← e1, ← e2, ← e3]
    rfl
  · unfold args Args.rK
    dsimp only
    rw [← e0, ← e1, ← e2, ← e4]
    rfl
  · unfold args Args.rV
    dsimp only
    rw [← e0, ← e1, ← e2]
    rfl
  · unfold args Args.rKb Args.rK
    dsimp only
    rw [← e0, ← e1, ← e2, ← e4]
    rfl
  · unfold args Args.rVb Args.rV
    dsimp only
    rw [← e0, ← e1, ← e2]
    rfl
  · unfold args Args.rB
    dsimp only
    rw [← e0, ← e1, ← e2]
    rfl
  · unfold args Args.rC
    dsimp only
    rw [← e0, ← e1, ← e2]
    rfl

end Cert.Samp

end
-- ==== Proof.Hgrn.Spec.lean ====
/-
  The gated recurrence's state over one block: a column's log decay, its running sums, and the state's entry.
-/
module

public import proofs.«01_k».proof.Proof.Moe.Spec

@[expose] public section

noncomputable section

namespace Cert.Hgrn

open Idealize.ShloMosaic
open Cert.Moe (IsReal)

/-- The logarithm of one plus the exponential of minus the size. -/
def sp (x : EReal) : EReal := Ideal.log (1 + Ideal.exp (0 - max x (-x)))

/-- The log decay as the kernel forms it, from the logarithms of the bound and of its complement. -/
def lf (L M z : EReal) : EReal := max L (M + (min z 0 - sp z)) + sp (L - (M + (min z 0 - sp z)))

/-- The log decay as the reference forms it. -/
def rlf (L M z : EReal) : EReal :=
  max L (M + -(max (-z) 0 + Ideal.log1p (Ideal.exp (-(max (-z - 0) (-(-z - 0)))))))
    + Ideal.log1p (Ideal.exp (-(max (L - (M + -(max (-z) 0 + Ideal.log1p (Ideal.exp (-(max (-z - 0) (-(-z - 0))))))))
        (-(L - (M + -(max (-z) 0 + Ideal.log1p (Ideal.exp (-(max (-z - 0) (-(-z - 0))))))))))))

/-- The running sum. -/
def cum (f : Fin 16 → EReal) (t : Fin 16) : EReal := ∑ s : Fin 16, if s.val ≤ t.val then f s else 0

/-- The input's weight as the kernel forms it. -/
def wt (o z : EReal) : EReal := o * Ideal.exp (min (0 - z) 0 - sp z)

/-- One entry of the state after the block. -/
def st (f w v : Fin 16 → EReal) (s0 : EReal) : EReal :=
  s0 * Ideal.exp (cum f 15) + ∑ s : Fin 16, v s * (w s * Ideal.exp (cum f 15 - cum f s))

/-- The larger of two real numbers. -/
theorem cmax (a b : ℝ) : max (a : EReal) (b : EReal) = ((max a b : ℝ) : EReal) := (EReal.coe_strictMono.monotone.map_max).symm
/-- The smaller of two real numbers. -/
theorem cmin (a b : ℝ) : min (a : EReal) (b : EReal) = ((min a b : ℝ) : EReal) := (EReal.coe_strictMono.monotone.map_min).symm

/-- The logarithm of a positive real is real. -/
theorem log_pos {r : ℝ} (h : 0 < r) : Ideal.log (r : EReal) = (Real.log r : EReal) := by
  show (if r ≤ 0 then (⊥ : EReal) else (Real.log r : EReal)) = _
  rw [if_neg (not_le.mpr h)]

/-- The exponential of a real number. -/
theorem exp_coe (r : ℝ) : Ideal.exp (r : EReal) = (Real.exp r : EReal) := rfl

/-- At a real number. -/
theorem sp_coe (r : ℝ) : sp (r : EReal) = (Real.log (1 + Real.exp (-|r|)) : EReal) := by
  have e : (0 : EReal) - max (r : EReal) (-(r : EReal)) = ((-|r| : ℝ) : EReal) := by
    rw [← EReal.coe_neg, cmax, ← EReal.coe_zero, ← EReal.coe_sub, zero_sub]
    rfl
  unfold sp
  rw [e, exp_coe, ← EReal.coe_one, ← EReal.coe_add, log_pos (by positivity)]

/-- The other spelling of the same. -/
theorem sp_log1p (x : EReal) : Ideal.log1p (Ideal.exp (-(max x (-x)))) = sp x := by
  unfold sp Ideal.log1p
  rw [zero_sub]

/-- At an infinite entry. -/
theorem sp_top : sp ⊤ = 0 := by
  unfold sp
  rw [max_eq_left le_top, zero_sub, EReal.neg_top]
  show Ideal.log (1 + 0) = 0
  rw [add_zero, ← EReal.coe_one, log_pos one_pos, Real.log_one, EReal.coe_zero]

/-- At the other infinite entry. -/
theorem sp_bot : sp ⊥ = 0 := by
  rw [← sp_top]
  unfold sp
  rw [EReal.neg_bot, EReal.neg_top, max_comm]

/-- The logarithm of the sigmoid, both ways. -/
theorem lsg (z : EReal) : -(max (-z) 0 + Ideal.log1p (Ideal.exp (-(max (-z - 0) (-(-z - 0)))))) = min z 0 - sp z := by
  rw [sub_zero, sp_log1p]
  induction z with
  | bot => rw [EReal.neg_bot, sp_top, sp_bot, max_eq_left le_top, min_eq_left bot_le, add_zero, sub_zero, EReal.neg_top]
  | top => rw [EReal.neg_top, sp_top, sp_bot, max_eq_right bot_le, min_eq_right le_top, add_zero, sub_zero, neg_zero]
  | coe r =>
    rw [← EReal.coe_neg, sp_coe, sp_coe, abs_neg, ← EReal.coe_zero, cmax, ← EReal.coe_add, ← EReal.coe_neg, cmin, ← EReal.coe_sub, EReal.coe_eq_coe_iff]
    rcases le_total 0 r with h | h
    · rw [max_eq_right (by linarith), min_eq_right h]; ring
    · rw [max_eq_left (by linarith), min_eq_left h]; ring

/-- The two log decays are equal. -/
theorem rlf_eq (L M z : EReal) : rlf L M z = lf L M z := by
  unfold rlf lf
  rw [lsg, sp_log1p]

/-- The log decay is real when the sigmoid's logarithm is: at most one of the bound's two logarithms is infinite. -/
theorem lf_real (b q : ℝ) : IsReal (max (Ideal.log (b : EReal)) (Ideal.log1p (-(b : EReal)) + q) + sp (Ideal.log (b : EReal) - (Ideal.log1p (-(b : EReal)) + q))) := by
  have hsp : ∀ x : ℝ, IsReal (sp (x : EReal)) := fun x => ⟨_, sp_coe x⟩
  have h1 : (1 : EReal) + -(b : EReal) = ((1 - b : ℝ) : EReal) := by
    rw [← EReal.coe_one, ← EReal.coe_neg, ← EReal.coe_add, sub_eq_add_neg]
  unfold Ideal.log1p
  rw [h1]
  by_cases hb : b ≤ 0
  · have e : Ideal.log (b : EReal) = ⊥ := if_pos hb
    rw [e, log_pos (by linarith), ← EReal.coe_add, max_eq_right bot_le, EReal.bot_sub, sp_bot, add_zero]
    exact ⟨_, rfl⟩
  · rw [log_pos (not_le.mp hb)]
    by_cases hc : 1 - b ≤ 0
    · have e : Ideal.log ((1 - b : ℝ) : EReal) = ⊥ := if_pos hc
      rw [e, EReal.bot_add, max_eq_left bot_le, EReal.coe_sub_bot, sp_top, add_zero]
      exact ⟨_, rfl⟩
    · rw [log_pos (not_le.mp hc), ← EReal.coe_add, ← EReal.coe_sub, cmax]
      exact IsReal.add ⟨_, rfl⟩ (hsp _)

/-- At a real bound the log decay is not plus infinity. -/
theorem lf_ne_top (b : ℝ) (z : EReal) : lf (Ideal.log (b : EReal)) (Ideal.log1p (-(b : EReal))) z ≠ ⊤ := by
  unfold lf
  induction z with
  | bot =>
    rw [min_eq_left bot_le, sp_bot, sub_zero, EReal.add_bot, max_eq_left bot_le]
    by_cases hb : b ≤ 0
    · have e : Ideal.log (b : EReal) = ⊥ := if_pos hb
      rw [e, EReal.bot_sub, sp_bot, add_zero]
      exact bot_ne_top
    · rw [log_pos (not_le.mp hb), EReal.coe_sub_bot, sp_top, add_zero]
      exact EReal.coe_ne_top _
  | top =>
    rw [min_eq_right le_top, sp_top, sub_zero, ← EReal.coe_zero]
    obtain ⟨x, hx⟩ := lf_real b 0
    rw [hx]
    exact EReal.coe_ne_top x
  | coe r =>
    rw [sp_coe, ← EReal.coe_zero, cmin, ← EReal.coe_sub]
    obtain ⟨x, hx⟩ := lf_real b (min r 0 - Real.log (1 + Real.exp (-|r|)))
    rw [hx]
    exact EReal.coe_ne_top x

/-- The input's weight, both ways. -/
theorem wt_eq (o z : EReal) : o * Ideal.div 1 (1 + Ideal.exp (-(-z))) = wt o z := by
  unfold wt
  congr 1
  rw [neg_neg, zero_sub]
  induction z with
  | bot =>
    rw [EReal.neg_bot, min_eq_right le_top, sp_bot, sub_zero]
    show Ideal.div 1 (1 + 0) = Ideal.exp ((0 : ℝ) : EReal)
    rw [add_zero, exp_coe, Real.exp_zero, ← EReal.coe_one, Ideal.div_coe one_ne_zero]
    simp
  | top =>
    rw [EReal.neg_top, min_eq_left bot_le, sp_top, sub_zero]
    show Ideal.div 1 (1 + ⊤) = 0
    rw [← EReal.coe_one, EReal.coe_add_top]
    unfold Ideal.div
    rw [if_neg EReal.top_ne_zero, EReal.inv_top, mul_zero]
  | coe r =>
    have hp : (0 : ℝ) < 1 + Real.exp (-|r|) := by positivity
    rw [exp_coe, sp_coe, ← EReal.coe_neg, ← EReal.coe_zero, cmin, ← EReal.coe_sub, exp_coe, ← EReal.coe_one, ← EReal.coe_add]
    have e : Real.exp (min (-r) 0 - Real.log (1 + Real.exp (-|r|))) = 1 / (1 + Real.exp r) := by
      rw [Real.exp_sub, Real.exp_log hp, div_eq_div_iff hp.ne' (by positivity)]
      rcases le_total 0 r with h | h
      · rw [min_eq_left (by linarith), abs_of_nonneg h, mul_add, ← Real.exp_add]; simp [add_comm]
      · rw [min_eq_right (by linarith), abs_of_nonpos h]; simp
    rw [e]
    have hne : 1 + Real.exp r ≠ 0 := by positivity
    rw [Ideal.div_coe hne, EReal.coe_one, one_mul]

/-- The three parts add up, unless the number is plus infinity. -/
theorem split3 {x : EReal} (h : x ≠ ⊤) : x + (x - x) + (x - x - (x - x)) = x := by
  induction x with
  | bot => rw [EReal.bot_add, EReal.bot_add]
  | top => exact absurd rfl h
  | coe r => rw [← EReal.coe_sub, sub_self, EReal.coe_zero, sub_zero, add_zero, add_zero]

end Cert.Hgrn

end
-- ==== Proof.Hgrn.Ops.lean ====
/-
  The gated recurrence's kernel at an index: the log decays, their running sums, the weighted inputs and the mask.
-/
module

public import proofs.«01_k».proof.Proof.Gen.Kernel7Ideal.Value
public import proofs.«01_k».proof.Proof.Moe.Ops
public import proofs.«01_k».proof.Proof.Hgrn.Spec
public import Idealize.ShloMosaic.Lib.Pointwise
public import Idealize.ShloMosaic.Lib.Tactic

@[expose] public section

noncomputable section

open Idealize.ShloMosaic Idealize.ShloMosaic.TcCoe Idealize.SL.Sem

namespace Cert.Hgrn

open Cert.Kernel7Ideal Cert.Kernel7Ideal.Gen
open Cert.Moe (IsReal)

local notation "F" => Ideal

/-- A column of the inputs. -/
abbrev zcol (c : Fin 384) : Fin 1536 := ⟨384 + c.val, by omega⟩
/-- A column of the values. -/
abbrev vcol (c : Fin 384) : Fin 1536 := ⟨768 + c.val, by omega⟩
/-- A column of a tile. -/
abbrev tcol (p : Fin 3) (b : Fin 128) : Fin 384 := ⟨128 * p.val + b.val, by omega⟩

/-- Which of a tile's entries are kept. -/
def msk : IVec S128x128 1 := k0_pay9 k0_pay7 (iota Kind.tc S128x128 32 [1] iota_S128x128_d1_w32) 64#32 k0_pay8

/-- The head of a row. -/
theorem pay7_at (a b : Fin 128) : k0_pay7 (ix2 a b) = BitVec.ofNat 32 (a.val / 64) := by
  pointwise [k0_pay7]
  revert a
  decide +kernel

/-- The mask compares the heads. -/
theorem pay9_at (v : IVec S128x128 32) (a b : Fin 128) :
    k0_pay9 v (iota Kind.tc S128x128 32 [1] iota_S128x128_d1_w32) 64#32 k0_pay8 (ix2 a b) = IntOp.cmpi .eq (v (ix2 a b)) (BitVec.ofNat 32 (b.val / 64)) := by
  pointwise [k0_pay9, k0_pay8]
  refine congrArg _ ?_
  revert b
  decide +kernel

/-- The mask keeps the entries of a head with itself. -/
theorem msk_at (a b : Fin 128) : msk (ix2 a b) = if a.val / 64 = b.val / 64 then 1#1 else 0#1 := by
  unfold msk
  rw [pay9_at, pay7_at]
  have ha : a.val / 64 < 2 := by omega
  have hb : b.val / 64 < 2 := by omega
  generalize a.val / 64 = p at ha ⊢
  generalize b.val / 64 = q at hb ⊢
  interval_cases p <;> interval_cases q <;> rfl

/-- An absolute value. -/
theorem abs_at (x : Idealize.ShloMosaic.Ideal FTy.f32) : (FloatOps.absf x : Idealize.ShloMosaic.Ideal FTy.f32) = max (x : EReal) (-(x : EReal)) := rfl

variable (x0 : Vec F S16x1536 .f32) (x1 : Vec F S3x384 .f32) (x3 : Vec F S16x16 .bf16)

/-- The log decays. -/
def lfz (s : Fin 16) (c : Fin 384) : EReal := lf (x1 (ix2 0 c)) (x1 (ix2 1 c)) (x0 (ix2 s (zcol c)))
/-- Their running sums. -/
def bsum : FVec F S16x384 .f32 := k0_pay22 (k0_pay5 x3) (k0_pay15 (k0_pay3 x1)) (k0_pay18 (k0_pay3 x1) x0) (k0_pay19 (k0_pay3 x1))
/-- The decay over the block. -/
def dec : FVec F S1x384 .f32 := k0_pay28 (k0_pay5 x3) (k0_pay15 (k0_pay3 x1)) (k0_pay18 (k0_pay3 x1) x0) (k0_pay19 (k0_pay3 x1))
/-- The values. -/
def vv : FVec F S16x384 .bf16 := k0_pay23 (k0_pay13 x0)
/-- The weighted inputs. -/
def kd : FVec F S16x384 .bf16 := k0_pay27 (k0_pay5 x3) (k0_pay12 x0) (k0_pay15 (k0_pay3 x1)) (k0_pay16 (k0_pay3 x1)) (k0_pay17 x0) (k0_pay18 (k0_pay3 x1) x0) (k0_pay19 (k0_pay3 x1))

/-- The values. -/
theorem vv_at (s : Fin 16) (c : Fin 384) : vv x0 (ix2 s c) = x0 (ix2 s (vcol c)) := by
  pointwise [vv, k0_pay23, k0_pay13, k0_pay10]

/-- The sigmoid's logarithm plus the complement's. -/
theorem pay18_at (s : Fin 16) (c : Fin 384) : k0_pay18 (k0_pay3 x1) x0 (ix2 s c) = x1 (ix2 1 c) + (min (x0 (ix2 s (zcol c))) 0 - sp (x0 (ix2 s (zcol c)))) := by
  unfold sp
  pointwise [k0_pay18, k0_pay17, k0_pay12, k0_pay10, k0_pay3]
  rfl

/-- The product with the triangle, in three parts. -/
theorem pay22_at (y : FVec F S16x16 .bf16) (m : FVec F S16x384 .f32) (t : Fin 16) (c : Fin 384) (f : Fin 16 → EReal)
    (hf : ∀ s, f s = max (x1 (ix2 0 c)) (m (ix2 s c)) + sp (x1 (ix2 0 c) - m (ix2 s c))) :
    k0_pay22 y (k0_pay15 (k0_pay3 x1)) m (k0_pay19 (k0_pay3 x1)) (ix2 t c)
      = (∑ s, y (ix2 t s) * f s) + (∑ s, y (ix2 t s) * (f s - f s)) + ∑ s, y (ix2 t s) * (f s - f s - (f s - f s)) := by
  rw [show f = fun s => _ from funext hf]
  unfold sp
  pointwise [k0_pay22, k0_pay15, k0_pay19, k0_pay3]
  simp only [abs_at]

/-- The running sums, when no log decay is plus infinity and the matrix is the lower triangle of ones. -/
theorem bsum_at (t : Fin 16) (c : Fin 384) (hl : ∀ s, lfz x0 x1 s c ≠ ⊤) (hT : ∀ s, x3 (ix2 t s) = if s.val ≤ t.val then 1 else 0) :
    bsum x0 x1 x3 (ix2 t c) = cum (fun s => lfz x0 x1 s c) t := by
  have h5 : ∀ s, k0_pay5 x3 (ix2 t s) = x3 (ix2 t s) := fun s => by pointwise [k0_pay5]
  unfold bsum
  rw [pay22_at x1 _ _ t c (fun s => lfz x0 x1 s c) fun s => by rw [pay18_at]; rfl]
  rw [← Finset.sum_add_distrib, ← Finset.sum_add_distrib]
  unfold cum
  refine Finset.sum_congr rfl fun s _ => ?_
  rw [h5, hT]
  split
  · rw [one_mul, one_mul, one_mul]
    exact split3 (hl s)
  · rw [zero_mul, zero_mul, zero_mul, add_zero, add_zero]

/-- A column's decay over the block. -/
theorem dec_at (c : Fin 384) : dec x0 x1 x3 (ix2 0 c) = Ideal.exp (bsum x0 x1 x3 (ix2 15 c)) := by
  unfold dec k0_pay28 k0_pay25
  show _ = Ideal.exp (@k0_pay22 F _ _ _ _ _ (ix2 15 c))
  generalize k0_pay22 (k0_pay5 x3) _ _ _ = B
  pointwise []

/-- The weighted inputs, decayed to the block's end. -/
theorem kd_at (s : Fin 16) (c : Fin 384) :
    kd x0 x1 x3 (ix2 s c) = wt (x1 (ix2 2 c)) (x0 (ix2 s (zcol c))) * Ideal.exp (bsum x0 x1 x3 (ix2 15 c) - bsum x0 x1 x3 (ix2 s c)) := by
  unfold kd k0_pay27 k0_pay25 wt sp
  show _ = _ * Ideal.exp (@k0_pay22 F _ _ _ _ _ (ix2 15 c) - @k0_pay22 F _ _ _ _ _ (ix2 s c))
  generalize k0_pay22 (k0_pay5 x3) _ _ _ = B
  pointwise [k0_pay20, k0_pay17, k0_pay12, k0_pay10, k0_pay16, k0_pay3]
  rfl

/-! ## One tile -/

theorem tcol0 (c : Fin 128) : tcol 0 c = ⟨c.val, by omega⟩ := Fin.ext (Nat.zero_add _)

/-- What a tile ends as. -/
def tile (t0 : Fin 128 → Fin 128 → EReal) (p : Fin 3) (a b : Fin 128) : EReal :=
  t0 a b * dec x0 x1 x3 (ix2 0 (tcol p b)) + if msk (ix2 a b) = 1#1 then ∑ s, vv x0 (ix2 s (tcol p a)) * kd x0 x1 x3 (ix2 s (tcol p b)) else 0

/-- The first tile. -/
theorem tile0 (w : Vec F S1x128x128 .f32) (u : Fin 1) (a b : Fin 128) :
    k0_pay62 (k0_pay57 msk (dec x0 x1 x3) (k0_pay29 (k0_pay5 x3) (k0_pay12 x0) (k0_pay13 x0) (k0_pay15 (k0_pay3 x1)) (k0_pay16 (k0_pay3 x1)) (k0_pay17 x0) (k0_pay18 (k0_pay3 x1) x0) (k0_pay19 (k0_pay3 x1))) (k0_pay49 w)) (ix3 u a b)
      = tile x0 x1 x3 (fun a b => w (ix3 0 a b)) 0 a b := by
  unfold k0_pay29 tile
  show k0_pay62 (k0_pay57 msk (dec x0 x1 x3) (matmul _ _ (extractStridedSlice _ _ (vv x0) _) (extractStridedSlice _ _ (kd x0 x1 x3) _) _) (k0_pay49 w)) (ix3 u a b) = _
  generalize kd x0 x1 x3 = K
  generalize vv x0 = V
  generalize dec x0 x1 x3 = D
  generalize msk = M
  pointwise [k0_pay62, k0_pay57, k0_pay49]
  simp only [tcol0]
  rfl

/-- The second tile. -/
theorem tile1 (w : Vec F S1x128x128 .f32) (u : Fin 1) (a b : Fin 128) :
    k0_pay63 (k0_pay59 msk (dec x0 x1 x3) (k0_pay30 (vv x0) (kd x0 x1 x3)) (k0_pay50 w)) (ix3 u a b) = tile x0 x1 x3 (fun a b => w (ix3 0 a b)) 1 a b := by
  unfold tile
  generalize kd x0 x1 x3 = K
  generalize vv x0 = V
  generalize dec x0 x1 x3 = D
  generalize msk = M
  pointwise [k0_pay63, k0_pay59, k0_pay30, k0_pay50]
  rfl

/-- The third tile. -/
theorem tile2 (w : Vec F S1x128x128 .f32) (u : Fin 1) (a b : Fin 128) :
    k0_pay64 msk (dec x0 x1 x3) (k0_pay31 (vv x0) (kd x0 x1 x3)) (k0_pay51 w) (ix3 u a b) = tile x0 x1 x3 (fun a b => w (ix3 0 a b)) 2 a b := by
  unfold tile
  generalize kd x0 x1 x3 = K
  generalize vv x0 = V
  generalize dec x0 x1 x3 = D
  generalize msk = M
  pointwise [k0_pay64, k0_pay31, k0_pay51]
  rfl

end Cert.Hgrn

end
-- ==== Proof.Hgrn.Step.lean ====
/-
  What the call of the gated recurrence leaves in its state block: the decayed state plus the masked sum of the block's products.
-/
module

public import proofs.«01_k».proof.Proof.Gen.Kernel7Ideal.Value
public import proofs.«01_k».proof.Proof.Moe.Ops
public import proofs.«01_k».proof.Proof.Hgrn.Ops
public import Idealize.ShloMosaic.Lib.Pipeline.Value
public import Idealize.ShloMosaic.Lib.Pipeline.ValueKit.Acc
public import Idealize.ShloMosaic.Lib.StableHlo.Run
public import Idealize.ShloMosaic.Lib.Pointwise
public import Idealize.ShloMosaic.Lib.Tactic

@[expose] public section

noncomputable section

open Idealize.ShloMosaic Idealize.ShloMosaic.TcCoe Idealize.SL.Sem

namespace Cert.Hgrn

open Cert.Kernel7Ideal Cert.Kernel7Ideal.Gen
open Cert.Moe (canon_append hz2 hz3)

local notation "F" => Ideal

/-- No offset. -/
theorem hz4 : (![0, 0, 0, 0] : Fin 4 → Nat) = fun _ => 0 := funext fun a => by fin_cases a <;> rfl

/-- Where a tile lies among the three. -/
theorem emb_tile (e : Fin 3) (inb) (j : S1x128x128.Idx) :
    (Rect.unit (s := S3x128x128) ![e.val, 0, 0] ![1, 128, 128] inb).emb j = ix3 e (j 1) (j 2) := by
  funext a; apply Fin.ext
  match a with
  | ⟨0, _⟩ => exact congrArg (e.val + ·) ((Nat.one_mul _).trans (Nat.lt_one_iff.1 (j 0).isLt))
  | ⟨1, _⟩ => exact (Nat.zero_add _).trans (Nat.one_mul _)
  | ⟨2, _⟩ => exact (Nat.zero_add _).trans (Nat.one_mul _)

/-- The whole of the tiles. -/
theorem emb_whole (inb) (y : S3x128x128.Idx) : (Rect.unit (s := S3x128x128) ![0, 0, 0] ![3, 128, 128] inb).idx y = y := by
  funext a; apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The three tiles that a block ends as. -/
def tiles (x0 : Vec F S16x1536 .f32) (x1 : Vec F S3x384 .f32) (x3 : Vec F S16x16 .bf16) (x5 : Vec F S1x3x128x128 .f32) : FVec F S3x128x128 .f32 :=
  fun y => tile x0 x1 x3 (fun a b => x5 (ix4 0 (y 0) a b)) (y 0) (y 1) (y 2)

/-- The states as they are loaded. -/
theorem pay2_at (x5 : Vec F S1x3x128x128 .f32) (e : Fin 3) (a b : Fin 128) : k0_pay2 x5 (ix3 e a b) = x5 (ix4 0 e a b) := by
  pointwise [k0_pay2]

/-- The tiles as they are stored. -/
theorem pay1_at (w : Vec F S3x128x128 .f32) (u : Fin 1) (e : Fin 3) (a b : Fin 128) : k0_pay1 w (ix4 u e a b) = w (ix3 e a b) := by
  pointwise [k0_pay1]

/-- A stored tile is a tile of the three. -/
theorem piece (x0 : Vec F S16x1536 .f32) (x1 : Vec F S3x384 .f32) (x3 : Vec F S16x16 .bf16) (x5 : Vec F S1x3x128x128 .f32) (e : Fin 3)
    (w : Vec F S1x128x128 .f32) (inb) (inb') (hw : w = fun j => View.canon [⟨Rect.unit (s := S3x128x128) ![0, 0, 0] ![3, 128, 128] inb', k0_pay2 x5⟩] ((Rect.unit (s := S3x128x128) ![e.val, 0, 0] ![1, 128, 128] inb).idx j))
    (o : Vec F S1x128x128 .f32) (ho : ∀ u a b, o (ix3 u a b) = tile x0 x1 x3 (fun a b => w (ix3 0 a b)) e a b) (j : S1x128x128.Idx) :
    o j = tiles x0 x1 x3 x5 ((Rect.unit (s := S3x128x128) ![e.val, 0, 0] ![1, 128, 128] inb).emb j) := by
  rw [emb_tile e inb j]
  have hj : j = ix3 (j 0) (j 1) (j 2) := funext fun a => by match a with | ⟨0, _⟩ => rfl | ⟨1, _⟩ => rfl | ⟨2, _⟩ => rfl
  refine (congrArg o hj).trans ((ho _ _ _).trans ?_)
  have hv : (fun a b => w (ix3 0 a b)) = fun a b => x5 (ix4 0 e a b) := funext fun a => funext fun b => by
    rw [hw]
    refine (congrFun (View.canon_unit_zero (S := S3x128x128) hz3 _ _) _).trans ?_
    exact (congrArg (k0_pay2 x5) (emb_tile e inb (ix3 0 a b))).trans (pay2_at x5 e a b)
  rw [hv]
  rfl

/-- The mask. -/
theorem msk_def : k0_pay9 k0_pay7 (iota Kind.tc S128x128 32 [1] iota_S128x128_d1_w32) 64#32 k0_pay8 = msk := rfl
/-- The decays. -/
theorem dec_def (x0 : Vec F S16x1536 .f32) (x1 : Vec F S3x384 .f32) (x3 : Vec F S16x16 .bf16) :
    k0_pay28 (k0_pay5 x3) (k0_pay15 (k0_pay3 x1)) (k0_pay18 (k0_pay3 x1) x0) (k0_pay19 (k0_pay3 x1)) = dec x0 x1 x3 := rfl
/-- The values. -/
theorem vv_def (x0 : Vec F S16x1536 .f32) : k0_pay23 (k0_pay13 x0) = vv x0 := rfl
/-- The weighted inputs. -/
theorem kd_def (x0 : Vec F S16x1536 .f32) (x1 : Vec F S3x384 .f32) (x3 : Vec F S16x16 .bf16) :
    k0_pay27 (k0_pay5 x3) (k0_pay12 x0) (k0_pay15 (k0_pay3 x1)) (k0_pay16 (k0_pay3 x1)) (k0_pay17 x0) (k0_pay18 (k0_pay3 x1) x0) (k0_pay19 (k0_pay3 x1)) = kd x0 x1 x3 := rfl

/-- The state block. -/
theorem out7 (c : Dev nD) (i : grid0.Coords) (arg2 : Memref sig .tc .vmem S16x1536 .f32) (harg2 : arg2.IsWhole) (arg3 : Memref sig .tc .vmem S3x384 .f32) (harg3 : arg3.IsWhole) (arg4 : Memref sig .tc .vmem S1x384 .f32) (harg4 : arg4.IsWhole) (arg5 : Memref sig .tc .vmem S16x16 .bf16) (harg5 : arg5.IsWhole) (arg6 : Memref sig .tc .vmem S384x384 .bf16) (harg6 : arg6.IsWhole) (arg7 : Memref sig .tc .vmem S1x3x128x128 .f32) (harg7 : arg7.IsWhole) (arg8 : Memref sig .tc .vmem S16x384 .bf16) (harg8 : arg8.IsWhole) (arg9 : Memref sig .tc .vmem S1x3x128x128 .f32) (harg9 : arg9.IsWhole) (arg10 : Memref sig .tc .vmem S3x128x128 .f32) (harg10 : arg10.IsWhole) (hc0 : cond0_0 i) (hc1 : cond0_1 i)
    (x0 : Vec F S16x1536 .f32) (x1 : Vec F S3x384 .f32) (x2 : Vec F S1x384 .f32) (x3 : Vec F S16x16 .bf16) (x4 : Vec F S384x384 .bf16) (x5 : Vec F S1x3x128x128 .f32) :
    out0_A_7 c i arg2 harg2 arg3 harg3 arg4 harg4 arg5 harg5 arg6 harg6 arg7 harg7 arg8 harg8 arg9 harg9 arg10 harg10 hc0 hc1 x0 x1 x2 x3 x4 x5 = @k0_pay1 F (tiles x0 x1 x3 x5) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_run_names
  have hk : k0_off1 = fun _ => 0 := by funext a; fin_cases a <;> rfl
  rw [View.canon_unit_zero hz4]
  simp only [View.readCov_eq_canon', View.readAt_eq_ld, harg2.read_unread, harg3.read_unread, harg4.read_unread, harg5.read_unread, harg6.read_unread, harg7.read_unread, View.ld_unit_zero (S := S16x1536) hk, View.ld_unit_zero (S := S3x384) hz2, View.ld_unit_zero (S := S16x16) hz2, View.ld_unit_zero (S := S1x3x128x128) hz4]
  simp only [msk_def, dec_def, vv_def, kd_def]
  refine congrArg k0_pay1 (funext fun y => ?_)
  refine (congrArg _ (?_ : _ = y)).trans ?_
  · exact emb_whole _ y
  refine (canon_append [_, _, _] [_] y (View.cover_of_tiledL _ ![1, 128, 128] (by sl_kernel_rfl) y)).trans ?_
  refine View.canon_apply_of_pieces (Val := Elt F) (S := S3x128x128) (e := .f32) (tiles x0 x1 x3 x5) _ (fun p hp j => ?_) (y : S3x128x128.Idx) (View.cover_of_tiledL _ ![1, 128, 128] (by sl_kernel_rfl) y)
  simp only [List.mem_cons, List.mem_nil_iff, or_false] at hp
  rcases hp with rfl | rfl | rfl
  · refine piece x0 x1 x3 x5 2 _ inb_S3x128x128_S1x128x128_2_0_0 inb_S3x128x128_S3x128x128_0_0_0 rfl _ (fun u a b => ?_) j
    exact tile2 x0 x1 x3 _ u a b
  · refine piece x0 x1 x3 x5 1 _ inb_S3x128x128_S1x128x128_1_0_0 inb_S3x128x128_S3x128x128_0_0_0 rfl _ (fun u a b => ?_) j
    exact tile1 x0 x1 x3 _ u a b
  · refine piece x0 x1 x3 x5 0 _ inb_S3x128x128_S1x128x128_0_0_0 inb_S3x128x128_S3x128x128_0_0_0 rfl _ (fun u a b => ?_) j
    exact tile0 x0 x1 x3 _ u a b

end Cert.Hgrn

end
-- ==== Proof.Hgrn.Ref.lean ====
/-
  The reference's state by parts, and each part at an index.
-/
module

public import proofs.«01_k».proof.Proof.Gen.Reference7Ideal.Run
public import proofs.«01_k».proof.Proof.Hgrn.Spec
public import Idealize.ShloMosaic.Lib.Pointwise
public import Idealize.ShloMosaic.Lib.Tactic

@[expose] public section

noncomputable section

namespace Cert.Hgrn.Ref

open Cert.Reference7Ideal Cert.Reference7Ideal.Gen Cert.Reference7Ideal.Value
open Idealize.ShloMosaic Idealize.ShloMosaic.TcCoe

/-- Columns of the block's rows. -/
abbrev Rows := FVec Ideal S8x16x384 .f32
/-- The rows by heads. -/
abbrev Heads := FVec Ideal S8x16x6x64 .f32

/-- A number for every entry of the rows. -/
def all (b : BitVec 32) : Rows := broadcastInDim S8x16x384 ![] bcast_S_S8x16x384 (constant S_ .f32 b)
/-- A row of columns for every row. -/
def every (x : FVec Ideal S384 .f32) : Rows :=
  broadcastInDim S8x16x384 ![0, 1, 2] bcast_S1x1x384_S8x16x384_0_1_2 (broadcastInDim S1x1x384 ![2] bcast_S384_S1x1x384_2 x)
/-- The logarithm of the sum of two exponentials. -/
def lae (L c s : Rows) : Rows :=
  select (cmpf .une (subf L c) (subf L c)) s (addf (maximumf L c) (Host.log1p (Host.exp (Host.negf (Host.absf (subf L c))))))
/-- The logarithm of the sigmoid. -/
def lsig (z : Rows) : Rows := Host.negf (lae (Host.negf z) (all 0x00000000#32) (addf (Host.negf z) (all 0x00000000#32)))
/-- The log decay, by the bound's two logarithms. -/
def ldec (L M z : Rows) : Rows := lae L (addf M (lsig z)) (addf L (addf M (lsig z)))
/-- The input's weight. -/
def wgt (o z : Rows) : Rows := mulf o (Host.divf (all 0x3F800000#32) (addf (all 0x3F800000#32) (Host.exp (Host.negf (Host.negf z)))))
/-- By heads. -/
def heads (a : Rows) : Heads := shapeCast _ a shapeCasts_S8x16x384_S8x16x6x64
/-- The running sums. -/
def sums (a : Heads) : Heads :=
  Host.reduceWindowAdd ![1, 16, 1, 1] ![1, 1, 1, 1] ![0, 15, 0, 0] ![0, 0, 0, 0] a (broadcastInDim S_ ![] bcast_S_S_ (constant S_ .f32 0x00000000#32)) reduceWindows_S8x16x6x64_S8x16x6x64_w1s1p0_0_w16s1p15_0_w1s1p0_0_w1s1p0_0 h_S_
/-- The last row's. -/
def last (b : Heads) : FVec Ideal S8x6x64 .f32 := shapeCast _ (extractStridedSlice S8x1x6x64 ![0, 15, 0, 0] b slices_S8x16x6x64_S8x1x6x64_0_15_0_0) shapeCasts_S8x1x6x64_S8x6x64
/-- The state after the block, from the running sums, the weights, the inputs and the state before. -/
def state (b k v : Heads) (s0 : FVec Ideal S8x6x64x64 .f32) : FVec Ideal S8x6x64x64 .f32 :=
  addf (mulf (broadcastInDim S8x6x64x64 ![0, 1, 2, 3] bcast_S8x6x64x1_S8x6x64x64_0_1_2_3 (broadcastInDim S8x6x64x1 ![0, 1, 2] bcast_S8x6x64_S8x6x64x1_0_1_2 (Host.exp (last b)))) s0)
    (Host.dotGeneral dot_S8x16x6x64_S8x16x6x64_S8x6x64x64_1_1_3_3_02_02 none
      (mulf k (Host.exp (subf (broadcastInDim S8x16x6x64 ![0, 1, 2, 3] bcast_S8x1x6x64_S8x16x6x64_0_1_2_3 (broadcastInDim S8x1x6x64 ![0, 2, 3] bcast_S8x6x64_S8x1x6x64_0_2_3 (last b))) b))) v)
/-- Nothing, for the tiles' corners. -/
def none' : FVec Ideal S8x3x64x64 .f32 := broadcastInDim S8x3x64x64 ![] bcast_S_S8x3x64x64 (constant S_ .f32 0x00000000#32)
/-- The states of two heads by pairs. -/
def pairs (s : FVec Ideal S8x6x64x64 .f32) : FVec Ideal S8x3x2x64x64 .f32 :=
  shapeCast _ (transpose S8x6x64x64 [0, 1, 3, 2] s transposes_S8x6x64x64_S8x6x64x64_0_1_3_2) shapeCasts_S8x6x64x64_S8x3x2x64x64
/-- The first of each pair. -/
def fst (s : FVec Ideal S8x3x2x64x64 .f32) : FVec Ideal S8x3x64x64 .f32 :=
  shapeCast _ (extractStridedSlice S8x3x1x64x64 ![0, 0, 0, 0, 0] s slices_S8x3x2x64x64_S8x3x1x64x64_0_0_0_0_0) shapeCasts_S8x3x1x64x64_S8x3x64x64
/-- The second of each pair. -/
def snd (s : FVec Ideal S8x3x2x64x64 .f32) : FVec Ideal S8x3x64x64 .f32 :=
  shapeCast _ (extractStridedSlice S8x3x1x64x64 ![0, 0, 1, 0, 0] s slices_S8x3x2x64x64_S8x3x1x64x64_0_0_1_0_0) shapeCasts_S8x3x1x64x64_S8x3x64x64
/-- A tile of four blocks. -/
def quad (a b c d : FVec Ideal S8x3x64x64 .f32) : FVec Ideal S8x3x128x128 .f32 :=
  concatenate S8x3x128x128 2 [⟨S8x3x64x128, (concatenate S8x3x64x128 3 [⟨S8x3x64x64, a⟩, ⟨S8x3x64x64, b⟩] concatenates_S8x3x64x64_S8x3x64x64_S8x3x64x128_d3)⟩, ⟨S8x3x64x128, (concatenate S8x3x64x128 3 [⟨S8x3x64x64, c⟩, ⟨S8x3x64x64, d⟩] concatenates_S8x3x64x64_S8x3x64x64_S8x3x64x128_d3)⟩] concatenates_S8x3x64x128_S8x3x64x128_S8x3x128x128_d2
/-- The states as block-diagonal tiles of two heads. -/
def tl (s : FVec Ideal S8x6x64x64 .f32) : FVec Ideal S8x3x128x128 .f32 := quad (fst (pairs s)) none' none' (snd (pairs s))

variable (bp : FVec Ideal S8x16x1536 .f32) (lb : FVec Ideal S384 .f32) (s0 : FVec Ideal S8x6x64x64 .f32)

/-- The decay's columns. -/
def zc : Rows := extractStridedSlice S8x16x384 ![0, 0, 384] bp slices_S8x16x1536_S8x16x384_0_0_384
/-- The inputs' columns. -/
def vc : Rows := extractStridedSlice S8x16x384 ![0, 0, 768] bp slices_S8x16x1536_S8x16x384_0_0_768
/-- The bound's complement. -/
def cmp1 : FVec Ideal S384 .f32 := subf (broadcastInDim S384 ![] bcast_S_S384 (constant S_ .f32 0x3F800000#32)) lb
/-- The result from the arguments. -/
def res : FVec Ideal S8x3x128x128 .f32 :=
  tl (state (sums (heads (ldec (every (Host.log lb)) (every (Host.log1p (Host.negf lb))) (zc bp)))) (heads (wgt (every (cmp1 lb)) (zc bp))) (heads (vc bp)) s0)

/-- The program's value is the result by parts. -/
theorem res_eq (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg3)) := rfl

/-- The decay's columns. -/
theorem zc_at (k : Fin 8) (s : Fin 16) (n : Fin 384) : zc bp (ix3 k s n) = bp (ix3 k s ⟨384 + n.val, by omega⟩) := by
  pointwise [zc]
/-- The values' columns. -/
theorem vc_at (k : Fin 8) (s : Fin 16) (n : Fin 384) : vc bp (ix3 k s n) = bp (ix3 k s ⟨768 + n.val, by omega⟩) := by
  pointwise [vc]
/-- A row repeated. -/
theorem every_at (x : FVec Ideal S384 .f32) (k : Fin 8) (s : Fin 16) (n : Fin 384) : every x (ix3 k s n) = x (ix1 n) := by
  pointwise [every]
/-- The columns split into heads. -/
theorem heads_at (a : Rows) (k : Fin 8) (s : Fin 16) (h : Fin 6) (d : Fin 64) : heads a (ix4 k s h d) = a (ix3 k s ⟨64 * h.val + d.val, by omega⟩) := by
  pointwise [heads]
  refine congrArg a (congrArg (ix3 k s) (Fin.ext ?_))
  show h.val * 64 + d.val = 64 * h.val + d.val
  omega
/-- The last row. -/
theorem last_at (b : Heads) (k : Fin 8) (h : Fin 6) (d : Fin 64) : last b (ix3 k h d) = b (ix4 k 15 h d) := by
  pointwise [last]
/-- The states after the block. -/
theorem state_at (b w v : Heads) (k : Fin 8) (h : Fin 6) (d e : Fin 64) :
    state b w v s0 (ix4 k h d e) = Ideal.exp (b (ix4 k 15 h d)) * s0 (ix4 k h d e)
      + ∑ s : Fin 16, w (ix4 k s h d) * Ideal.exp (b (ix4 k 15 h d) - b (ix4 k s h d)) * v (ix4 k s h e) := by
  have hl := fun (k : Fin 8) (h : Fin 6) (d : Fin 64) => last_at b k h d
  unfold state
  generalize last b = l at hl
  pointwise []
  simp only [hl]
/-- The logarithm of a sum of exponentials. -/
theorem lae_at (L c s : Rows) (k : Fin 8) (t : Fin 16) (n : Fin 384) : lae L c s (ix3 k t n)
    = max (L (ix3 k t n)) (c (ix3 k t n)) + Ideal.log1p (Ideal.exp (-(max (L (ix3 k t n) - c (ix3 k t n)) (-(L (ix3 k t n) - c (ix3 k t n)))))) := by
  pointwise [lae]
  exact if_neg fun h => h rfl
/-- The sigmoid's logarithm. -/
theorem lsig_at (z : Rows) (k : Fin 8) (t : Fin 16) (n : Fin 384) : lsig z (ix3 k t n)
    = -(max (-z (ix3 k t n)) 0 + Ideal.log1p (Ideal.exp (-(max (-z (ix3 k t n) - 0) (-(-z (ix3 k t n) - 0)))))) := by
  have h := lae_at (Host.negf z) (all 0x00000000#32) (addf (Host.negf z) (all 0x00000000#32)) k t n
  unfold lsig
  generalize lae (Host.negf z) (all 0x00000000#32) (addf (Host.negf z) (all 0x00000000#32)) = l at h
  pointwise []
  rw [h]
  pointwise [all]
/-- The log decays. -/
theorem ldec_at (L M z : Rows) (k : Fin 8) (t : Fin 16) (n : Fin 384) : ldec L M z (ix3 k t n)
    = rlf (L (ix3 k t n)) (M (ix3 k t n)) (z (ix3 k t n)) := by
  unfold ldec rlf
  rw [lae_at]
  show max (L (ix3 k t n)) (M (ix3 k t n) + lsig z (ix3 k t n)) + Ideal.log1p (Ideal.exp (-(max (L (ix3 k t n) - (M (ix3 k t n) + lsig z (ix3 k t n))) (-(L (ix3 k t n) - (M (ix3 k t n) + lsig z (ix3 k t n))))))) = _
  rw [lsig_at]
/-- The inputs' weights. -/
theorem wgt_at (o z : Rows) (k : Fin 8) (t : Fin 16) (n : Fin 384) : wgt o z (ix3 k t n)
    = o (ix3 k t n) * Ideal.div 1 (1 + Ideal.exp (-(-z (ix3 k t n)))) := by
  pointwise [wgt, all]

/-- The four quarters of a tile. -/
theorem quad_at (x y z w : FVec Ideal S8x3x64x64 .f32) (k : Fin 8) (p : Fin 3) (a b : Fin 128) : quad x y z w (ix4 k p a b)
    = if ha : a.val < 64 then (if hb : b.val < 64 then x (ix4 k p ⟨a.val, ha⟩ ⟨b.val, hb⟩) else y (ix4 k p ⟨a.val, ha⟩ ⟨b.val - 64, by omega⟩))
      else (if hb : b.val < 64 then z (ix4 k p ⟨a.val - 64, by omega⟩ ⟨b.val, hb⟩) else w (ix4 k p ⟨a.val - 64, by omega⟩ ⟨b.val - 64, by omega⟩)) := by
  pointwise [quad]
/-- A tile's first head. -/
theorem fst_at (s : FVec Ideal S8x6x64x64 .f32) (k : Fin 8) (p : Fin 3) (a b : Fin 64) : fst (pairs s) (ix4 k p a b) = s (ix4 k ⟨p.val * 2, by omega⟩ b a) := by
  pointwise [fst, pairs]
/-- A tile's second head. -/
theorem snd_at (s : FVec Ideal S8x6x64x64 .f32) (k : Fin 8) (p : Fin 3) (a b : Fin 64) : snd (pairs s) (ix4 k p a b) = s (ix4 k ⟨p.val * 2 + 1, by omega⟩ b a) := by
  pointwise [snd, pairs]
/-- The empty quarters. -/
theorem none_at (k : Fin 8) (p : Fin 3) (a b : Fin 64) : none' (ix4 k p a b) = 0 := by
  pointwise [none']

/-- A tile's entry: of a head's state if its row and column are of the same head, else nothing. -/
theorem tl_at (s : FVec Ideal S8x6x64x64 .f32) (k : Fin 8) (p : Fin 3) (a b : Fin 128) : tl s (ix4 k p a b)
    = if a.val / 64 = b.val / 64 then s (ix4 k ⟨2 * p.val + a.val / 64, by omega⟩ ⟨b.val % 64, by omega⟩ ⟨a.val % 64, by omega⟩) else 0 := by
  unfold tl
  rw [quad_at]
  by_cases ha : a.val < 64 <;> by_cases hb : b.val < 64
  · rw [dif_pos ha, dif_pos hb, fst_at, if_pos (by omega)]
    congr 2 <;> (try (apply Fin.ext; dsimp only; omega))
  · rw [dif_pos ha, dif_neg hb, none_at, if_neg (by omega)]
  · rw [dif_neg ha, dif_pos hb, none_at, if_neg (by omega)]
  · rw [dif_neg ha, dif_neg hb, snd_at, if_pos (by omega)]
    congr 2 <;> (try (apply Fin.ext; dsimp only; omega))

/-- A left fold of a sum. -/
theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The window's shape. -/
abbrev Win : Shape := ⟨4, ![1, 16, 1, 1]⟩

/-- A sum over the window's positions. -/
theorem sum_win (g : Win.Idx → EReal) : ∑ n : Fin Win.numel, g (Win.rowMajor.symm n) = ∑ s : Fin 16, g (ix4 0 s 0 0) := by
  rw [Equiv.sum_comp Win.rowMajor.symm g]
  symm
  refine Fintype.sum_bijective (fun s : Fin 16 => (ix4 0 s 0 0 : Win.Idx)) ⟨fun a b h => congrFun h 1, fun x => ⟨x 1, ?_⟩⟩ _ _ (fun _ => rfl)
  funext a
  match a with
  | ⟨0, _⟩ => exact (Fin.fin_one_eq_zero (x 0)).symm
  | ⟨1, _⟩ => rfl
  | ⟨2, _⟩ => exact (Fin.fin_one_eq_zero (x 2)).symm
  | ⟨3, _⟩ => exact (Fin.fin_one_eq_zero (x 3)).symm

/-- One position of an entry's window: an operand's entry, or the padding. -/
def cell {s t : Shape} (window strides lo hi : Fin s.rank → Nat) (h : s.ReduceWindows window strides lo hi t) (x : s.Idx → EReal) (v : EReal)
    (j : t.Idx) (w : (⟨s.rank, window⟩ : Shape).Idx) : EReal :=
  let p : Fin s.rank → Nat := fun a => (j (a.cast h.1.symm)).val * strides a + (w a).val
  if hin : ∀ a, lo a ≤ p a ∧ p a - lo a < s.size a then x (fun a => ⟨p a - lo a, (hin a).2⟩) else v

/-- A window's sum, position by position. -/
theorem window_cells {s t u : Shape} (window strides lo hi : Fin s.rank → Nat) (h : s.ReduceWindows window strides lo hi t) (x : s.Idx → EReal)
    (init : u.Idx → EReal) (hu : 0 < u.numel) (j : t.Idx) :
    Host.reduceWindow (· + ·) window strides lo hi x init h hu j
      = init (Shape.Idx.first hu) + ∑ n, cell window strides lo hi h x (init (Shape.Idx.first hu)) j ((⟨s.rank, window⟩ : Shape).rowMajor.symm n) := by
  rw [Fin.sum_univ_def]
  refine Eq.trans ?_ (foldl_sum _ _ _)
  unfold Host.reduceWindow cell
  dsimp only
  refine congrArg (fun g => List.foldl g _ _) (funext fun r => funext fun n => congrArg (r + ·) ?_)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- The running sums' window. -/
abbrev one (a : Heads) (j : S8x16x6x64.Idx) (w : Win.Idx) : EReal :=
  cell (s := S8x16x6x64) ![1, 16, 1, 1] ![1, 1, 1, 1] ![0, 15, 0, 0] ![0, 0, 0, 0] reduceWindows_S8x16x6x64_S8x16x6x64_w1s1p0_0_w16s1p15_0_w1s1p0_0_w1s1p0_0 a (0 : EReal) j w

/-- A position of the window along the rows. -/
theorem cell_at (a : Heads) (k : Fin 8) (t : Fin 16) (h : Fin 6) (d : Fin 64) (s : Fin 16) :
    one a (ix4 k t h d) (ix4 0 s 0 0) = if hs : 15 ≤ t.val + s.val then a (ix4 k ⟨t.val + s.val - 15, by omega⟩ h d) else 0 := by
  unfold one cell
  dsimp only
  by_cases hs : 15 ≤ t.val + s.val
  · have hin : ∀ q : Fin 4, (![0, 15, 0, 0] : Fin 4 → ℕ) q ≤ ((ix4 k t h d : S8x16x6x64.Idx) q).val * (![1, 1, 1, 1] : Fin 4 → ℕ) q + ((ix4 0 s 0 0 : Win.Idx) q).val
      ∧ ((ix4 k t h d : S8x16x6x64.Idx) q).val * (![1, 1, 1, 1] : Fin 4 → ℕ) q + ((ix4 0 s 0 0 : Win.Idx) q).val - (![0, 15, 0, 0] : Fin 4 → ℕ) q < S8x16x6x64.size q := fun q => by
      match q with
      | ⟨0, _⟩ => show 0 ≤ k.val * 1 + 0 ∧ k.val * 1 + 0 - 0 < 8; omega
      | ⟨1, _⟩ => show 15 ≤ t.val * 1 + s.val ∧ t.val * 1 + s.val - 15 < 16; omega
      | ⟨2, _⟩ => show 0 ≤ h.val * 1 + 0 ∧ h.val * 1 + 0 - 0 < 6; omega
      | ⟨3, _⟩ => show 0 ≤ d.val * 1 + 0 ∧ d.val * 1 + 0 - 0 < 64; omega
    refine (dif_pos hin).trans ?_
    rw [dif_pos hs]
    refine congrArg a (funext fun q => Fin.ext ?_)
    match q with
    | ⟨0, _⟩ => show k.val * 1 + 0 - 0 = k.val; omega
    | ⟨1, _⟩ => show t.val * 1 + s.val - 15 = t.val + s.val - 15; omega
    | ⟨2, _⟩ => show h.val * 1 + 0 - 0 = h.val; omega
    | ⟨3, _⟩ => show d.val * 1 + 0 - 0 = d.val; omega
  · rw [dif_neg hs]
    refine (dif_neg fun hin => hs ?_).trans ?_
    · have e : 15 ≤ t.val * 1 + s.val := (hin (1 : Fin 4)).1
      omega
    rfl

/-- A running sum is its window's sum. -/
theorem sums_cells (a : Heads) (j : S8x16x6x64.Idx) : sums a j = ∑ n : Fin Win.numel, one a j (Win.rowMajor.symm n) := by
  refine (window_cells (s := S8x16x6x64) ![1, 16, 1, 1] ![1, 1, 1, 1] ![0, 15, 0, 0] ![0, 0, 0, 0] reduceWindows_S8x16x6x64_S8x16x6x64_w1s1p0_0_w16s1p15_0_w1s1p0_0_w1s1p0_0 a
    (fun _ : (⟨0, ![]⟩ : Shape).Idx => Ideal.ofBits .f32 0x00000000#32) (by decide) j).trans ?_
  dsimp only
  rw [Ideal.ofBits_zero_f32, zero_add]

/-- Where a window's position lies among the rows. -/
theorem turn : ∀ s t : Fin 16, (15 ≤ t.val + s.val → (s + (t + 1)).val = t.val + s.val - 15) ∧ (¬ 15 ≤ t.val + s.val → t.val < (s + (t + 1)).val) := by
  decide

/-- The running sums, at an index. -/
theorem sums_at (a : Heads) (k : Fin 8) (t : Fin 16) (h : Fin 6) (d : Fin 64) : sums a (ix4 k t h d) = cum (fun s => a (ix4 k s h d)) t := by
  rw [sums_cells, sum_win]
  unfold cum
  refine Fintype.sum_equiv (Equiv.addRight (t + 1)) _ _ fun s => ?_
  have hw := turn s t
  rw [cell_at]
  show _ = if (s + (t + 1)).val ≤ t.val then a (ix4 k (s + (t + 1)) h d) else 0
  by_cases hs : 15 ≤ t.val + s.val
  · have e : (⟨t.val + s.val - 15, by omega⟩ : Fin 16) = s + (t + 1) := Fin.ext (hw.1 hs).symm
    rw [dif_pos hs, if_pos (by rw [hw.1 hs]; omega), e]
  · rw [dif_neg hs, if_neg (not_le.mpr (hw.2 hs))]

end Cert.Hgrn.Ref

end
-- ==== Proof.Hgrn.Win.lean ====
/-
  The gated recurrence's windows from the arguments, at an index.
-/
module

public import proofs.«01_k».proof.Proof.Hgrn.Step
public import proofs.«01_k».proof.Proof.Hgrn.Ref

@[expose] public section

noncomputable section

namespace Cert.Hgrn

open Cert.Kernel7Ideal Cert.Kernel7Ideal.Gen
open Idealize.ShloMosaic Idealize.ShloMosaic.TcCoe Idealize.SL.Sem
open Idealize.ShloMosaic.Pipeline (Dat Cfg Window)
open Cert.Moe (IsReal)

/-- The call's arguments that its state depends on. -/
structure Args where
  /-- The recurrence's columns. -/
  b : FVec Ideal S8x16x1536 .f32
  /-- The decay's lower bound. -/
  lb : FVec Ideal S384 .f32
  /-- The state before. -/
  s0 : FVec Ideal S8x6x64x64 .f32

variable (m : (ℓ : Loc nD τ sig) → Buf (Elt Ideal) ℓ) (c : Dev nD)

/-- The arguments as launched. -/
def args : Args where
  b := m ((c.tc : Thread nD τ).loc main_arg0)
  lb := m ((c.tc : Thread nD τ).loc main_arg1)
  s0 := m ((c.tc : Thread nD τ).loc main_arg3)

/-- The columns by rows. -/
def hX (x : FVec Ideal S8x16x1536 .f32) : FVec Ideal S128x1536 .f32 := shapeCast S128x1536 x shapeCasts_S8x16x1536_S128x1536
/-- The bound's logarithm, its complement's logarithm, and its complement. -/
def hL (lb : FVec Ideal S384 .f32) : FVec Ideal S3x384 .f32 :=
  concatenate S3x384 0 [⟨S1x384, broadcastInDim S1x384 ![1] bcast_S384_S1x384_1 (Host.log lb)⟩,
    ⟨S1x384, broadcastInDim S1x384 ![1] bcast_S384_S1x384_1 (Host.log1p (Host.negf lb))⟩,
    ⟨S1x384, broadcastInDim S1x384 ![1] bcast_S384_S1x384_1 (subf (broadcastInDim S384 ![] bcast_S_S384 (constant S_ .f32 0x3F800000#32)) lb)⟩]
    concatenates_S1x384_S1x384_S1x384_S3x384_d0

/-- A row's stream, as the kernel's wrapper divides. -/
def hR : IVec S16x1 32 :=
  select (andi (cmpi .ne (signi (broadcastInDim S16x1 ![0] bcast_S16_S16x1_0 (iotaInDim S16 32 0))) (broadcastInDim S16x1 ![] bcast_S_S16x1 (signi (constantI S_ 32 16#32))))
      (cmpi .ne (Host.remsi (broadcastInDim S16x1 ![0] bcast_S16_S16x1_0 (iotaInDim S16 32 0)) (broadcastInDim S16x1 ![] bcast_S_S16x1 (constantI S_ 32 16#32))) (broadcastInDim S16x1 ![] bcast_S_S16x1 (constantI S_ 32 0#32))))
    (subi (Host.divsi (broadcastInDim S16x1 ![0] bcast_S16_S16x1_0 (iotaInDim S16 32 0)) (broadcastInDim S16x1 ![] bcast_S_S16x1 (constantI S_ 32 16#32))) (broadcastInDim S16x1 ![] bcast_S_S16x1 (constantI S_ 32 1#32)))
    (Host.divsi (broadcastInDim S16x1 ![0] bcast_S16_S16x1_0 (iotaInDim S16 32 0)) (broadcastInDim S16x1 ![] bcast_S_S16x1 (constantI S_ 32 16#32)))
/-- A column's stream, as the kernel's wrapper divides. -/
def hK : IVec S1x16 32 :=
  select (andi (cmpi .ne (signi (broadcastInDim S1x16 ![1] bcast_S16_S1x16_1 (iotaInDim S16 32 0))) (broadcastInDim S1x16 ![] bcast_S_S1x16 (signi (constantI S_ 32 16#32))))
      (cmpi .ne (Host.remsi (broadcastInDim S1x16 ![1] bcast_S16_S1x16_1 (iotaInDim S16 32 0)) (broadcastInDim S1x16 ![] bcast_S_S1x16 (constantI S_ 32 16#32))) (broadcastInDim S1x16 ![] bcast_S_S1x16 (constantI S_ 32 0#32))))
    (subi (Host.divsi (broadcastInDim S1x16 ![1] bcast_S16_S1x16_1 (iotaInDim S16 32 0)) (broadcastInDim S1x16 ![] bcast_S_S1x16 (constantI S_ 32 16#32))) (broadcastInDim S1x16 ![] bcast_S_S1x16 (constantI S_ 32 1#32)))
    (Host.divsi (broadcastInDim S1x16 ![1] bcast_S16_S1x16_1 (iotaInDim S16 32 0)) (broadcastInDim S1x16 ![] bcast_S_S1x16 (constantI S_ 32 16#32)))
/-- The rows up to a row, as ones. -/
def hT : FVec Ideal S16x16 .bf16 :=
  uitofp .bf16 (andi
    (cmpi .sge (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0))))
    (cmpi .eq (broadcastInDim S16x16 ![0, 1] bcast_S16x1_S16x16_0_1 hR) (broadcastInDim S16x16 ![0, 1] bcast_S1x16_S16x16_0_1 hK)))

/-- What the call's windows read, as the host code leaves it. -/
theorem V_all : V m c main_v9 = hX (args m c).b
    ∧ V m c main_v8 = hL (args m c).lb
    ∧ V m c main_v25 = Ref.tl (args m c).s0
    ∧ V m c main_v40 = hT := by
  refine ⟨?_, ?_, ?_, ?_⟩
  all_goals
    unfold V
    simp only [hostOps0, hostOps0_1, hostOps0_2, hostOps0_3, hostOps0_4, hostOps0_5, hostOps0_6, List.flatten_cons, List.flatten_nil, List.append_nil, List.cons_append, List.nil_append]
    after_results_simp
    rfl
/-- The rows. -/
theorem V_x : V m c main_v9 = hX (args m c).b := (V_all m c).1
/-- The bound's rows. -/
theorem V_l : V m c main_v8 = hL (args m c).lb := (V_all m c).2.1
/-- The states. -/
theorem V_s : V m c main_v25 = Ref.tl (args m c).s0 := (V_all m c).2.2.1
/-- The triangle. -/
theorem V_t : V m c main_v40 = hT := (V_all m c).2.2.2

/-- An entry of the rows. -/
theorem hX_at (x : FVec Ideal S8x16x1536 .f32) (R : Fin 128) (n : Fin 1536) : hX x (ix2 R n) = x (ix3 ⟨R.val / 16, by omega⟩ ⟨R.val % 16, by omega⟩ n) := by
  pointwise [hX]
/-- The bound's logarithm. -/
theorem hL0_at (lb : FVec Ideal S384 .f32) (n : Fin 384) : hL lb (ix2 0 n) = Ideal.log (lb (ix1 n)) := by
  pointwise [hL]
/-- The complement's logarithm. -/
theorem hL1_at (lb : FVec Ideal S384 .f32) (n : Fin 384) : hL lb (ix2 1 n) = Ideal.log1p (-(lb (ix1 n))) := by
  pointwise [hL]
/-- The complement. -/
theorem hL2_at (lb : FVec Ideal S384 .f32) (n : Fin 384) : hL lb (ix2 2 n) = 1 - lb (ix1 n) := by
  pointwise [hL]

/-- A row's group. -/
theorem hR_at (t : Fin 16) : hR (ix2 t 0) = 0#32 := by
  pointwise [hR]
  revert t
  decide +kernel
/-- A column's group. -/
theorem hK_at (t : Fin 16) : hK (ix2 0 t) = 0#32 := by
  pointwise [hK]
  revert t
  decide +kernel

/-- The lower triangle of ones, at an index. -/
theorem hT_at (t s : Fin 16) : hT (ix2 t s) = if s.val ≤ t.val then 1 else 0 := by
  unfold hT
  have hr := hR_at t
  have hk := hK_at s
  generalize hR = f at hr
  generalize hK = g at hk
  pointwise []
  rw [hr, hk]
  have e : ∀ t s : Fin 16, IntOp.andi (IntOp.cmpi CmpIPredicate.sge (BitVec.ofNat 32 t.val) (BitVec.ofNat 32 s.val)) (IntOp.cmpi CmpIPredicate.eq (0#32) (0#32))
      = if s.val ≤ t.val then 1#1 else 0#1 := by decide +kernel
  refine (congrArg (FloatOps.uitofp (F := Ideal) FTy.bf16) (e t s)).trans ?_
  split
  · show (((1#1 : BitVec 1).toNat : ℝ) : EReal) = 1
    simp
  · show (((0#1 : BitVec 1).toNat : ℝ) : EReal) = 0
    simp

end Cert.Hgrn

end
-- ==== Proof.Hgrn.Arr.lean ====
/-
  The gated recurrence's state array after the run: the reference's states in tiles.
-/
module

public import proofs.«01_k».proof.Proof.Hgrn.Win
public import proofs.«01_k».proof.Proof.Gen.Kernel7Ideal.Value

@[expose] public section

noncomputable section

namespace Cert.Hgrn

open Cert.Kernel7Ideal Cert.Kernel7Ideal.Gen
open Idealize.ShloMosaic Idealize.ShloMosaic.TcCoe Idealize.SL.Sem
open Idealize.ShloMosaic.Pipeline (Dat Cfg Window)
open Cert.Moe (IsReal)

namespace Args
variable (A : Args)

/-- The states in tiles. -/
def r : FVec Ideal S8x3x128x128 .f32 := Ref.res A.b A.lb A.s0
/-- A column's log decay in a row of a stream. -/
def f (k : Fin 8) (n : Fin 384) (s : Fin 16) : EReal := lf (Ideal.log (A.lb (ix1 n))) (Ideal.log1p (-(A.lb (ix1 n)))) (A.b (ix3 k s (zcol n)))
/-- The weight of its input. -/
def w (k : Fin 8) (n : Fin 384) (s : Fin 16) : EReal := wt (1 - A.lb (ix1 n)) (A.b (ix3 k s (zcol n)))

/-- The bound is real. -/
def Real : Prop := ∀ n : Fin 384, IsReal (A.lb (ix1 n))

/-- No log decay is plus infinity. -/
theorem Real.f {A : Args} (h : A.Real) (k : Fin 8) (n : Fin 384) (s : Fin 16) : A.f k n s ≠ ⊤ := by
  obtain ⟨b, hb⟩ := h n
  unfold Args.f
  rw [hb]
  exact lf_ne_top b _

/-- A tile's entry: a head's state after the block, or nothing. -/
def out (k : Fin 8) (p : Fin 3) (a b : Fin 128) : EReal :=
  if a.val / 64 = b.val / 64 then
    st (A.f k (tcol p b)) (A.w k (tcol p b)) (fun s => A.b (ix3 k s (vcol (tcol p a))))
      (A.s0 (ix4 k ⟨2 * p.val + a.val / 64, by omega⟩ ⟨b.val % 64, by omega⟩ ⟨a.val % 64, by omega⟩))
  else 0

/-- The column of a head's entry. -/
theorem col (p : Fin 3) (h : Fin 6) (a : Fin 128) (e : h.val = 2 * p.val + a.val / 64) :
    (⟨64 * h.val + a.val % 64, by omega⟩ : Fin 384) = tcol p a := Fin.ext (by show 64 * h.val + a.val % 64 = 128 * p.val + a.val; omega)

/-- The reference's entry. -/
theorem r_at (k : Fin 8) (p : Fin 3) (a b : Fin 128) : A.r (ix4 k p a b) = A.out k p a b := by
  unfold r Ref.res out
  rw [Ref.tl_at]
  by_cases h : a.val / 64 = b.val / 64
  · rw [if_pos h, if_pos h, Ref.state_at]
    have ef : ∀ s : Fin 16, Ref.heads (Ref.ldec (Ref.every (Host.log A.lb)) (Ref.every (Host.log1p (Host.negf A.lb))) (Ref.zc A.b))
        (ix4 k s ⟨2 * p.val + a.val / 64, by omega⟩ ⟨b.val % 64, by omega⟩) = A.f k (tcol p b) s := fun s => by
      rw [Ref.heads_at, Ref.ldec_at, Ref.every_at, Ref.every_at, Ref.zc_at, col p ⟨2 * p.val + a.val / 64, by omega⟩ b (by dsimp only; omega)]
      exact rlf_eq _ _ _
    have ew : ∀ s : Fin 16, Ref.heads (Ref.wgt (Ref.every (Ref.cmp1 A.lb)) (Ref.zc A.b))
        (ix4 k s ⟨2 * p.val + a.val / 64, by omega⟩ ⟨b.val % 64, by omega⟩) = A.w k (tcol p b) s := fun s => by
      rw [Ref.heads_at, Ref.wgt_at, Ref.every_at, Ref.zc_at, col p ⟨2 * p.val + a.val / 64, by omega⟩ b (by dsimp only; omega)]
      have eo : Ref.cmp1 A.lb (ix1 (tcol p b)) = 1 - A.lb (ix1 (tcol p b)) := by pointwise [Ref.cmp1]
      rw [eo]
      exact wt_eq _ _
    have ev : ∀ s : Fin 16, Ref.heads (Ref.vc A.b) (ix4 k s ⟨2 * p.val + a.val / 64, by omega⟩ ⟨a.val % 64, by omega⟩) = A.b (ix3 k s (vcol (tcol p a))) := fun s => by
      rw [Ref.heads_at, Ref.vc_at, col p ⟨2 * p.val + a.val / 64, by omega⟩ a rfl]
    have es : ∀ t : Fin 16, Ref.sums (Ref.heads (Ref.ldec (Ref.every (Host.log A.lb)) (Ref.every (Host.log1p (Host.negf A.lb))) (Ref.zc A.b)))
        (ix4 k t ⟨2 * p.val + a.val / 64, by omega⟩ ⟨b.val % 64, by omega⟩) = cum (A.f k (tcol p b)) t := fun t => by
      rw [Ref.sums_at]
      exact congrArg (fun g => cum g t) (funext ef)
    unfold st
    rw [es, mul_comm]
    refine congrArg (_ + ·) (Finset.sum_congr rfl fun s _ => ?_)
    rw [es, ew, ev, mul_comm]
  · rw [if_neg h, if_neg h]
end Args

variable (m : (ℓ : Loc nD τ sig) → Buf (Elt Ideal) ℓ) (c : Dev nD)

/-- There are eight points. -/
theorem grid_N : grid0.N = 8 := by decide +kernel
/-- Which block of the rows a point reads. -/
theorem idx0 : ∀ t : Fin grid0.N, win0_0.index t (0 : Fin 2) = t.val ∧ win0_0.index t (1 : Fin 2) = 0 := by decide +kernel
/-- Every point reads the bound's rows. -/
theorem idx1 : ∀ t : Fin grid0.N, win0_1.index t (0 : Fin 2) = 0 ∧ win0_1.index t (1 : Fin 2) = 0 := by decide +kernel
/-- Every point reads the triangle. -/
theorem idx3 : ∀ t : Fin grid0.N, win0_3.index t (0 : Fin 2) = 0 ∧ win0_3.index t (1 : Fin 2) = 0 := by decide +kernel
/-- Which states a point reads. -/
theorem idx5 : ∀ t : Fin grid0.N, win0_5.index t (0 : Fin 4) = t.val ∧ win0_5.index t (1 : Fin 4) = 0 ∧ win0_5.index t (2 : Fin 4) = 0 ∧ win0_5.index t (3 : Fin 4) = 0 := by decide +kernel
/-- Which states a point writes. -/
theorem idx7 : ∀ t : Fin grid0.N, win0_7.index t (0 : Fin 4) = t.val ∧ win0_7.index t (1 : Fin 4) = 0 ∧ win0_7.index t (2 : Fin 4) = 0 ∧ win0_7.index t (3 : Fin 4) = 0 := by decide +kernel
/-- Every point writes its states back. -/
theorem flush7 : ∀ t : Fin grid0.N, win0_7.flush t = true := by decide +kernel

variable (t : Fin cfg0.N)

/-- The stream of a point. -/
def pt : Fin 8 := ⟨t.val, lt_of_lt_of_eq t.isLt grid_N⟩

/-- Where an entry of a point's rows lies. -/
theorem emb0 (s : Fin 16) (n : Fin 1536) : ((cfg0.win 0).blk t).view.emb (ix2 s n : S16x1536.Idx) = (ix2 ⟨16 * (pt t).val + s.val, by have := (pt t).isLt; omega⟩ n : S128x1536.Idx) := by
  obtain ⟨e0, e1⟩ := idx0 t
  funext a; apply Fin.ext
  match a with
  | ⟨0, _⟩ => show win0_0.index t (0 : Fin 2) * 16 + 1 * s.val = 16 * t.val + s.val; omega
  | ⟨1, _⟩ => show win0_0.index t (1 : Fin 2) * 1536 + 1 * n.val = n.val; omega

/-- Where an entry of the bound's rows lies. -/
theorem emb1 (j : S3x384.Idx) : ((cfg0.win 1).blk t).view.emb j = j := by
  obtain ⟨e0, e1⟩ := idx1 t
  funext a; apply Fin.ext
  match a with
  | ⟨0, _⟩ => show win0_1.index t (0 : Fin 2) * 3 + 1 * (j 0).val = (j 0).val; omega
  | ⟨1, _⟩ => show win0_1.index t (1 : Fin 2) * 384 + 1 * (j 1).val = (j 1).val; omega

/-- Where an entry of the triangle lies. -/
theorem emb3 (j : S16x16.Idx) : ((cfg0.win 3).blk t).view.emb j = j := by
  obtain ⟨e0, e1⟩ := idx3 t
  funext a; apply Fin.ext
  match a with
  | ⟨0, _⟩ => show win0_3.index t (0 : Fin 2) * 16 + 1 * (j 0).val = (j 0).val; omega
  | ⟨1, _⟩ => show win0_3.index t (1 : Fin 2) * 16 + 1 * (j 1).val = (j 1).val; omega

/-- Where an entry of a point's states lies. -/
theorem emb5 (u : Fin 1) (p : Fin 3) (a b : Fin 128) : ((cfg0.win 5).blk t).view.emb (ix4 u p a b : S1x3x128x128.Idx) = (ix4 (pt t) p a b : S8x3x128x128.Idx) := by
  obtain ⟨e0, e1, e2, e3⟩ := idx5 t
  have hu := u.isLt
  funext q; apply Fin.ext
  match q with
  | ⟨0, _⟩ => show win0_5.index t (0 : Fin 4) * 1 + 1 * u.val = t.val; omega
  | ⟨1, _⟩ => show win0_5.index t (1 : Fin 4) * 3 + 1 * p.val = p.val; omega
  | ⟨2, _⟩ => show win0_5.index t (2 : Fin 4) * 128 + 1 * a.val = a.val; omega
  | ⟨3, _⟩ => show win0_5.index t (3 : Fin 4) * 128 + 1 * b.val = b.val; omega

/-- Where an entry of a point's result lies. -/
theorem emb7 (u : Fin 1) (p : Fin 3) (a b : Fin 128) : ((cfg0.win 7).blk t).view.emb (ix4 u p a b : S1x3x128x128.Idx) = (ix4 (pt t) p a b : S8x3x128x128.Idx) := by
  obtain ⟨e0, e1, e2, e3⟩ := idx7 t
  have hu := u.isLt
  funext q; apply Fin.ext
  match q with
  | ⟨0, _⟩ => show win0_7.index t (0 : Fin 4) * 1 + 1 * u.val = t.val; omega
  | ⟨1, _⟩ => show win0_7.index t (1 : Fin 4) * 3 + 1 * p.val = p.val; omega
  | ⟨2, _⟩ => show win0_7.index t (2 : Fin 4) * 128 + 1 * a.val = a.val; omega
  | ⟨3, _⟩ => show win0_7.index t (3 : Fin 4) * 128 + 1 * b.val = b.val; omega

/-- A point's rows are its stream's. -/
theorem blk0 (s : Fin 16) (n : Fin 1536) : iblk m c 0 t (ix2 s n) = (args m c).b (ix3 (pt t) s n) := by
  show V m c main_v9 (((cfg0.win 0).blk t).view.emb (ix2 s n)) = _
  rw [emb0, V_x, hX_at]
  congr 2 <;> apply Fin.ext
  · show (16 * (pt t).val + s.val) / 16 = (pt t).val
    omega
  · show (16 * (pt t).val + s.val) % 16 = s.val
    omega

/-- The bound's rows in a point. -/
theorem blk1 (i : Fin 3) (n : Fin 384) : iblk m c 1 t (ix2 i n) = hL (args m c).lb (ix2 i n) := by
  show V m c main_v8 (((cfg0.win 1).blk t).view.emb (ix2 i n)) = _
  rw [emb1, V_l]

/-- The triangle in a point. -/
theorem blk3 (i s : Fin 16) : iblk m c 3 t (ix2 i s) = (if s.val ≤ i.val then 1 else 0 : EReal) := by
  show V m c main_v40 (((cfg0.win 3).blk t).view.emb (ix2 i s)) = _
  rw [emb3, V_t, hT_at]

/-- A point's states are its stream's. -/
theorem blk5 (p : Fin 3) (a b : Fin 128) : iblk m c 5 t (ix4 0 p a b) = Ref.tl (args m c).s0 (ix4 (pt t) p a b) := by
  show V m c main_v25 (((cfg0.win 5).blk t).view.emb (ix4 0 p a b)) = _
  rw [emb5, V_s]

/-- A point's log decays are the stream's. -/
theorem lfz_blk (s : Fin 16) (n : Fin 384) : lfz (iblk m c 0 t) (iblk m c 1 t) s n = (args m c).f (pt t) n s := by
  unfold lfz Args.f
  rw [blk0, blk1, blk1, hL0_at, hL1_at]

/-- Their running sums. -/
theorem bsum_blk (hr : (args m c).Real) (i : Fin 16) (n : Fin 384) :
    bsum (iblk m c 0 t) (iblk m c 1 t) (iblk m c 3 t) (ix2 i n) = cum ((args m c).f (pt t) n) i := by
  rw [bsum_at _ _ _ i n (fun s => by rw [lfz_blk]; exact hr.f _ _ _) (fun s => blk3 m c t i s)]
  exact congrArg (fun g => cum g i) (funext fun s => lfz_blk m c t s n)

/-- A point's tiles are the reference's. -/
theorem out_block (hr : (args m c).Real) (p : Fin 3) (a b : Fin 128) :
    tiles (iblk m c 0 t) (iblk m c 1 t) (iblk m c 3 t) (iblk m c 5 t) (ix3 p a b) = (args m c).r (ix4 (pt t) p a b) := by
  rw [Args.r_at]
  show tile (iblk m c 0 t) (iblk m c 1 t) (iblk m c 3 t) (fun a b => iblk m c 5 t (ix4 0 p a b)) p a b = _
  unfold tile Args.out
  dsimp only
  rw [blk5, Ref.tl_at, msk_at, dec_at, bsum_blk m c t hr]
  by_cases h : a.val / 64 = b.val / 64
  · rw [if_pos h, if_pos h, if_pos h, if_pos rfl]
    unfold st
    refine congrArg (_ + ·) (Finset.sum_congr rfl fun s _ => ?_)
    rw [vv_at, kd_at, bsum_blk m c t hr, bsum_blk m c t hr, blk0, blk0, blk1, hL2_at]
    rfl
  · rw [if_neg h, if_neg h, if_neg h, if_neg (by decide), zero_mul, zero_add]

/-- What a point writes back is its tiles. -/
theorem flushed_eq (hr : (args m c).Real) : (dats m 0 c).flushed 7 t = ((cfg0.win 7).blk t).view.read (Elt Ideal) (args m c).r := by
  rw [Value.flushed7_A, out7]
  funext j
  show k0_pay1 (tiles (iblk m c 0 t) (iblk m c 1 t) (iblk m c 3 t) (iblk m c 5 t)) j = (args m c).r (((cfg0.win 7).blk t).view.emb j)
  have e : j = (ix4 (j 0) (j 1) (j 2) (j 3) : S1x3x128x128.Idx) := by
    funext a; fin_cases a <;> rfl
  rw [e]
  exact (pay1_at _ _ _ _ _).trans ((out_block m c t hr (j 1) (j 2) (j 3)).trans (congrArg (args m c).r (emb7 t (j 0) (j 1) (j 2) (j 3)).symm))

/-- Every index of the states lies in a point's block. -/
theorem covered (i : S8x3x128x128.Idx) : ∃ t : Fin cfg0.N, (cfg0.win 7).flush t = true ∧ i ∈ ((cfg0.win 7).blk t).view.set := by
  have hN : (i 0).val < grid0.N := by rw [grid_N]; exact (i 0).isLt
  refine ⟨⟨(i 0).val, hN⟩, flush7 _, ?_⟩
  have h := ((cfg0.win 7).blk ⟨(i 0).val, hN⟩).view.emb_mem_set (ix4 0 (i 1) (i 2) (i 3) : S1x3x128x128.Idx)
  have e : ((cfg0.win 7).blk ⟨(i 0).val, hN⟩).view.emb (ix4 0 (i 1) (i 2) (i 3) : S1x3x128x128.Idx) = i := by
    refine (emb7 ⟨(i 0).val, hN⟩ 0 (i 1) (i 2) (i 3)).trans ?_
    funext a; fin_cases a <;> rfl
  rw [e] at h
  exact h

/-- The states after the run. -/
theorem final (hr : (args m c).Real) : (dats m 0 c).arrAt 7 cfg0.N = (args m c).r :=
  (dats m 0 c).arrAt_eq_of_cover 7 (args m c).r (fun t _ => flushed_eq m c t hr) covered

end Cert.Hgrn

end
-- ==== Proof.Hgrn.Algebraic.lean ====
/-
  The gated recurrence's call: its frames, the finite decays' columns and bound from the precondition, and the value claim.
-/
module

public import proofs.«01_k».proof.Proof.Algebraic
public import proofs.«01_k».proof.Proof.Hgrn.Arr
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run

@[expose] public section

noncomputable section

namespace Cert.Hgrn

open Idealize.ShloMosaic Idealize.ShloMosaic.TcCoe Idealize.SL.Sem
open Cert.Moe (IsReal)

attribute [local instance] Cert.Kernel7.Gen.facts Cert.Kernel7Ideal.Gen.facts Cert.Reference7Ideal.Gen.facts

/-- The precondition's side conditions. -/
theorem pre_facts : Cert.Pre_finite7.Facts where
  h_S_ := by decide
  bcast_S_S384 := by decide
  reducesTo_S384_S_d0 := by decide

attribute [local instance] pre_facts

/-- The kernel changes no argument and leaves no counter. -/
theorem frame_p : Cert.quiescent_Kernel7 := fun m ρ _ => Cert.Kernel7.Gen.frame m ρ
/-- The kernel over the extended reals changes no argument and leaves no counter. -/
theorem frame_pi : Cert.quiescent_Kernel7Ideal := fun m ρ _ => Cert.Kernel7Ideal.Gen.frame m ρ
/-- The same under the precondition. -/
theorem frame_pi_pre : Cert.quiescent_Kernel7Ideal_pre_finite7 := fun m ρ _ => Cert.Kernel7Ideal.Gen.frame m ρ
/-- The reference changes no argument and leaves no counter. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
/-- The same under the precondition. -/
theorem frame_ri_pre : Cert.quiescent_Reference7Ideal_pre_finite7 := fun m ρ _ => frame_ri m ρ trivial

instance : Subsingleton Cert.Pre_finite7.S_.Idx := ⟨fun a b => funext fun i => i.elim0⟩

/-- The precondition makes the bound real. -/
theorem real_args (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) : (args m c).Real := fun n =>
  IsReal.of_ne (Cert.Proof.Value.finite_of_lt _ (Host.reduce_andi_all _ _ _ _ _ (congrFun (h c) (fun a => a.elim0)) (ix1 n)))

/-- With a real bound the kernel's states and the reference's are equal. -/
theorem algebraic : Cert.algebraic_Kernel7Ideal_Reference7Ideal_pre_finite7 := by
  intro m ρ m' ρ' hpre hagree
  have hr := fun c => real_args m hpre c
  refine ⟨fun c => (args m c).r, (θ_run Cert.Kernel7Ideal.defs _ _).mono (fun _ h c => ?_)
    (Cert.Kernel7Ideal.Value.run_blocks m ρ), ?_⟩
  · obtain ⟨-, h1, hk⟩ := h c
    exact ⟨h1.trans (final m c (hr c)), hk⟩
  refine (θ_run Cert.Reference7Ideal.defs _ _).mono (fun _ h c => ?_) (Cert.Reference7Ideal.Value.run (F := Ideal) m' ρ')
  obtain ⟨h0, hk⟩ := h c
  obtain ⟨e0, e1, e2, e3⟩ := hagree c
  refine ⟨h0.trans ?_, hk⟩
  refine (Ref.res_eq m' c).trans ?_
  unfold args Args.r
  dsimp only
  rw [← e0, ← e1, ← e3]

end Cert.Hgrn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Adequacy
public import proofs.«01_k».proof.Proof.Claims
public import proofs.«01_k».proof.Proof.Algebraic
public import proofs.«01_k».proof.Proof.Moe.Algebraic
public import proofs.«01_k».proof.Proof.Dense.Algebraic
public import proofs.«01_k».proof.Proof.Proj.Algebraic
public import proofs.«01_k».proof.Proof.Sgu.Algebraic
public import proofs.«01_k».proof.Proof.Samp.Algebraic
public import proofs.«01_k».proof.Proof.Hgrn.Algebraic
public import Idealize.ShloMosaic.Init

@[expose] public section

noncomputable section

namespace Cert.Proof

open Idealize.ShloMosaic Idealize.SL.Sem Cert.Kernel

/-- Everything claimed of the attention call, of the experts' call, of the dense feed-forward call, of the input projection's two calls, of the spatial gating's call and of the gated recurrence's call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
    Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Frames.pre_facts, Moe.pre_facts, Proj.pre_facts, Sgu.pre_facts, Samp.pre_facts, Hgrn.pre_facts,
  Frames.frame_p, Frames.frame_pi, Frames.frame_pi_pre, Frames.frame_ri, Frames.frame_ri_pre,
  Moe.frame_p, Moe.frame_pi, Moe.frame_pi_pre, Moe.frame_ri, Moe.frame_ri_pre,
  Dense.frame_p, Dense.frame_pi, Dense.frame_ri,
  Proj.frame_p, Proj.frame_pi, Proj.frame_pi_pre, Proj.frame_ri, Proj.frame_ri_pre,
  Sgu.frame_p, Sgu.frame_pi, Sgu.frame_pi_pre, Sgu.frame_ri, Sgu.frame_ri_pre,
  Samp.frame_p, Samp.frame_pi, Samp.frame_pi_pre, Samp.frame_ri, Samp.frame_ri_pre,
  Hgrn.frame_p, Hgrn.frame_pi, Hgrn.frame_pi_pre, Hgrn.frame_ri, Hgrn.frame_ri_pre,
  Frames.preserves, Value.algebraic, trivial, Moe.algebraic, trivial, Dense.algebraic, trivial, Proj.algebraic, trivial, Sgu.algebraic, trivial, Samp.algebraic, trivial, Hgrn.algebraic⟩

end Cert.Proof

end
